-- ==== Defs.lean ====
def Pre_Wkv (m : (ℓ : Loc Cert.Wkv.nD Cert.Wkv.τ Cert.Wkv.sig) → Buf (Elt Bits) ℓ) : Prop :=
  True

def Pre_WkvIdeal (m : (ℓ : Loc Cert.WkvIdeal.nD Cert.WkvIdeal.τ Cert.WkvIdeal.sig) → Buf (Elt Ideal) ℓ) : Prop :=
  True

def Pre_WkvRefIdeal (m : (ℓ : Loc Cert.WkvRefIdeal.nD Cert.WkvRefIdeal.τ Cert.WkvRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_keys_finite [hPre_keys_finite : Cert.Pre_keys_finite.Facts] (m : (ℓ : Loc Cert.PrepIdeal.nD Cert.PrepIdeal.τ Cert.PrepIdeal.sig) → Buf (Elt Ideal) ℓ) : Prop :=
  ∀ c : Dev Cert.PrepIdeal.nD,
    (Cert.Pre_keys_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_keys_finite [hPre_keys_finite : Cert.Pre_keys_finite.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_keys_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8)) (m ((c.tc : Thread Cert.PrepRefIdeal.nD Cert.PrepRefIdeal.τ).loc Cert.PrepRefIdeal.main_arg9))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_FinPrompt (m : (ℓ : Loc Cert.FinPrompt.nD Cert.FinPrompt.τ Cert.FinPrompt.sig) → Buf (Elt Bits) ℓ) : Prop :=
  True

def Pre_FinPromptIdeal (m : (ℓ : Loc Cert.FinPromptIdeal.nD Cert.FinPromptIdeal.τ Cert.FinPromptIdeal.sig) → Buf (Elt Ideal) ℓ) : Prop :=
  True

def Pre_FinPromptRefIdeal (m : (ℓ : Loc Cert.FinPromptRefIdeal.nD Cert.FinPromptRefIdeal.τ Cert.FinPromptRefIdeal.sig) → Buf (Elt Ideal) ℓ) : Prop :=
  True

def Pre_FinSample (m : (ℓ : Loc Cert.FinSample.nD Cert.FinSample.τ Cert.FinSample.sig) → Buf (Elt Bits) ℓ) : Prop :=
  True

def Pre_FinSampleIdeal (m : (ℓ : Loc Cert.FinSampleIdeal.nD Cert.FinSampleIdeal.τ Cert.FinSampleIdeal.sig) → Buf (Elt Ideal) ℓ) : Prop :=
  True

def Pre_FinSampleRefIdeal (m : (ℓ : Loc Cert.FinSampleRefIdeal.nD Cert.FinSampleRefIdeal.τ Cert.FinSampleRefIdeal.sig) → Buf (Elt Ideal) ℓ) : Prop :=
  True

def quiescent_Wkv [hWkv : Cert.Wkv.Facts] : Prop :=
  ∀ (m : (ℓ : Loc Cert.Wkv.nD Cert.Wkv.τ Cert.Wkv.sig) → Buf (Elt Bits) ℓ) (g : Dev Cert.Wkv.nD → PrngReg), Pre_Wkv m →
    θ_run (Cert.Wkv.defs (F := Bits)) (onTc (τ := Cert.Wkv.τ) (Cert.Wkv.main (F := Bits))) ⟨m, fun _ => 0, g⟩ (fun r => (∀ c : Dev Cert.Wkv.nD,
      r.2.mem ((c.tc : Thread Cert.Wkv.nD Cert.Wkv.τ).loc Cert.Wkv.main_arg0) = m ((c.tc : Thread Cert.Wkv.nD Cert.Wkv.τ).loc Cert.Wkv.main_arg0)
      ∧ r.2.mem ((c.tc : Thread Cert.Wkv.nD Cert.Wkv.τ).loc Cert.Wkv.main_arg1) = m ((c.tc : Thread Cert.Wkv.nD Cert.Wkv.τ).loc Cert.Wkv.main_arg1)
      ∧ r.2.mem ((c.tc : Thread Cert.Wkv.nD Cert.Wkv.τ).loc Cert.Wkv.main_arg2) = m ((c.tc : Thread Cert.Wkv.nD Cert.Wkv.τ).loc Cert.Wkv.main_arg2)
      ∧ r.2.mem ((c.tc : Thread Cert.Wkv.nD Cert.Wkv.τ).loc Cert.Wkv.main_arg3) = m ((c.tc : Thread Cert.Wkv.nD Cert.Wkv.τ).loc Cert.Wkv.main_arg3)
      ∧ r.2.mem ((c.tc : Thread Cert.Wkv.nD Cert.Wkv.τ).loc Cert.Wkv.main_arg4) = m ((c.tc : Thread Cert.Wkv.nD Cert.Wkv.τ).loc Cert.Wkv.main_arg4))
      ∧ r.2.sem = fun _ => 0)

def quiescent_WkvIdeal [hWkvIdeal : Cert.WkvIdeal.Facts] : Prop :=
  ∀ (m : (ℓ : Loc Cert.WkvIdeal.nD Cert.WkvIdeal.τ Cert.WkvIdeal.sig) → Buf (Elt Ideal) ℓ) (g : Dev Cert.WkvIdeal.nD → PrngReg), Pre_WkvIdeal m →
    θ_run (Cert.WkvIdeal.defs (F := Ideal)) (onTc (τ := Cert.WkvIdeal.τ) (Cert.WkvIdeal.main (F := Ideal))) ⟨m, fun _ => 0, g⟩ (fun r => (∀ c : Dev Cert.WkvIdeal.nD,
      r.2.mem ((c.tc : Thread Cert.WkvIdeal.nD Cert.WkvIdeal.τ).loc Cert.WkvIdeal.main_arg0) = m ((c.tc : Thread Cert.WkvIdeal.nD Cert.WkvIdeal.τ).loc Cert.WkvIdeal.main_arg0)
      ∧ r.2.mem ((c.tc : Thread Cert.WkvIdeal.nD Cert.WkvIdeal.τ).loc Cert.WkvIdeal.main_arg1) = m ((c.tc : Thread Cert.WkvIdeal.nD Cert.WkvIdeal.τ).loc Cert.WkvIdeal.main_arg1)
      ∧ r.2.mem ((c.tc : Thread Cert.WkvIdeal.nD Cert.WkvIdeal.τ).loc Cert.WkvIdeal.main_arg2) = m ((c.tc : Thread Cert.WkvIdeal.nD Cert.WkvIdeal.τ).loc Cert.WkvIdeal.main_arg2)
      ∧ r.2.mem ((c.tc : Thread Cert.WkvIdeal.nD Cert.WkvIdeal.τ).loc Cert.WkvIdeal.main_arg3) = m ((c.tc : Thread Cert.WkvIdeal.nD Cert.WkvIdeal.τ).loc Cert.WkvIdeal.main_arg3)
      ∧ r.2.mem ((c.tc : Thread Cert.WkvIdeal.nD Cert.WkvIdeal.τ).loc Cert.WkvIdeal.main_arg4) = m ((c.tc : Thread Cert.WkvIdeal.nD Cert.WkvIdeal.τ).loc Cert.WkvIdeal.main_arg4))
      ∧ r.2.sem = fun _ => 0)

def quiescent_WkvRefIdeal [hWkvRefIdeal : Cert.WkvRefIdeal.Facts] : Prop :=
  ∀ (m : (ℓ : Loc Cert.WkvRefIdeal.nD Cert.WkvRefIdeal.τ Cert.WkvRefIdeal.sig) → Buf (Elt Ideal) ℓ) (g : Dev Cert.WkvRefIdeal.nD → PrngReg), Pre_WkvRefIdeal m →
    θ_run (Cert.WkvRefIdeal.defs (F := Ideal)) (onTc (τ := Cert.WkvRefIdeal.τ) (Cert.WkvRefIdeal.main (F := Ideal))) ⟨m, fun _ => 0, g⟩ (fun r => (∀ c : Dev Cert.WkvRefIdeal.nD,
      r.2.mem ((c.tc : Thread Cert.WkvRefIdeal.nD Cert.WkvRefIdeal.τ).loc Cert.WkvRefIdeal.main_arg0) = m ((c.tc : Thread Cert.WkvRefIdeal.nD Cert.WkvRefIdeal.τ).loc Cert.WkvRefIdeal.main_arg0)
      ∧ r.2.mem ((c.tc : Thread Cert.WkvRefIdeal.nD Cert.WkvRefIdeal.τ).loc Cert.WkvRefIdeal.main_arg1) = m ((c.tc : Thread Cert.WkvRefIdeal.nD Cert.WkvRefIdeal.τ).loc Cert.WkvRefIdeal.main_arg1)
      ∧ r.2.mem ((c.tc : Thread Cert.WkvRefIdeal.nD Cert.WkvRefIdeal.τ).loc Cert.WkvRefIdeal.main_arg2) = m ((c.tc : Thread Cert.WkvRefIdeal.nD Cert.WkvRefIdeal.τ).loc Cert.WkvRefIdeal.main_arg2)
      ∧ r.2.mem ((c.tc : Thread Cert.WkvRefIdeal.nD Cert.WkvRefIdeal.τ).loc Cert.WkvRefIdeal.main_arg3) = m ((c.tc : Thread Cert.WkvRefIdeal.nD Cert.WkvRefIdeal.τ).loc Cert.WkvRefIdeal.main_arg3)
      ∧ r.2.mem ((c.tc : Thread Cert.WkvRefIdeal.nD Cert.WkvRefIdeal.τ).loc Cert.WkvRefIdeal.main_arg4) = m ((c.tc : Thread Cert.WkvRefIdeal.nD Cert.WkvRefIdeal.τ).loc Cert.WkvRefIdeal.main_arg4))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9))
      ∧ r.2.sem = fun _ => 0)

def quiescent_PrepIdeal_pre_keys_finite [hPrepIdeal : Cert.PrepIdeal.Facts] [hPre_keys_finite : Cert.Pre_keys_finite.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_keys_finite m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9))
      ∧ r.2.sem = fun _ => 0)

def quiescent_PrepRefIdeal_pre_keys_finite [hPrepRefIdeal : Cert.PrepRefIdeal.Facts] [hPre_keys_finite : Cert.Pre_keys_finite.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_keys_finite m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_FinPrompt [hFinPrompt : Cert.FinPrompt.Facts] : Prop :=
  ∀ (m : (ℓ : Loc Cert.FinPrompt.nD Cert.FinPrompt.τ Cert.FinPrompt.sig) → Buf (Elt Bits) ℓ) (g : Dev Cert.FinPrompt.nD → PrngReg), Pre_FinPrompt m →
    θ_run (Cert.FinPrompt.defs (F := Bits)) (onTc (τ := Cert.FinPrompt.τ) (Cert.FinPrompt.main (F := Bits))) ⟨m, fun _ => 0, g⟩ (fun r => (∀ c : Dev Cert.FinPrompt.nD,
      r.2.mem ((c.tc : Thread Cert.FinPrompt.nD Cert.FinPrompt.τ).loc Cert.FinPrompt.main_arg0) = m ((c.tc : Thread Cert.FinPrompt.nD Cert.FinPrompt.τ).loc Cert.FinPrompt.main_arg0)
      ∧ r.2.mem ((c.tc : Thread Cert.FinPrompt.nD Cert.FinPrompt.τ).loc Cert.FinPrompt.main_arg1) = m ((c.tc : Thread Cert.FinPrompt.nD Cert.FinPrompt.τ).loc Cert.FinPrompt.main_arg1))
      ∧ r.2.sem = fun _ => 0)

def quiescent_FinPromptIdeal [hFinPromptIdeal : Cert.FinPromptIdeal.Facts] : Prop :=
  ∀ (m : (ℓ : Loc Cert.FinPromptIdeal.nD Cert.FinPromptIdeal.τ Cert.FinPromptIdeal.sig) → Buf (Elt Ideal) ℓ) (g : Dev Cert.FinPromptIdeal.nD → PrngReg), Pre_FinPromptIdeal m →
    θ_run (Cert.FinPromptIdeal.defs (F := Ideal)) (onTc (τ := Cert.FinPromptIdeal.τ) (Cert.FinPromptIdeal.main (F := Ideal))) ⟨m, fun _ => 0, g⟩ (fun r => (∀ c : Dev Cert.FinPromptIdeal.nD,
      r.2.mem ((c.tc : Thread Cert.FinPromptIdeal.nD Cert.FinPromptIdeal.τ).loc Cert.FinPromptIdeal.main_arg0) = m ((c.tc : Thread Cert.FinPromptIdeal.nD Cert.FinPromptIdeal.τ).loc Cert.FinPromptIdeal.main_arg0)
      ∧ r.2.mem ((c.tc : Thread Cert.FinPromptIdeal.nD Cert.FinPromptIdeal.τ).loc Cert.FinPromptIdeal.main_arg1) = m ((c.tc : Thread Cert.FinPromptIdeal.nD Cert.FinPromptIdeal.τ).loc Cert.FinPromptIdeal.main_arg1))
      ∧ r.2.sem = fun _ => 0)

def quiescent_FinPromptRefIdeal [hFinPromptRefIdeal : Cert.FinPromptRefIdeal.Facts] : Prop :=
  ∀ (m : (ℓ : Loc Cert.FinPromptRefIdeal.nD Cert.FinPromptRefIdeal.τ Cert.FinPromptRefIdeal.sig) → Buf (Elt Ideal) ℓ) (g : Dev Cert.FinPromptRefIdeal.nD → PrngReg), Pre_FinPromptRefIdeal m →
    θ_run (Cert.FinPromptRefIdeal.defs (F := Ideal)) (onTc (τ := Cert.FinPromptRefIdeal.τ) (Cert.FinPromptRefIdeal.main (F := Ideal))) ⟨m, fun _ => 0, g⟩ (fun r => (∀ c : Dev Cert.FinPromptRefIdeal.nD,
      r.2.mem ((c.tc : Thread Cert.FinPromptRefIdeal.nD Cert.FinPromptRefIdeal.τ).loc Cert.FinPromptRefIdeal.main_arg0) = m ((c.tc : Thread Cert.FinPromptRefIdeal.nD Cert.FinPromptRefIdeal.τ).loc Cert.FinPromptRefIdeal.main_arg0)
      ∧ r.2.mem ((c.tc : Thread Cert.FinPromptRefIdeal.nD Cert.FinPromptRefIdeal.τ).loc Cert.FinPromptRefIdeal.main_arg1) = m ((c.tc : Thread Cert.FinPromptRefIdeal.nD Cert.FinPromptRefIdeal.τ).loc Cert.FinPromptRefIdeal.main_arg1))
      ∧ r.2.sem = fun _ => 0)

def quiescent_FinSample [hFinSample : Cert.FinSample.Facts] : Prop :=
  ∀ (m : (ℓ : Loc Cert.FinSample.nD Cert.FinSample.τ Cert.FinSample.sig) → Buf (Elt Bits) ℓ) (g : Dev Cert.FinSample.nD → PrngReg), Pre_FinSample m →
    θ_run (Cert.FinSample.defs (F := Bits)) (onTc (τ := Cert.FinSample.τ) (Cert.FinSample.main (F := Bits))) ⟨m, fun _ => 0, g⟩ (fun r => (∀ c : Dev Cert.FinSample.nD,
      r.2.mem ((c.tc : Thread Cert.FinSample.nD Cert.FinSample.τ).loc Cert.FinSample.main_arg0) = m ((c.tc : Thread Cert.FinSample.nD Cert.FinSample.τ).loc Cert.FinSample.main_arg0)
      ∧ r.2.mem ((c.tc : Thread Cert.FinSample.nD Cert.FinSample.τ).loc Cert.FinSample.main_arg1) = m ((c.tc : Thread Cert.FinSample.nD Cert.FinSample.τ).loc Cert.FinSample.main_arg1))
      ∧ r.2.sem = fun _ => 0)

def quiescent_FinSampleIdeal [hFinSampleIdeal : Cert.FinSampleIdeal.Facts] : Prop :=
  ∀ (m : (ℓ : Loc Cert.FinSampleIdeal.nD Cert.FinSampleIdeal.τ Cert.FinSampleIdeal.sig) → Buf (Elt Ideal) ℓ) (g : Dev Cert.FinSampleIdeal.nD → PrngReg), Pre_FinSampleIdeal m →
    θ_run (Cert.FinSampleIdeal.defs (F := Ideal)) (onTc (τ := Cert.FinSampleIdeal.τ) (Cert.FinSampleIdeal.main (F := Ideal))) ⟨m, fun _ => 0, g⟩ (fun r => (∀ c : Dev Cert.FinSampleIdeal.nD,
      r.2.mem ((c.tc : Thread Cert.FinSampleIdeal.nD Cert.FinSampleIdeal.τ).loc Cert.FinSampleIdeal.main_arg0) = m ((c.tc : Thread Cert.FinSampleIdeal.nD Cert.FinSampleIdeal.τ).loc Cert.FinSampleIdeal.main_arg0)
      ∧ r.2.mem ((c.tc : Thread Cert.FinSampleIdeal.nD Cert.FinSampleIdeal.τ).loc Cert.FinSampleIdeal.main_arg1) = m ((c.tc : Thread Cert.FinSampleIdeal.nD Cert.FinSampleIdeal.τ).loc Cert.FinSampleIdeal.main_arg1))
      ∧ r.2.sem = fun _ => 0)

def quiescent_FinSampleRefIdeal [hFinSampleRefIdeal : Cert.FinSampleRefIdeal.Facts] : Prop :=
  ∀ (m : (ℓ : Loc Cert.FinSampleRefIdeal.nD Cert.FinSampleRefIdeal.τ Cert.FinSampleRefIdeal.sig) → Buf (Elt Ideal) ℓ) (g : Dev Cert.FinSampleRefIdeal.nD → PrngReg), Pre_FinSampleRefIdeal m →
    θ_run (Cert.FinSampleRefIdeal.defs (F := Ideal)) (onTc (τ := Cert.FinSampleRefIdeal.τ) (Cert.FinSampleRefIdeal.main (F := Ideal))) ⟨m, fun _ => 0, g⟩ (fun r => (∀ c : Dev Cert.FinSampleRefIdeal.nD,
      r.2.mem ((c.tc : Thread Cert.FinSampleRefIdeal.nD Cert.FinSampleRefIdeal.τ).loc Cert.FinSampleRefIdeal.main_arg0) = m ((c.tc : Thread Cert.FinSampleRefIdeal.nD Cert.FinSampleRefIdeal.τ).loc Cert.FinSampleRefIdeal.main_arg0)
      ∧ r.2.mem ((c.tc : Thread Cert.FinSampleRefIdeal.nD Cert.FinSampleRefIdeal.τ).loc Cert.FinSampleRefIdeal.main_arg1) = m ((c.tc : Thread Cert.FinSampleRefIdeal.nD Cert.FinSampleRefIdeal.τ).loc Cert.FinSampleRefIdeal.main_arg1))
      ∧ r.2.sem = fun _ => 0)

def preserves_Wkv_WkvIdeal : Prop :=
  True

def algebraic_WkvIdeal_WkvRefIdeal [hWkvIdeal : Cert.WkvIdeal.Facts] [hWkvRefIdeal : Cert.WkvRefIdeal.Facts] : Prop :=
  ∀ (m : (ℓ : Loc Cert.WkvIdeal.nD Cert.WkvIdeal.τ Cert.WkvIdeal.sig) → Buf (Elt Ideal) ℓ) (g : Dev Cert.WkvIdeal.nD → PrngReg)
    (m' : (ℓ : Loc Cert.WkvRefIdeal.nD Cert.WkvRefIdeal.τ Cert.WkvRefIdeal.sig) → Buf (Elt Ideal) ℓ) (g' : Dev Cert.WkvRefIdeal.nD → PrngReg), Pre_WkvIdeal m →
    (∀ c : Dev Cert.WkvIdeal.nD,
      m' ((c.tc : Thread Cert.WkvRefIdeal.nD Cert.WkvRefIdeal.τ).loc Cert.WkvRefIdeal.main_arg0) = m ((c.tc : Thread Cert.WkvIdeal.nD Cert.WkvIdeal.τ).loc Cert.WkvIdeal.main_arg0)
      ∧ m' ((c.tc : Thread Cert.WkvRefIdeal.nD Cert.WkvRefIdeal.τ).loc Cert.WkvRefIdeal.main_arg1) = m ((c.tc : Thread Cert.WkvIdeal.nD Cert.WkvIdeal.τ).loc Cert.WkvIdeal.main_arg1)
      ∧ m' ((c.tc : Thread Cert.WkvRefIdeal.nD Cert.WkvRefIdeal.τ).loc Cert.WkvRefIdeal.main_arg2) = m ((c.tc : Thread Cert.WkvIdeal.nD Cert.WkvIdeal.τ).loc Cert.WkvIdeal.main_arg2)
      ∧ m' ((c.tc : Thread Cert.WkvRefIdeal.nD Cert.WkvRefIdeal.τ).loc Cert.WkvRefIdeal.main_arg3) = m ((c.tc : Thread Cert.WkvIdeal.nD Cert.WkvIdeal.τ).loc Cert.WkvIdeal.main_arg3)
      ∧ m' ((c.tc : Thread Cert.WkvRefIdeal.nD Cert.WkvRefIdeal.τ).loc Cert.WkvRefIdeal.main_arg4) = m ((c.tc : Thread Cert.WkvIdeal.nD Cert.WkvIdeal.τ).loc Cert.WkvIdeal.main_arg4)) →
    ∃ (v0 : (c : Dev Cert.WkvIdeal.nD) → Buf (Elt Ideal) ((c.tc : Thread Cert.WkvIdeal.nD Cert.WkvIdeal.τ).loc Cert.WkvIdeal.main_v21_0)) (v1 : (c : Dev Cert.WkvIdeal.nD) → Buf (Elt Ideal) ((c.tc : Thread Cert.WkvIdeal.nD Cert.WkvIdeal.τ).loc Cert.WkvIdeal.main_v21_1)),
      θ_run (Cert.WkvIdeal.defs (F := Ideal)) (onTc (τ := Cert.WkvIdeal.τ) (Cert.WkvIdeal.main (F := Ideal))) ⟨m, fun _ => 0, g⟩ (fun r => ∀ c : Dev Cert.WkvIdeal.nD,
          r.2.mem ((c.tc : Thread Cert.WkvIdeal.nD Cert.WkvIdeal.τ).loc Cert.WkvIdeal.main_v21_0) = v0 c
          ∧ r.2.mem ((c.tc : Thread Cert.WkvIdeal.nD Cert.WkvIdeal.τ).loc Cert.WkvIdeal.main_v21_1) = v1 c
          ∧ r.2.mem ((c.tc : Thread Cert.WkvIdeal.nD Cert.WkvIdeal.τ).loc Cert.WkvIdeal.main_arg0) = m ((c.tc : Thread Cert.WkvIdeal.nD Cert.WkvIdeal.τ).loc Cert.WkvIdeal.main_arg0)
          ∧ r.2.mem ((c.tc : Thread Cert.WkvIdeal.nD Cert.WkvIdeal.τ).loc Cert.WkvIdeal.main_arg1) = m ((c.tc : Thread Cert.WkvIdeal.nD Cert.WkvIdeal.τ).loc Cert.WkvIdeal.main_arg1)
          ∧ r.2.mem ((c.tc : Thread Cert.WkvIdeal.nD Cert.WkvIdeal.τ).loc Cert.WkvIdeal.main_arg2) = m ((c.tc : Thread Cert.WkvIdeal.nD Cert.WkvIdeal.τ).loc Cert.WkvIdeal.main_arg2)
          ∧ r.2.mem ((c.tc : Thread Cert.WkvIdeal.nD Cert.WkvIdeal.τ).loc Cert.WkvIdeal.main_arg3) = m ((c.tc : Thread Cert.WkvIdeal.nD Cert.WkvIdeal.τ).loc Cert.WkvIdeal.main_arg3)
          ∧ r.2.mem ((c.tc : Thread Cert.WkvIdeal.nD Cert.WkvIdeal.τ).loc Cert.WkvIdeal.main_arg4) = m ((c.tc : Thread Cert.WkvIdeal.nD Cert.WkvIdeal.τ).loc Cert.WkvIdeal.main_arg4))
      ∧ θ_run (Cert.WkvRefIdeal.defs (F := Ideal)) (onTc (τ := Cert.WkvRefIdeal.τ) (Cert.WkvRefIdeal.main (F := Ideal))) ⟨m', fun _ => 0, g'⟩ (fun r => ∀ c : Dev Cert.WkvRefIdeal.nD,
          r.2.mem ((c.tc : Thread Cert.WkvRefIdeal.nD Cert.WkvRefIdeal.τ).loc Cert.WkvRefIdeal.main_v73) = v0 c
          ∧ r.2.mem ((c.tc : Thread Cert.WkvRefIdeal.nD Cert.WkvRefIdeal.τ).loc Cert.WkvRefIdeal.main_v75) = v1 c
          ∧ r.2.mem ((c.tc : Thread Cert.WkvRefIdeal.nD Cert.WkvRefIdeal.τ).loc Cert.WkvRefIdeal.main_arg0) = m' ((c.tc : Thread Cert.WkvRefIdeal.nD Cert.WkvRefIdeal.τ).loc Cert.WkvRefIdeal.main_arg0)
          ∧ r.2.mem ((c.tc : Thread Cert.WkvRefIdeal.nD Cert.WkvRefIdeal.τ).loc Cert.WkvRefIdeal.main_arg1) = m' ((c.tc : Thread Cert.WkvRefIdeal.nD Cert.WkvRefIdeal.τ).loc Cert.WkvRefIdeal.main_arg1)
          ∧ r.2.mem ((c.tc : Thread Cert.WkvRefIdeal.nD Cert.WkvRefIdeal.τ).loc Cert.WkvRefIdeal.main_arg2) = m' ((c.tc : Thread Cert.WkvRefIdeal.nD Cert.WkvRefIdeal.τ).loc Cert.WkvRefIdeal.main_arg2)
          ∧ r.2.mem ((c.tc : Thread Cert.WkvRefIdeal.nD Cert.WkvRefIdeal.τ).loc Cert.WkvRefIdeal.main_arg3) = m' ((c.tc : Thread Cert.WkvRefIdeal.nD Cert.WkvRefIdeal.τ).loc Cert.WkvRefIdeal.main_arg3)
          ∧ r.2.mem ((c.tc : Thread Cert.WkvRefIdeal.nD Cert.WkvRefIdeal.τ).loc Cert.WkvRefIdeal.main_arg4) = m' ((c.tc : Thread Cert.WkvRefIdeal.nD Cert.WkvRefIdeal.τ).loc Cert.WkvRefIdeal.main_arg4))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v3_0)) (v1 : (c : Dev Cert.PoolIdeal.nD) → Buf (Elt Ideal) ((c.tc : Thread Cert.PoolIdeal.nD Cert.PoolIdeal.τ).loc Cert.PoolIdeal.main_v3_1)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v3_0) = v0 c
          ∧ r.2.mem ((c.tc : Thread Cert.PoolIdeal.nD Cert.PoolIdeal.τ).loc Cert.PoolIdeal.main_v3_1) = v1 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v79) = v0 c
          ∧ r.2.mem ((c.tc : Thread Cert.PoolRefIdeal.nD Cert.PoolRefIdeal.τ).loc Cert.PoolRefIdeal.main_v80) = v1 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def preserves_Prep_PrepIdeal : Prop :=
  True

def algebraic_PrepIdeal_PrepRefIdeal_pre_keys_finite [hPrepIdeal : Cert.PrepIdeal.Facts] [hPrepRefIdeal : Cert.PrepRefIdeal.Facts] [hPre_keys_finite : Cert.Pre_keys_finite.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_keys_finite m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)
      ∧ m' ((c.tc : Thread Cert.PrepRefIdeal.nD Cert.PrepRefIdeal.τ).loc Cert.PrepRefIdeal.main_arg9) = m ((c.tc : Thread Cert.PrepIdeal.nD Cert.PrepIdeal.τ).loc Cert.PrepIdeal.main_arg9)) →
    ∃ (v0 : (c : Dev Cert.PrepIdeal.nD) → Buf (Elt Ideal) ((c.tc : Thread Cert.PrepIdeal.nD Cert.PrepIdeal.τ).loc Cert.PrepIdeal.main_v31_0)) (v1 : (c : Dev Cert.PrepIdeal.nD) → Buf (Elt Ideal) ((c.tc : Thread Cert.PrepIdeal.nD Cert.PrepIdeal.τ).loc Cert.PrepIdeal.main_v31_1)) (v2 : (c : Dev Cert.PrepIdeal.nD) → Buf (Elt Ideal) ((c.tc : Thread Cert.PrepIdeal.nD Cert.PrepIdeal.τ).loc Cert.PrepIdeal.main_v31_2)) (v3 : (c : Dev Cert.PrepIdeal.nD) → Buf (Elt Ideal) ((c.tc : Thread Cert.PrepIdeal.nD Cert.PrepIdeal.τ).loc Cert.PrepIdeal.main_v31_3)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v31_0) = v0 c
          ∧ r.2.mem ((c.tc : Thread Cert.PrepIdeal.nD Cert.PrepIdeal.τ).loc Cert.PrepIdeal.main_v31_1) = v1 c
          ∧ r.2.mem ((c.tc : Thread Cert.PrepIdeal.nD Cert.PrepIdeal.τ).loc Cert.PrepIdeal.main_v31_2) = v2 c
          ∧ r.2.mem ((c.tc : Thread Cert.PrepIdeal.nD Cert.PrepIdeal.τ).loc Cert.PrepIdeal.main_v31_3) = v3 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
          ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v77) = v0 c
          ∧ r.2.mem ((c.tc : Thread Cert.PrepRefIdeal.nD Cert.PrepRefIdeal.τ).loc Cert.PrepRefIdeal.main_v81) = v1 c
          ∧ r.2.mem ((c.tc : Thread Cert.PrepRefIdeal.nD Cert.PrepRefIdeal.τ).loc Cert.PrepRefIdeal.main_v83) = v2 c
          ∧ r.2.mem ((c.tc : Thread Cert.PrepRefIdeal.nD Cert.PrepRefIdeal.τ).loc Cert.PrepRefIdeal.main_v85) = v3 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8)
          ∧ r.2.mem ((c.tc : Thread Cert.PrepRefIdeal.nD Cert.PrepRefIdeal.τ).loc Cert.PrepRefIdeal.main_arg9) = m' ((c.tc : Thread Cert.PrepRefIdeal.nD Cert.PrepRefIdeal.τ).loc Cert.PrepRefIdeal.main_arg9))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v11)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v11) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v25) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v26) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v25) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v12)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v12) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v35) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_FinPrompt_FinPromptIdeal : Prop :=
  True

def algebraic_FinPromptIdeal_FinPromptRefIdeal [hFinPromptIdeal : Cert.FinPromptIdeal.Facts] [hFinPromptRefIdeal : Cert.FinPromptRefIdeal.Facts] : Prop :=
  ∀ (m : (ℓ : Loc Cert.FinPromptIdeal.nD Cert.FinPromptIdeal.τ Cert.FinPromptIdeal.sig) → Buf (Elt Ideal) ℓ) (g : Dev Cert.FinPromptIdeal.nD → PrngReg)
    (m' : (ℓ : Loc Cert.FinPromptRefIdeal.nD Cert.FinPromptRefIdeal.τ Cert.FinPromptRefIdeal.sig) → Buf (Elt Ideal) ℓ) (g' : Dev Cert.FinPromptRefIdeal.nD → PrngReg), Pre_FinPromptIdeal m →
    (∀ c : Dev Cert.FinPromptIdeal.nD,
      m' ((c.tc : Thread Cert.FinPromptRefIdeal.nD Cert.FinPromptRefIdeal.τ).loc Cert.FinPromptRefIdeal.main_arg0) = m ((c.tc : Thread Cert.FinPromptIdeal.nD Cert.FinPromptIdeal.τ).loc Cert.FinPromptIdeal.main_arg0)
      ∧ m' ((c.tc : Thread Cert.FinPromptRefIdeal.nD Cert.FinPromptRefIdeal.τ).loc Cert.FinPromptRefIdeal.main_arg1) = m ((c.tc : Thread Cert.FinPromptIdeal.nD Cert.FinPromptIdeal.τ).loc Cert.FinPromptIdeal.main_arg1)) →
    ∃ (v0 : (c : Dev Cert.FinPromptIdeal.nD) → Buf (Elt Ideal) ((c.tc : Thread Cert.FinPromptIdeal.nD Cert.FinPromptIdeal.τ).loc Cert.FinPromptIdeal.main_v1)),
      θ_run (Cert.FinPromptIdeal.defs (F := Ideal)) (onTc (τ := Cert.FinPromptIdeal.τ) (Cert.FinPromptIdeal.main (F := Ideal))) ⟨m, fun _ => 0, g⟩ (fun r => ∀ c : Dev Cert.FinPromptIdeal.nD,
          r.2.mem ((c.tc : Thread Cert.FinPromptIdeal.nD Cert.FinPromptIdeal.τ).loc Cert.FinPromptIdeal.main_v1) = v0 c
          ∧ r.2.mem ((c.tc : Thread Cert.FinPromptIdeal.nD Cert.FinPromptIdeal.τ).loc Cert.FinPromptIdeal.main_arg0) = m ((c.tc : Thread Cert.FinPromptIdeal.nD Cert.FinPromptIdeal.τ).loc Cert.FinPromptIdeal.main_arg0)
          ∧ r.2.mem ((c.tc : Thread Cert.FinPromptIdeal.nD Cert.FinPromptIdeal.τ).loc Cert.FinPromptIdeal.main_arg1) = m ((c.tc : Thread Cert.FinPromptIdeal.nD Cert.FinPromptIdeal.τ).loc Cert.FinPromptIdeal.main_arg1))
      ∧ θ_run (Cert.FinPromptRefIdeal.defs (F := Ideal)) (onTc (τ := Cert.FinPromptRefIdeal.τ) (Cert.FinPromptRefIdeal.main (F := Ideal))) ⟨m', fun _ => 0, g'⟩ (fun r => ∀ c : Dev Cert.FinPromptRefIdeal.nD,
          r.2.mem ((c.tc : Thread Cert.FinPromptRefIdeal.nD Cert.FinPromptRefIdeal.τ).loc Cert.FinPromptRefIdeal.main_v13) = v0 c
          ∧ r.2.mem ((c.tc : Thread Cert.FinPromptRefIdeal.nD Cert.FinPromptRefIdeal.τ).loc Cert.FinPromptRefIdeal.main_arg0) = m' ((c.tc : Thread Cert.FinPromptRefIdeal.nD Cert.FinPromptRefIdeal.τ).loc Cert.FinPromptRefIdeal.main_arg0)
          ∧ r.2.mem ((c.tc : Thread Cert.FinPromptRefIdeal.nD Cert.FinPromptRefIdeal.τ).loc Cert.FinPromptRefIdeal.main_arg1) = m' ((c.tc : Thread Cert.FinPromptRefIdeal.nD Cert.FinPromptRefIdeal.τ).loc Cert.FinPromptRefIdeal.main_arg1))

def preserves_FinSample_FinSampleIdeal : Prop :=
  True

def algebraic_FinSampleIdeal_FinSampleRefIdeal [hFinSampleIdeal : Cert.FinSampleIdeal.Facts] [hFinSampleRefIdeal : Cert.FinSampleRefIdeal.Facts] : Prop :=
  ∀ (m : (ℓ : Loc Cert.FinSampleIdeal.nD Cert.FinSampleIdeal.τ Cert.FinSampleIdeal.sig) → Buf (Elt Ideal) ℓ) (g : Dev Cert.FinSampleIdeal.nD → PrngReg)
    (m' : (ℓ : Loc Cert.FinSampleRefIdeal.nD Cert.FinSampleRefIdeal.τ Cert.FinSampleRefIdeal.sig) → Buf (Elt Ideal) ℓ) (g' : Dev Cert.FinSampleRefIdeal.nD → PrngReg), Pre_FinSampleIdeal m →
    (∀ c : Dev Cert.FinSampleIdeal.nD,
      m' ((c.tc : Thread Cert.FinSampleRefIdeal.nD Cert.FinSampleRefIdeal.τ).loc Cert.FinSampleRefIdeal.main_arg0) = m ((c.tc : Thread Cert.FinSampleIdeal.nD Cert.FinSampleIdeal.τ).loc Cert.FinSampleIdeal.main_arg0)
      ∧ m' ((c.tc : Thread Cert.FinSampleRefIdeal.nD Cert.FinSampleRefIdeal.τ).loc Cert.FinSampleRefIdeal.main_arg1) = m ((c.tc : Thread Cert.FinSampleIdeal.nD Cert.FinSampleIdeal.τ).loc Cert.FinSampleIdeal.main_arg1)) →
    ∃ (v0 : (c : Dev Cert.FinSampleIdeal.nD) → Buf (Elt Ideal) ((c.tc : Thread Cert.FinSampleIdeal.nD Cert.FinSampleIdeal.τ).loc Cert.FinSampleIdeal.main_v1)),
      θ_run (Cert.FinSampleIdeal.defs (F := Ideal)) (onTc (τ := Cert.FinSampleIdeal.τ) (Cert.FinSampleIdeal.main (F := Ideal))) ⟨m, fun _ => 0, g⟩ (fun r => ∀ c : Dev Cert.FinSampleIdeal.nD,
          r.2.mem ((c.tc : Thread Cert.FinSampleIdeal.nD Cert.FinSampleIdeal.τ).loc Cert.FinSampleIdeal.main_v1) = v0 c
          ∧ r.2.mem ((c.tc : Thread Cert.FinSampleIdeal.nD Cert.FinSampleIdeal.τ).loc Cert.FinSampleIdeal.main_arg0) = m ((c.tc : Thread Cert.FinSampleIdeal.nD Cert.FinSampleIdeal.τ).loc Cert.FinSampleIdeal.main_arg0)
          ∧ r.2.mem ((c.tc : Thread Cert.FinSampleIdeal.nD Cert.FinSampleIdeal.τ).loc Cert.FinSampleIdeal.main_arg1) = m ((c.tc : Thread Cert.FinSampleIdeal.nD Cert.FinSampleIdeal.τ).loc Cert.FinSampleIdeal.main_arg1))
      ∧ θ_run (Cert.FinSampleRefIdeal.defs (F := Ideal)) (onTc (τ := Cert.FinSampleRefIdeal.τ) (Cert.FinSampleRefIdeal.main (F := Ideal))) ⟨m', fun _ => 0, g'⟩ (fun r => ∀ c : Dev Cert.FinSampleRefIdeal.nD,
          r.2.mem ((c.tc : Thread Cert.FinSampleRefIdeal.nD Cert.FinSampleRefIdeal.τ).loc Cert.FinSampleRefIdeal.main_v13) = v0 c
          ∧ r.2.mem ((c.tc : Thread Cert.FinSampleRefIdeal.nD Cert.FinSampleRefIdeal.τ).loc Cert.FinSampleRefIdeal.main_arg0) = m' ((c.tc : Thread Cert.FinSampleRefIdeal.nD Cert.FinSampleRefIdeal.τ).loc Cert.FinSampleRefIdeal.main_arg0)
          ∧ r.2.mem ((c.tc : Thread Cert.FinSampleRefIdeal.nD Cert.FinSampleRefIdeal.τ).loc Cert.FinSampleRefIdeal.main_arg1) = m' ((c.tc : Thread Cert.FinSampleRefIdeal.nD Cert.FinSampleRefIdeal.τ).loc Cert.FinSampleRefIdeal.main_arg1))

def Claim : Prop :=
  ∃ (hWkv : Cert.Wkv.Facts) (hWkvIdeal : Cert.WkvIdeal.Facts) (hWkvRefIdeal : Cert.WkvRefIdeal.Facts) (hPool : Cert.Pool.Facts) (hPoolIdeal : Cert.PoolIdeal.Facts) (hPoolRefIdeal : Cert.PoolRefIdeal.Facts) (hPrep : Cert.Prep.Facts) (hPrepIdeal : Cert.PrepIdeal.Facts) (hPrepRefIdeal : Cert.PrepRefIdeal.Facts) (hInProj : Cert.InProj.Facts) (hInProjIdeal : Cert.InProjIdeal.Facts) (hInProjRefIdeal : Cert.InProjRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hPle : Cert.Ple.Facts) (hPleIdeal : Cert.PleIdeal.Facts) (hPleRefIdeal : Cert.PleRefIdeal.Facts) (hFinPrompt : Cert.FinPrompt.Facts) (hFinPromptIdeal : Cert.FinPromptIdeal.Facts) (hFinPromptRefIdeal : Cert.FinPromptRefIdeal.Facts) (hFinSample : Cert.FinSample.Facts) (hFinSampleIdeal : Cert.FinSampleIdeal.Facts) (hFinSampleRefIdeal : Cert.FinSampleRefIdeal.Facts) (hPre_keys_finite : Cert.Pre_keys_finite.Facts),
    quiescent_Wkv (hWkv := hWkv)
    ∧ quiescent_WkvIdeal (hWkvIdeal := hWkvIdeal)
    ∧ quiescent_WkvRefIdeal (hWkvRefIdeal := hWkvRefIdeal)
    ∧ quiescent_Pool (hPool := hPool)
    ∧ quiescent_PoolIdeal (hPoolIdeal := hPoolIdeal)
    ∧ quiescent_PoolRefIdeal (hPoolRefIdeal := hPoolRefIdeal)
    ∧ quiescent_Prep (hPrep := hPrep)
    ∧ quiescent_PrepIdeal (hPrepIdeal := hPrepIdeal)
    ∧ quiescent_PrepIdeal_pre_keys_finite (hPrepIdeal := hPrepIdeal) (hPre_keys_finite := hPre_keys_finite)
    ∧ quiescent_PrepRefIdeal (hPrepRefIdeal := hPrepRefIdeal)
    ∧ quiescent_PrepRefIdeal_pre_keys_finite (hPrepRefIdeal := hPrepRefIdeal) (hPre_keys_finite := hPre_keys_finite)
    ∧ quiescent_InProj (hInProj := hInProj)
    ∧ quiescent_InProjIdeal (hInProjIdeal := hInProjIdeal)
    ∧ quiescent_InProjRefIdeal (hInProjRefIdeal := hInProjRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Ple (hPle := hPle)
    ∧ quiescent_PleIdeal (hPleIdeal := hPleIdeal)
    ∧ quiescent_PleRefIdeal (hPleRefIdeal := hPleRefIdeal)
    ∧ quiescent_FinPrompt (hFinPrompt := hFinPrompt)
    ∧ quiescent_FinPromptIdeal (hFinPromptIdeal := hFinPromptIdeal)
    ∧ quiescent_FinPromptRefIdeal (hFinPromptRefIdeal := hFinPromptRefIdeal)
    ∧ quiescent_FinSample (hFinSample := hFinSample)
    ∧ quiescent_FinSampleIdeal (hFinSampleIdeal := hFinSampleIdeal)
    ∧ quiescent_FinSampleRefIdeal (hFinSampleRefIdeal := hFinSampleRefIdeal)
    ∧ preserves_Wkv_WkvIdeal
    ∧ algebraic_WkvIdeal_WkvRefIdeal (hWkvIdeal := hWkvIdeal) (hWkvRefIdeal := hWkvRefIdeal)
    ∧ preserves_Pool_PoolIdeal
    ∧ algebraic_PoolIdeal_PoolRefIdeal (hPoolIdeal := hPoolIdeal) (hPoolRefIdeal := hPoolRefIdeal)
    ∧ preserves_Prep_PrepIdeal
    ∧ algebraic_PrepIdeal_PrepRefIdeal_pre_keys_finite (hPrepIdeal := hPrepIdeal) (hPrepRefIdeal := hPrepRefIdeal) (hPre_keys_finite := hPre_keys_finite)
    ∧ preserves_InProj_InProjIdeal
    ∧ algebraic_InProjIdeal_InProjRefIdeal (hInProjIdeal := hInProjIdeal) (hInProjRefIdeal := hInProjRefIdeal)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_Ple_PleIdeal
    ∧ algebraic_PleIdeal_PleRefIdeal (hPleIdeal := hPleIdeal) (hPleRefIdeal := hPleRefIdeal)
    ∧ preserves_FinPrompt_FinPromptIdeal
    ∧ algebraic_FinPromptIdeal_FinPromptRefIdeal (hFinPromptIdeal := hFinPromptIdeal) (hFinPromptRefIdeal := hFinPromptRefIdeal)
    ∧ preserves_FinSample_FinSampleIdeal
    ∧ algebraic_FinSampleIdeal_FinSampleRefIdeal (hFinSampleIdeal := hFinSampleIdeal) (hFinSampleRefIdeal := hFinSampleRefIdeal)
-- ==== Pre_keys_finite.lean ====
abbrev S16384x8704 : Shape := ⟨2, ![16384, 8704]⟩
abbrev S8x3360 : Shape := ⟨2, ![8, 3360]⟩
abbrev S3360 : Shape := ⟨1, ![3360]⟩
abbrev S1024 : Shape := ⟨1, ![1024]⟩
abbrev S64x1024 : Shape := ⟨2, ![64, 1024]⟩
abbrev S160x1024 : Shape := ⟨2, ![160, 1024]⟩
abbrev S16384x1024 : Shape := ⟨2, ![16384, 1024]⟩
abbrev S8x1024 : Shape := ⟨2, ![8, 1024]⟩
abbrev S_ : Shape := ⟨0, ![]⟩

class Facts : Prop where
  slices_S16384x8704_S16384x1024_0_1024 : S16384x8704.Slices ![0, 1024] S16384x1024
  slices_S8x3360_S8x1024_0_1024 : S8x3360.Slices ![0, 1024] S8x1024
  slices_S3360_S1024_1024 : S3360.Slices ![1024] S1024
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v6 : IVec S_ 1) (main_v10 : IVec S_ 1) (main_v14 : IVec S_ 1) (main_v15 : FVec F S1024 .f32) (main_v16 : FVec F S1024 .f32) : IVec S_ 1 :=
  let main_v17 : IVec S1024 1 := cmpf .oeq main_v15 main_v16
  let main_c_5 : IVec S_ 1 := constantI S_ 1 1#1
  let main_v18 : IVec S_ 1 := (fun x v => Host.reduce IntOp.andi x v reducesTo_S1024_S_d0 h_S_) main_v17 main_c_5
  let main_v19 : IVec S_ 1 := andi main_v6 main_v10
  let main_v20 : IVec S_ 1 := andi main_v19 main_v14
  let main_v21 : IVec S_ 1 := andi main_v20 main_v18
  main_v21

def fn {F : FTy → Type} [FloatOps F] (main_arg0 : FVec F S16384x8704 .f32) (main_arg1 : FVec F S8x3360 .f32) (main_arg2 : FVec F S3360 .f32) (main_arg3 : FVec F S1024 .f32) (main_arg4 : FVec F S64x1024 .f32) (main_arg5 : FVec F S1024 .f32) (main_arg6 : FVec F S64x1024 .f32) (main_arg7 : FVec F S160x1024 .f32) (main_arg8 : FVec F S1024 .f32) (main_arg9 : FVec F S1024 .f32) : IVec S_ 1 :=
  let main_v0 : FVec F S16384x1024 .f32 := (extractStridedSlice S16384x1024 ![0, 1024] · slices_S16384x8704_S16384x1024_0_1024) main_arg0
  let main_v1 : FVec F S8x1024 .f32 := (extractStridedSlice S8x1024 ![0, 1024] · slices_S8x3360_S8x1024_0_1024) main_arg1
  let main_v2 : FVec F S1024 .f32 := (extractStridedSlice S1024 ![1024] · slices_S3360_S1024_1024) main_arg2
  let main_v3 : FVec F S16384x1024 .f32 := subf main_v0 main_v0
  let main_cst : FVec F S_ .f32 := constant S_ .f32 0x00000000#32
  let main_v4 : FVec F S16384x1024 .f32 := broadcastInDim S16384x1024 ![] bcast_S_S16384x1024 main_cst
  let main_v5 : IVec S16384x1024 1 := cmpf .oeq main_v3 main_v4
  let main_c : IVec S_ 1 := constantI S_ 1 1#1
  let main_v6 : IVec S_ 1 := (fun x v => Host.reduce IntOp.andi x v reducesTo_S16384x1024_S_d0_1 h_S_) main_v5 main_c
  let main_v7 : FVec F S8x1024 .f32 := subf main_v1 main_v1
  let main_cst_0 : FVec F S_ .f32 := constant S_ .f32 0x00000000#32
  let main_v8 : FVec F S8x1024 .f32 := broadcastInDim S8x1024 ![] bcast_S_S8x1024 main_cst_0
  let main_v9 : IVec S8x1024 1 := cmpf .oeq main_v7 main_v8
  let main_c_1 : IVec S_ 1 := constantI S_ 1 1#1
  let main_v10 : IVec S_ 1 := (fun x v => Host.reduce IntOp.andi x v reducesTo_S8x1024_S_d0_1 h_S_) main_v9 main_c_1
  let main_v11 : FVec F S1024 .f32 := subf main_v2 main_v2
  let main_cst_2 : FVec F S_ .f32 := constant S_ .f32 0x00000000#32
  let main_v12 : FVec F S1024 .f32 := broadcastInDim S1024 ![] bcast_S_S1024 main_cst_2
  let main_v13 : IVec S1024 1 := cmpf .oeq main_v11 main_v12
  let main_c_3 : IVec S_ 1 := constantI S_ 1 1#1
  let main_v14 : IVec S_ 1 := (fun x v => Host.reduce IntOp.andi x v reducesTo_S1024_S_d0 h_S_) main_v13 main_c_3
  let main_v15 : FVec F S1024 .f32 := subf main_arg8 main_arg8
  let main_cst_4 : FVec F S_ .f32 := constant S_ .f32 0x00000000#32
  let main_v16 : FVec F S1024 .f32 := broadcastInDim S1024 ![] bcast_S_S1024 main_cst_4
  fn_part1 (F := F) main_v6 main_v10 main_v14 main_v15 main_v16
-- ==== Wkv.lean ====
abbrev S6x16384x1024 : Shape := ⟨3, ![6, 16384, 1024]⟩
abbrev S8x16x64x64 : Shape := ⟨4, ![8, 16, 64, 64]⟩
abbrev S1024 : Shape := ⟨1, ![1024]⟩
abbrev S16x64 : Shape := ⟨2, ![16, 64]⟩
abbrev S6x8x2048x16x64 : Shape := ⟨5, ![6, 8, 2048, 16, 64]⟩
abbrev S2048x6x64x8x16 : Shape := ⟨5, ![2048, 6, 64, 8, 16]⟩
abbrev S2048x6x64x128 : Shape := ⟨4, ![2048, 6, 64, 128]⟩
abbrev S64x64x8x16 : Shape := ⟨4, ![64, 64, 8, 16]⟩
abbrev S64x64x128 : Shape := ⟨3, ![64, 64, 128]⟩
abbrev S64x16 : Shape := ⟨2, ![64, 16]⟩
abbrev S1x64x1x16 : Shape := ⟨4, ![1, 64, 1, 16]⟩
abbrev S1x64x8x16 : Shape := ⟨4, ![1, 64, 8, 16]⟩
abbrev S64x128 : Shape := ⟨2, ![64, 128]⟩
abbrev S2048x64x128 : Shape := ⟨3, ![2048, 64, 128]⟩
abbrev S16x6x64x128 : Shape := ⟨4, ![16, 6, 64, 128]⟩
abbrev S16x64x128 : Shape := ⟨3, ![16, 64, 128]⟩
abbrev S1x64x128 : Shape := ⟨3, ![1, 64, 128]⟩
abbrev S1x1x1x128 : Shape := ⟨4, ![1, 1, 1, 128]⟩
abbrev S1x128 : Shape := ⟨2, ![1, 128]⟩
abbrev S1x1x64x128 : Shape := ⟨4, ![1, 1, 64, 128]⟩
abbrev S128 : Shape := ⟨1, ![128]⟩

abbrev nBuf : Space → Nat
  | .hbm => 28
  | .vmem => 9
  | .smem => 0
  | _ => 0

abbrev bufTy : (tb : Table) → Fin (tcTables nBuf tb) → BufTy
  | .hbm, ⟨0, _⟩ => ⟨S6x16384x1024, .f32⟩
  | .hbm, ⟨1, _⟩ => ⟨S8x16x64x64, .f32⟩
  | .hbm, ⟨2, _⟩ => ⟨S1024, .f32⟩
  | .hbm, ⟨3, _⟩ => ⟨S1024, .f32⟩
  | .hbm, ⟨4, _⟩ => ⟨S16x64, .f32⟩
  | .hbm, ⟨5, _⟩ => ⟨S6x8x2048x16x64, .f32⟩
  | .hbm, ⟨6, _⟩ => ⟨S2048x6x64x8x16, .f32⟩
  | .hbm, ⟨7, _⟩ => ⟨S2048x6x64x128, .f32⟩
  | .hbm, ⟨8, _⟩ => ⟨S64x64x8x16, .f32⟩
  | .hbm, ⟨9, _⟩ => ⟨S64x64x128, .f32⟩
  | .hbm, ⟨10, _⟩ => ⟨S16x64, .f32⟩
  | .hbm, ⟨11, _⟩ => ⟨S64x16, .f32⟩
  | .hbm, ⟨12, _⟩ => ⟨S1x64x1x16, .f32⟩
  | .hbm, ⟨13, _⟩ => ⟨S1x64x8x16, .f32⟩
  | .hbm, ⟨14, _⟩ => ⟨S64x128, .f32⟩
  | .hbm, ⟨15, _⟩ => ⟨S16x64, .f32⟩
  | .hbm, ⟨16, _⟩ => ⟨S64x16, .f32⟩
  | .hbm, ⟨17, _⟩ => ⟨S1x64x1x16, .f32⟩
  | .hbm, ⟨18, _⟩ => ⟨S1x64x8x16, .f32⟩
  | .hbm, ⟨19, _⟩ => ⟨S64x128, .f32⟩
  | .hbm, ⟨20, _⟩ => ⟨S1024, .f32⟩
  | .hbm, ⟨21, _⟩ => ⟨S16x64, .f32⟩
  | .hbm, ⟨22, _⟩ => ⟨S64x16, .f32⟩
  | .hbm, ⟨23, _⟩ => ⟨S1x64x1x16, .f32⟩
  | .hbm, ⟨24, _⟩ => ⟨S1x64x8x16, .f32⟩
  | .hbm, ⟨25, _⟩ => ⟨S64x128, .f32⟩
  | .hbm, ⟨26, _⟩ => ⟨S2048x64x128, .f32⟩
  | .hbm, ⟨27, _⟩ => ⟨S64x64x128, .f32⟩
  | .local _ .vmem, ⟨0, _⟩ => ⟨S16x6x64x128, .f32⟩
  | .local _ .vmem, ⟨1, _⟩ => ⟨S16x6x64x128, .f32⟩
  | .local _ .vmem, ⟨2, _⟩ => ⟨S64x64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S16x64x128, .f32⟩
  | .local _ .vmem, ⟨7, _⟩ => ⟨S16x64x128, .f32⟩
  | .local _ .vmem, ⟨8, _⟩ => ⟨S64x64x128, .f32⟩
  | _, _ => ⟨S6x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21_0 : Ref sig .tc := ⟨.hbm, 26, rfl⟩
abbrev main_v21_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_off1 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v8 : Index := Scalar.indexCast arg8
  let c4 : Index := 4#32
  let c0_6 : Index := 0#32
  let c0_7 : Index := 0#32
  ![v8.toNat, 4, 0, 0]
def k0_off2 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v16 : Index := Scalar.indexCast arg8
  let c4_10 : Index := 4#32
  let c1_11 : Index := 1#32
  let c0_12 : Index := 0#32
  ![v16.toNat, 4, 1, 0]
def k0_off3 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v24 : Index := Scalar.indexCast arg8
  let c4_15 : Index := 4#32
  let c2_16 : Index := 2#32
  let c0_17 : Index := 0#32
  ![v24.toNat, 4, 2, 0]
def k0_off4 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v32 : Index := Scalar.indexCast arg8
  let c4_20 : Index := 4#32
  let c3_21 : Index := 3#32
  let c0_22 : Index := 0#32
  ![v32.toNat, 4, 3, 0]
def k0_off5 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v40 : Index := Scalar.indexCast arg8
  let c4_26 : Index := 4#32
  let c4_27 : Index := 4#32
  let c0_28 : Index := 0#32
  ![v40.toNat, 4, 4, 0]
def k0_off6 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v48 : Index := Scalar.indexCast arg8
  let c4_31 : Index := 4#32
  let c5_32 : Index := 5#32
  let c0_33 : Index := 0#32
  ![v48.toNat, 4, 5, 0]
def k0_off7 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v56 : Index := Scalar.indexCast arg8
  let c4_36 : Index := 4#32
  let c6_37 : Index := 6#32
  let c0_38 : Index := 0#32
  ![v56.toNat, 4, 6, 0]
def k0_off8 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v64 : Index := Scalar.indexCast arg8
  let c4_41 : Index := 4#32
  let c7_42 : Index := 7#32
  let c0_43 : Index := 0#32
  ![v64.toNat, 4, 7, 0]
def k0_off9 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v72 : Index := Scalar.indexCast arg8
  let c4_46 : Index := 4#32
  let c8_47 : Index := 8#32
  let c0_48 : Index := 0#32
  ![v72.toNat, 4, 8, 0]
def k0_off10 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v80 : Index := Scalar.indexCast arg8
  let c4_51 : Index := 4#32
  let c9_52 : Index := 9#32
  let c0_53 : Index := 0#32
  ![v80.toNat, 4, 9, 0]
def k0_off11 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v88 : Index := Scalar.indexCast arg8
  let c4_56 : Index := 4#32
  let c10_57 : Index := 10#32
  let c0_58 : Index := 0#32
  ![v88.toNat, 4, 10, 0]
def k0_off12 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v96 : Index := Scalar.indexCast arg8
  let c4_61 : Index := 4#32
  let c11_62 : Index := 11#32
  let c0_63 : Index := 0#32
  ![v96.toNat, 4, 11, 0]
def k0_off13 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v104 : Index := Scalar.indexCast arg8
  let c4_66 : Index := 4#32
  let c12_67 : Index := 12#32
  let c0_68 : Index := 0#32
  ![v104.toNat, 4, 12, 0]
def k0_off14 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v112 : Index := Scalar.indexCast arg8
  let c4_71 : Index := 4#32
  let c13_72 : Index := 13#32
  let c0_73 : Index := 0#32
  ![v112.toNat, 4, 13, 0]
def k0_off15 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v120 : Index := Scalar.indexCast arg8
  let c4_76 : Index := 4#32
  let c14_77 : Index := 14#32
  let c0_78 : Index := 0#32
  ![v120.toNat, 4, 14, 0]
def k0_off16 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v128 : Index := Scalar.indexCast arg8
  let c4_81 : Index := 4#32
  let c15_82 : Index := 15#32
  let c0_83 : Index := 0#32
  ![v128.toNat, 4, 15, 0]
def k0_off17 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v136 : Index := Scalar.indexCast arg8
  let c4_86 : Index := 4#32
  let c16_87 : Index := 16#32
  let c0_88 : Index := 0#32
  ![v136.toNat, 4, 16, 0]
def k0_off18 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v144 : Index := Scalar.indexCast arg8
  let c4_91 : Index := 4#32
  let c17_92 : Index := 17#32
  let c0_93 : Index := 0#32
  ![v144.toNat, 4, 17, 0]
def k0_off19 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v152 : Index := Scalar.indexCast arg8
  let c4_96 : Index := 4#32
  let c18_97 : Index := 18#32
  let c0_98 : Index := 0#32
  ![v152.toNat, 4, 18, 0]
def k0_off20 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v160 : Index := Scalar.indexCast arg8
  let c4_101 : Index := 4#32
  let c19_102 : Index := 19#32
  let c0_103 : Index := 0#32
  ![v160.toNat, 4, 19, 0]
def k0_off21 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v168 : Index := Scalar.indexCast arg8
  let c4_106 : Index := 4#32
  let c20_107 : Index := 20#32
  let c0_108 : Index := 0#32
  ![v168.toNat, 4, 20, 0]
def k0_off22 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v176 : Index := Scalar.indexCast arg8
  let c4_111 : Index := 4#32
  let c21_112 : Index := 21#32
  let c0_113 : Index := 0#32
  ![v176.toNat, 4, 21, 0]
def k0_off23 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v184 : Index := Scalar.indexCast arg8
  let c4_116 : Index := 4#32
  let c22_117 : Index := 22#32
  let c0_118 : Index := 0#32
  ![v184.toNat, 4, 22, 0]
def k0_off24 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v192 : Index := Scalar.indexCast arg8
  let c4_121 : Index := 4#32
  let c23_122 : Index := 23#32
  let c0_123 : Index := 0#32
  ![v192.toNat, 4, 23, 0]
def k0_off25 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v200 : Index := Scalar.indexCast arg8
  let c4_126 : Index := 4#32
  let c24_127 : Index := 24#32
  let c0_128 : Index := 0#32
  ![v200.toNat, 4, 24, 0]
def k0_off26 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v208 : Index := Scalar.indexCast arg8
  let c4_131 : Index := 4#32
  let c25_132 : Index := 25#32
  let c0_133 : Index := 0#32
  ![v208.toNat, 4, 25, 0]
def k0_off27 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v216 : Index := Scalar.indexCast arg8
  let c4_136 : Index := 4#32
  let c26_137 : Index := 26#32
  let c0_138 : Index := 0#32
  ![v216.toNat, 4, 26, 0]
def k0_off28 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v224 : Index := Scalar.indexCast arg8
  let c4_141 : Index := 4#32
  let c27_142 : Index := 27#32
  let c0_143 : Index := 0#32
  ![v224.toNat, 4, 27, 0]
def k0_off29 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v232 : Index := Scalar.indexCast arg8
  let c4_146 : Index := 4#32
  let c28_147 : Index := 28#32
  let c0_148 : Index := 0#32
  ![v232.toNat, 4, 28, 0]
def k0_off30 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v240 : Index := Scalar.indexCast arg8
  let c4_151 : Index := 4#32
  let c29_152 : Index := 29#32
  let c0_153 : Index := 0#32
  ![v240.toNat, 4, 29, 0]
def k0_off31 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v248 : Index := Scalar.indexCast arg8
  let c4_156 : Index := 4#32
  let c30_157 : Index := 30#32
  let c0_158 : Index := 0#32
  ![v248.toNat, 4, 30, 0]
def k0_off32 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v256 : Index := Scalar.indexCast arg8
  let c4_161 : Index := 4#32
  let c31_162 : Index := 31#32
  let c0_163 : Index := 0#32
  ![v256.toNat, 4, 31, 0]
def k0_off33 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v264 : Index := Scalar.indexCast arg8
  let c4_166 : Index := 4#32
  let c32_167 : Index := 32#32
  let c0_168 : Index := 0#32
  ![v264.toNat, 4, 32, 0]
def k0_off34 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v272 : Index := Scalar.indexCast arg8
  let c4_171 : Index := 4#32
  let c33_172 : Index := 33#32
  let c0_173 : Index := 0#32
  ![v272.toNat, 4, 33, 0]
def k0_off35 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v280 : Index := Scalar.indexCast arg8
  let c4_176 : Index := 4#32
  let c34_177 : Index := 34#32
  let c0_178 : Index := 0#32
  ![v280.toNat, 4, 34, 0]
def k0_off36 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v288 : Index := Scalar.indexCast arg8
  let c4_181 : Index := 4#32
  let c35_182 : Index := 35#32
  let c0_183 : Index := 0#32
  ![v288.toNat, 4, 35, 0]
def k0_off37 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v296 : Index := Scalar.indexCast arg8
  let c4_186 : Index := 4#32
  let c36_187 : Index := 36#32
  let c0_188 : Index := 0#32
  ![v296.toNat, 4, 36, 0]
def k0_off38 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v304 : Index := Scalar.indexCast arg8
  let c4_191 : Index := 4#32
  let c37_192 : Index := 37#32
  let c0_193 : Index := 0#32
  ![v304.toNat, 4, 37, 0]
def k0_off39 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v312 : Index := Scalar.indexCast arg8
  let c4_196 : Index := 4#32
  let c38_197 : Index := 38#32
  let c0_198 : Index := 0#32
  ![v312.toNat, 4, 38, 0]
def k0_off40 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v320 : Index := Scalar.indexCast arg8
  let c4_201 : Index := 4#32
  let c39_202 : Index := 39#32
  let c0_203 : Index := 0#32
  ![v320.toNat, 4, 39, 0]
def k0_off41 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v328 : Index := Scalar.indexCast arg8
  let c4_206 : Index := 4#32
  let c40_207 : Index := 40#32
  let c0_208 : Index := 0#32
  ![v328.toNat, 4, 40, 0]
def k0_off42 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v336 : Index := Scalar.indexCast arg8
  let c4_211 : Index := 4#32
  let c41_212 : Index := 41#32
  let c0_213 : Index := 0#32
  ![v336.toNat, 4, 41, 0]
def k0_off43 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v344 : Index := Scalar.indexCast arg8
  let c4_216 : Index := 4#32
  let c42_217 : Index := 42#32
  let c0_218 : Index := 0#32
  ![v344.toNat, 4, 42, 0]
def k0_off44 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v352 : Index := Scalar.indexCast arg8
  let c4_221 : Index := 4#32
  let c43_222 : Index := 43#32
  let c0_223 : Index := 0#32
  ![v352.toNat, 4, 43, 0]
def k0_off45 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v360 : Index := Scalar.indexCast arg8
  let c4_226 : Index := 4#32
  let c44_227 : Index := 44#32
  let c0_228 : Index := 0#32
  ![v360.toNat, 4, 44, 0]
def k0_off46 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v368 : Index := Scalar.indexCast arg8
  let c4_231 : Index := 4#32
  let c45_232 : Index := 45#32
  let c0_233 : Index := 0#32
  ![v368.toNat, 4, 45, 0]
def k0_off47 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v376 : Index := Scalar.indexCast arg8
  let c4_236 : Index := 4#32
  let c46_237 : Index := 46#32
  let c0_238 : Index := 0#32
  ![v376.toNat, 4, 46, 0]
def k0_off48 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v384 : Index := Scalar.indexCast arg8
  let c4_241 : Index := 4#32
  let c47_242 : Index := 47#32
  let c0_243 : Index := 0#32
  ![v384.toNat, 4, 47, 0]
def k0_off49 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v392 : Index := Scalar.indexCast arg8
  let c4_246 : Index := 4#32
  let c48_247 : Index := 48#32
  let c0_248 : Index := 0#32
  ![v392.toNat, 4, 48, 0]
def k0_off50 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v400 : Index := Scalar.indexCast arg8
  let c4_251 : Index := 4#32
  let c49_252 : Index := 49#32
  let c0_253 : Index := 0#32
  ![v400.toNat, 4, 49, 0]
def k0_off51 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v408 : Index := Scalar.indexCast arg8
  let c4_256 : Index := 4#32
  let c50_257 : Index := 50#32
  let c0_258 : Index := 0#32
  ![v408.toNat, 4, 50, 0]
def k0_off52 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v416 : Index := Scalar.indexCast arg8
  let c4_261 : Index := 4#32
  let c51_262 : Index := 51#32
  let c0_263 : Index := 0#32
  ![v416.toNat, 4, 51, 0]
def k0_off53 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v424 : Index := Scalar.indexCast arg8
  let c4_266 : Index := 4#32
  let c52_267 : Index := 52#32
  let c0_268 : Index := 0#32
  ![v424.toNat, 4, 52, 0]
def k0_off54 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v432 : Index := Scalar.indexCast arg8
  let c4_271 : Index := 4#32
  let c53_272 : Index := 53#32
  let c0_273 : Index := 0#32
  ![v432.toNat, 4, 53, 0]
def k0_off55 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v440 : Index := Scalar.indexCast arg8
  let c4_276 : Index := 4#32
  let c54_277 : Index := 54#32
  let c0_278 : Index := 0#32
  ![v440.toNat, 4, 54, 0]
def k0_off56 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v448 : Index := Scalar.indexCast arg8
  let c4_281 : Index := 4#32
  let c55_282 : Index := 55#32
  let c0_283 : Index := 0#32
  ![v448.toNat, 4, 55, 0]
def k0_off57 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v456 : Index := Scalar.indexCast arg8
  let c4_286 : Index := 4#32
  let c56_287 : Index := 56#32
  let c0_288 : Index := 0#32
  ![v456.toNat, 4, 56, 0]
def k0_off58 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v464 : Index := Scalar.indexCast arg8
  let c4_291 : Index := 4#32
  let c57_292 : Index := 57#32
  let c0_293 : Index := 0#32
  ![v464.toNat, 4, 57, 0]
def k0_off59 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v472 : Index := Scalar.indexCast arg8
  let c4_296 : Index := 4#32
  let c58_297 : Index := 58#32
  let c0_298 : Index := 0#32
  ![v472.toNat, 4, 58, 0]
def k0_off60 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v480 : Index := Scalar.indexCast arg8
  let c4_301 : Index := 4#32
  let c59_302 : Index := 59#32
  let c0_303 : Index := 0#32
  ![v480.toNat, 4, 59, 0]
def k0_off61 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v488 : Index := Scalar.indexCast arg8
  let c4_306 : Index := 4#32
  let c60_307 : Index := 60#32
  let c0_308 : Index := 0#32
  ![v488.toNat, 4, 60, 0]
def k0_off62 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v496 : Index := Scalar.indexCast arg8
  let c4_311 : Index := 4#32
  let c61_312 : Index := 61#32
  let c0_313 : Index := 0#32
  ![v496.toNat, 4, 61, 0]
def k0_off63 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v504 : Index := Scalar.indexCast arg8
  let c4_316 : Index := 4#32
  let c62_317 : Index := 62#32
  let c0_318 : Index := 0#32
  ![v504.toNat, 4, 62, 0]
def k0_off64 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v512 : Index := Scalar.indexCast arg8
  let c4_321 : Index := 4#32
  let c63_322 : Index := 63#32
  let c0_323 : Index := 0#32
  ![v512.toNat, 4, 63, 0]
def k0_off65 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v521 : Index := Scalar.indexCast arg8
  let c3_325 : Index := 3#32
  let c0_326 : Index := 0#32
  let c0_327 : Index := 0#32
  ![v521.toNat, 3, 0, 0]
def k0_off66 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v528 : Index := Scalar.indexCast arg8
  let c1_333 : Index := 1#32
  let c0_334 : Index := 0#32
  let c0_335 : Index := 0#32
  ![v528.toNat, 1, 0, 0]
def k0_off67 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v533 : Index := Scalar.indexCast arg8
  let c5_336 : Index := 5#32
  let c0_337 : Index := 0#32
  let c0_338 : Index := 0#32
  ![v533.toNat, 5, 0, 0]
def k0_off68 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v539 : Index := Scalar.indexCast arg8
  let c2_339 : Index := 2#32
  let c0_340 : Index := 0#32
  let c0_341 : Index := 0#32
  ![v539.toNat, 2, 0, 0]
def k0_off69 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v548 : Index := Scalar.indexCast arg8
  let c0_345 : Index := 0#32
  let c0_346 : Index := 0#32
  let c0_347 : Index := 0#32
  ![v548.toNat, 0, 0, 0]
def k0_off70 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v556 : Index := Scalar.indexCast arg8
  let c1_351 : Index := 1#32
  let c1_352 : Index := 1#32
  let c0_353 : Index := 0#32
  ![v556.toNat, 1, 1, 0]
def k0_off71 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v561 : Index := Scalar.indexCast arg8
  let c5_354 : Index := 5#32
  let c1_355 : Index := 1#32
  let c0_356 : Index := 0#32
  ![v561.toNat, 5, 1, 0]
def k0_off72 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v567 : Index := Scalar.indexCast arg8
  let c2_357 : Index := 2#32
  let c1_358 : Index := 1#32
  let c0_359 : Index := 0#32
  ![v567.toNat, 2, 1, 0]
def k0_off73 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v576 : Index := Scalar.indexCast arg8
  let c0_363 : Index := 0#32
  let c1_364 : Index := 1#32
  let c0_365 : Index := 0#32
  ![v576.toNat, 0, 1, 0]
def k0_off74 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v584 : Index := Scalar.indexCast arg8
  let c1_369 : Index := 1#32
  let c2_370 : Index := 2#32
  let c0_371 : Index := 0#32
  ![v584.toNat, 1, 2, 0]
def k0_off75 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v589 : Index := Scalar.indexCast arg8
  let c5_372 : Index := 5#32
  let c2_373 : Index := 2#32
  let c0_374 : Index := 0#32
  ![v589.toNat, 5, 2, 0]
def k0_off76 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v595 : Index := Scalar.indexCast arg8
  let c2_375 : Index := 2#32
  let c2_376 : Index := 2#32
  let c0_377 : Index := 0#32
  ![v595.toNat, 2, 2, 0]
def k0_off77 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v604 : Index := Scalar.indexCast arg8
  let c0_381 : Index := 0#32
  let c2_382 : Index := 2#32
  let c0_383 : Index := 0#32
  ![v604.toNat, 0, 2, 0]
def k0_off78 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v612 : Index := Scalar.indexCast arg8
  let c1_387 : Index := 1#32
  let c3_388 : Index := 3#32
  let c0_389 : Index := 0#32
  ![v612.toNat, 1, 3, 0]
def k0_off79 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v617 : Index := Scalar.indexCast arg8
  let c5_390 : Index := 5#32
  let c3_391 : Index := 3#32
  let c0_392 : Index := 0#32
  ![v617.toNat, 5, 3, 0]
def k0_off80 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v623 : Index := Scalar.indexCast arg8
  let c2_393 : Index := 2#32
  let c3_394 : Index := 3#32
  let c0_395 : Index := 0#32
  ![v623.toNat, 2, 3, 0]
def k0_off81 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v632 : Index := Scalar.indexCast arg8
  let c0_399 : Index := 0#32
  let c3_400 : Index := 3#32
  let c0_401 : Index := 0#32
  ![v632.toNat, 0, 3, 0]
def k0_off82 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v640 : Index := Scalar.indexCast arg8
  let c1_405 : Index := 1#32
  let c4_406 : Index := 4#32
  let c0_407 : Index := 0#32
  ![v640.toNat, 1, 4, 0]
def k0_off83 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v645 : Index := Scalar.indexCast arg8
  let c5_408 : Index := 5#32
  let c4_409 : Index := 4#32
  let c0_410 : Index := 0#32
  ![v645.toNat, 5, 4, 0]
def k0_off84 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v651 : Index := Scalar.indexCast arg8
  let c2_411 : Index := 2#32
  let c4_412 : Index := 4#32
  let c0_413 : Index := 0#32
  ![v651.toNat, 2, 4, 0]
def k0_off85 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v660 : Index := Scalar.indexCast arg8
  let c0_417 : Index := 0#32
  let c4_418 : Index := 4#32
  let c0_419 : Index := 0#32
  ![v660.toNat, 0, 4, 0]
def k0_off86 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v668 : Index := Scalar.indexCast arg8
  let c1_423 : Index := 1#32
  let c5_424 : Index := 5#32
  let c0_425 : Index := 0#32
  ![v668.toNat, 1, 5, 0]
def k0_off87 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v673 : Index := Scalar.indexCast arg8
  let c5_426 : Index := 5#32
  let c5_427 : Index := 5#32
  let c0_428 : Index := 0#32
  ![v673.toNat, 5, 5, 0]
def k0_off88 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v679 : Index := Scalar.indexCast arg8
  let c2_429 : Index := 2#32
  let c5_430 : Index := 5#32
  let c0_431 : Index := 0#32
  ![v679.toNat, 2, 5, 0]
def k0_off89 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v688 : Index := Scalar.indexCast arg8
  let c0_435 : Index := 0#32
  let c5_436 : Index := 5#32
  let c0_437 : Index := 0#32
  ![v688.toNat, 0, 5, 0]
def k0_off90 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v696 : Index := Scalar.indexCast arg8
  let c1_441 : Index := 1#32
  let c6_442 : Index := 6#32
  let c0_443 : Index := 0#32
  ![v696.toNat, 1, 6, 0]
def k0_off91 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v701 : Index := Scalar.indexCast arg8
  let c5_444 : Index := 5#32
  let c6_445 : Index := 6#32
  let c0_446 : Index := 0#32
  ![v701.toNat, 5, 6, 0]
def k0_off92 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v707 : Index := Scalar.indexCast arg8
  let c2_447 : Index := 2#32
  let c6_448 : Index := 6#32
  let c0_449 : Index := 0#32
  ![v707.toNat, 2, 6, 0]
def k0_off93 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v716 : Index := Scalar.indexCast arg8
  let c0_453 : Index := 0#32
  let c6_454 : Index := 6#32
  let c0_455 : Index := 0#32
  ![v716.toNat, 0, 6, 0]
def k0_off94 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v724 : Index := Scalar.indexCast arg8
  let c1_459 : Index := 1#32
  let c7_460 : Index := 7#32
  let c0_461 : Index := 0#32
  ![v724.toNat, 1, 7, 0]
def k0_off95 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v729 : Index := Scalar.indexCast arg8
  let c5_462 : Index := 5#32
  let c7_463 : Index := 7#32
  let c0_464 : Index := 0#32
  ![v729.toNat, 5, 7, 0]
def k0_off96 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v735 : Index := Scalar.indexCast arg8
  let c2_465 : Index := 2#32
  let c7_466 : Index := 7#32
  let c0_467 : Index := 0#32
  ![v735.toNat, 2, 7, 0]
def k0_off97 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v744 : Index := Scalar.indexCast arg8
  let c0_471 : Index := 0#32
  let c7_472 : Index := 7#32
  let c0_473 : Index := 0#32
  ![v744.toNat, 0, 7, 0]
def k0_off98 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v752 : Index := Scalar.indexCast arg8
  let c1_477 : Index := 1#32
  let c8_478 : Index := 8#32
  let c0_479 : Index := 0#32
  ![v752.toNat, 1, 8, 0]
def k0_off99 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v757 : Index := Scalar.indexCast arg8
  let c5_480 : Index := 5#32
  let c8_481 : Index := 8#32
  let c0_482 : Index := 0#32
  ![v757.toNat, 5, 8, 0]
def k0_off100 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v763 : Index := Scalar.indexCast arg8
  let c2_483 : Index := 2#32
  let c8_484 : Index := 8#32
  let c0_485 : Index := 0#32
  ![v763.toNat, 2, 8, 0]
def k0_off101 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v772 : Index := Scalar.indexCast arg8
  let c0_489 : Index := 0#32
  let c8_490 : Index := 8#32
  let c0_491 : Index := 0#32
  ![v772.toNat, 0, 8, 0]
def k0_off102 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v780 : Index := Scalar.indexCast arg8
  let c1_495 : Index := 1#32
  let c9_496 : Index := 9#32
  let c0_497 : Index := 0#32
  ![v780.toNat, 1, 9, 0]
def k0_off103 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v785 : Index := Scalar.indexCast arg8
  let c5_498 : Index := 5#32
  let c9_499 : Index := 9#32
  let c0_500 : Index := 0#32
  ![v785.toNat, 5, 9, 0]
def k0_off104 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v791 : Index := Scalar.indexCast arg8
  let c2_501 : Index := 2#32
  let c9_502 : Index := 9#32
  let c0_503 : Index := 0#32
  ![v791.toNat, 2, 9, 0]
def k0_off105 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v800 : Index := Scalar.indexCast arg8
  let c0_507 : Index := 0#32
  let c9_508 : Index := 9#32
  let c0_509 : Index := 0#32
  ![v800.toNat, 0, 9, 0]
def k0_off106 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v808 : Index := Scalar.indexCast arg8
  let c1_513 : Index := 1#32
  let c10_514 : Index := 10#32
  let c0_515 : Index := 0#32
  ![v808.toNat, 1, 10, 0]
def k0_off107 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v813 : Index := Scalar.indexCast arg8
  let c5_516 : Index := 5#32
  let c10_517 : Index := 10#32
  let c0_518 : Index := 0#32
  ![v813.toNat, 5, 10, 0]
def k0_off108 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v819 : Index := Scalar.indexCast arg8
  let c2_519 : Index := 2#32
  let c10_520 : Index := 10#32
  let c0_521 : Index := 0#32
  ![v819.toNat, 2, 10, 0]
def k0_off109 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v828 : Index := Scalar.indexCast arg8
  let c0_525 : Index := 0#32
  let c10_526 : Index := 10#32
  let c0_527 : Index := 0#32
  ![v828.toNat, 0, 10, 0]
def k0_off110 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v836 : Index := Scalar.indexCast arg8
  let c1_531 : Index := 1#32
  let c11_532 : Index := 11#32
  let c0_533 : Index := 0#32
  ![v836.toNat, 1, 11, 0]
def k0_off111 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v841 : Index := Scalar.indexCast arg8
  let c5_534 : Index := 5#32
  let c11_535 : Index := 11#32
  let c0_536 : Index := 0#32
  ![v841.toNat, 5, 11, 0]
def k0_off112 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v847 : Index := Scalar.indexCast arg8
  let c2_537 : Index := 2#32
  let c11_538 : Index := 11#32
  let c0_539 : Index := 0#32
  ![v847.toNat, 2, 11, 0]
def k0_off113 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v856 : Index := Scalar.indexCast arg8
  let c0_543 : Index := 0#32
  let c11_544 : Index := 11#32
  let c0_545 : Index := 0#32
  ![v856.toNat, 0, 11, 0]
def k0_off114 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v864 : Index := Scalar.indexCast arg8
  let c1_549 : Index := 1#32
  let c12_550 : Index := 12#32
  let c0_551 : Index := 0#32
  ![v864.toNat, 1, 12, 0]
def k0_off115 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v869 : Index := Scalar.indexCast arg8
  let c5_552 : Index := 5#32
  let c12_553 : Index := 12#32
  let c0_554 : Index := 0#32
  ![v869.toNat, 5, 12, 0]
def k0_off116 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v875 : Index := Scalar.indexCast arg8
  let c2_555 : Index := 2#32
  let c12_556 : Index := 12#32
  let c0_557 : Index := 0#32
  ![v875.toNat, 2, 12, 0]
def k0_off117 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v884 : Index := Scalar.indexCast arg8
  let c0_561 : Index := 0#32
  let c12_562 : Index := 12#32
  let c0_563 : Index := 0#32
  ![v884.toNat, 0, 12, 0]
def k0_off118 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v892 : Index := Scalar.indexCast arg8
  let c1_567 : Index := 1#32
  let c13_568 : Index := 13#32
  let c0_569 : Index := 0#32
  ![v892.toNat, 1, 13, 0]
def k0_off119 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v897 : Index := Scalar.indexCast arg8
  let c5_570 : Index := 5#32
  let c13_571 : Index := 13#32
  let c0_572 : Index := 0#32
  ![v897.toNat, 5, 13, 0]
def k0_off120 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v903 : Index := Scalar.indexCast arg8
  let c2_573 : Index := 2#32
  let c13_574 : Index := 13#32
  let c0_575 : Index := 0#32
  ![v903.toNat, 2, 13, 0]
def k0_off121 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v912 : Index := Scalar.indexCast arg8
  let c0_579 : Index := 0#32
  let c13_580 : Index := 13#32
  let c0_581 : Index := 0#32
  ![v912.toNat, 0, 13, 0]
def k0_off122 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v920 : Index := Scalar.indexCast arg8
  let c1_585 : Index := 1#32
  let c14_586 : Index := 14#32
  let c0_587 : Index := 0#32
  ![v920.toNat, 1, 14, 0]
def k0_off123 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v925 : Index := Scalar.indexCast arg8
  let c5_588 : Index := 5#32
  let c14_589 : Index := 14#32
  let c0_590 : Index := 0#32
  ![v925.toNat, 5, 14, 0]
def k0_off124 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v931 : Index := Scalar.indexCast arg8
  let c2_591 : Index := 2#32
  let c14_592 : Index := 14#32
  let c0_593 : Index := 0#32
  ![v931.toNat, 2, 14, 0]
def k0_off125 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v940 : Index := Scalar.indexCast arg8
  let c0_597 : Index := 0#32
  let c14_598 : Index := 14#32
  let c0_599 : Index := 0#32
  ![v940.toNat, 0, 14, 0]
def k0_off126 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v948 : Index := Scalar.indexCast arg8
  let c1_603 : Index := 1#32
  let c15_604 : Index := 15#32
  let c0_605 : Index := 0#32
  ![v948.toNat, 1, 15, 0]
def k0_off127 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v953 : Index := Scalar.indexCast arg8
  let c5_606 : Index := 5#32
  let c15_607 : Index := 15#32
  let c0_608 : Index := 0#32
  ![v953.toNat, 5, 15, 0]
def k0_off128 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v959 : Index := Scalar.indexCast arg8
  let c2_609 : Index := 2#32
  let c15_610 : Index := 15#32
  let c0_611 : Index := 0#32
  ![v959.toNat, 2, 15, 0]
def k0_off129 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v968 : Index := Scalar.indexCast arg8
  let c0_615 : Index := 0#32
  let c15_616 : Index := 15#32
  let c0_617 : Index := 0#32
  ![v968.toNat, 0, 15, 0]
def k0_off130 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v976 : Index := Scalar.indexCast arg8
  let c1_621 : Index := 1#32
  let c16_622 : Index := 16#32
  let c0_623 : Index := 0#32
  ![v976.toNat, 1, 16, 0]
def k0_off131 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v981 : Index := Scalar.indexCast arg8
  let c5_624 : Index := 5#32
  let c16_625 : Index := 16#32
  let c0_626 : Index := 0#32
  ![v981.toNat, 5, 16, 0]
def k0_off132 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v987 : Index := Scalar.indexCast arg8
  let c2_627 : Index := 2#32
  let c16_628 : Index := 16#32
  let c0_629 : Index := 0#32
  ![v987.toNat, 2, 16, 0]
def k0_off133 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v996 : Index := Scalar.indexCast arg8
  let c0_633 : Index := 0#32
  let c16_634 : Index := 16#32
  let c0_635 : Index := 0#32
  ![v996.toNat, 0, 16, 0]
def k0_off134 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1004 : Index := Scalar.indexCast arg8
  let c1_639 : Index := 1#32
  let c17_640 : Index := 17#32
  let c0_641 : Index := 0#32
  ![v1004.toNat, 1, 17, 0]
def k0_off135 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1009 : Index := Scalar.indexCast arg8
  let c5_642 : Index := 5#32
  let c17_643 : Index := 17#32
  let c0_644 : Index := 0#32
  ![v1009.toNat, 5, 17, 0]
def k0_off136 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1015 : Index := Scalar.indexCast arg8
  let c2_645 : Index := 2#32
  let c17_646 : Index := 17#32
  let c0_647 : Index := 0#32
  ![v1015.toNat, 2, 17, 0]
def k0_off137 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1024 : Index := Scalar.indexCast arg8
  let c0_651 : Index := 0#32
  let c17_652 : Index := 17#32
  let c0_653 : Index := 0#32
  ![v1024.toNat, 0, 17, 0]
def k0_off138 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1032 : Index := Scalar.indexCast arg8
  let c1_657 : Index := 1#32
  let c18_658 : Index := 18#32
  let c0_659 : Index := 0#32
  ![v1032.toNat, 1, 18, 0]
def k0_off139 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1037 : Index := Scalar.indexCast arg8
  let c5_660 : Index := 5#32
  let c18_661 : Index := 18#32
  let c0_662 : Index := 0#32
  ![v1037.toNat, 5, 18, 0]
def k0_off140 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1043 : Index := Scalar.indexCast arg8
  let c2_663 : Index := 2#32
  let c18_664 : Index := 18#32
  let c0_665 : Index := 0#32
  ![v1043.toNat, 2, 18, 0]
def k0_off141 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1052 : Index := Scalar.indexCast arg8
  let c0_669 : Index := 0#32
  let c18_670 : Index := 18#32
  let c0_671 : Index := 0#32
  ![v1052.toNat, 0, 18, 0]
def k0_off142 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1060 : Index := Scalar.indexCast arg8
  let c1_675 : Index := 1#32
  let c19_676 : Index := 19#32
  let c0_677 : Index := 0#32
  ![v1060.toNat, 1, 19, 0]
def k0_off143 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1065 : Index := Scalar.indexCast arg8
  let c5_678 : Index := 5#32
  let c19_679 : Index := 19#32
  let c0_680 : Index := 0#32
  ![v1065.toNat, 5, 19, 0]
def k0_off144 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1071 : Index := Scalar.indexCast arg8
  let c2_681 : Index := 2#32
  let c19_682 : Index := 19#32
  let c0_683 : Index := 0#32
  ![v1071.toNat, 2, 19, 0]
def k0_off145 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1080 : Index := Scalar.indexCast arg8
  let c0_687 : Index := 0#32
  let c19_688 : Index := 19#32
  let c0_689 : Index := 0#32
  ![v1080.toNat, 0, 19, 0]
def k0_off146 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1088 : Index := Scalar.indexCast arg8
  let c1_693 : Index := 1#32
  let c20_694 : Index := 20#32
  let c0_695 : Index := 0#32
  ![v1088.toNat, 1, 20, 0]
def k0_off147 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1093 : Index := Scalar.indexCast arg8
  let c5_696 : Index := 5#32
  let c20_697 : Index := 20#32
  let c0_698 : Index := 0#32
  ![v1093.toNat, 5, 20, 0]
def k0_off148 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1099 : Index := Scalar.indexCast arg8
  let c2_699 : Index := 2#32
  let c20_700 : Index := 20#32
  let c0_701 : Index := 0#32
  ![v1099.toNat, 2, 20, 0]
def k0_off149 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1108 : Index := Scalar.indexCast arg8
  let c0_705 : Index := 0#32
  let c20_706 : Index := 20#32
  let c0_707 : Index := 0#32
  ![v1108.toNat, 0, 20, 0]
def k0_off150 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1116 : Index := Scalar.indexCast arg8
  let c1_711 : Index := 1#32
  let c21_712 : Index := 21#32
  let c0_713 : Index := 0#32
  ![v1116.toNat, 1, 21, 0]
def k0_off151 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1121 : Index := Scalar.indexCast arg8
  let c5_714 : Index := 5#32
  let c21_715 : Index := 21#32
  let c0_716 : Index := 0#32
  ![v1121.toNat, 5, 21, 0]
def k0_off152 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1127 : Index := Scalar.indexCast arg8
  let c2_717 : Index := 2#32
  let c21_718 : Index := 21#32
  let c0_719 : Index := 0#32
  ![v1127.toNat, 2, 21, 0]
def k0_off153 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1136 : Index := Scalar.indexCast arg8
  let c0_723 : Index := 0#32
  let c21_724 : Index := 21#32
  let c0_725 : Index := 0#32
  ![v1136.toNat, 0, 21, 0]
def k0_off154 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1144 : Index := Scalar.indexCast arg8
  let c1_729 : Index := 1#32
  let c22_730 : Index := 22#32
  let c0_731 : Index := 0#32
  ![v1144.toNat, 1, 22, 0]
def k0_off155 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1149 : Index := Scalar.indexCast arg8
  let c5_732 : Index := 5#32
  let c22_733 : Index := 22#32
  let c0_734 : Index := 0#32
  ![v1149.toNat, 5, 22, 0]
def k0_off156 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1155 : Index := Scalar.indexCast arg8
  let c2_735 : Index := 2#32
  let c22_736 : Index := 22#32
  let c0_737 : Index := 0#32
  ![v1155.toNat, 2, 22, 0]
def k0_off157 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1164 : Index := Scalar.indexCast arg8
  let c0_741 : Index := 0#32
  let c22_742 : Index := 22#32
  let c0_743 : Index := 0#32
  ![v1164.toNat, 0, 22, 0]
def k0_off158 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1172 : Index := Scalar.indexCast arg8
  let c1_747 : Index := 1#32
  let c23_748 : Index := 23#32
  let c0_749 : Index := 0#32
  ![v1172.toNat, 1, 23, 0]
def k0_off159 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1177 : Index := Scalar.indexCast arg8
  let c5_750 : Index := 5#32
  let c23_751 : Index := 23#32
  let c0_752 : Index := 0#32
  ![v1177.toNat, 5, 23, 0]
def k0_off160 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1183 : Index := Scalar.indexCast arg8
  let c2_753 : Index := 2#32
  let c23_754 : Index := 23#32
  let c0_755 : Index := 0#32
  ![v1183.toNat, 2, 23, 0]
def k0_off161 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1192 : Index := Scalar.indexCast arg8
  let c0_759 : Index := 0#32
  let c23_760 : Index := 23#32
  let c0_761 : Index := 0#32
  ![v1192.toNat, 0, 23, 0]
def k0_off162 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1200 : Index := Scalar.indexCast arg8
  let c1_765 : Index := 1#32
  let c24_766 : Index := 24#32
  let c0_767 : Index := 0#32
  ![v1200.toNat, 1, 24, 0]
def k0_off163 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1205 : Index := Scalar.indexCast arg8
  let c5_768 : Index := 5#32
  let c24_769 : Index := 24#32
  let c0_770 : Index := 0#32
  ![v1205.toNat, 5, 24, 0]
def k0_off164 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1211 : Index := Scalar.indexCast arg8
  let c2_771 : Index := 2#32
  let c24_772 : Index := 24#32
  let c0_773 : Index := 0#32
  ![v1211.toNat, 2, 24, 0]
def k0_off165 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1220 : Index := Scalar.indexCast arg8
  let c0_777 : Index := 0#32
  let c24_778 : Index := 24#32
  let c0_779 : Index := 0#32
  ![v1220.toNat, 0, 24, 0]
def k0_off166 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1228 : Index := Scalar.indexCast arg8
  let c1_783 : Index := 1#32
  let c25_784 : Index := 25#32
  let c0_785 : Index := 0#32
  ![v1228.toNat, 1, 25, 0]
def k0_off167 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1233 : Index := Scalar.indexCast arg8
  let c5_786 : Index := 5#32
  let c25_787 : Index := 25#32
  let c0_788 : Index := 0#32
  ![v1233.toNat, 5, 25, 0]
def k0_off168 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1239 : Index := Scalar.indexCast arg8
  let c2_789 : Index := 2#32
  let c25_790 : Index := 25#32
  let c0_791 : Index := 0#32
  ![v1239.toNat, 2, 25, 0]
def k0_off169 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1248 : Index := Scalar.indexCast arg8
  let c0_795 : Index := 0#32
  let c25_796 : Index := 25#32
  let c0_797 : Index := 0#32
  ![v1248.toNat, 0, 25, 0]
def k0_off170 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1256 : Index := Scalar.indexCast arg8
  let c1_801 : Index := 1#32
  let c26_802 : Index := 26#32
  let c0_803 : Index := 0#32
  ![v1256.toNat, 1, 26, 0]
def k0_off171 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1261 : Index := Scalar.indexCast arg8
  let c5_804 : Index := 5#32
  let c26_805 : Index := 26#32
  let c0_806 : Index := 0#32
  ![v1261.toNat, 5, 26, 0]
def k0_off172 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1267 : Index := Scalar.indexCast arg8
  let c2_807 : Index := 2#32
  let c26_808 : Index := 26#32
  let c0_809 : Index := 0#32
  ![v1267.toNat, 2, 26, 0]
def k0_off173 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1276 : Index := Scalar.indexCast arg8
  let c0_813 : Index := 0#32
  let c26_814 : Index := 26#32
  let c0_815 : Index := 0#32
  ![v1276.toNat, 0, 26, 0]
def k0_off174 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1284 : Index := Scalar.indexCast arg8
  let c1_819 : Index := 1#32
  let c27_820 : Index := 27#32
  let c0_821 : Index := 0#32
  ![v1284.toNat, 1, 27, 0]
def k0_off175 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1289 : Index := Scalar.indexCast arg8
  let c5_822 : Index := 5#32
  let c27_823 : Index := 27#32
  let c0_824 : Index := 0#32
  ![v1289.toNat, 5, 27, 0]
def k0_off176 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1295 : Index := Scalar.indexCast arg8
  let c2_825 : Index := 2#32
  let c27_826 : Index := 27#32
  let c0_827 : Index := 0#32
  ![v1295.toNat, 2, 27, 0]
def k0_off177 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1304 : Index := Scalar.indexCast arg8
  let c0_831 : Index := 0#32
  let c27_832 : Index := 27#32
  let c0_833 : Index := 0#32
  ![v1304.toNat, 0, 27, 0]
def k0_off178 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1312 : Index := Scalar.indexCast arg8
  let c1_837 : Index := 1#32
  let c28_838 : Index := 28#32
  let c0_839 : Index := 0#32
  ![v1312.toNat, 1, 28, 0]
def k0_off179 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1317 : Index := Scalar.indexCast arg8
  let c5_840 : Index := 5#32
  let c28_841 : Index := 28#32
  let c0_842 : Index := 0#32
  ![v1317.toNat, 5, 28, 0]
def k0_off180 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1323 : Index := Scalar.indexCast arg8
  let c2_843 : Index := 2#32
  let c28_844 : Index := 28#32
  let c0_845 : Index := 0#32
  ![v1323.toNat, 2, 28, 0]
def k0_off181 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1332 : Index := Scalar.indexCast arg8
  let c0_849 : Index := 0#32
  let c28_850 : Index := 28#32
  let c0_851 : Index := 0#32
  ![v1332.toNat, 0, 28, 0]
def k0_off182 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1340 : Index := Scalar.indexCast arg8
  let c1_855 : Index := 1#32
  let c29_856 : Index := 29#32
  let c0_857 : Index := 0#32
  ![v1340.toNat, 1, 29, 0]
def k0_off183 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1345 : Index := Scalar.indexCast arg8
  let c5_858 : Index := 5#32
  let c29_859 : Index := 29#32
  let c0_860 : Index := 0#32
  ![v1345.toNat, 5, 29, 0]
def k0_off184 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1351 : Index := Scalar.indexCast arg8
  let c2_861 : Index := 2#32
  let c29_862 : Index := 29#32
  let c0_863 : Index := 0#32
  ![v1351.toNat, 2, 29, 0]
def k0_off185 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1360 : Index := Scalar.indexCast arg8
  let c0_867 : Index := 0#32
  let c29_868 : Index := 29#32
  let c0_869 : Index := 0#32
  ![v1360.toNat, 0, 29, 0]
def k0_off186 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1368 : Index := Scalar.indexCast arg8
  let c1_873 : Index := 1#32
  let c30_874 : Index := 30#32
  let c0_875 : Index := 0#32
  ![v1368.toNat, 1, 30, 0]
def k0_off187 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1373 : Index := Scalar.indexCast arg8
  let c5_876 : Index := 5#32
  let c30_877 : Index := 30#32
  let c0_878 : Index := 0#32
  ![v1373.toNat, 5, 30, 0]
def k0_off188 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1379 : Index := Scalar.indexCast arg8
  let c2_879 : Index := 2#32
  let c30_880 : Index := 30#32
  let c0_881 : Index := 0#32
  ![v1379.toNat, 2, 30, 0]
def k0_off189 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1388 : Index := Scalar.indexCast arg8
  let c0_885 : Index := 0#32
  let c30_886 : Index := 30#32
  let c0_887 : Index := 0#32
  ![v1388.toNat, 0, 30, 0]
def k0_off190 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1396 : Index := Scalar.indexCast arg8
  let c1_891 : Index := 1#32
  let c31_892 : Index := 31#32
  let c0_893 : Index := 0#32
  ![v1396.toNat, 1, 31, 0]
def k0_off191 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1401 : Index := Scalar.indexCast arg8
  let c5_894 : Index := 5#32
  let c31_895 : Index := 31#32
  let c0_896 : Index := 0#32
  ![v1401.toNat, 5, 31, 0]
def k0_off192 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1407 : Index := Scalar.indexCast arg8
  let c2_897 : Index := 2#32
  let c31_898 : Index := 31#32
  let c0_899 : Index := 0#32
  ![v1407.toNat, 2, 31, 0]
def k0_off193 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1416 : Index := Scalar.indexCast arg8
  let c0_903 : Index := 0#32
  let c31_904 : Index := 31#32
  let c0_905 : Index := 0#32
  ![v1416.toNat, 0, 31, 0]
def k0_off194 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1424 : Index := Scalar.indexCast arg8
  let c1_909 : Index := 1#32
  let c32_910 : Index := 32#32
  let c0_911 : Index := 0#32
  ![v1424.toNat, 1, 32, 0]
def k0_off195 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1429 : Index := Scalar.indexCast arg8
  let c5_912 : Index := 5#32
  let c32_913 : Index := 32#32
  let c0_914 : Index := 0#32
  ![v1429.toNat, 5, 32, 0]
def k0_off196 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1435 : Index := Scalar.indexCast arg8
  let c2_915 : Index := 2#32
  let c32_916 : Index := 32#32
  let c0_917 : Index := 0#32
  ![v1435.toNat, 2, 32, 0]
def k0_off197 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1444 : Index := Scalar.indexCast arg8
  let c0_921 : Index := 0#32
  let c32_922 : Index := 32#32
  let c0_923 : Index := 0#32
  ![v1444.toNat, 0, 32, 0]
def k0_off198 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1452 : Index := Scalar.indexCast arg8
  let c1_927 : Index := 1#32
  let c33_928 : Index := 33#32
  let c0_929 : Index := 0#32
  ![v1452.toNat, 1, 33, 0]
def k0_off199 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1457 : Index := Scalar.indexCast arg8
  let c5_930 : Index := 5#32
  let c33_931 : Index := 33#32
  let c0_932 : Index := 0#32
  ![v1457.toNat, 5, 33, 0]
def k0_off200 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1463 : Index := Scalar.indexCast arg8
  let c2_933 : Index := 2#32
  let c33_934 : Index := 33#32
  let c0_935 : Index := 0#32
  ![v1463.toNat, 2, 33, 0]
def k0_off201 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1472 : Index := Scalar.indexCast arg8
  let c0_939 : Index := 0#32
  let c33_940 : Index := 33#32
  let c0_941 : Index := 0#32
  ![v1472.toNat, 0, 33, 0]
def k0_off202 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1480 : Index := Scalar.indexCast arg8
  let c1_945 : Index := 1#32
  let c34_946 : Index := 34#32
  let c0_947 : Index := 0#32
  ![v1480.toNat, 1, 34, 0]
def k0_off203 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1485 : Index := Scalar.indexCast arg8
  let c5_948 : Index := 5#32
  let c34_949 : Index := 34#32
  let c0_950 : Index := 0#32
  ![v1485.toNat, 5, 34, 0]
def k0_off204 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1491 : Index := Scalar.indexCast arg8
  let c2_951 : Index := 2#32
  let c34_952 : Index := 34#32
  let c0_953 : Index := 0#32
  ![v1491.toNat, 2, 34, 0]
def k0_off205 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1500 : Index := Scalar.indexCast arg8
  let c0_957 : Index := 0#32
  let c34_958 : Index := 34#32
  let c0_959 : Index := 0#32
  ![v1500.toNat, 0, 34, 0]
def k0_off206 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1508 : Index := Scalar.indexCast arg8
  let c1_963 : Index := 1#32
  let c35_964 : Index := 35#32
  let c0_965 : Index := 0#32
  ![v1508.toNat, 1, 35, 0]
def k0_off207 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1513 : Index := Scalar.indexCast arg8
  let c5_966 : Index := 5#32
  let c35_967 : Index := 35#32
  let c0_968 : Index := 0#32
  ![v1513.toNat, 5, 35, 0]
def k0_off208 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1519 : Index := Scalar.indexCast arg8
  let c2_969 : Index := 2#32
  let c35_970 : Index := 35#32
  let c0_971 : Index := 0#32
  ![v1519.toNat, 2, 35, 0]
def k0_off209 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1528 : Index := Scalar.indexCast arg8
  let c0_975 : Index := 0#32
  let c35_976 : Index := 35#32
  let c0_977 : Index := 0#32
  ![v1528.toNat, 0, 35, 0]
def k0_off210 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1536 : Index := Scalar.indexCast arg8
  let c1_981 : Index := 1#32
  let c36_982 : Index := 36#32
  let c0_983 : Index := 0#32
  ![v1536.toNat, 1, 36, 0]
def k0_off211 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1541 : Index := Scalar.indexCast arg8
  let c5_984 : Index := 5#32
  let c36_985 : Index := 36#32
  let c0_986 : Index := 0#32
  ![v1541.toNat, 5, 36, 0]
def k0_off212 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1547 : Index := Scalar.indexCast arg8
  let c2_987 : Index := 2#32
  let c36_988 : Index := 36#32
  let c0_989 : Index := 0#32
  ![v1547.toNat, 2, 36, 0]
def k0_off213 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1556 : Index := Scalar.indexCast arg8
  let c0_993 : Index := 0#32
  let c36_994 : Index := 36#32
  let c0_995 : Index := 0#32
  ![v1556.toNat, 0, 36, 0]
def k0_off214 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1564 : Index := Scalar.indexCast arg8
  let c1_999 : Index := 1#32
  let c37_1000 : Index := 37#32
  let c0_1001 : Index := 0#32
  ![v1564.toNat, 1, 37, 0]
def k0_off215 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1569 : Index := Scalar.indexCast arg8
  let c5_1002 : Index := 5#32
  let c37_1003 : Index := 37#32
  let c0_1004 : Index := 0#32
  ![v1569.toNat, 5, 37, 0]
def k0_off216 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1575 : Index := Scalar.indexCast arg8
  let c2_1005 : Index := 2#32
  let c37_1006 : Index := 37#32
  let c0_1007 : Index := 0#32
  ![v1575.toNat, 2, 37, 0]
def k0_off217 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1584 : Index := Scalar.indexCast arg8
  let c0_1011 : Index := 0#32
  let c37_1012 : Index := 37#32
  let c0_1013 : Index := 0#32
  ![v1584.toNat, 0, 37, 0]
def k0_off218 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1592 : Index := Scalar.indexCast arg8
  let c1_1017 : Index := 1#32
  let c38_1018 : Index := 38#32
  let c0_1019 : Index := 0#32
  ![v1592.toNat, 1, 38, 0]
def k0_off219 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1597 : Index := Scalar.indexCast arg8
  let c5_1020 : Index := 5#32
  let c38_1021 : Index := 38#32
  let c0_1022 : Index := 0#32
  ![v1597.toNat, 5, 38, 0]
def k0_off220 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1603 : Index := Scalar.indexCast arg8
  let c2_1023 : Index := 2#32
  let c38_1024 : Index := 38#32
  let c0_1025 : Index := 0#32
  ![v1603.toNat, 2, 38, 0]
def k0_off221 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1612 : Index := Scalar.indexCast arg8
  let c0_1029 : Index := 0#32
  let c38_1030 : Index := 38#32
  let c0_1031 : Index := 0#32
  ![v1612.toNat, 0, 38, 0]
def k0_off222 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1620 : Index := Scalar.indexCast arg8
  let c1_1035 : Index := 1#32
  let c39_1036 : Index := 39#32
  let c0_1037 : Index := 0#32
  ![v1620.toNat, 1, 39, 0]
def k0_off223 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1625 : Index := Scalar.indexCast arg8
  let c5_1038 : Index := 5#32
  let c39_1039 : Index := 39#32
  let c0_1040 : Index := 0#32
  ![v1625.toNat, 5, 39, 0]
def k0_off224 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1631 : Index := Scalar.indexCast arg8
  let c2_1041 : Index := 2#32
  let c39_1042 : Index := 39#32
  let c0_1043 : Index := 0#32
  ![v1631.toNat, 2, 39, 0]
def k0_off225 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1640 : Index := Scalar.indexCast arg8
  let c0_1047 : Index := 0#32
  let c39_1048 : Index := 39#32
  let c0_1049 : Index := 0#32
  ![v1640.toNat, 0, 39, 0]
def k0_off226 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1648 : Index := Scalar.indexCast arg8
  let c1_1053 : Index := 1#32
  let c40_1054 : Index := 40#32
  let c0_1055 : Index := 0#32
  ![v1648.toNat, 1, 40, 0]
def k0_off227 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1653 : Index := Scalar.indexCast arg8
  let c5_1056 : Index := 5#32
  let c40_1057 : Index := 40#32
  let c0_1058 : Index := 0#32
  ![v1653.toNat, 5, 40, 0]
def k0_off228 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1659 : Index := Scalar.indexCast arg8
  let c2_1059 : Index := 2#32
  let c40_1060 : Index := 40#32
  let c0_1061 : Index := 0#32
  ![v1659.toNat, 2, 40, 0]
def k0_off229 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1668 : Index := Scalar.indexCast arg8
  let c0_1065 : Index := 0#32
  let c40_1066 : Index := 40#32
  let c0_1067 : Index := 0#32
  ![v1668.toNat, 0, 40, 0]
def k0_off230 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1676 : Index := Scalar.indexCast arg8
  let c1_1071 : Index := 1#32
  let c41_1072 : Index := 41#32
  let c0_1073 : Index := 0#32
  ![v1676.toNat, 1, 41, 0]
def k0_off231 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1681 : Index := Scalar.indexCast arg8
  let c5_1074 : Index := 5#32
  let c41_1075 : Index := 41#32
  let c0_1076 : Index := 0#32
  ![v1681.toNat, 5, 41, 0]
def k0_off232 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1687 : Index := Scalar.indexCast arg8
  let c2_1077 : Index := 2#32
  let c41_1078 : Index := 41#32
  let c0_1079 : Index := 0#32
  ![v1687.toNat, 2, 41, 0]
def k0_off233 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1696 : Index := Scalar.indexCast arg8
  let c0_1083 : Index := 0#32
  let c41_1084 : Index := 41#32
  let c0_1085 : Index := 0#32
  ![v1696.toNat, 0, 41, 0]
def k0_off234 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1704 : Index := Scalar.indexCast arg8
  let c1_1089 : Index := 1#32
  let c42_1090 : Index := 42#32
  let c0_1091 : Index := 0#32
  ![v1704.toNat, 1, 42, 0]
def k0_off235 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1709 : Index := Scalar.indexCast arg8
  let c5_1092 : Index := 5#32
  let c42_1093 : Index := 42#32
  let c0_1094 : Index := 0#32
  ![v1709.toNat, 5, 42, 0]
def k0_off236 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1715 : Index := Scalar.indexCast arg8
  let c2_1095 : Index := 2#32
  let c42_1096 : Index := 42#32
  let c0_1097 : Index := 0#32
  ![v1715.toNat, 2, 42, 0]
def k0_off237 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1724 : Index := Scalar.indexCast arg8
  let c0_1101 : Index := 0#32
  let c42_1102 : Index := 42#32
  let c0_1103 : Index := 0#32
  ![v1724.toNat, 0, 42, 0]
def k0_off238 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1732 : Index := Scalar.indexCast arg8
  let c1_1107 : Index := 1#32
  let c43_1108 : Index := 43#32
  let c0_1109 : Index := 0#32
  ![v1732.toNat, 1, 43, 0]
def k0_off239 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1737 : Index := Scalar.indexCast arg8
  let c5_1110 : Index := 5#32
  let c43_1111 : Index := 43#32
  let c0_1112 : Index := 0#32
  ![v1737.toNat, 5, 43, 0]
def k0_off240 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1743 : Index := Scalar.indexCast arg8
  let c2_1113 : Index := 2#32
  let c43_1114 : Index := 43#32
  let c0_1115 : Index := 0#32
  ![v1743.toNat, 2, 43, 0]
def k0_off241 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1752 : Index := Scalar.indexCast arg8
  let c0_1119 : Index := 0#32
  let c43_1120 : Index := 43#32
  let c0_1121 : Index := 0#32
  ![v1752.toNat, 0, 43, 0]
def k0_off242 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1760 : Index := Scalar.indexCast arg8
  let c1_1125 : Index := 1#32
  let c44_1126 : Index := 44#32
  let c0_1127 : Index := 0#32
  ![v1760.toNat, 1, 44, 0]
def k0_off243 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1765 : Index := Scalar.indexCast arg8
  let c5_1128 : Index := 5#32
  let c44_1129 : Index := 44#32
  let c0_1130 : Index := 0#32
  ![v1765.toNat, 5, 44, 0]
def k0_off244 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1771 : Index := Scalar.indexCast arg8
  let c2_1131 : Index := 2#32
  let c44_1132 : Index := 44#32
  let c0_1133 : Index := 0#32
  ![v1771.toNat, 2, 44, 0]
def k0_off245 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1780 : Index := Scalar.indexCast arg8
  let c0_1137 : Index := 0#32
  let c44_1138 : Index := 44#32
  let c0_1139 : Index := 0#32
  ![v1780.toNat, 0, 44, 0]
def k0_off246 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1788 : Index := Scalar.indexCast arg8
  let c1_1143 : Index := 1#32
  let c45_1144 : Index := 45#32
  let c0_1145 : Index := 0#32
  ![v1788.toNat, 1, 45, 0]
def k0_off247 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1793 : Index := Scalar.indexCast arg8
  let c5_1146 : Index := 5#32
  let c45_1147 : Index := 45#32
  let c0_1148 : Index := 0#32
  ![v1793.toNat, 5, 45, 0]
def k0_off248 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1799 : Index := Scalar.indexCast arg8
  let c2_1149 : Index := 2#32
  let c45_1150 : Index := 45#32
  let c0_1151 : Index := 0#32
  ![v1799.toNat, 2, 45, 0]
def k0_off249 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1808 : Index := Scalar.indexCast arg8
  let c0_1155 : Index := 0#32
  let c45_1156 : Index := 45#32
  let c0_1157 : Index := 0#32
  ![v1808.toNat, 0, 45, 0]
def k0_off250 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1816 : Index := Scalar.indexCast arg8
  let c1_1161 : Index := 1#32
  let c46_1162 : Index := 46#32
  let c0_1163 : Index := 0#32
  ![v1816.toNat, 1, 46, 0]
def k0_off251 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1821 : Index := Scalar.indexCast arg8
  let c5_1164 : Index := 5#32
  let c46_1165 : Index := 46#32
  let c0_1166 : Index := 0#32
  ![v1821.toNat, 5, 46, 0]
def k0_off252 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1827 : Index := Scalar.indexCast arg8
  let c2_1167 : Index := 2#32
  let c46_1168 : Index := 46#32
  let c0_1169 : Index := 0#32
  ![v1827.toNat, 2, 46, 0]
def k0_off253 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1836 : Index := Scalar.indexCast arg8
  let c0_1173 : Index := 0#32
  let c46_1174 : Index := 46#32
  let c0_1175 : Index := 0#32
  ![v1836.toNat, 0, 46, 0]
def k0_off254 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1844 : Index := Scalar.indexCast arg8
  let c1_1179 : Index := 1#32
  let c47_1180 : Index := 47#32
  let c0_1181 : Index := 0#32
  ![v1844.toNat, 1, 47, 0]
def k0_off255 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1849 : Index := Scalar.indexCast arg8
  let c5_1182 : Index := 5#32
  let c47_1183 : Index := 47#32
  let c0_1184 : Index := 0#32
  ![v1849.toNat, 5, 47, 0]
def k0_off256 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1855 : Index := Scalar.indexCast arg8
  let c2_1185 : Index := 2#32
  let c47_1186 : Index := 47#32
  let c0_1187 : Index := 0#32
  ![v1855.toNat, 2, 47, 0]
def k0_off257 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1864 : Index := Scalar.indexCast arg8
  let c0_1191 : Index := 0#32
  let c47_1192 : Index := 47#32
  let c0_1193 : Index := 0#32
  ![v1864.toNat, 0, 47, 0]
def k0_off258 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1872 : Index := Scalar.indexCast arg8
  let c1_1197 : Index := 1#32
  let c48_1198 : Index := 48#32
  let c0_1199 : Index := 0#32
  ![v1872.toNat, 1, 48, 0]
def k0_off259 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1877 : Index := Scalar.indexCast arg8
  let c5_1200 : Index := 5#32
  let c48_1201 : Index := 48#32
  let c0_1202 : Index := 0#32
  ![v1877.toNat, 5, 48, 0]
def k0_off260 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1883 : Index := Scalar.indexCast arg8
  let c2_1203 : Index := 2#32
  let c48_1204 : Index := 48#32
  let c0_1205 : Index := 0#32
  ![v1883.toNat, 2, 48, 0]
def k0_off261 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1892 : Index := Scalar.indexCast arg8
  let c0_1209 : Index := 0#32
  let c48_1210 : Index := 48#32
  let c0_1211 : Index := 0#32
  ![v1892.toNat, 0, 48, 0]
def k0_off262 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1900 : Index := Scalar.indexCast arg8
  let c1_1215 : Index := 1#32
  let c49_1216 : Index := 49#32
  let c0_1217 : Index := 0#32
  ![v1900.toNat, 1, 49, 0]
def k0_off263 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1905 : Index := Scalar.indexCast arg8
  let c5_1218 : Index := 5#32
  let c49_1219 : Index := 49#32
  let c0_1220 : Index := 0#32
  ![v1905.toNat, 5, 49, 0]
def k0_off264 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1911 : Index := Scalar.indexCast arg8
  let c2_1221 : Index := 2#32
  let c49_1222 : Index := 49#32
  let c0_1223 : Index := 0#32
  ![v1911.toNat, 2, 49, 0]
def k0_off265 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1920 : Index := Scalar.indexCast arg8
  let c0_1227 : Index := 0#32
  let c49_1228 : Index := 49#32
  let c0_1229 : Index := 0#32
  ![v1920.toNat, 0, 49, 0]
def k0_off266 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1928 : Index := Scalar.indexCast arg8
  let c1_1233 : Index := 1#32
  let c50_1234 : Index := 50#32
  let c0_1235 : Index := 0#32
  ![v1928.toNat, 1, 50, 0]
def k0_off267 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1933 : Index := Scalar.indexCast arg8
  let c5_1236 : Index := 5#32
  let c50_1237 : Index := 50#32
  let c0_1238 : Index := 0#32
  ![v1933.toNat, 5, 50, 0]
def k0_off268 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1939 : Index := Scalar.indexCast arg8
  let c2_1239 : Index := 2#32
  let c50_1240 : Index := 50#32
  let c0_1241 : Index := 0#32
  ![v1939.toNat, 2, 50, 0]
def k0_off269 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1948 : Index := Scalar.indexCast arg8
  let c0_1245 : Index := 0#32
  let c50_1246 : Index := 50#32
  let c0_1247 : Index := 0#32
  ![v1948.toNat, 0, 50, 0]
def k0_off270 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1956 : Index := Scalar.indexCast arg8
  let c1_1251 : Index := 1#32
  let c51_1252 : Index := 51#32
  let c0_1253 : Index := 0#32
  ![v1956.toNat, 1, 51, 0]
def k0_off271 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1961 : Index := Scalar.indexCast arg8
  let c5_1254 : Index := 5#32
  let c51_1255 : Index := 51#32
  let c0_1256 : Index := 0#32
  ![v1961.toNat, 5, 51, 0]
def k0_off272 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1967 : Index := Scalar.indexCast arg8
  let c2_1257 : Index := 2#32
  let c51_1258 : Index := 51#32
  let c0_1259 : Index := 0#32
  ![v1967.toNat, 2, 51, 0]
def k0_off273 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1976 : Index := Scalar.indexCast arg8
  let c0_1263 : Index := 0#32
  let c51_1264 : Index := 51#32
  let c0_1265 : Index := 0#32
  ![v1976.toNat, 0, 51, 0]
def k0_off274 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1984 : Index := Scalar.indexCast arg8
  let c1_1269 : Index := 1#32
  let c52_1270 : Index := 52#32
  let c0_1271 : Index := 0#32
  ![v1984.toNat, 1, 52, 0]
def k0_off275 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1989 : Index := Scalar.indexCast arg8
  let c5_1272 : Index := 5#32
  let c52_1273 : Index := 52#32
  let c0_1274 : Index := 0#32
  ![v1989.toNat, 5, 52, 0]
def k0_off276 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v1995 : Index := Scalar.indexCast arg8
  let c2_1275 : Index := 2#32
  let c52_1276 : Index := 52#32
  let c0_1277 : Index := 0#32
  ![v1995.toNat, 2, 52, 0]
def k0_off277 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2004 : Index := Scalar.indexCast arg8
  let c0_1281 : Index := 0#32
  let c52_1282 : Index := 52#32
  let c0_1283 : Index := 0#32
  ![v2004.toNat, 0, 52, 0]
def k0_off278 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2012 : Index := Scalar.indexCast arg8
  let c1_1287 : Index := 1#32
  let c53_1288 : Index := 53#32
  let c0_1289 : Index := 0#32
  ![v2012.toNat, 1, 53, 0]
def k0_off279 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2017 : Index := Scalar.indexCast arg8
  let c5_1290 : Index := 5#32
  let c53_1291 : Index := 53#32
  let c0_1292 : Index := 0#32
  ![v2017.toNat, 5, 53, 0]
def k0_off280 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2023 : Index := Scalar.indexCast arg8
  let c2_1293 : Index := 2#32
  let c53_1294 : Index := 53#32
  let c0_1295 : Index := 0#32
  ![v2023.toNat, 2, 53, 0]
def k0_off281 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2032 : Index := Scalar.indexCast arg8
  let c0_1299 : Index := 0#32
  let c53_1300 : Index := 53#32
  let c0_1301 : Index := 0#32
  ![v2032.toNat, 0, 53, 0]
def k0_off282 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2040 : Index := Scalar.indexCast arg8
  let c1_1305 : Index := 1#32
  let c54_1306 : Index := 54#32
  let c0_1307 : Index := 0#32
  ![v2040.toNat, 1, 54, 0]
def k0_off283 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2045 : Index := Scalar.indexCast arg8
  let c5_1308 : Index := 5#32
  let c54_1309 : Index := 54#32
  let c0_1310 : Index := 0#32
  ![v2045.toNat, 5, 54, 0]
def k0_off284 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2051 : Index := Scalar.indexCast arg8
  let c2_1311 : Index := 2#32
  let c54_1312 : Index := 54#32
  let c0_1313 : Index := 0#32
  ![v2051.toNat, 2, 54, 0]
def k0_off285 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2060 : Index := Scalar.indexCast arg8
  let c0_1317 : Index := 0#32
  let c54_1318 : Index := 54#32
  let c0_1319 : Index := 0#32
  ![v2060.toNat, 0, 54, 0]
def k0_off286 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2068 : Index := Scalar.indexCast arg8
  let c1_1323 : Index := 1#32
  let c55_1324 : Index := 55#32
  let c0_1325 : Index := 0#32
  ![v2068.toNat, 1, 55, 0]
def k0_off287 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2073 : Index := Scalar.indexCast arg8
  let c5_1326 : Index := 5#32
  let c55_1327 : Index := 55#32
  let c0_1328 : Index := 0#32
  ![v2073.toNat, 5, 55, 0]
def k0_off288 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2079 : Index := Scalar.indexCast arg8
  let c2_1329 : Index := 2#32
  let c55_1330 : Index := 55#32
  let c0_1331 : Index := 0#32
  ![v2079.toNat, 2, 55, 0]
def k0_off289 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2088 : Index := Scalar.indexCast arg8
  let c0_1335 : Index := 0#32
  let c55_1336 : Index := 55#32
  let c0_1337 : Index := 0#32
  ![v2088.toNat, 0, 55, 0]
def k0_off290 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2096 : Index := Scalar.indexCast arg8
  let c1_1341 : Index := 1#32
  let c56_1342 : Index := 56#32
  let c0_1343 : Index := 0#32
  ![v2096.toNat, 1, 56, 0]
def k0_off291 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2101 : Index := Scalar.indexCast arg8
  let c5_1344 : Index := 5#32
  let c56_1345 : Index := 56#32
  let c0_1346 : Index := 0#32
  ![v2101.toNat, 5, 56, 0]
def k0_off292 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2107 : Index := Scalar.indexCast arg8
  let c2_1347 : Index := 2#32
  let c56_1348 : Index := 56#32
  let c0_1349 : Index := 0#32
  ![v2107.toNat, 2, 56, 0]
def k0_off293 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2116 : Index := Scalar.indexCast arg8
  let c0_1353 : Index := 0#32
  let c56_1354 : Index := 56#32
  let c0_1355 : Index := 0#32
  ![v2116.toNat, 0, 56, 0]
def k0_off294 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2124 : Index := Scalar.indexCast arg8
  let c1_1359 : Index := 1#32
  let c57_1360 : Index := 57#32
  let c0_1361 : Index := 0#32
  ![v2124.toNat, 1, 57, 0]
def k0_off295 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2129 : Index := Scalar.indexCast arg8
  let c5_1362 : Index := 5#32
  let c57_1363 : Index := 57#32
  let c0_1364 : Index := 0#32
  ![v2129.toNat, 5, 57, 0]
def k0_off296 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2135 : Index := Scalar.indexCast arg8
  let c2_1365 : Index := 2#32
  let c57_1366 : Index := 57#32
  let c0_1367 : Index := 0#32
  ![v2135.toNat, 2, 57, 0]
def k0_off297 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2144 : Index := Scalar.indexCast arg8
  let c0_1371 : Index := 0#32
  let c57_1372 : Index := 57#32
  let c0_1373 : Index := 0#32
  ![v2144.toNat, 0, 57, 0]
def k0_off298 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2152 : Index := Scalar.indexCast arg8
  let c1_1377 : Index := 1#32
  let c58_1378 : Index := 58#32
  let c0_1379 : Index := 0#32
  ![v2152.toNat, 1, 58, 0]
def k0_off299 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2157 : Index := Scalar.indexCast arg8
  let c5_1380 : Index := 5#32
  let c58_1381 : Index := 58#32
  let c0_1382 : Index := 0#32
  ![v2157.toNat, 5, 58, 0]
def k0_off300 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2163 : Index := Scalar.indexCast arg8
  let c2_1383 : Index := 2#32
  let c58_1384 : Index := 58#32
  let c0_1385 : Index := 0#32
  ![v2163.toNat, 2, 58, 0]
def k0_off301 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2172 : Index := Scalar.indexCast arg8
  let c0_1389 : Index := 0#32
  let c58_1390 : Index := 58#32
  let c0_1391 : Index := 0#32
  ![v2172.toNat, 0, 58, 0]
def k0_off302 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2180 : Index := Scalar.indexCast arg8
  let c1_1395 : Index := 1#32
  let c59_1396 : Index := 59#32
  let c0_1397 : Index := 0#32
  ![v2180.toNat, 1, 59, 0]
def k0_off303 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2185 : Index := Scalar.indexCast arg8
  let c5_1398 : Index := 5#32
  let c59_1399 : Index := 59#32
  let c0_1400 : Index := 0#32
  ![v2185.toNat, 5, 59, 0]
def k0_off304 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2191 : Index := Scalar.indexCast arg8
  let c2_1401 : Index := 2#32
  let c59_1402 : Index := 59#32
  let c0_1403 : Index := 0#32
  ![v2191.toNat, 2, 59, 0]
def k0_off305 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2200 : Index := Scalar.indexCast arg8
  let c0_1407 : Index := 0#32
  let c59_1408 : Index := 59#32
  let c0_1409 : Index := 0#32
  ![v2200.toNat, 0, 59, 0]
def k0_off306 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2208 : Index := Scalar.indexCast arg8
  let c1_1413 : Index := 1#32
  let c60_1414 : Index := 60#32
  let c0_1415 : Index := 0#32
  ![v2208.toNat, 1, 60, 0]
def k0_off307 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2213 : Index := Scalar.indexCast arg8
  let c5_1416 : Index := 5#32
  let c60_1417 : Index := 60#32
  let c0_1418 : Index := 0#32
  ![v2213.toNat, 5, 60, 0]
def k0_off308 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2219 : Index := Scalar.indexCast arg8
  let c2_1419 : Index := 2#32
  let c60_1420 : Index := 60#32
  let c0_1421 : Index := 0#32
  ![v2219.toNat, 2, 60, 0]
def k0_off309 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2228 : Index := Scalar.indexCast arg8
  let c0_1425 : Index := 0#32
  let c60_1426 : Index := 60#32
  let c0_1427 : Index := 0#32
  ![v2228.toNat, 0, 60, 0]
def k0_off310 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2236 : Index := Scalar.indexCast arg8
  let c1_1431 : Index := 1#32
  let c61_1432 : Index := 61#32
  let c0_1433 : Index := 0#32
  ![v2236.toNat, 1, 61, 0]
def k0_off311 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2241 : Index := Scalar.indexCast arg8
  let c5_1434 : Index := 5#32
  let c61_1435 : Index := 61#32
  let c0_1436 : Index := 0#32
  ![v2241.toNat, 5, 61, 0]
def k0_off312 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2247 : Index := Scalar.indexCast arg8
  let c2_1437 : Index := 2#32
  let c61_1438 : Index := 61#32
  let c0_1439 : Index := 0#32
  ![v2247.toNat, 2, 61, 0]
def k0_off313 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2256 : Index := Scalar.indexCast arg8
  let c0_1443 : Index := 0#32
  let c61_1444 : Index := 61#32
  let c0_1445 : Index := 0#32
  ![v2256.toNat, 0, 61, 0]
def k0_off314 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2264 : Index := Scalar.indexCast arg8
  let c1_1449 : Index := 1#32
  let c62_1450 : Index := 62#32
  let c0_1451 : Index := 0#32
  ![v2264.toNat, 1, 62, 0]
def k0_off315 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2269 : Index := Scalar.indexCast arg8
  let c5_1452 : Index := 5#32
  let c62_1453 : Index := 62#32
  let c0_1454 : Index := 0#32
  ![v2269.toNat, 5, 62, 0]
def k0_off316 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2275 : Index := Scalar.indexCast arg8
  let c2_1455 : Index := 2#32
  let c62_1456 : Index := 62#32
  let c0_1457 : Index := 0#32
  ![v2275.toNat, 2, 62, 0]
def k0_off317 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2284 : Index := Scalar.indexCast arg8
  let c0_1461 : Index := 0#32
  let c62_1462 : Index := 62#32
  let c0_1463 : Index := 0#32
  ![v2284.toNat, 0, 62, 0]
def k0_off318 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2292 : Index := Scalar.indexCast arg8
  let c1_1467 : Index := 1#32
  let c63_1468 : Index := 63#32
  let c0_1469 : Index := 0#32
  ![v2292.toNat, 1, 63, 0]
def k0_off319 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2297 : Index := Scalar.indexCast arg8
  let c5_1470 : Index := 5#32
  let c63_1471 : Index := 63#32
  let c0_1472 : Index := 0#32
  ![v2297.toNat, 5, 63, 0]
def k0_off320 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2303 : Index := Scalar.indexCast arg8
  let c2_1473 : Index := 2#32
  let c63_1474 : Index := 63#32
  let c0_1475 : Index := 0#32
  ![v2303.toNat, 2, 63, 0]
def k0_off321 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2312 : Index := Scalar.indexCast arg8
  let c0_1479 : Index := 0#32
  let c63_1480 : Index := 63#32
  let c0_1481 : Index := 0#32
  ![v2312.toNat, 0, 63, 0]
def k0_off322 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2341 : Index := Scalar.indexCast arg8
  let c0_1491 : Index := 0#32
  let c0_1492 : Index := 0#32
  let c0_1493 : Index := 0#32
  ![v2341.toNat, 0, 0, 0]
def k0_off323 (k0_t1 : Fin k0_t1_loop.trips) : Fin 4 → Nat :=
  let c0_i32_1 : BitVec 32 := 0#32
  let c1_i32 : BitVec 32 := 1#32
  let arg8 : BitVec 32 := Scf.iv c0_i32_1 c1_i32 k0_t1
  let v2344 : Index := Scalar.indexCast arg8
  let c2_1494 : Index := 2#32
  let c0_1495 : Index := 0#32
  let c0_1496 : Index := 0#32
  ![v2344.toNat, 2, 0, 0]
def k0_off324 (k0_t1 : Fin k0_t1_loop.trips) : Fin 3 → Nat :=
  let c0_i32_1 : BitVec 32 := 0#32
  let c1_i32 : BitVec 32 := 1#32
  let arg8 : BitVec 32 := Scf.iv c0_i32_1 c1_i32 k0_t1
  let v2356 : Index := Scalar.indexCast arg8
  let c0_1500 : Index := 0#32
  let c0_1501 : Index := 0#32
  ![v2356.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S16x6x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== WkvRefIdeal.lean ====
abbrev S6x16384x1024 : Shape := ⟨3, ![6, 16384, 1024]⟩
abbrev S8x16x64x64 : Shape := ⟨4, ![8, 16, 64, 64]⟩
abbrev S1024 : Shape := ⟨1, ![1024]⟩
abbrev S16x64 : Shape := ⟨2, ![16, 64]⟩
abbrev S1x16384x1024 : Shape := ⟨3, ![1, 16384, 1024]⟩
abbrev S16384x1024 : Shape := ⟨2, ![16384, 1024]⟩
abbrev S8x2048x16x64 : Shape := ⟨4, ![8, 2048, 16, 64]⟩
abbrev S2048x8x16x64 : Shape := ⟨4, ![2048, 8, 16, 64]⟩
abbrev S_ : Shape := ⟨0, ![]⟩
abbrev S1x8x16x64 : Shape := ⟨4, ![1, 8, 16, 64]⟩
abbrev S8x16x64 : Shape := ⟨3, ![8, 16, 64]⟩
abbrev S8x16x1x64 : Shape := ⟨4, ![8, 16, 1, 64]⟩
abbrev S8x16x64x1 : Shape := ⟨4, ![8, 16, 64, 1]⟩
abbrev S8x2048x16 : Shape := ⟨3, ![8, 2048, 16]⟩
abbrev S8x2048x16x1 : Shape := ⟨4, ![8, 2048, 16, 1]⟩
abbrev S8x2048x1024 : Shape := ⟨3, ![8, 2048, 1024]⟩
abbrev S1x1x1024 : Shape := ⟨3, ![1, 1, 1024]⟩
abbrev S1x1x16x64 : Shape := ⟨4, ![1, 1, 16, 64]⟩
abbrev S2048x64x8x16 : Shape := ⟨4, ![2048, 64, 8, 16]⟩
abbrev S2048x64x128 : Shape := ⟨3, ![2048, 64, 128]⟩
abbrev S64x64x8x16 : Shape := ⟨4, ![64, 64, 8, 16]⟩
abbrev S64x64x128 : Shape := ⟨3, ![64, 64, 128]⟩

abbrev nBuf : Space → Nat
  | .hbm => 154
  | .vmem => 0
  | .smem => 0
  | _ => 0

abbrev hbmTy0_0 (i : Nat) : BufTy := match i % 128 with
  | 0 => ⟨S6x16384x1024, .f32⟩
  | 1 => ⟨S8x16x64x64, .f32⟩
  | 2 => ⟨S1024, .f32⟩
  | 3 => ⟨S1024, .f32⟩
  | 4 => ⟨S16x64, .f32⟩
  | 5 => ⟨S1x16384x1024, .f32⟩
  | 6 => ⟨S16384x1024, .f32⟩
  | 7 => ⟨S8x2048x16x64, .f32⟩
  | 8 => ⟨S2048x8x16x64, .f32⟩
  | 9 => ⟨S1x16384x1024, .f32⟩
  | 10 => ⟨S16384x1024, .f32⟩
  | 11 => ⟨S8x2048x16x64, .f32⟩
  | 12 => ⟨S2048x8x16x64, .f32⟩
  | 13 => ⟨S1x16384x1024, .f32⟩
  | 14 => ⟨S16384x1024, .f32⟩
  | 15 => ⟨S8x2048x16x64, .f32⟩
  | 16 => ⟨S2048x8x16x64, .f32⟩
  | 17 => ⟨S1x16384x1024, .f32⟩
  | 18 => ⟨S16384x1024, .f32⟩
  | 19 => ⟨S8x2048x16x64, .f32⟩
  | 20 => ⟨S2048x8x16x64, .f32⟩
  | 21 => ⟨S1x16384x1024, .f32⟩
  | 22 => ⟨S16384x1024, .f32⟩
  | 23 => ⟨S8x2048x16x64, .f32⟩
  | 24 => ⟨S2048x8x16x64, .f32⟩
  | 25 => ⟨S1x16384x1024, .f32⟩
  | 26 => ⟨S16384x1024, .f32⟩
  | 27 => ⟨S8x2048x16x64, .f32⟩
  | 28 => ⟨S2048x8x16x64, .f32⟩
  | 29 => ⟨S_, .f32⟩
  | 30 => ⟨S2048x8x16x64, .f32⟩
  | 31 => ⟨S_, .i32⟩
  | 32 => ⟨S2048x8x16x64, .f32⟩
  | 33 => ⟨S2048x8x16x64, .f32⟩
  | 34 => ⟨S2048x8x16x64, .f32⟩
  | 35 => ⟨S2048x8x16x64, .f32⟩
  | 36 => ⟨S2048x8x16x64, .f32⟩
  | 37 => ⟨S2048x8x16x64, .f32⟩
  | 38 => ⟨S_, .i32⟩
  | 39 => ⟨S8x16x64x64, .f32⟩
  | 40 => ⟨S2048x8x16x64, .f32⟩
  | 41 => ⟨S_, .i32⟩
  | 42 => ⟨S_, .i1⟩
  | 43 => ⟨S_, .i32⟩
  | 44 => ⟨S_, .i32⟩
  | 45 => ⟨S_, .i32⟩
  | 46 => ⟨S1x8x16x64, .f32⟩
  | 47 => ⟨S8x16x64, .f32⟩
  | 48 => ⟨S_, .i32⟩
  | 49 => ⟨S_, .i32⟩
  | 50 => ⟨S_, .i32⟩
  | 51 => ⟨S1x8x16x64, .f32⟩
  | 52 => ⟨S8x16x64, .f32⟩
  | 53 => ⟨S_, .i32⟩
  | 54 => ⟨S_, .i32⟩
  | 55 => ⟨S_, .i32⟩
  | 56 => ⟨S1x8x16x64, .f32⟩
  | 57 => ⟨S8x16x64, .f32⟩
  | 58 => ⟨S_, .i32⟩
  | 59 => ⟨S_, .i32⟩
  | 60 => ⟨S_, .i32⟩
  | 61 => ⟨S1x8x16x64, .f32⟩
  | 62 => ⟨S8x16x64, .f32⟩
  | 63 => ⟨S_, .i32⟩
  | 64 => ⟨S_, .i32⟩
  | 65 => ⟨S_, .i32⟩
  | 66 => ⟨S1x8x16x64, .f32⟩
  | 67 => ⟨S8x16x64, .f32⟩
  | 68 => ⟨S_, .i32⟩
  | 69 => ⟨S_, .i32⟩
  | 70 => ⟨S_, .i32⟩
  | 71 => ⟨S1x8x16x64, .f32⟩
  | 72 => ⟨S8x16x64, .f32⟩
  | 73 => ⟨S8x16x64, .f32⟩
  | 74 => ⟨S8x16x64, .f32⟩
  | 75 => ⟨S8x16x1x64, .f32⟩
  | 76 => ⟨S8x16x64x64, .f32⟩
  | 77 => ⟨S8x16x64x64, .f32⟩
  | 78 => ⟨S8x16x64x1, .f32⟩
  | 79 => ⟨S8x16x1x64, .f32⟩
  | 80 => ⟨S8x16x64x64, .f32⟩
  | 81 => ⟨S8x16x64x64, .f32⟩
  | 82 => ⟨S8x16x64x64, .f32⟩
  | 83 => ⟨S8x16x64x64, .f32⟩
  | 84 => ⟨S8x16x64x1, .f32⟩
  | 85 => ⟨S8x16x1x64, .f32⟩
  | 86 => ⟨S8x16x64x64, .f32⟩
  | 87 => ⟨S8x16x64x64, .f32⟩
  | 88 => ⟨S8x16x64x64, .f32⟩
  | 89 => ⟨S8x16x64x64, .f32⟩
  | 90 => ⟨S8x16x64, .f32⟩
  | 91 => ⟨S1x8x16x64, .f32⟩
  | 92 => ⟨S_, .i32⟩
  | 93 => ⟨S_, .i32⟩
  | 94 => ⟨S_, .i32⟩
  | 95 => ⟨S2048x8x16x64, .f32⟩
  | 96 => ⟨S_, .i32⟩
  | 97 => ⟨S_, .i32⟩
  | 98 => ⟨S8x2048x16x64, .f32⟩
  | 99 => ⟨S_, .f32⟩
  | 100 => ⟨S8x2048x16, .f32⟩
  | 101 => ⟨S8x2048x16x1, .f32⟩
  | 102 => ⟨S_, .f32⟩
  | 103 => ⟨S8x2048x16x1, .f32⟩
  | 104 => ⟨S8x2048x16x1, .f32⟩
  | 105 => ⟨S8x2048x16x64, .f32⟩
  | 106 => ⟨S8x2048x16x64, .f32⟩
  | 107 => ⟨S8x2048x16x64, .f32⟩
  | 108 => ⟨S_, .f32⟩
  | 109 => ⟨S8x2048x16, .f32⟩
  | 110 => ⟨S8x2048x16x1, .f32⟩
  | 111 => ⟨S_, .f32⟩
  | 112 => ⟨S8x2048x16x1, .f32⟩
  | 113 => ⟨S8x2048x16x1, .f32⟩
  | 114 => ⟨S8x2048x16x64, .f32⟩
  | 115 => ⟨S8x2048x16x64, .f32⟩
  | 116 => ⟨S_, .f32⟩
  | 117 => ⟨S8x2048x16x1, .f32⟩
  | 118 => ⟨S8x2048x16x1, .f32⟩
  | 119 => ⟨S8x2048x16x1, .f32⟩
  | 120 => ⟨S8x2048x16x64, .f32⟩
  | 121 => ⟨S8x2048x16x64, .f32⟩
  | 122 => ⟨S8x2048x1024, .f32⟩
  | 123 => ⟨S1x1x1024, .f32⟩
  | 124 => ⟨S8x2048x1024, .f32⟩
  | 125 => ⟨S8x2048x1024, .f32⟩
  | 126 => ⟨S1x1x1024, .f32⟩
  | 127 => ⟨S8x2048x1024, .f32⟩
  | _ => ⟨S6x16384x1024, .f32⟩

abbrev hbmTy0_1 (i : Nat) : BufTy := match i % 128 with
  | 0 => ⟨S8x2048x1024, .f32⟩
  | 1 => ⟨S1x16384x1024, .f32⟩
  | 2 => ⟨S16384x1024, .f32⟩
  | 3 => ⟨S8x2048x16x64, .f32⟩
  | 4 => ⟨S1x16384x1024, .f32⟩
  | 5 => ⟨S16384x1024, .f32⟩
  | 6 => ⟨S8x2048x16x64, .f32⟩
  | 7 => ⟨S1x16384x1024, .f32⟩
  | 8 => ⟨S16384x1024, .f32⟩
  | 9 => ⟨S8x2048x16x64, .f32⟩
  | 10 => ⟨S8x2048x16x64, .f32⟩
  | 11 => ⟨S1x1x16x64, .f32⟩
  | 12 => ⟨S8x2048x16x64, .f32⟩
  | 13 => ⟨S8x2048x16x64, .f32⟩
  | 14 => ⟨S_, .f32⟩
  | 15 => ⟨S8x2048x16, .f32⟩
  | 16 => ⟨S8x2048x16x1, .f32⟩
  | 17 => ⟨S8x2048x16x64, .f32⟩
  | 18 => ⟨S8x2048x16x64, .f32⟩
  | 19 => ⟨S8x2048x1024, .f32⟩
  | 20 => ⟨S8x2048x1024, .f32⟩
  | 21 => ⟨S8x2048x16x64, .f32⟩
  | 22 => ⟨S2048x64x8x16, .f32⟩
  | 23 => ⟨S2048x64x128, .f32⟩
  | 24 => ⟨S64x64x8x16, .f32⟩
  | 25 => ⟨S64x64x128, .f32⟩
  | _ => ⟨S6x16384x1024, .f32⟩

abbrev hbmTy (i : Nat) : BufTy := match i / 128 with
  | 0 => hbmTy0_0 i
  | 1 => hbmTy0_1 i
  | _ => ⟨S6x16384x1024, .f32⟩

abbrev bufTy : (tb : Table) → Fin (tcTables nBuf tb) → BufTy
  | .hbm, ⟨i, _⟩ => hbmTy i
  | _, _ => ⟨S6x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst : Ref sig .tc := ⟨.hbm, 29, rfl⟩
abbrev main_v24 : Ref sig .tc := ⟨.hbm, 30, rfl⟩
abbrev main_c : Ref sig .tc := ⟨.hbm, 31, rfl⟩
abbrev main_v25_0 : Ref sig .tc := ⟨.hbm, 32, rfl⟩
abbrev main_v25_1 : Ref sig .tc := ⟨.hbm, 33, rfl⟩
abbrev main_v25_2 : Ref sig .tc := ⟨.hbm, 34, rfl⟩
abbrev main_v25_3 : Ref sig .tc := ⟨.hbm, 35, rfl⟩
abbrev main_v25_4 : Ref sig .tc := ⟨.hbm, 36, rfl⟩
abbrev main_v25_5 : Ref sig .tc := ⟨.hbm, 37, rfl⟩
abbrev main_v25_6 : Ref sig .tc := ⟨.hbm, 38, rfl⟩
abbrev main_v25_7 : Ref sig .tc := ⟨.hbm, 39, rfl⟩
abbrev main_v25_8 : Ref sig .tc := ⟨.hbm, 40, rfl⟩
abbrev main_while0c_c_14 : Ref sig .tc := ⟨.hbm, 41, rfl⟩
abbrev main_while0c_v76 : Ref sig .tc := ⟨.hbm, 42, rfl⟩
abbrev main_while0b_call0_c : Ref sig .tc := ⟨.hbm, 43, rfl⟩
abbrev main_while0b_call0_c_0 : Ref sig .tc := ⟨.hbm, 44, rfl⟩
abbrev main_while0b_call0_c_1 : Ref sig .tc := ⟨.hbm, 45, rfl⟩
abbrev main_while0b_call0_v0 : Ref sig .tc := ⟨.hbm, 46, rfl⟩
abbrev main_while0b_v76 : Ref sig .tc := ⟨.hbm, 47, rfl⟩
abbrev main_while0b_call1_c : Ref sig .tc := ⟨.hbm, 48, rfl⟩
abbrev main_while0b_call1_c_0 : Ref sig .tc := ⟨.hbm, 49, rfl⟩
abbrev main_while0b_call1_c_1 : Ref sig .tc := ⟨.hbm, 50, rfl⟩
abbrev main_while0b_call1_v0 : Ref sig .tc := ⟨.hbm, 51, rfl⟩
abbrev main_while0b_v77 : Ref sig .tc := ⟨.hbm, 52, rfl⟩
abbrev main_while0b_call2_c : Ref sig .tc := ⟨.hbm, 53, rfl⟩
abbrev main_while0b_call2_c_0 : Ref sig .tc := ⟨.hbm, 54, rfl⟩
abbrev main_while0b_call2_c_1 : Ref sig .tc := ⟨.hbm, 55, rfl⟩
abbrev main_while0b_call2_v0 : Ref sig .tc := ⟨.hbm, 56, rfl⟩
abbrev main_while0b_v78 : Ref sig .tc := ⟨.hbm, 57, rfl⟩
abbrev main_while0b_call3_c : Ref sig .tc := ⟨.hbm, 58, rfl⟩
abbrev main_while0b_call3_c_0 : Ref sig .tc := ⟨.hbm, 59, rfl⟩
abbrev main_while0b_call3_c_1 : Ref sig .tc := ⟨.hbm, 60, rfl⟩
abbrev main_while0b_call3_v0 : Ref sig .tc := ⟨.hbm, 61, rfl⟩
abbrev main_while0b_v79 : Ref sig .tc := ⟨.hbm, 62, rfl⟩
abbrev main_while0b_call4_c : Ref sig .tc := ⟨.hbm, 63, rfl⟩
abbrev main_while0b_call4_c_0 : Ref sig .tc := ⟨.hbm, 64, rfl⟩
abbrev main_while0b_call4_c_1 : Ref sig .tc := ⟨.hbm, 65, rfl⟩
abbrev main_while0b_call4_v0 : Ref sig .tc := ⟨.hbm, 66, rfl⟩
abbrev main_while0b_v80 : Ref sig .tc := ⟨.hbm, 67, rfl⟩
abbrev main_while0b_call5_c : Ref sig .tc := ⟨.hbm, 68, rfl⟩
abbrev main_while0b_call5_c_0 : Ref sig .tc := ⟨.hbm, 69, rfl⟩
abbrev main_while0b_call5_c_1 : Ref sig .tc := ⟨.hbm, 70, rfl⟩
abbrev main_while0b_call5_v0 : Ref sig .tc := ⟨.hbm, 71, rfl⟩
abbrev main_while0b_v81 : Ref sig .tc := ⟨.hbm, 72, rfl⟩
abbrev main_while0b_v82 : Ref sig .tc := ⟨.hbm, 73, rfl⟩
abbrev main_while0b_v83 : Ref sig .tc := ⟨.hbm, 74, rfl⟩
abbrev main_while0b_v84 : Ref sig .tc := ⟨.hbm, 75, rfl⟩
abbrev main_while0b_v85 : Ref sig .tc := ⟨.hbm, 76, rfl⟩
abbrev main_while0b_v86 : Ref sig .tc := ⟨.hbm, 77, rfl⟩
abbrev main_while0b_v87 : Ref sig .tc := ⟨.hbm, 78, rfl⟩
abbrev main_while0b_v88 : Ref sig .tc := ⟨.hbm, 79, rfl⟩
abbrev main_while0b_v89 : Ref sig .tc := ⟨.hbm, 80, rfl⟩
abbrev main_while0b_v90 : Ref sig .tc := ⟨.hbm, 81, rfl⟩
abbrev main_while0b_v91 : Ref sig .tc := ⟨.hbm, 82, rfl⟩
abbrev main_while0b_v92 : Ref sig .tc := ⟨.hbm, 83, rfl⟩
abbrev main_while0b_v93 : Ref sig .tc := ⟨.hbm, 84, rfl⟩
abbrev main_while0b_v94 : Ref sig .tc := ⟨.hbm, 85, rfl⟩
abbrev main_while0b_v95 : Ref sig .tc := ⟨.hbm, 86, rfl⟩
abbrev main_while0b_v96 : Ref sig .tc := ⟨.hbm, 87, rfl⟩
abbrev main_while0b_v97 : Ref sig .tc := ⟨.hbm, 88, rfl⟩
abbrev main_while0b_v98 : Ref sig .tc := ⟨.hbm, 89, rfl⟩
abbrev main_while0b_v99 : Ref sig .tc := ⟨.hbm, 90, rfl⟩
abbrev main_while0b_call6_v0 : Ref sig .tc := ⟨.hbm, 91, rfl⟩
abbrev main_while0b_call6_c : Ref sig .tc := ⟨.hbm, 92, rfl⟩
abbrev main_while0b_call6_c_0 : Ref sig .tc := ⟨.hbm, 93, rfl⟩
abbrev main_while0b_call6_c_1 : Ref sig .tc := ⟨.hbm, 94, rfl⟩
abbrev main_while0b_v100 : Ref sig .tc := ⟨.hbm, 95, rfl⟩
abbrev main_while0b_c_14 : Ref sig .tc := ⟨.hbm, 96, rfl⟩
abbrev main_while0b_v101 : Ref sig .tc := ⟨.hbm, 97, rfl⟩
abbrev main_v26 : Ref sig .tc := ⟨.hbm, 98, rfl⟩
abbrev main_cst_0 : Ref sig .tc := ⟨.hbm, 99, rfl⟩
abbrev main_v27 : Ref sig .tc := ⟨.hbm, 100, rfl⟩
abbrev main_v28 : Ref sig .tc := ⟨.hbm, 101, rfl⟩
abbrev main_cst_1 : Ref sig .tc := ⟨.hbm, 102, rfl⟩
abbrev main_v29 : Ref sig .tc := ⟨.hbm, 103, rfl⟩
abbrev main_v30 : Ref sig .tc := ⟨.hbm, 104, rfl⟩
abbrev main_v31 : Ref sig .tc := ⟨.hbm, 105, rfl⟩
abbrev main_v32 : Ref sig .tc := ⟨.hbm, 106, rfl⟩
abbrev main_v33 : Ref sig .tc := ⟨.hbm, 107, rfl⟩
abbrev main_cst_2 : Ref sig .tc := ⟨.hbm, 108, rfl⟩
abbrev main_v34 : Ref sig .tc := ⟨.hbm, 109, rfl⟩
abbrev main_v35 : Ref sig .tc := ⟨.hbm, 110, rfl⟩
abbrev main_cst_3 : Ref sig .tc := ⟨.hbm, 111, rfl⟩
abbrev main_v36 : Ref sig .tc := ⟨.hbm, 112, rfl⟩
abbrev main_v37 : Ref sig .tc := ⟨.hbm, 113, rfl⟩
abbrev main_v38 : Ref sig .tc := ⟨.hbm, 114, rfl⟩
abbrev main_v39 : Ref sig .tc := ⟨.hbm, 115, rfl⟩
abbrev main_cst_4 : Ref sig .tc := ⟨.hbm, 116, rfl⟩
abbrev main_v40 : Ref sig .tc := ⟨.hbm, 117, rfl⟩
abbrev main_v41 : Ref sig .tc := ⟨.hbm, 118, rfl⟩
abbrev main_v42 : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev main_cst_5 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩

abbrev nD : Nat := 1
abbrev τ : Topo := Topo.v7x

variable {F : FTy → Type} [FloatOps F]

abbrev main_while0_count : Scf.Loop 32 := ⟨0#32, 2048#32, 1#32⟩
-- ==== Pool.lean ====
abbrev S16384x8704 : Shape := ⟨2, ![16384, 8704]⟩
abbrev S8x15x1024 : Shape := ⟨3, ![8, 15, 1024]⟩
abbrev S4x256x256 : Shape := ⟨3, ![4, 256, 256]⟩
abbrev S1024 : Shape := ⟨1, ![1024]⟩
abbrev S_ : Shape := ⟨0, ![]⟩
abbrev S8x16x1024 : Shape := ⟨3, ![8, 16, 1024]⟩
abbrev S1x1024 : Shape := ⟨2, ![1, 1024]⟩
abbrev S16384x1024 : Shape := ⟨2, ![16384, 1024]⟩
abbrev S256x1024 : Shape := ⟨2, ![256, 1024]⟩
abbrev S1x16x1024 : Shape := ⟨3, ![1, 16, 1024]⟩
abbrev S16x1024 : Shape := ⟨2, ![16, 1024]⟩
abbrev S272x1024 : Shape := ⟨2, ![272, 1024]⟩
abbrev S256x1 : Shape := ⟨2, ![256, 1]⟩
abbrev S272x256 : Shape := ⟨2, ![272, 256]⟩
abbrev S256x256 : Shape := ⟨2, ![256, 256]⟩
abbrev S1x256x256 : Shape := ⟨3, ![1, 256, 256]⟩

abbrev nBuf : Space → Nat
  | .hbm => 11
  | .vmem => 11
  | .smem => 0
  | _ => 0

abbrev bufTy : (tb : Table) → Fin (tcTables nBuf tb) → BufTy
  | .hbm, ⟨0, _⟩ => ⟨S16384x8704, .f32⟩
  | .hbm, ⟨1, _⟩ => ⟨S8x15x1024, .f32⟩
  | .hbm, ⟨2, _⟩ => ⟨S4x256x256, .f32⟩
  | .hbm, ⟨3, _⟩ => ⟨S1024, .f32⟩
  | .hbm, ⟨4, _⟩ => ⟨S_, .i32⟩
  | .hbm, ⟨5, _⟩ => ⟨S_, .f32⟩
  | .hbm, ⟨6, _⟩ => ⟨S8x16x1024, .f32⟩
  | .hbm, ⟨7, _⟩ => ⟨S4x256x256, .bf16⟩
  | .hbm, ⟨8, _⟩ => ⟨S1x1024, .f32⟩
  | .hbm, ⟨9, _⟩ => ⟨S16384x1024, .bf16⟩
  | .hbm, ⟨10, _⟩ => ⟨S8x16x1024, .f32⟩
  | .local _ .vmem, ⟨0, _⟩ => ⟨S256x1024, .f32⟩
  | .local _ .vmem, ⟨1, _⟩ => ⟨S256x1024, .f32⟩
  | .local _ .vmem, ⟨2, _⟩ => ⟨S1x16x1024, .f32⟩
  | .local _ .vmem, ⟨3, _⟩ => ⟨S1x16x1024, .f32⟩
  | .local _ .vmem, ⟨4, _⟩ => ⟨S4x256x256, .bf16⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | .local _ .vmem, ⟨8, _⟩ => ⟨S1x16x1024, .f32⟩
  | .local _ .vmem, ⟨9, _⟩ => ⟨S1x16x1024, .f32⟩
  | .local _ .vmem, ⟨10, _⟩ => ⟨S16x1024, .f32⟩
  | _, _ => ⟨S16384x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c3_i32 : BitVec 32 := 3#32
  let c0_i32_0 : BitVec 32 := 0#32
  ![v2.toNat, c3_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== PoolRefIdeal.lean ====
abbrev S16384x8704 : Shape := ⟨2, ![16384, 8704]⟩
abbrev S8x15x1024 : Shape := ⟨3, ![8, 15, 1024]⟩
abbrev S4x256x256 : Shape := ⟨3, ![4, 256, 256]⟩
abbrev S1024 : Shape := ⟨1, ![1024]⟩
abbrev S16384x1024 : Shape := ⟨2, ![16384, 1024]⟩
abbrev S8x2048x1024 : Shape := ⟨3, ![8, 2048, 1024]⟩
abbrev S8x2063x1024 : Shape := ⟨3, ![8, 2063, 1024]⟩
abbrev S2048 : Shape := ⟨1, ![2048]⟩
abbrev S_ : Shape := ⟨0, ![]⟩
abbrev S1x2048x1 : Shape := ⟨3, ![1, 2048, 1]⟩
abbrev S8x2048x256 : Shape := ⟨3, ![8, 2048, 256]⟩
abbrev S8x2048x4x256 : Shape := ⟨4, ![8, 2048, 4, 256]⟩
abbrev S4x256x8x2048 : Shape := ⟨4, ![4, 256, 8, 2048]⟩
abbrev S1x1024 : Shape := ⟨2, ![1, 1024]⟩
abbrev S8x16x1024 : Shape := ⟨3, ![8, 16, 1024]⟩

abbrev nBuf : Space → Nat
  | .hbm => 93
  | .vmem => 0
  | .smem => 0
  | _ => 0

abbrev bufTy : (tb : Table) → Fin (tcTables nBuf tb) → BufTy
  | .hbm, ⟨0, _⟩ => ⟨S16384x8704, .f32⟩
  | .hbm, ⟨1, _⟩ => ⟨S8x15x1024, .f32⟩
  | .hbm, ⟨2, _⟩ => ⟨S4x256x256, .f32⟩
  | .hbm, ⟨3, _⟩ => ⟨S1024, .f32⟩
  | .hbm, ⟨4, _⟩ => ⟨S16384x1024, .f32⟩
  | .hbm, ⟨5, _⟩ => ⟨S8x2048x1024, .f32⟩
  | .hbm, ⟨6, _⟩ => ⟨S8x2063x1024, .f32⟩
  | .hbm, ⟨7, _⟩ => ⟨S2048, .i32⟩
  | .hbm, ⟨8, _⟩ => ⟨S8x2048x1024, .f32⟩
  | .hbm, ⟨9, _⟩ => ⟨S8x2048x1024, .f32⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i32⟩
  | .hbm, ⟨16, _⟩ => ⟨S2048, .f32⟩
  | .hbm, ⟨17, _⟩ => ⟨S1x2048x1, .f32⟩
  | .hbm, ⟨18, _⟩ => ⟨S8x2048x256, .f32⟩
  | .hbm, ⟨19, _⟩ => ⟨S8x2048x256, .f32⟩
  | .hbm, ⟨20, _⟩ => ⟨S8x2048x256, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S_, .i32⟩
  | .hbm, ⟨26, _⟩ => ⟨S2048, .i32⟩
  | .hbm, ⟨27, _⟩ => ⟨S2048, .i32⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S2048, .f32⟩
  | .hbm, ⟨32, _⟩ => ⟨S1x2048x1, .f32⟩
  | .hbm, ⟨33, _⟩ => ⟨S8x2048x256, .f32⟩
  | .hbm, ⟨34, _⟩ => ⟨S8x2048x256, .f32⟩
  | .hbm, ⟨35, _⟩ => ⟨S8x2048x256, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S_, .i32⟩
  | .hbm, ⟨45, _⟩ => ⟨S2048, .i32⟩
  | .hbm, ⟨46, _⟩ => ⟨S2048, .i32⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .f32⟩
  | .hbm, ⟨51, _⟩ => ⟨S1x2048x1, .f32⟩
  | .hbm, ⟨52, _⟩ => ⟨S8x2048x256, .f32⟩
  | .hbm, ⟨53, _⟩ => ⟨S8x2048x256, .f32⟩
  | .hbm, ⟨54, _⟩ => ⟨S8x2048x256, .f32⟩
  | .hbm, ⟨55, _⟩ => ⟨S8x2048x1024, .f32⟩
  | .hbm, ⟨56, _⟩ => ⟨S8x2048x1024, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S8x2048x1024, .f32⟩
  | .hbm, ⟨61, _⟩ => ⟨S8x2048x1024, .f32⟩
  | .hbm, ⟨62, _⟩ => ⟨S8x2048x1024, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S8x2048x1024, .f32⟩
  | .hbm, ⟨67, _⟩ => ⟨S8x2048x1024, .f32⟩
  | .hbm, ⟨68, _⟩ => ⟨S8x2048x1024, .f32⟩
  | .hbm, ⟨69, _⟩ => ⟨S8x2048x1024, .f32⟩
  | .hbm, ⟨70, _⟩ => ⟨S8x2048x1024, .f32⟩
  | .hbm, ⟨71, _⟩ => ⟨S_, .i32⟩
  | .hbm, ⟨72, _⟩ => ⟨S2048, .i32⟩
  | .hbm, ⟨73, _⟩ => ⟨S2048, .i32⟩
  | .hbm, ⟨74, _⟩ => ⟨S_, .i32⟩
  | .hbm, ⟨75, _⟩ => ⟨S2048, .i32⟩
  | .hbm, ⟨76, _⟩ => ⟨S2048, .i32⟩
  | .hbm, ⟨77, _⟩ => ⟨S2048, .f32⟩
  | .hbm, ⟨78, _⟩ => ⟨S1x2048x1, .f32⟩
  | .hbm, ⟨79, _⟩ => ⟨S8x2048x256, .f32⟩
  | .hbm, ⟨80, _⟩ => ⟨S8x2048x256, .f32⟩
  | .hbm, ⟨81, _⟩ => ⟨S8x2048x256, .f32⟩
  | .hbm, ⟨82, _⟩ => ⟨S8x2048x1024, .f32⟩
  | .hbm, ⟨83, _⟩ => ⟨S8x2048x1024, .f32⟩
  | .hbm, ⟨84, _⟩ => ⟨S8x2048x4x256, .f32⟩
  | .hbm, ⟨85, _⟩ => ⟨S4x256x8x2048, .f32⟩
  | .hbm, ⟨86, _⟩ => ⟨S8x2048x4x256, .f32⟩
  | .hbm, ⟨87, _⟩ => ⟨S16384x1024, .f32⟩
  | .hbm, ⟨88, _⟩ => ⟨S1x1024, .f32⟩
  | .hbm, ⟨89, _⟩ => ⟨S16384x1024, .f32⟩
  | .hbm, ⟨90, _⟩ => ⟨S16384x1024, .f32⟩
  | .hbm, ⟨91, _⟩ => ⟨S16384x1024, .bf16⟩
  | .hbm, ⟨92, _⟩ => ⟨S8x16x1024, .f32⟩
  | _, _ => ⟨S16384x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_1 : Ref sig .tc := ⟨.hbm, 25, rfl⟩
abbrev main_v19 : Ref sig .tc := ⟨.hbm, 26, rfl⟩
abbrev main_v20 : Ref sig .tc := ⟨.hbm, 27, rfl⟩
abbrev main_c_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c_3 : Ref sig .tc := ⟨.hbm, 44, rfl⟩
abbrev main_v36 : Ref sig .tc := ⟨.hbm, 45, rfl⟩
abbrev main_v37 : Ref sig .tc := ⟨.hbm, 46, rfl⟩
abbrev main_c_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_c_5 : Ref sig .tc := ⟨.hbm, 71, rfl⟩
abbrev main_v61 : Ref sig .tc := ⟨.hbm, 72, rfl⟩
abbrev main_v62 : Ref sig .tc := ⟨.hbm, 73, rfl⟩
abbrev main_c_6 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩

abbrev nD : Nat := 1
abbrev τ : Topo := Topo.v7x

variable {F : FTy → Type} [FloatOps F]
-- ==== Prep.lean ====
abbrev S16384x8704 : Shape := ⟨2, ![16384, 8704]⟩
abbrev S8x3360 : Shape := ⟨2, ![8, 3360]⟩
abbrev S3360 : Shape := ⟨1, ![3360]⟩
abbrev S1024 : Shape := ⟨1, ![1024]⟩
abbrev S64x1024 : Shape := ⟨2, ![64, 1024]⟩
abbrev S160x1024 : Shape := ⟨2, ![160, 1024]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S3072 : Shape := ⟨1, ![3072]⟩
abbrev S3x1024 : Shape := ⟨2, ![3, 1024]⟩
abbrev S288 : Shape := ⟨1, ![288]⟩
abbrev S512 : Shape := ⟨1, ![512]⟩
abbrev S1x512 : Shape := ⟨2, ![1, 512]⟩
abbrev S1x1024 : Shape := ⟨2, ![1, 1024]⟩
abbrev S128x1024 : Shape := ⟨2, ![128, 1024]⟩
abbrev S96x1024 : Shape := ⟨2, ![96, 1024]⟩
abbrev S256x1024 : Shape := ⟨2, ![256, 1024]⟩
abbrev S8x3072 : Shape := ⟨2, ![8, 3072]⟩
abbrev S8x3x1024 : Shape := ⟨3, ![8, 3, 1024]⟩
abbrev S8x288 : Shape := ⟨2, ![8, 288]⟩
abbrev S8x512 : Shape := ⟨2, ![8, 512]⟩
abbrev S8x1x512 : Shape := ⟨3, ![8, 1, 512]⟩
abbrev S6x16384x1024 : Shape := ⟨3, ![6, 16384, 1024]⟩
abbrev S16384x1024 : Shape := ⟨2, ![16384, 1024]⟩
abbrev S256x512 : Shape := ⟨2, ![256, 512]⟩
abbrev S1x3x1024 : Shape := ⟨3, ![1, 3, 1024]⟩
abbrev S1x1x512 : Shape := ⟨3, ![1, 1, 512]⟩
abbrev S6x256x1024 : Shape := ⟨3, ![6, 256, 1024]⟩
abbrev S8x1024 : Shape := ⟨2, ![8, 1024]⟩
abbrev S256x128 : Shape := ⟨2, ![256, 128]⟩
abbrev S256x256 : Shape := ⟨2, ![256, 256]⟩
abbrev S1x256x1024 : Shape := ⟨3, ![1, 256, 1024]⟩

abbrev nBuf : Space → Nat
  | .hbm => 69
  | .vmem => 32
  | .smem => 0
  | _ => 0

abbrev bufTy : (tb : Table) → Fin (tcTables nBuf tb) → BufTy
  | .hbm, ⟨0, _⟩ => ⟨S16384x8704, .f32⟩
  | .hbm, ⟨1, _⟩ => ⟨S8x3360, .f32⟩
  | .hbm, ⟨2, _⟩ => ⟨S3360, .f32⟩
  | .hbm, ⟨3, _⟩ => ⟨S1024, .f32⟩
  | .hbm, ⟨4, _⟩ => ⟨S64x1024, .f32⟩
  | .hbm, ⟨5, _⟩ => ⟨S1024, .f32⟩
  | .hbm, ⟨6, _⟩ => ⟨S64x1024, .f32⟩
  | .hbm, ⟨7, _⟩ => ⟨S160x1024, .f32⟩
  | .hbm, ⟨8, _⟩ => ⟨S1024, .f32⟩
  | .hbm, ⟨9, _⟩ => ⟨S1024, .f32⟩
  | .hbm, ⟨10, _⟩ => ⟨S128, .i32⟩
  | .hbm, ⟨11, _⟩ => ⟨S_, .i32⟩
  | .hbm, ⟨12, _⟩ => ⟨S_, .i32⟩
  | .hbm, ⟨13, _⟩ => ⟨S128, .i32⟩
  | .hbm, ⟨14, _⟩ => ⟨S128, .i32⟩
  | .hbm, ⟨15, _⟩ => ⟨S128, .i32⟩
  | .hbm, ⟨16, _⟩ => ⟨S_, .i32⟩
  | .hbm, ⟨17, _⟩ => ⟨S128, .i32⟩
  | .hbm, ⟨18, _⟩ => ⟨S128, .i1⟩
  | .hbm, ⟨19, _⟩ => ⟨S128, .i32⟩
  | .hbm, ⟨20, _⟩ => ⟨S128, .i32⟩
  | .hbm, ⟨21, _⟩ => ⟨S_, .i32⟩
  | .hbm, ⟨22, _⟩ => ⟨S128, .i32⟩
  | .hbm, ⟨23, _⟩ => ⟨S128, .i1⟩
  | .hbm, ⟨24, _⟩ => ⟨S128, .i1⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S128, .i32⟩
  | .hbm, ⟨29, _⟩ => ⟨S128x1, .i32⟩
  | .hbm, ⟨30, _⟩ => ⟨S1x128, .i32⟩
  | .hbm, ⟨31, _⟩ => ⟨S128x128, .i32⟩
  | .hbm, ⟨32, _⟩ => ⟨S128x128, .i32⟩
  | .hbm, ⟨33, _⟩ => ⟨S128x128, .i1⟩
  | .hbm, ⟨34, _⟩ => ⟨S128x128, .bf16⟩
  | .hbm, ⟨35, _⟩ => ⟨S3072, .f32⟩
  | .hbm, ⟨36, _⟩ => ⟨S3x1024, .f32⟩
  | .hbm, ⟨37, _⟩ => ⟨S288, .f32⟩
  | .hbm, ⟨38, _⟩ => ⟨S_, .i32⟩
  | .hbm, ⟨39, _⟩ => ⟨S_, .f32⟩
  | .hbm, ⟨40, _⟩ => ⟨S512, .f32⟩
  | .hbm, ⟨41, _⟩ => ⟨S1x512, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S_, .f32⟩
  | .hbm, ⟨47, _⟩ => ⟨S64x1024, .f32⟩
  | .hbm, ⟨48, _⟩ => ⟨S128x1024, .f32⟩
  | .hbm, ⟨49, _⟩ => ⟨S128x1024, .bf16⟩
  | .hbm, ⟨50, _⟩ => ⟨S_, .f32⟩
  | .hbm, ⟨51, _⟩ => ⟨S64x1024, .f32⟩
  | .hbm, ⟨52, _⟩ => ⟨S128x1024, .f32⟩
  | .hbm, ⟨53, _⟩ => ⟨S128x1024, .bf16⟩
  | .hbm, ⟨54, _⟩ => ⟨S_, .f32⟩
  | .hbm, ⟨55, _⟩ => ⟨S96x1024, .f32⟩
  | .hbm, ⟨56, _⟩ => ⟨S256x1024, .f32⟩
  | .hbm, ⟨57, _⟩ => ⟨S256x1024, .bf16⟩
  | .hbm, ⟨58, _⟩ => ⟨S8x3072, .f32⟩
  | .hbm, ⟨59, _⟩ => ⟨S8x3x1024, .f32⟩
  | .hbm, ⟨60, _⟩ => ⟨S8x288, .f32⟩
  | .hbm, ⟨61, _⟩ => ⟨S_, .i32⟩
  | .hbm, ⟨62, _⟩ => ⟨S_, .f32⟩
  | .hbm, ⟨63, _⟩ => ⟨S8x512, .f32⟩
  | .hbm, ⟨64, _⟩ => ⟨S8x1x512, .f32⟩
  | .hbm, ⟨65, _⟩ => ⟨S6x16384x1024, .f32⟩
  | .hbm, ⟨66, _⟩ => ⟨S16384x1024, .f32⟩
  | .hbm, ⟨67, _⟩ => ⟨S8x3x1024, .f32⟩
  | .hbm, ⟨68, _⟩ => ⟨S8x1x512, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x512, .f32⟩
  | .local _ .vmem, ⟨7, _⟩ => ⟨S256x512, .f32⟩
  | .local _ .vmem, ⟨8, _⟩ => ⟨S1x3x1024, .f32⟩
  | .local _ .vmem, ⟨9, _⟩ => ⟨S1x3x1024, .f32⟩
  | .local _ .vmem, ⟨10, _⟩ => ⟨S1x1x512, .f32⟩
  | .local _ .vmem, ⟨11, _⟩ => ⟨S1x1x512, .f32⟩
  | .local _ .vmem, ⟨12, _⟩ => ⟨S3x1024, .f32⟩
  | .local _ .vmem, ⟨13, _⟩ => ⟨S1x512, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S128x1024, .bf16⟩
  | .local _ .vmem, ⟨19, _⟩ => ⟨S128x1024, .bf16⟩
  | .local _ .vmem, ⟨20, _⟩ => ⟨S256x1024, .bf16⟩
  | .local _ .vmem, ⟨21, _⟩ => ⟨S128x128, .bf16⟩
  | .local _ .vmem, ⟨22, _⟩ => ⟨S6x256x1024, .f32⟩
  | .local _ .vmem, ⟨23, _⟩ => ⟨S6x256x1024, .f32⟩
  | .local _ .vmem, ⟨24, _⟩ => ⟨S256x1024, .f32⟩
  | .local _ .vmem, ⟨25, _⟩ => ⟨S256x1024, .f32⟩
  | .local _ .vmem, ⟨26, _⟩ => ⟨S1x3x1024, .f32⟩
  | .local _ .vmem, ⟨27, _⟩ => ⟨S1x3x1024, .f32⟩
  | .local _ .vmem, ⟨28, _⟩ => ⟨S1x1x512, .f32⟩
  | .local _ .vmem, ⟨29, _⟩ => ⟨S1x1x512, .f32⟩
  | .local _ .vmem, ⟨30, _⟩ => ⟨S8x1024, .f32⟩
  | .local _ .vmem, ⟨31, _⟩ => ⟨S8x512, .f32⟩
  | _, _ => ⟨S16384x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_c_0 : Ref sig .tc := ⟨.hbm, 38, rfl⟩
abbrev main_call1_v0 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst_1 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_cst_2 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_c_3 : Ref sig .tc := ⟨.hbm, 61, rfl⟩
abbrev main_call2_v0 : Ref sig .tc := ⟨.hbm, 62, rfl⟩
abbrev main_v29 : Ref sig .tc := ⟨.hbm, 63, rfl⟩
abbrev main_v30 : Ref sig .tc := ⟨.hbm, 64, rfl⟩
abbrev main_v31_0 : Ref sig .tc := ⟨.hbm, 65, rfl⟩
abbrev main_v31_1 : Ref sig .tc := ⟨.hbm, 66, rfl⟩
abbrev main_v31_2 : Ref sig .tc := ⟨.hbm, 67, rfl⟩
abbrev main_v31_3 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c1_i32 : BitVec 32 := 1#32
  let c0_i32_0 : BitVec 32 := 0#32
  ![v2.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c2_i32 : BitVec 32 := 2#32
  let c0_i32_0 : BitVec 32 := 0#32
  ![v2.toNat, c2_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c16_i32 : BitVec 32 := 16#32
  let c0_i32_0 : BitVec 32 := 0#32
  ![v2.toNat, c16_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_17 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S6x256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x3x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x1x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== PrepRefIdeal.lean ====
abbrev S16384x8704 : Shape := ⟨2, ![16384, 8704]⟩
abbrev S8x3360 : Shape := ⟨2, ![8, 3360]⟩
abbrev S3360 : Shape := ⟨1, ![3360]⟩
abbrev S1024 : Shape := ⟨1, ![1024]⟩
abbrev S64x1024 : Shape := ⟨2, ![64, 1024]⟩
abbrev S160x1024 : Shape := ⟨2, ![160, 1024]⟩
abbrev S16384x3072 : Shape := ⟨2, ![16384, 3072]⟩
abbrev S16384x288 : Shape := ⟨2, ![16384, 288]⟩
abbrev S16384x3360 : Shape := ⟨2, ![16384, 3360]⟩
abbrev S8x2048x3360 : Shape := ⟨3, ![8, 2048, 3360]⟩
abbrev S8x1x3360 : Shape := ⟨3, ![8, 1, 3360]⟩
abbrev S8x2047x3360 : Shape := ⟨3, ![8, 2047, 3360]⟩
abbrev S1x1x3360 : Shape := ⟨3, ![1, 1, 3360]⟩
abbrev S8x2048x1024 : Shape := ⟨3, ![8, 2048, 1024]⟩
abbrev S8x2048x64 : Shape := ⟨3, ![8, 2048, 64]⟩
abbrev S8x2048x160 : Shape := ⟨3, ![8, 2048, 160]⟩
abbrev S1x1x1024 : Shape := ⟨3, ![1, 1, 1024]⟩
abbrev S_ : Shape := ⟨0, ![]⟩
abbrev S8x2048x16x64 : Shape := ⟨4, ![8, 2048, 16, 64]⟩
abbrev S8x2048x16 : Shape := ⟨3, ![8, 2048, 16]⟩
abbrev S8x2048x16x1 : Shape := ⟨4, ![8, 2048, 16, 1]⟩
abbrev S1x8x2048x1024 : Shape := ⟨4, ![1, 8, 2048, 1024]⟩
abbrev S6x8x2048x1024 : Shape := ⟨4, ![6, 8, 2048, 1024]⟩
abbrev S6x16384x1024 : Shape := ⟨3, ![6, 16384, 1024]⟩
abbrev S8x2048x8704 : Shape := ⟨3, ![8, 2048, 8704]⟩
abbrev S8x1x8704 : Shape := ⟨3, ![8, 1, 8704]⟩
abbrev S8x8704 : Shape := ⟨2, ![8, 8704]⟩
abbrev S16384x1024 : Shape := ⟨2, ![16384, 1024]⟩
abbrev S8x3072 : Shape := ⟨2, ![8, 3072]⟩
abbrev S8x3x1024 : Shape := ⟨3, ![8, 3, 1024]⟩
abbrev S8x512 : Shape := ⟨2, ![8, 512]⟩
abbrev S8x1x512 : Shape := ⟨3, ![8, 1, 512]⟩

abbrev nBuf : Space → Nat
  | .hbm => 118
  | .vmem => 0
  | .smem => 0
  | _ => 0

abbrev bufTy : (tb : Table) → Fin (tcTables nBuf tb) → BufTy
  | .hbm, ⟨0, _⟩ => ⟨S16384x8704, .f32⟩
  | .hbm, ⟨1, _⟩ => ⟨S8x3360, .f32⟩
  | .hbm, ⟨2, _⟩ => ⟨S3360, .f32⟩
  | .hbm, ⟨3, _⟩ => ⟨S1024, .f32⟩
  | .hbm, ⟨4, _⟩ => ⟨S64x1024, .f32⟩
  | .hbm, ⟨5, _⟩ => ⟨S1024, .f32⟩
  | .hbm, ⟨6, _⟩ => ⟨S64x1024, .f32⟩
  | .hbm, ⟨7, _⟩ => ⟨S160x1024, .f32⟩
  | .hbm, ⟨8, _⟩ => ⟨S1024, .f32⟩
  | .hbm, ⟨9, _⟩ => ⟨S1024, .f32⟩
  | .hbm, ⟨10, _⟩ => ⟨S16384x3072, .f32⟩
  | .hbm, ⟨11, _⟩ => ⟨S16384x288, .f32⟩
  | .hbm, ⟨12, _⟩ => ⟨S16384x3360, .f32⟩
  | .hbm, ⟨13, _⟩ => ⟨S8x2048x3360, .f32⟩
  | .hbm, ⟨14, _⟩ => ⟨S8x1x3360, .f32⟩
  | .hbm, ⟨15, _⟩ => ⟨S8x2047x3360, .f32⟩
  | .hbm, ⟨16, _⟩ => ⟨S8x2048x3360, .f32⟩
  | .hbm, ⟨17, _⟩ => ⟨S8x2048x3360, .f32⟩
  | .hbm, ⟨18, _⟩ => ⟨S1x1x3360, .f32⟩
  | .hbm, ⟨19, _⟩ => ⟨S8x2048x3360, .f32⟩
  | .hbm, ⟨20, _⟩ => ⟨S8x2048x3360, .f32⟩
  | .hbm, ⟨21, _⟩ => ⟨S8x2048x3360, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S8x2048x64, .f32⟩
  | .hbm, ⟨26, _⟩ => ⟨S8x2048x64, .f32⟩
  | .hbm, ⟨27, _⟩ => ⟨S8x2048x160, .f32⟩
  | .hbm, ⟨28, _⟩ => ⟨S8x2048x64, .f32⟩
  | .hbm, ⟨29, _⟩ => ⟨S8x2048x1024, .f32⟩
  | .hbm, ⟨30, _⟩ => ⟨S1x1x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S_, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S8x2048x1024, .i1⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S8x2048x1024, .f32⟩
  | .hbm, ⟨49, _⟩ => ⟨S_, .f32⟩
  | .hbm, ⟨50, _⟩ => ⟨S8x2048x1024, .f32⟩
  | .hbm, ⟨51, _⟩ => ⟨S8x2048x1024, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | .hbm, ⟨55, _⟩ => ⟨S8x2048x1024, .f32⟩
  | .hbm, ⟨56, _⟩ => ⟨S1x1x1024, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S8x2048x1024, .f32⟩
  | .hbm, ⟨61, _⟩ => ⟨S_, .f32⟩
  | .hbm, ⟨62, _⟩ => ⟨S8x2048x1024, .f32⟩
  | .hbm, ⟨63, _⟩ => ⟨S8x2048x1024, .f32⟩
  | .hbm, ⟨64, _⟩ => ⟨S_, .f32⟩
  | .hbm, ⟨65, _⟩ => ⟨S8x2048x1024, .f32⟩
  | .hbm, ⟨66, _⟩ => ⟨S8x2048x1024, .f32⟩
  | .hbm, ⟨67, _⟩ => ⟨S8x2048x160, .f32⟩
  | .hbm, ⟨68, _⟩ => ⟨S8x2048x160, .f32⟩
  | .hbm, ⟨69, _⟩ => ⟨S_, .f32⟩
  | .hbm, ⟨70, _⟩ => ⟨S8x2048x160, .f32⟩
  | .hbm, ⟨71, _⟩ => ⟨S8x2048x160, .f32⟩
  | .hbm, ⟨72, _⟩ => ⟨S_, .f32⟩
  | .hbm, ⟨73, _⟩ => ⟨S8x2048x160, .f32⟩
  | .hbm, ⟨74, _⟩ => ⟨S8x2048x160, .f32⟩
  | .hbm, ⟨75, _⟩ => ⟨S8x2048x1024, .f32⟩
  | .hbm, ⟨76, _⟩ => ⟨S1x1x1024, .f32⟩
  | .hbm, ⟨77, _⟩ => ⟨S8x2048x1024, .f32⟩
  | .hbm, ⟨78, _⟩ => ⟨S8x2048x1024, .f32⟩
  | .hbm, ⟨79, _⟩ => ⟨S8x2048x16x64, .f32⟩
  | .hbm, ⟨80, _⟩ => ⟨S8x2048x16x64, .f32⟩
  | .hbm, ⟨81, _⟩ => ⟨S_, .f32⟩
  | .hbm, ⟨82, _⟩ => ⟨S8x2048x16, .f32⟩
  | .hbm, ⟨83, _⟩ => ⟨S8x2048x16x1, .f32⟩
  | .hbm, ⟨84, _⟩ => ⟨S8x2048x16x1, .f32⟩
  | .hbm, ⟨85, _⟩ => ⟨S_, .f32⟩
  | .hbm, ⟨86, _⟩ => ⟨S8x2048x16x1, .f32⟩
  | .hbm, ⟨87, _⟩ => ⟨S8x2048x16x1, .f32⟩
  | .hbm, ⟨88, _⟩ => ⟨S8x2048x16x64, .f32⟩
  | .hbm, ⟨89, _⟩ => ⟨S8x2048x16x64, .f32⟩
  | .hbm, ⟨90, _⟩ => ⟨S8x2048x1024, .f32⟩
  | .hbm, ⟨91, _⟩ => ⟨S_, .f32⟩
  | .hbm, ⟨92, _⟩ => ⟨S8x2048x1024, .f32⟩
  | .hbm, ⟨93, _⟩ => ⟨S8x2048x1024, .f32⟩
  | .hbm, ⟨94, _⟩ => ⟨S1x1x1024, .f32⟩
  | .hbm, ⟨95, _⟩ => ⟨S8x2048x1024, .f32⟩
  | .hbm, ⟨96, _⟩ => ⟨S8x2048x1024, .f32⟩
  | .hbm, ⟨97, _⟩ => ⟨S_, .f32⟩
  | .hbm, ⟨98, _⟩ => ⟨S8x2048x1024, .f32⟩
  | .hbm, ⟨99, _⟩ => ⟨S8x2048x1024, .f32⟩
  | .hbm, ⟨100, _⟩ => ⟨S8x2048x1024, .f32⟩
  | .hbm, ⟨101, _⟩ => ⟨S8x2048x1024, .f32⟩
  | .hbm, ⟨102, _⟩ => ⟨S1x8x2048x1024, .f32⟩
  | .hbm, ⟨103, _⟩ => ⟨S1x8x2048x1024, .f32⟩
  | .hbm, ⟨104, _⟩ => ⟨S1x8x2048x1024, .f32⟩
  | .hbm, ⟨105, _⟩ => ⟨S1x8x2048x1024, .f32⟩
  | .hbm, ⟨106, _⟩ => ⟨S1x8x2048x1024, .f32⟩
  | .hbm, ⟨107, _⟩ => ⟨S1x8x2048x1024, .f32⟩
  | .hbm, ⟨108, _⟩ => ⟨S6x8x2048x1024, .f32⟩
  | .hbm, ⟨109, _⟩ => ⟨S6x16384x1024, .f32⟩
  | .hbm, ⟨110, _⟩ => ⟨S8x2048x8704, .f32⟩
  | .hbm, ⟨111, _⟩ => ⟨S8x1x8704, .f32⟩
  | .hbm, ⟨112, _⟩ => ⟨S8x8704, .f32⟩
  | .hbm, ⟨113, _⟩ => ⟨S16384x1024, .f32⟩
  | .hbm, ⟨114, _⟩ => ⟨S8x3072, .f32⟩
  | .hbm, ⟨115, _⟩ => ⟨S8x3x1024, .f32⟩
  | .hbm, ⟨116, _⟩ => ⟨S8x512, .f32⟩
  | .hbm, ⟨117, _⟩ => ⟨S8x1x512, .f32⟩
  | _, _ => ⟨S16384x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_v24 : Ref sig .tc := ⟨.hbm, 47, rfl⟩
abbrev main_v25 : Ref sig .tc := ⟨.hbm, 48, rfl⟩
abbrev main_cst : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_0 : Ref sig .tc := ⟨.hbm, 61, rfl⟩
abbrev main_v37 : Ref sig .tc := ⟨.hbm, 62, rfl⟩
abbrev main_v38 : Ref sig .tc := ⟨.hbm, 63, rfl⟩
abbrev main_cst_1 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_2 : Ref sig .tc := ⟨.hbm, 69, rfl⟩
abbrev main_v43 : Ref sig .tc := ⟨.hbm, 70, rfl⟩
abbrev main_v44 : Ref sig .tc := ⟨.hbm, 71, rfl⟩
abbrev main_cst_3 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_4 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_5 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_6 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_7 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩

abbrev nD : Nat := 1
abbrev τ : Topo := Topo.v7x

variable {F : FTy → Type} [FloatOps F]
-- ==== InProj.lean ====
abbrev S16896x2048 : Shape := ⟨2, ![16896, 2048]⟩
abbrev S4x2048 : Shape := ⟨2, ![4, 2048]⟩
abbrev S4x2048x8480 : Shape := ⟨3, ![4, 2048, 8480]⟩
abbrev S4x2048x3072 : Shape := ⟨3, ![4, 2048, 3072]⟩
abbrev S4x2048x1024 : Shape := ⟨3, ![4, 2048, 1024]⟩
abbrev S4x2048x2048 : Shape := ⟨3, ![4, 2048, 2048]⟩
abbrev S4x2048x288 : Shape := ⟨3, ![4, 2048, 288]⟩
abbrev S_ : Shape := ⟨0, ![]⟩
abbrev S4x2048x224 : Shape := ⟨3, ![4, 2048, 224]⟩
abbrev S4x2048x8704 : Shape := ⟨3, ![4, 2048, 8704]⟩
abbrev S1x2048 : Shape := ⟨2, ![1, 2048]⟩
abbrev S2048 : Shape := ⟨1, ![2048]⟩
abbrev S16896x8704 : Shape := ⟨2, ![16896, 8704]⟩
abbrev S1536x2048 : Shape := ⟨2, ![1536, 2048]⟩
abbrev S1x2048x512 : Shape := ⟨3, ![1, 2048, 512]⟩
abbrev S1536x512 : Shape := ⟨2, ![1536, 512]⟩
abbrev S1536 : Shape := ⟨1, ![1536]⟩
abbrev S1536x1 : Shape := ⟨2, ![1536, 1]⟩
abbrev S2048x512 : Shape := ⟨2, ![2048, 512]⟩

abbrev nBuf : Space → Nat
  | .hbm => 16
  | .vmem => 8
  | .smem => 0
  | _ => 0

abbrev bufTy : (tb : Table) → Fin (tcTables nBuf tb) → BufTy
  | .hbm, ⟨0, _⟩ => ⟨S16896x2048, .f32⟩
  | .hbm, ⟨1, _⟩ => ⟨S4x2048, .f32⟩
  | .hbm, ⟨2, _⟩ => ⟨S4x2048x8480, .f32⟩
  | .hbm, ⟨3, _⟩ => ⟨S4x2048x3072, .f32⟩
  | .hbm, ⟨4, _⟩ => ⟨S4x2048x1024, .f32⟩
  | .hbm, ⟨5, _⟩ => ⟨S4x2048x2048, .f32⟩
  | .hbm, ⟨6, _⟩ => ⟨S4x2048x2048, .f32⟩
  | .hbm, ⟨7, _⟩ => ⟨S4x2048x288, .f32⟩
  | .hbm, ⟨8, _⟩ => ⟨S_, .f32⟩
  | .hbm, ⟨9, _⟩ => ⟨S4x2048x224, .f32⟩
  | .hbm, ⟨10, _⟩ => ⟨S4x2048x8704, .f32⟩
  | .hbm, ⟨11, _⟩ => ⟨S4x2048x8704, .bf16⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S16896x8704, .f32⟩
  | .local _ .vmem, ⟨0, _⟩ => ⟨S1536x2048, .f32⟩
  | .local _ .vmem, ⟨1, _⟩ => ⟨S1536x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1536x512, .f32⟩
  | .local _ .vmem, ⟨6, _⟩ => ⟨S1536x512, .f32⟩
  | .local _ .vmem, ⟨7, _⟩ => ⟨S1536x2048, .bf16⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![11, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1536x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1536x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S16896x2048 : Shape := ⟨2, ![16896, 2048]⟩
abbrev S4x2048 : Shape := ⟨2, ![4, 2048]⟩
abbrev S4x2048x8480 : Shape := ⟨3, ![4, 2048, 8480]⟩
abbrev S1x2048 : Shape := ⟨2, ![1, 2048]⟩
abbrev S2048 : Shape := ⟨1, ![2048]⟩
abbrev S_ : Shape := ⟨0, ![]⟩
abbrev S16896 : Shape := ⟨1, ![16896]⟩
abbrev S16896x1 : Shape := ⟨2, ![16896, 1]⟩
abbrev S1x2048x8480 : Shape := ⟨3, ![1, 2048, 8480]⟩
abbrev S2048x8480 : Shape := ⟨2, ![2048, 8480]⟩
abbrev S16896x8480 : Shape := ⟨2, ![16896, 8480]⟩
abbrev S16896x1024 : Shape := ⟨2, ![16896, 1024]⟩
abbrev S16896x3360 : Shape := ⟨2, ![16896, 3360]⟩
abbrev S16896x3072 : Shape := ⟨2, ![16896, 3072]⟩
abbrev S16896x288 : Shape := ⟨2, ![16896, 288]⟩
abbrev S16896x224 : Shape := ⟨2, ![16896, 224]⟩
abbrev S16896x8704 : Shape := ⟨2, ![16896, 8704]⟩

abbrev nBuf : Space → Nat
  | .hbm => 33
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S4x2048, .f32⟩
  | .hbm, ⟨2, _⟩ => ⟨S4x2048x8480, .f32⟩
  | .hbm, ⟨3, _⟩ => ⟨S1x2048, .f32⟩
  | .hbm, ⟨4, _⟩ => ⟨S2048, .f32⟩
  | .hbm, ⟨5, _⟩ => ⟨S16896x2048, .f32⟩
  | .hbm, ⟨6, _⟩ => ⟨S_, .f32⟩
  | .hbm, ⟨7, _⟩ => ⟨S16896, .f32⟩
  | .hbm, ⟨8, _⟩ => ⟨S16896x1, .f32⟩
  | .hbm, ⟨9, _⟩ => ⟨S_, .f32⟩
  | .hbm, ⟨10, _⟩ => ⟨S16896x1, .f32⟩
  | .hbm, ⟨11, _⟩ => ⟨S16896x1, .f32⟩
  | .hbm, ⟨12, _⟩ => ⟨S_, .f32⟩
  | .hbm, ⟨13, _⟩ => ⟨S16896x1, .f32⟩
  | .hbm, ⟨14, _⟩ => ⟨S16896x1, .f32⟩
  | .hbm, ⟨15, _⟩ => ⟨S16896x1, .f32⟩
  | .hbm, ⟨16, _⟩ => ⟨S16896x2048, .f32⟩
  | .hbm, ⟨17, _⟩ => ⟨S16896x2048, .f32⟩
  | .hbm, ⟨18, _⟩ => ⟨S1x2048, .f32⟩
  | .hbm, ⟨19, _⟩ => ⟨S16896x2048, .f32⟩
  | .hbm, ⟨20, _⟩ => ⟨S16896x2048, .f32⟩
  | .hbm, ⟨21, _⟩ => ⟨S1x2048x8480, .f32⟩
  | .hbm, ⟨22, _⟩ => ⟨S2048x8480, .f32⟩
  | .hbm, ⟨23, _⟩ => ⟨S16896x8480, .f32⟩
  | .hbm, ⟨24, _⟩ => ⟨S16896x1024, .f32⟩
  | .hbm, ⟨25, _⟩ => ⟨S16896x3360, .f32⟩
  | .hbm, ⟨26, _⟩ => ⟨S16896x2048, .f32⟩
  | .hbm, ⟨27, _⟩ => ⟨S16896x2048, .f32⟩
  | .hbm, ⟨28, _⟩ => ⟨S16896x3072, .f32⟩
  | .hbm, ⟨29, _⟩ => ⟨S16896x288, .f32⟩
  | .hbm, ⟨30, _⟩ => ⟨S_, .f32⟩
  | .hbm, ⟨31, _⟩ => ⟨S16896x224, .f32⟩
  | .hbm, ⟨32, _⟩ => ⟨S16896x8704, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Ffn.lean ====
abbrev S16896x2048 : Shape := ⟨2, ![16896, 2048]⟩
abbrev S4x2048 : Shape := ⟨2, ![4, 2048]⟩
abbrev S4x2048x5632 : Shape := ⟨3, ![4, 2048, 5632]⟩
abbrev S4x5632x2048 : Shape := ⟨3, ![4, 5632, 2048]⟩
abbrev S1x2048 : Shape := ⟨2, ![1, 2048]⟩
abbrev S2048 : Shape := ⟨1, ![2048]⟩
abbrev S768x2048 : Shape := ⟨2, ![768, 2048]⟩
abbrev S1x2048x512 : Shape := ⟨3, ![1, 2048, 512]⟩
abbrev S1x512x2048 : Shape := ⟨3, ![1, 512, 2048]⟩
abbrev S768 : Shape := ⟨1, ![768]⟩
abbrev S768x1 : Shape := ⟨2, ![768, 1]⟩
abbrev S2048x512 : Shape := ⟨2, ![2048, 512]⟩
abbrev S768x512 : Shape := ⟨2, ![768, 512]⟩
abbrev S512x2048 : Shape := ⟨2, ![512, 2048]⟩

abbrev nBuf : Space → Nat
  | .hbm => 12
  | .vmem => 12
  | .smem => 0
  | _ => 0

abbrev bufTy : (tb : Table) → Fin (tcTables nBuf tb) → BufTy
  | .hbm, ⟨0, _⟩ => ⟨S16896x2048, .f32⟩
  | .hbm, ⟨1, _⟩ => ⟨S4x2048, .f32⟩
  | .hbm, ⟨2, _⟩ => ⟨S4x2048x5632, .f32⟩
  | .hbm, ⟨3, _⟩ => ⟨S4x2048x5632, .f32⟩
  | .hbm, ⟨4, _⟩ => ⟨S4x5632x2048, .f32⟩
  | .hbm, ⟨5, _⟩ => ⟨S1x2048, .f32⟩
  | .hbm, ⟨6, _⟩ => ⟨S2048, .f32⟩
  | .hbm, ⟨7, _⟩ => ⟨S4x2048x5632, .bf16⟩
  | .hbm, ⟨8, _⟩ => ⟨S4x2048x5632, .bf16⟩
  | .hbm, ⟨9, _⟩ => ⟨S4x5632x2048, .bf16⟩
  | .hbm, ⟨10, _⟩ => ⟨S1x2048, .f32⟩
  | .hbm, ⟨11, _⟩ => ⟨S16896x2048, .f32⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S768x2048, .f32⟩
  | .local _ .vmem, ⟨10, _⟩ => ⟨S768x2048, .f32⟩
  | .local _ .vmem, ⟨11, _⟩ => ⟨S768x2048, .bf16⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![22, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S768x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S16896x2048 : Shape := ⟨2, ![16896, 2048]⟩
abbrev S4x2048 : Shape := ⟨2, ![4, 2048]⟩
abbrev S4x2048x5632 : Shape := ⟨3, ![4, 2048, 5632]⟩
abbrev S4x5632x2048 : Shape := ⟨3, ![4, 5632, 2048]⟩
abbrev S1x2048 : Shape := ⟨2, ![1, 2048]⟩
abbrev S2048 : Shape := ⟨1, ![2048]⟩
abbrev S_ : Shape := ⟨0, ![]⟩
abbrev S16896 : Shape := ⟨1, ![16896]⟩
abbrev S16896x1 : Shape := ⟨2, ![16896, 1]⟩
abbrev S1x2048x5632 : Shape := ⟨3, ![1, 2048, 5632]⟩
abbrev S2048x5632 : Shape := ⟨2, ![2048, 5632]⟩
abbrev S16896x5632 : Shape := ⟨2, ![16896, 5632]⟩
abbrev S1x5632x2048 : Shape := ⟨3, ![1, 5632, 2048]⟩
abbrev S5632x2048 : Shape := ⟨2, ![5632, 2048]⟩

abbrev nBuf : Space → Nat
  | .hbm => 43
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S4x2048, .f32⟩
  | .hbm, ⟨2, _⟩ => ⟨S4x2048x5632, .f32⟩
  | .hbm, ⟨3, _⟩ => ⟨S4x2048x5632, .f32⟩
  | .hbm, ⟨4, _⟩ => ⟨S4x5632x2048, .f32⟩
  | .hbm, ⟨5, _⟩ => ⟨S1x2048, .f32⟩
  | .hbm, ⟨6, _⟩ => ⟨S2048, .f32⟩
  | .hbm, ⟨7, _⟩ => ⟨S16896x2048, .f32⟩
  | .hbm, ⟨8, _⟩ => ⟨S_, .f32⟩
  | .hbm, ⟨9, _⟩ => ⟨S16896, .f32⟩
  | .hbm, ⟨10, _⟩ => ⟨S16896x1, .f32⟩
  | .hbm, ⟨11, _⟩ => ⟨S_, .f32⟩
  | .hbm, ⟨12, _⟩ => ⟨S16896x1, .f32⟩
  | .hbm, ⟨13, _⟩ => ⟨S16896x1, .f32⟩
  | .hbm, ⟨14, _⟩ => ⟨S_, .f32⟩
  | .hbm, ⟨15, _⟩ => ⟨S16896x1, .f32⟩
  | .hbm, ⟨16, _⟩ => ⟨S16896x1, .f32⟩
  | .hbm, ⟨17, _⟩ => ⟨S16896x1, .f32⟩
  | .hbm, ⟨18, _⟩ => ⟨S16896x2048, .f32⟩
  | .hbm, ⟨19, _⟩ => ⟨S16896x2048, .f32⟩
  | .hbm, ⟨20, _⟩ => ⟨S1x2048, .f32⟩
  | .hbm, ⟨21, _⟩ => ⟨S16896x2048, .f32⟩
  | .hbm, ⟨22, _⟩ => ⟨S16896x2048, .f32⟩
  | .hbm, ⟨23, _⟩ => ⟨S1x2048x5632, .f32⟩
  | .hbm, ⟨24, _⟩ => ⟨S2048x5632, .f32⟩
  | .hbm, ⟨25, _⟩ => ⟨S16896x5632, .f32⟩
  | .hbm, ⟨26, _⟩ => ⟨S16896x5632, .f32⟩
  | .hbm, ⟨27, _⟩ => ⟨S16896x5632, .f32⟩
  | .hbm, ⟨28, _⟩ => ⟨S_, .f32⟩
  | .hbm, ⟨29, _⟩ => ⟨S16896x5632, .f32⟩
  | .hbm, ⟨30, _⟩ => ⟨S16896x5632, .f32⟩
  | .hbm, ⟨31, _⟩ => ⟨S_, .f32⟩
  | .hbm, ⟨32, _⟩ => ⟨S16896x5632, .f32⟩
  | .hbm, ⟨33, _⟩ => ⟨S16896x5632, .f32⟩
  | .hbm, ⟨34, _⟩ => ⟨S16896x5632, .f32⟩
  | .hbm, ⟨35, _⟩ => ⟨S1x2048x5632, .f32⟩
  | .hbm, ⟨36, _⟩ => ⟨S2048x5632, .f32⟩
  | .hbm, ⟨37, _⟩ => ⟨S16896x5632, .f32⟩
  | .hbm, ⟨38, _⟩ => ⟨S16896x5632, .f32⟩
  | .hbm, ⟨39, _⟩ => ⟨S1x5632x2048, .f32⟩
  | .hbm, ⟨40, _⟩ => ⟨S5632x2048, .f32⟩
  | .hbm, ⟨41, _⟩ => ⟨S16896x2048, .f32⟩
  | .hbm, ⟨42, _⟩ => ⟨S16896x2048, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]
-- ==== Merge.lean ====
abbrev S16896x1024 : Shape := ⟨2, ![16896, 1024]⟩
abbrev S16896x8704 : Shape := ⟨2, ![16896, 8704]⟩
abbrev S4x1024x2048 : Shape := ⟨3, ![4, 1024, 2048]⟩
abbrev S16896x2048 : Shape := ⟨2, ![16896, 2048]⟩
abbrev S768x1024 : Shape := ⟨2, ![768, 1024]⟩
abbrev S768x512 : Shape := ⟨2, ![768, 512]⟩
abbrev S1x1024x512 : Shape := ⟨3, ![1, 1024, 512]⟩
abbrev S1024x512 : Shape := ⟨2, ![1024, 512]⟩

abbrev nBuf : Space → Nat
  | .hbm => 9
  | .vmem => 17
  | .smem => 0
  | _ => 0

abbrev bufTy : (tb : Table) → Fin (tcTables nBuf tb) → BufTy
  | .hbm, ⟨0, _⟩ => ⟨S16896x1024, .bf16⟩
  | .hbm, ⟨1, _⟩ => ⟨S16896x1024, .f32⟩
  | .hbm, ⟨2, _⟩ => ⟨S16896x1024, .f32⟩
  | .hbm, ⟨3, _⟩ => ⟨S16896x8704, .f32⟩
  | .hbm, ⟨4, _⟩ => ⟨S4x1024x2048, .f32⟩
  | .hbm, ⟨5, _⟩ => ⟨S4x1024x2048, .f32⟩
  | .hbm, ⟨6, _⟩ => ⟨S4x1024x2048, .bf16⟩
  | .hbm, ⟨7, _⟩ => ⟨S4x1024x2048, .bf16⟩
  | .hbm, ⟨8, _⟩ => ⟨S16896x2048, .bf16⟩
  | .local _ .vmem, ⟨0, _⟩ => ⟨S768x1024, .bf16⟩
  | .local _ .vmem, ⟨1, _⟩ => ⟨S768x1024, .bf16⟩
  | .local _ .vmem, ⟨2, _⟩ => ⟨S768x1024, .f32⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | .local _ .vmem, ⟨6, _⟩ => ⟨S768x512, .f32⟩
  | .local _ .vmem, ⟨7, _⟩ => ⟨S768x512, .f32⟩
  | .local _ .vmem, ⟨8, _⟩ => ⟨S768x512, .f32⟩
  | .local _ .vmem, ⟨9, _⟩ => ⟨S768x512, .f32⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S768x512, .bf16⟩
  | .local _ .vmem, ⟨15, _⟩ => ⟨S768x512, .bf16⟩
  | .local _ .vmem, ⟨16, _⟩ => ⟨S768x1024, .bf16⟩
  | _, _ => ⟨S16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![22, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S768x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeRefIdeal.lean ====
abbrev S16896x1024 : Shape := ⟨2, ![16896, 1024]⟩
abbrev S16896x8704 : Shape := ⟨2, ![16896, 8704]⟩
abbrev S4x1024x2048 : Shape := ⟨3, ![4, 1024, 2048]⟩
abbrev S16896x2048 : Shape := ⟨2, ![16896, 2048]⟩
abbrev S_ : Shape := ⟨0, ![]⟩
abbrev S1x1024x2048 : Shape := ⟨3, ![1, 1024, 2048]⟩
abbrev S1024x2048 : Shape := ⟨2, ![1024, 2048]⟩

abbrev nBuf : Space → Nat
  | .hbm => 36
  | .vmem => 0
  | .smem => 0
  | _ => 0

abbrev bufTy : (tb : Table) → Fin (tcTables nBuf tb) → BufTy
  | .hbm, ⟨0, _⟩ => ⟨S16896x1024, .bf16⟩
  | .hbm, ⟨1, _⟩ => ⟨S16896x1024, .f32⟩
  | .hbm, ⟨2, _⟩ => ⟨S16896x1024, .f32⟩
  | .hbm, ⟨3, _⟩ => ⟨S16896x8704, .f32⟩
  | .hbm, ⟨4, _⟩ => ⟨S4x1024x2048, .f32⟩
  | .hbm, ⟨5, _⟩ => ⟨S4x1024x2048, .f32⟩
  | .hbm, ⟨6, _⟩ => ⟨S16896x2048, .f32⟩
  | .hbm, ⟨7, _⟩ => ⟨S16896x2048, .f32⟩
  | .hbm, ⟨8, _⟩ => ⟨S16896x2048, .f32⟩
  | .hbm, ⟨9, _⟩ => ⟨S16896x2048, .f32⟩
  | .hbm, ⟨10, _⟩ => ⟨S_, .f32⟩
  | .hbm, ⟨11, _⟩ => ⟨S16896x2048, .f32⟩
  | .hbm, ⟨12, _⟩ => ⟨S16896x2048, .f32⟩
  | .hbm, ⟨13, _⟩ => ⟨S_, .f32⟩
  | .hbm, ⟨14, _⟩ => ⟨S16896x2048, .f32⟩
  | .hbm, ⟨15, _⟩ => ⟨S16896x2048, .f32⟩
  | .hbm, ⟨16, _⟩ => ⟨S16896x1024, .f32⟩
  | .hbm, ⟨17, _⟩ => ⟨S1x1024x2048, .f32⟩
  | .hbm, ⟨18, _⟩ => ⟨S1024x2048, .f32⟩
  | .hbm, ⟨19, _⟩ => ⟨S16896x2048, .f32⟩
  | .hbm, ⟨20, _⟩ => ⟨S16896x2048, .f32⟩
  | .hbm, ⟨21, _⟩ => ⟨S16896x2048, .f32⟩
  | .hbm, ⟨22, _⟩ => ⟨S16896x2048, .f32⟩
  | .hbm, ⟨23, _⟩ => ⟨S_, .f32⟩
  | .hbm, ⟨24, _⟩ => ⟨S16896x2048, .f32⟩
  | .hbm, ⟨25, _⟩ => ⟨S16896x2048, .f32⟩
  | .hbm, ⟨26, _⟩ => ⟨S_, .f32⟩
  | .hbm, ⟨27, _⟩ => ⟨S16896x2048, .f32⟩
  | .hbm, ⟨28, _⟩ => ⟨S16896x2048, .f32⟩
  | .hbm, ⟨29, _⟩ => ⟨S16896x1024, .f32⟩
  | .hbm, ⟨30, _⟩ => ⟨S1x1024x2048, .f32⟩
  | .hbm, ⟨31, _⟩ => ⟨S1024x2048, .f32⟩
  | .hbm, ⟨32, _⟩ => ⟨S16896x2048, .f32⟩
  | .hbm, ⟨33, _⟩ => ⟨S16896x2048, .f32⟩
  | .hbm, ⟨34, _⟩ => ⟨S16896x2048, .f32⟩
  | .hbm, ⟨35, _⟩ => ⟨S16896x2048, .bf16⟩
  | _, _ => ⟨S16896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== OutProj.lean ====
abbrev S16896x2048 : Shape := ⟨2, ![16896, 2048]⟩
abbrev S4x2048x2048 : Shape := ⟨3, ![4, 2048, 2048]⟩
abbrev S768x2048 : Shape := ⟨2, ![768, 2048]⟩
abbrev S1x2048x2048 : Shape := ⟨3, ![1, 2048, 2048]⟩
abbrev S768x512 : Shape := ⟨2, ![768, 512]⟩
abbrev S1x2048x512 : Shape := ⟨3, ![1, 2048, 512]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S16896x2048, .bf16⟩
  | .hbm, ⟨1, _⟩ => ⟨S4x2048x2048, .f32⟩
  | .hbm, ⟨2, _⟩ => ⟨S16896x2048, .f32⟩
  | .hbm, ⟨3, _⟩ => ⟨S4x2048x2048, .bf16⟩
  | .hbm, ⟨4, _⟩ => ⟨S16896x2048, .f32⟩
  | .local _ .vmem, ⟨0, _⟩ => ⟨S768x2048, .bf16⟩
  | .local _ .vmem, ⟨1, _⟩ => ⟨S768x2048, .bf16⟩
  | .local _ .vmem, ⟨2, _⟩ => ⟨S1x2048x2048, .bf16⟩
  | .local _ .vmem, ⟨3, _⟩ => ⟨S768x2048, .f32⟩
  | .local _ .vmem, ⟨4, _⟩ => ⟨S768x2048, .f32⟩
  | .local _ .vmem, ⟨5, _⟩ => ⟨S768x2048, .f32⟩
  | .local _ .vmem, ⟨6, _⟩ => ⟨S768x2048, .f32⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutProjRefIdeal.lean ====
abbrev S16896x2048 : Shape := ⟨2, ![16896, 2048]⟩
abbrev S4x2048x2048 : Shape := ⟨3, ![4, 2048, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S4x2048x2048, .f32⟩
  | .hbm, ⟨2, _⟩ => ⟨S16896x2048, .f32⟩
  | .hbm, ⟨3, _⟩ => ⟨S16896x2048, .f32⟩
  | .hbm, ⟨4, _⟩ => ⟨S1x2048x2048, .f32⟩
  | .hbm, ⟨5, _⟩ => ⟨S2048x2048, .f32⟩
  | .hbm, ⟨6, _⟩ => ⟨S16896x2048, .f32⟩
  | .hbm, ⟨7, _⟩ => ⟨S16896x2048, .f32⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Ple.lean ====
abbrev S16896x2048 : Shape := ⟨2, ![16896, 2048]⟩
abbrev S4x2048 : Shape := ⟨2, ![4, 2048]⟩
abbrev S4x2048x2048 : Shape := ⟨3, ![4, 2048, 2048]⟩
abbrev S4x8x2048x256 : Shape := ⟨4, ![4, 8, 2048, 256]⟩
abbrev S4x8x64x256 : Shape := ⟨4, ![4, 8, 64, 256]⟩
abbrev S4x256x2048 : Shape := ⟨3, ![4, 256, 2048]⟩
abbrev S1x8x2048x256 : Shape := ⟨4, ![1, 8, 2048, 256]⟩
abbrev S8x2048x256 : Shape := ⟨3, ![8, 2048, 256]⟩
abbrev S16384x256 : Shape := ⟨2, ![16384, 256]⟩
abbrev S1x8x64x256 : Shape := ⟨4, ![1, 8, 64, 256]⟩
abbrev S8x64x256 : Shape := ⟨3, ![8, 64, 256]⟩
abbrev S512x256 : Shape := ⟨2, ![512, 256]⟩
abbrev S16896x256 : Shape := ⟨2, ![16896, 256]⟩
abbrev S1x2048 : Shape := ⟨2, ![1, 2048]⟩
abbrev S2048 : Shape := ⟨1, ![2048]⟩
abbrev S768x2048 : Shape := ⟨2, ![768, 2048]⟩
abbrev S1x2048x2048 : Shape := ⟨3, ![1, 2048, 2048]⟩
abbrev S768x256 : Shape := ⟨2, ![768, 256]⟩
abbrev S1x256x2048 : Shape := ⟨3, ![1, 256, 2048]⟩
abbrev S768 : Shape := ⟨1, ![768]⟩
abbrev S768x1 : Shape := ⟨2, ![768, 1]⟩
abbrev S1x2048x512 : Shape := ⟨3, ![1, 2048, 512]⟩
abbrev S2048x512 : Shape := ⟨2, ![2048, 512]⟩
abbrev S768x512 : Shape := ⟨2, ![768, 512]⟩
abbrev S1x256x512 : Shape := ⟨3, ![1, 256, 512]⟩
abbrev S256x512 : Shape := ⟨2, ![256, 512]⟩

abbrev nBuf : Space → Nat
  | .hbm => 19
  | .vmem => 10
  | .smem => 0
  | _ => 0

abbrev bufTy : (tb : Table) → Fin (tcTables nBuf tb) → BufTy
  | .hbm, ⟨0, _⟩ => ⟨S16896x2048, .f32⟩
  | .hbm, ⟨1, _⟩ => ⟨S4x2048, .f32⟩
  | .hbm, ⟨2, _⟩ => ⟨S4x2048x2048, .f32⟩
  | .hbm, ⟨3, _⟩ => ⟨S4x8x2048x256, .f32⟩
  | .hbm, ⟨4, _⟩ => ⟨S4x8x64x256, .f32⟩
  | .hbm, ⟨5, _⟩ => ⟨S4x256x2048, .f32⟩
  | .hbm, ⟨6, _⟩ => ⟨S1x8x2048x256, .f32⟩
  | .hbm, ⟨7, _⟩ => ⟨S8x2048x256, .f32⟩
  | .hbm, ⟨8, _⟩ => ⟨S16384x256, .f32⟩
  | .hbm, ⟨9, _⟩ => ⟨S1x8x64x256, .f32⟩
  | .hbm, ⟨10, _⟩ => ⟨S8x64x256, .f32⟩
  | .hbm, ⟨11, _⟩ => ⟨S512x256, .f32⟩
  | .hbm, ⟨12, _⟩ => ⟨S16896x256, .f32⟩
  | .hbm, ⟨13, _⟩ => ⟨S1x2048, .f32⟩
  | .hbm, ⟨14, _⟩ => ⟨S2048, .f32⟩
  | .hbm, ⟨15, _⟩ => ⟨S4x2048x2048, .bf16⟩
  | .hbm, ⟨16, _⟩ => ⟨S4x256x2048, .bf16⟩
  | .hbm, ⟨17, _⟩ => ⟨S1x2048, .f32⟩
  | .hbm, ⟨18, _⟩ => ⟨S16896x2048, .f32⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S1x2048x2048, .bf16⟩
  | .local _ .vmem, ⟨4, _⟩ => ⟨S768x256, .f32⟩
  | .local _ .vmem, ⟨5, _⟩ => ⟨S768x256, .f32⟩
  | .local _ .vmem, ⟨6, _⟩ => ⟨S1x256x2048, .bf16⟩
  | .local _ .vmem, ⟨7, _⟩ => ⟨S768x2048, .f32⟩
  | .local _ .vmem, ⟨8, _⟩ => ⟨S768x2048, .f32⟩
  | .local _ .vmem, ⟨9, _⟩ => ⟨S768x2048, .bf16⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S768x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S768x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PleRefIdeal.lean ====
abbrev S16896x2048 : Shape := ⟨2, ![16896, 2048]⟩
abbrev S4x2048 : Shape := ⟨2, ![4, 2048]⟩
abbrev S4x2048x2048 : Shape := ⟨3, ![4, 2048, 2048]⟩
abbrev S4x8x2048x256 : Shape := ⟨4, ![4, 8, 2048, 256]⟩
abbrev S4x8x64x256 : Shape := ⟨4, ![4, 8, 64, 256]⟩
abbrev S4x256x2048 : Shape := ⟨3, ![4, 256, 2048]⟩
abbrev S1x8x2048x256 : Shape := ⟨4, ![1, 8, 2048, 256]⟩
abbrev S8x2048x256 : Shape := ⟨3, ![8, 2048, 256]⟩
abbrev S16384x256 : Shape := ⟨2, ![16384, 256]⟩
abbrev S1x8x64x256 : Shape := ⟨4, ![1, 8, 64, 256]⟩
abbrev S8x64x256 : Shape := ⟨3, ![8, 64, 256]⟩
abbrev S512x256 : Shape := ⟨2, ![512, 256]⟩
abbrev S16896x256 : Shape := ⟨2, ![16896, 256]⟩
abbrev S1x2048 : Shape := ⟨2, ![1, 2048]⟩
abbrev S2048 : Shape := ⟨1, ![2048]⟩
abbrev S_ : Shape := ⟨0, ![]⟩
abbrev S16896 : Shape := ⟨1, ![16896]⟩
abbrev S16896x1 : Shape := ⟨2, ![16896, 1]⟩
abbrev S1x2048x2048 : Shape := ⟨3, ![1, 2048, 2048]⟩
abbrev S2048x2048 : Shape := ⟨2, ![2048, 2048]⟩
abbrev S1x256x2048 : Shape := ⟨3, ![1, 256, 2048]⟩
abbrev S256x2048 : Shape := ⟨2, ![256, 2048]⟩

abbrev nBuf : Space → Nat
  | .hbm => 47
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S4x2048, .f32⟩
  | .hbm, ⟨2, _⟩ => ⟨S4x2048x2048, .f32⟩
  | .hbm, ⟨3, _⟩ => ⟨S4x8x2048x256, .f32⟩
  | .hbm, ⟨4, _⟩ => ⟨S4x8x64x256, .f32⟩
  | .hbm, ⟨5, _⟩ => ⟨S4x256x2048, .f32⟩
  | .hbm, ⟨6, _⟩ => ⟨S1x8x2048x256, .f32⟩
  | .hbm, ⟨7, _⟩ => ⟨S8x2048x256, .f32⟩
  | .hbm, ⟨8, _⟩ => ⟨S16384x256, .f32⟩
  | .hbm, ⟨9, _⟩ => ⟨S1x8x64x256, .f32⟩
  | .hbm, ⟨10, _⟩ => ⟨S8x64x256, .f32⟩
  | .hbm, ⟨11, _⟩ => ⟨S512x256, .f32⟩
  | .hbm, ⟨12, _⟩ => ⟨S16896x256, .f32⟩
  | .hbm, ⟨13, _⟩ => ⟨S1x2048, .f32⟩
  | .hbm, ⟨14, _⟩ => ⟨S2048, .f32⟩
  | .hbm, ⟨15, _⟩ => ⟨S16896x2048, .f32⟩
  | .hbm, ⟨16, _⟩ => ⟨S_, .f32⟩
  | .hbm, ⟨17, _⟩ => ⟨S16896, .f32⟩
  | .hbm, ⟨18, _⟩ => ⟨S16896x1, .f32⟩
  | .hbm, ⟨19, _⟩ => ⟨S_, .f32⟩
  | .hbm, ⟨20, _⟩ => ⟨S16896x1, .f32⟩
  | .hbm, ⟨21, _⟩ => ⟨S16896x1, .f32⟩
  | .hbm, ⟨22, _⟩ => ⟨S_, .f32⟩
  | .hbm, ⟨23, _⟩ => ⟨S16896x1, .f32⟩
  | .hbm, ⟨24, _⟩ => ⟨S16896x1, .f32⟩
  | .hbm, ⟨25, _⟩ => ⟨S16896x1, .f32⟩
  | .hbm, ⟨26, _⟩ => ⟨S16896x2048, .f32⟩
  | .hbm, ⟨27, _⟩ => ⟨S16896x2048, .f32⟩
  | .hbm, ⟨28, _⟩ => ⟨S1x2048, .f32⟩
  | .hbm, ⟨29, _⟩ => ⟨S16896x2048, .f32⟩
  | .hbm, ⟨30, _⟩ => ⟨S16896x2048, .f32⟩
  | .hbm, ⟨31, _⟩ => ⟨S1x2048x2048, .f32⟩
  | .hbm, ⟨32, _⟩ => ⟨S2048x2048, .f32⟩
  | .hbm, ⟨33, _⟩ => ⟨S16896x2048, .f32⟩
  | .hbm, ⟨34, _⟩ => ⟨S16896x2048, .f32⟩
  | .hbm, ⟨35, _⟩ => ⟨S16896x2048, .f32⟩
  | .hbm, ⟨36, _⟩ => ⟨S_, .f32⟩
  | .hbm, ⟨37, _⟩ => ⟨S16896x2048, .f32⟩
  | .hbm, ⟨38, _⟩ => ⟨S16896x2048, .f32⟩
  | .hbm, ⟨39, _⟩ => ⟨S_, .f32⟩
  | .hbm, ⟨40, _⟩ => ⟨S16896x2048, .f32⟩
  | .hbm, ⟨41, _⟩ => ⟨S16896x2048, .f32⟩
  | .hbm, ⟨42, _⟩ => ⟨S1x256x2048, .f32⟩
  | .hbm, ⟨43, _⟩ => ⟨S256x2048, .f32⟩
  | .hbm, ⟨44, _⟩ => ⟨S16896x2048, .f32⟩
  | .hbm, ⟨45, _⟩ => ⟨S16896x2048, .f32⟩
  | .hbm, ⟨46, _⟩ => ⟨S16896x2048, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== FinPrompt.lean ====
abbrev S16896x2048 : Shape := ⟨2, ![16896, 2048]⟩
abbrev S2048 : Shape := ⟨1, ![2048]⟩
abbrev S1x2048 : Shape := ⟨2, ![1, 2048]⟩
abbrev S16384x2048 : Shape := ⟨2, ![16384, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S1x2048, .f32⟩
  | .hbm, ⟨3, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinPromptRefIdeal.lean ====
abbrev S16896x2048 : Shape := ⟨2, ![16896, 2048]⟩
abbrev S2048 : Shape := ⟨1, ![2048]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S16384x2048, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== FinSample.lean ====
abbrev S16896x2048 : Shape := ⟨2, ![16896, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 3
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S1x2048, .f32⟩
  | .hbm, ⟨3, _⟩ => ⟨S512x2048, .f32⟩
  | .local _ .vmem, ⟨0, _⟩ => ⟨S512x2048, .f32⟩
  | .local _ .vmem, ⟨1, _⟩ => ⟨S1x2048, .f32⟩
  | .local _ .vmem, ⟨2, _⟩ => ⟨S512x2048, .f32⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== FinSampleRefIdeal.lean ====
abbrev S16896x2048 : Shape := ⟨2, ![16896, 2048]⟩
abbrev S2048 : Shape := ⟨1, ![2048]⟩
abbrev S512x2048 : Shape := ⟨2, ![512, 2048]⟩
abbrev S_ : Shape := ⟨0, ![]⟩
abbrev S512 : Shape := ⟨1, ![512]⟩
abbrev S512x1 : Shape := ⟨2, ![512, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x2048, .f32⟩
  | .hbm, ⟨15, _⟩ => ⟨S512x2048, .f32⟩
  | .hbm, ⟨16, _⟩ => ⟨S1x2048, .f32⟩
  | .hbm, ⟨17, _⟩ => ⟨S512x2048, .f32⟩
  | .hbm, ⟨18, _⟩ => ⟨S512x2048, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.WkvStep.lean ====
module

public import Idealize.ShloMosaic.Lib.Pipeline.ValueKit
public import Idealize.ShloMosaic.Lib.WritesUnit
public import Idealize.ShloMosaic.Lib.Pipeline.FrameBody

/-! One time step of the recurrence, as the kernel computes it, at any scalars: from the state and the inputs of the
step, the rows of the new state and the row of the result. -/

@[expose] public section

noncomputable section

namespace Cert.WkvStep

open Idealize.ShloMosaic

variable {F : FTy → Type} [FloatOps F]

/-- The inputs of sixteen time steps: step, channel (r, w, k, v, kk, kka), head entry, lane. -/
abbrev SX : Shape := ⟨4, ![16, 6, 64, 128]⟩
/-- The state: key entry, value entry, lane. -/
abbrev SS : Shape := ⟨3, ![64, 64, 128]⟩
/-- One row of the state, or one row of the result. -/
abbrev SR : Shape := ⟨3, ![1, 64, 128]⟩
/-- The results of sixteen time steps. -/
abbrev SY : Shape := ⟨3, ![16, 64, 128]⟩
/-- A head's vector, per lane. -/
abbrev SV : Shape := ⟨2, ![64, 128]⟩
/-- One number per lane. -/
abbrev SL1 : Shape := ⟨2, ![1, 128]⟩

theorem inb_row {n : ℕ} (h : n < 64) : ∀ a, (![n, 0, 0] : Fin 3 → ℕ) a + SR.size a ≤ SS.size a := by
  intro a
  fin_cases a <;> simp [SR, SS] <;> omega

theorem inb_y {o : ℕ} (h : o < 16) : ∀ a, (![o, 0, 0] : Fin 3 → ℕ) a + SR.size a ≤ SY.size a := by
  intro a
  fin_cases a <;> simp [SR, SY] <;> omega

theorem inb_lane {o : ℕ} (ho : o < 16) (ch : Fin 6) {n : ℕ} (h : n < 64) :
    ∀ a, (![o, ch.val, n, 0] : Fin 4 → ℕ) a + (⟨4, ![1, 1, 1, 128]⟩ : Shape).size a ≤ SX.size a := by
  intro a
  have := ch.isLt
  fin_cases a <;> simp [SX] <;> omega

theorem inb_vec {o : ℕ} (ho : o < 16) (ch : Fin 6) :
    ∀ a, (![o, ch.val, 0, 0] : Fin 4 → ℕ) a + (⟨4, ![1, 1, 64, 128]⟩ : Shape).size a ≤ SX.size a := by
  intro a
  have := ch.isLt
  fin_cases a <;> simp [SX] <;> omega

theorem inb_whole : ∀ a, (![0, 0] : Fin 2 → ℕ) a + SV.size a ≤ SV.size a := by decide

theorem cast_row : SR.ShapeCasts SV := by decide

theorem cast_lane : (⟨4, ![1, 1, 1, 128]⟩ : Shape).ShapeCasts SL1 := by decide

theorem cast_vec : (⟨4, ![1, 1, 64, 128]⟩ : Shape).ShapeCasts SV := by decide

/-- Row `n` of the state. -/
def row (s : Vec F SS .f32) (n : ℕ) (h : n < 64) : FVec F SV .f32 :=
  shapeCast SV (View.ld s (Rect.unit ![n, 0, 0] SR.size (inb_row h))) cast_row

/-- Entry `n` of channel `ch` of step `o`, one number per lane, repeated over the value entries. -/
def lane (x : Vec F SX .f32) {o : ℕ} (ho : o < 16) (ch : Fin 6) (n : ℕ) (h : n < 64) : FVec F SV .f32 :=
  broadcastTo SV (shapeCast SL1 (View.ld x (Rect.unit ![o, ch.val, n, 0] (⟨4, ![1, 1, 1, 128]⟩ : Shape).size (inb_lane ho ch h))) cast_lane) (by decide)

/-- Channel `ch` of step `o`. -/
def vec (x : Vec F SX .f32) {o : ℕ} (ho : o < 16) (ch : Fin 6) : FVec F SV .f32 :=
  shapeCast SV (View.ld x (Rect.unit ![o, ch.val, 0, 0] (⟨4, ![1, 1, 64, 128]⟩ : Shape).size (inb_vec ho ch))) cast_vec

/-- The sum of the first `j` terms of one parity, from zero. -/
def acc (T : (n : ℕ) → n < 64 → FVec F SV .f32) (b : Fin 2) : (j : ℕ) → j ≤ 32 → FVec F SV .f32
  | 0, _ => broadcast SV (Scalar.ofBits .f32 0x00000000#32)
  | j + 1, h => addf (acc T b j (by omega)) (T (2 * j + b.val) (by have := b.isLt; omega))

/-- The sum of all sixty-four terms: the even ones plus the odd ones. -/
def sum64 (T : (n : ℕ) → n < 64 → FVec F SV .f32) : FVec F SV .f32 :=
  addf (acc T 0 32 le_rfl) (acc T 1 32 le_rfl)

/-- What the step removes from the state: minus the state applied to the normalized key. -/
def removal (s : Vec F SS .f32) (x : Vec F SX .f32) {o : ℕ} (ho : o < 16) : FVec F SV .f32 :=
  subf (broadcast SV (Scalar.ofBits .f32 0x00000000#32)) (sum64 fun n h => mulf (row s n h) (lane x ho 4 n h))

/-- Row `n` of the state after the step, `sa` being the removal. -/
def newRow (s : Vec F SS .f32) (x : Vec F SX .f32) {o : ℕ} (ho : o < 16) (sa : FVec F SV .f32) (n : ℕ) (h : n < 64) :
    FVec F SV .f32 :=
  addf (addf (mulf (row s n h) (lane x ho 1 n h)) (mulf sa (lane x ho 5 n h))) (mulf (vec x ho 3) (lane x ho 2 n h))

/-- What the new state gives for the receptance. -/
def readOut (s : Vec F SS .f32) (x : Vec F SX .f32) {o : ℕ} (ho : o < 16) (sa : FVec F SV .f32) : FVec F SV .f32 :=
  sum64 fun n h => mulf (newRow s x ho sa n h) (lane x ho 0 n h)

/-- The sum over a head, one number per lane. -/
def headSum (v : FVec F SV .f32) : FVec F SL1 .f32 :=
  shapeCast SL1 (multiReduction .add [0] ⟨1, ![128]⟩ v 0x00000000#32 (by decide) (.inl rfl) rfl) (by decide)

/-- The mean over a head, one number per lane. -/
def headMean (v : FVec F SV .f32) : FVec F SL1 .f32 :=
  divf (headSum v) (broadcast SL1 (Scalar.ofBits .f32 0x42800000#32))

/-- The row of the result: the read-out normalized over its head, scaled and shifted, plus the bonus. -/
def result (x : Vec F SX .f32) {o : ℕ} (ho : o < 16) (gain bias rk : Vec F SV .f32) (y : FVec F SV .f32) : FVec F SV .f32 :=
  let yc := subf y (broadcastTo SV (headMean y) (by decide))
  let inv := rsqrt (addf (headMean (mulf yc yc)) (broadcast SL1 (Scalar.ofBits .f32 0x3A27C5AC#32)))
  let yn := addf (mulf (mulf yc (broadcastTo SV inv (by decide))) (shapeCast SV gain (by decide))) (shapeCast SV bias (by decide))
  addf yn (mulf (broadcastTo SV (headSum (mulf (mulf (vec x ho 0) (vec x ho 2)) (shapeCast SV rk (by decide)))) (by decide)) (vec x ho 3))

/-- The rows the step stores into the state, the last one first. -/
def rows (s : Vec F SS .f32) (x : Vec F SX .f32) {o : ℕ} (ho : o < 16) (sa : FVec F SV .f32) :
    (n : ℕ) → n ≤ 64 → List (View.Piece (Elt F) SS .f32)
  | 0, _ => []
  | n + 1, h => ⟨Rect.unit ![n, 0, 0] SR.size (inb_row h), shapeCast SR (newRow s x ho sa n h) (by decide)⟩ :: rows s x ho sa n (by omega)

/-- Casting a vector to one row reads it at the row's index. -/
theorem oneRow_apply (v : FVec F SV .f32) (h : SV.ShapeCasts SR) (z : SR.Idx) :
    shapeCast SR v h z = v (ix2 (z 1) (z 2)) :=
  (shapeCast_addUnit_apply ![64, 128] v h z).trans (congrArg v (by funext a; fin_cases a <;> rfl))

/-- Loading a whole buffer reads it. -/
theorem ld_whole {α : Type} (v : SV.Idx → α) : View.ld (Val := fun _ => α) (e' := .f32) v (Rect.unit ![0, 0] SV.size inb_whole) = v := by
  funext z
  refine congrArg v (funext fun a => Fin.ext ?_)
  show (![0, 0] : Fin 2 → ℕ) a + 1 * (z a).val = (z a).val
  fin_cases a <;> simp

/-- The state after the step. -/
def next (s : Vec F SS .f32) (x : Vec F SX .f32) {o : ℕ} (ho : o < 16) : Vec F SS .f32 :=
  fun y => newRow s x ho (removal s x ho) (y 0).val (y 0).isLt (ix2 (y 1) (y 2))

/-- The state after the first `j` steps of a block. -/
def after (s : Vec F SS .f32) (x : Vec F SX .f32) : (j : ℕ) → j ≤ 16 → Vec F SS .f32
  | 0, _ => s
  | j + 1, h => next (after s x j (by omega)) x (o := j) h

/-- The result of step `o`, the state before it being `s`. -/
def resultOf (s : Vec F SS .f32) (x : Vec F SX .f32) (gain bias rk : Vec F SV .f32) {o : ℕ} (ho : o < 16) : FVec F SV .f32 :=
  result x ho gain bias rk (readOut s x ho (removal s x ho))

/-- The results of a block's steps, `s` being the state before the first. -/
def block (s : Vec F SS .f32) (x : Vec F SX .f32) (gain bias rk : Vec F SV .f32) : Vec F SY .f32 :=
  fun y => resultOf (after s x (y 0).val (y 0).isLt.le) x gain bias rk (y 0).isLt (ix2 (y 1) (y 2))

/-- The rows of the result the first `j` steps store, the last one first. -/
def resultRows (s : Vec F SS .f32) (x : Vec F SX .f32) (gain bias rk : Vec F SV .f32) :
    (j : ℕ) → j ≤ 16 → List (View.Piece (Elt F) SY .f32)
  | 0, _ => []
  | j + 1, h => ⟨Rect.unit ![j, 0, 0] SR.size (inb_y h),
      shapeCast SR (resultOf (after s x j (by omega)) x gain bias rk (o := j) h) (by decide)⟩ :: resultRows s x gain bias rk j (by omega)

variable {sig : RefSig} {κ : Kind} {sp : Space}

/-- What the state's buffer holds once the first `n` rows are stored. -/
theorem read_rows (v : View sig κ sp SS .f32) (f : v.ty.Contents (Elt F)) (s : Vec F SS .f32) (x : Vec F SX .f32) {o : ℕ}
    (ho : o < 16) (sa : FVec F SV .f32) (n : ℕ) (h : n ≤ 64) (y : SS.Idx) (hy : (y 0).val < n) :
    v.read (Elt F) (v.writes (Elt F) f (rows s x ho sa n h)) y
      = newRow s x ho sa (y 0).val (y 0).isLt (ix2 (y 1) (y 2)) := by
  induction n with
  | zero => omega
  | succ n ih =>
    rw [rows]
    by_cases e : (y 0).val = n
    · refine (View.read_writes_cons_unit_of_mem v f (inb_row h) _ _ y (ix3 0 (y 1) (y 2)) (off' := ![n, 0, 0]) rfl ?_).trans ?_
      · intro a
        fin_cases a
        · exact e
        · exact (Nat.zero_add _).symm
        · exact (Nat.zero_add _).symm
      · rw [oneRow_apply]
        subst e
        rfl
    · refine (View.read_writes_cons_unit_of_not_mem v f (inb_row h) _ _ y (off' := ![n, 0, 0]) rfl 0 (Or.inl ?_)).trans
        (ih (by omega) (by omega))
      show (y 0).val < n
      omega

/-- All sixty-four rows stored, the buffer holds the state after the step. -/
theorem read_next (v : View sig κ sp SS .f32) (f : v.ty.Contents (Elt F)) (s : Vec F SS .f32) (x : Vec F SX .f32) {o : ℕ}
    (ho : o < 16) : v.read (Elt F) (v.writes (Elt F) f (rows s x ho (removal s x ho) 64 le_rfl)) = next s x ho := by
  funext y
  exact read_rows v f s x ho _ 64 le_rfl y (y 0).isLt

/-- What the result's buffer holds once the first `n` rows are stored. -/
theorem read_resultRows (v : View sig κ sp SY .f32) (f : v.ty.Contents (Elt F)) (s : Vec F SS .f32) (x : Vec F SX .f32)
    (gain bias rk : Vec F SV .f32) (n : ℕ) (h : n ≤ 16) (y : SY.Idx) (hy : (y 0).val < n) :
    v.read (Elt F) (v.writes (Elt F) f (resultRows s x gain bias rk n h)) y = block s x gain bias rk y := by
  induction n with
  | zero => omega
  | succ n ih =>
    rw [resultRows]
    by_cases e : (y 0).val = n
    · refine (View.read_writes_cons_unit_of_mem v f (inb_y h) _ _ y (ix3 0 (y 1) (y 2)) (off' := ![n, 0, 0]) rfl ?_).trans ?_
      · intro a
        fin_cases a
        · exact e
        · exact (Nat.zero_add _).symm
        · exact (Nat.zero_add _).symm
      · rw [oneRow_apply]
        subst e
        rfl
    · refine (View.read_writes_cons_unit_of_not_mem v f (inb_y h) _ _ y (off' := ![n, 0, 0]) rfl 0 (Or.inl ?_)).trans
        (ih (by omega) (by omega))
      show (y 0).val < n
      omega

/-- All sixteen rows stored, the buffer holds the block's results. -/
theorem read_block (v : View sig κ sp SY .f32) (f : v.ty.Contents (Elt F)) (s : Vec F SS .f32) (x : Vec F SX .f32)
    (gain bias rk : Vec F SV .f32) :
    v.read (Elt F) (v.writes (Elt F) f (resultRows s x gain bias rk 16 le_rfl)) = block s x gain bias rk := by
  funext y
  exact read_resultRows v f s x gain bias rk 16 le_rfl y (y 0).isLt

end Cert.WkvStep

end
-- ==== Proof.WkvIdealTrip.lean ====
module

public import proofs.«01_k».proof.Proof.Gen.WkvIdeal.Frame.Runs
public import proofs.«01_k».proof.Proof.WkvStep

/-! The kernel's loop, trip by trip, and its body: the rows it stores are those of the recurrence's steps. -/

@[expose] public section

set_option maxRecDepth 16384

noncomputable section

namespace Cert.WkvIdealLoop

open Cert.WkvIdeal Cert.WkvIdeal.Gen Cert.WkvStep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The time step of a trip, within the block, as the kernel computes it. -/
def at_ (k : Fin k0_t1_loop.trips) : ℕ := (Scalar.indexCast (Scf.iv (0#32) (1#32) k)).toNat

theorem at_lt (k : Fin k0_t1_loop.trips) : at_ k < 16 := by
  have h : at_ k + 1 ≤ 16 := k0_off324_inb k 0
  omega

variable (𝒱 : Variants) (c : Dev nD) (bd : Option 𝒱.V) (i : grid0.Coords)
  (arg1 : Memref sig .tc .vmem S16x6x64x128 .f32) (harg1 : arg1.IsWhole) (arg2 : Memref sig .tc .vmem S64x64x128 .f32) (harg2 : arg2.IsWhole)
  (arg3 : Memref sig .tc .vmem S64x128 .f32) (harg3 : arg3.IsWhole) (arg4 : Memref sig .tc .vmem S64x128 .f32) (harg4 : arg4.IsWhole)
  (arg5 : Memref sig .tc .vmem S64x128 .f32) (harg5 : arg5.IsWhole) (arg6 : Memref sig .tc .vmem S16x64x128 .f32) (harg6 : arg6.IsWhole)
  (arg7 : Memref sig .tc .vmem S64x64x128 .f32) (harg7 : arg7.IsWhole)
  (X_arg1 : BufTy.Contents (Elt F) arg1.view.ty) (X_arg3 : BufTy.Contents (Elt F) arg3.view.ty)
  (X_arg4 : BufTy.Contents (Elt F) arg4.view.ty) (X_arg5 : BufTy.Contents (Elt F) arg5.view.ty)
  (k : Fin k0_t1_loop.trips) (f6 : BufTy.Contents (Elt F) arg6.view.ty) (f7 : BufTy.Contents (Elt F) arg7.view.ty)

set_option maxHeartbeats 4000000 in
/-- The rows a trip stores into the state. -/
theorem trip_rows :
    (trip_k0_t1 (F := F) 𝒱 c bd i arg1 harg1 arg2 harg2 arg3 harg3 arg4 harg4 arg5 harg5 arg6 harg6 arg7 harg7 X_arg1 X_arg3 X_arg4 X_arg5 k).2.1 f6 f7
      = rows (arg7.view.read (Elt F) f7) (arg1.view.read (Elt F) X_arg1) (at_lt k)
          (removal (arg7.view.read (Elt F) f7) (arg1.view.read (Elt F) X_arg1) (at_lt k)) 64 le_rfl := by
  delta trip_k0_t1
  rfl

set_option maxHeartbeats 4000000 in
/-- The row a trip stores into the result. -/
theorem trip_result :
    (trip_k0_t1 (F := F) 𝒱 c bd i arg1 harg1 arg2 harg2 arg3 harg3 arg4 harg4 arg5 harg5 arg6 harg6 arg7 harg7 X_arg1 X_arg3 X_arg4 X_arg5 k).1 f6 f7
      = [⟨Rect.unit ![at_ k, 0, 0] SR.size (inb_y (at_lt k)), shapeCast SR (result (arg1.view.read (Elt F) X_arg1) (at_lt k)
          (View.ld (arg3.view.read (Elt F) X_arg3) (Rect.unit ![0, 0] SV.size inb_whole))
          (View.ld (arg4.view.read (Elt F) X_arg4) (Rect.unit ![0, 0] SV.size inb_whole))
          (View.ld (arg5.view.read (Elt F) X_arg5) (Rect.unit ![0, 0] SV.size inb_whole))
          (readOut (arg7.view.read (Elt F) f7) (arg1.view.read (Elt F) X_arg1) (at_lt k)
            (removal (arg7.view.read (Elt F) f7) (arg1.view.read (Elt F) X_arg1) (at_lt k)))) (by decide)⟩] := by
  delta trip_k0_t1
  rfl

/-- The rows a trip stores into the state, its time step named `o`. -/
theorem trip_rows_at {o : ℕ} (ho : o < 16) (e : at_ k = o) :
    (trip_k0_t1 (F := F) 𝒱 c bd i arg1 harg1 arg2 harg2 arg3 harg3 arg4 harg4 arg5 harg5 arg6 harg6 arg7 harg7 X_arg1 X_arg3 X_arg4 X_arg5 k).2.1 f6 f7
      = rows (arg7.view.read (Elt F) f7) (arg1.view.read (Elt F) X_arg1) ho
          (removal (arg7.view.read (Elt F) f7) (arg1.view.read (Elt F) X_arg1) ho) 64 le_rfl := by
  subst e
  exact trip_rows 𝒱 c bd i arg1 harg1 arg2 harg2 arg3 harg3 arg4 harg4 arg5 harg5 arg6 harg6 arg7 harg7 X_arg1 X_arg3 X_arg4 X_arg5 k f6 f7

/-- The row a trip stores into the result, its time step named `o`. -/
theorem trip_result_at {o : ℕ} (ho : o < 16) (e : at_ k = o) :
    (trip_k0_t1 (F := F) 𝒱 c bd i arg1 harg1 arg2 harg2 arg3 harg3 arg4 harg4 arg5 harg5 arg6 harg6 arg7 harg7 X_arg1 X_arg3 X_arg4 X_arg5 k).1 f6 f7
      = [⟨Rect.unit ![o, 0, 0] SR.size (inb_y ho), shapeCast SR (resultOf (arg7.view.read (Elt F) f7) (arg1.view.read (Elt F) X_arg1)
          (arg3.view.read (Elt F) X_arg3) (arg4.view.read (Elt F) X_arg4) (arg5.view.read (Elt F) X_arg5) ho) (by decide)⟩] := by
  subst e
  rw [trip_result, ld_whole, ld_whole, ld_whole]
  rfl

theorem at_eq (k : Fin k0_t1_loop.trips) : at_ k = k.val := congrFun (k0_off324_eq k) 0

theorem trips_eq : k0_t1_loop.trips = 16 := by decide +kernel

/-- The pieces of the loop's first `j` trips: the rows of the results, and a state's buffer holding the state after `j` steps. -/
theorem pieces (G6 : BufTy.Contents (Elt F) arg6.view.ty) (G7 : BufTy.Contents (Elt F) arg7.view.ty)
    (s : Vec F SS .f32) (hs : arg7.view.read (Elt F) G7 = s) (x : Vec F SX .f32) (hx : arg1.view.read (Elt F) X_arg1 = x)
    (gain bias rk : Vec F SV .f32) (hg : arg3.view.read (Elt F) X_arg3 = gain) (hb : arg4.view.read (Elt F) X_arg4 = bias)
    (hr : arg5.view.read (Elt F) X_arg5 = rk) : ∀ (j : ℕ) (h : j ≤ 16),
    (pb_k0_t1 (F := F) 𝒱 c bd i arg1 harg1 arg2 harg2 arg3 harg3 arg4 harg4 arg5 harg5 arg6 harg6 arg7 harg7 X_arg1 X_arg3 X_arg4 X_arg5 G6 G7 j).1
        = resultRows s x gain bias rk j h
      ∧ arg7.view.read (Elt F) (arg7.view.writes (Elt F) G7
          (pb_k0_t1 (F := F) 𝒱 c bd i arg1 harg1 arg2 harg2 arg3 harg3 arg4 harg4 arg5 harg5 arg6 harg6 arg7 harg7 X_arg1 X_arg3 X_arg4 X_arg5 G6 G7 j).2)
        = after s x j h
  | 0, _ => ⟨rfl, hs⟩
  | j + 1, h => by
    obtain ⟨ih6, ih7⟩ := pieces G6 G7 s hs x hx gain bias rk hg hb hr j (by omega)
    have hj : j < k0_t1_loop.trips := by rw [trips_eq]; omega
    have e : at_ ⟨j, hj⟩ = j := at_eq ⟨j, hj⟩
    have hp := pb_k0_t1_succ (F := F) 𝒱 c bd i arg1 harg1 arg2 harg2 arg3 harg3 arg4 harg4 arg5 harg5 arg6 harg6 arg7 harg7 X_arg1 X_arg3 X_arg4 X_arg5 G6 G7 ⟨j, hj⟩
    dsimp only [tripL_k0_t1] at hp
    rw [trip_rows_at _ _ _ _ _ _ _ _ _ _ _ _ _ _ _ _ _ _ _ _ _ _ _ _ _ (show j < 16 by omega) e,
      trip_result_at _ _ _ _ _ _ _ _ _ _ _ _ _ _ _ _ _ _ _ _ _ _ _ _ _ (show j < 16 by omega) e, ih6, ih7, hx, hg, hb, hr] at hp
    rw [hp]
    refine ⟨rfl, ?_⟩
    show arg7.view.read (Elt F) (arg7.view.writes (Elt F) G7 (_ ++ _)) = _
    rw [View.writes_append]
    have hs' := read_next arg7.view
      (arg7.view.writes (Elt F) G7 (pb_k0_t1 (F := F) 𝒱 c bd i arg1 harg1 arg2 harg2 arg3 harg3 arg4 harg4 arg5 harg5 arg6 harg6 arg7 harg7 X_arg1 X_arg3 X_arg4 X_arg5 G6 G7 j).2) (after s x j (by omega)) x (show j < 16 by omega)
    exact hs'

end Cert.WkvIdealLoop

end
-- ==== Proof.WkvIdealRun.lean ====
module

public import proofs.«01_k».proof.Proof.WkvIdealTrip

/-! The kernel's body on whole buffers: the results of a block and the state after it. -/

@[expose] public section

set_option maxRecDepth 16384

noncomputable section

namespace Cert.WkvIdealLoop

open Cert.WkvIdeal Cert.WkvIdeal.Gen Cert.WkvStep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄L" => MT nD τ sig Unit (Elt F) ℕ (UR sig nD τ) ℕ

variable (c : Dev nD) (i : grid0.Coords)
  (arg1 : Memref sig .tc .vmem S16x6x64x128 .f32) (harg1 : arg1.IsWhole) (arg2 : Memref sig .tc .vmem S64x64x128 .f32) (harg2 : arg2.IsWhole)
  (arg3 : Memref sig .tc .vmem S64x128 .f32) (harg3 : arg3.IsWhole) (arg4 : Memref sig .tc .vmem S64x128 .f32) (harg4 : arg4.IsWhole)
  (arg5 : Memref sig .tc .vmem S64x128 .f32) (harg5 : arg5.IsWhole) (arg6 : Memref sig .tc .vmem S16x64x128 .f32) (harg6 : arg6.IsWhole)
  (arg7 : Memref sig .tc .vmem S64x64x128 .f32) (harg7 : arg7.IsWhole)

theorem trips16 : Scf.trips k0_t1_loop.lb k0_t1_loop.ub k0_t1_loop.st = 16 := trips_eq

/-- The given state, stored whole, is what the state's buffer holds. -/
theorem start {s0 : Vec F SS .f32} (g : BufTy.Contents (Elt F) arg7.view.ty) (f2 : BufTy.Contents (Elt F) arg2.view.ty)
    (h : arg2.view.read (Elt F) f2 = s0) :
    arg7.view.read (Elt F) (arg7.view.writes (Elt F) g [⟨Rect.unit ![0, 0, 0] S64x64x128.size inb_S64x64x128_S64x64x128_0_0_0,
      k0_pay1 (View.readAt (Elt F) arg2.view (Rect.unit ![0, 0, 0] S64x64x128.size inb_S64x64x128_S64x64x128_0_0_0).toLoadRect f2)⟩]) = s0 := by
  subst h
  funext y
  refine (View.read_writes_cons_unit_of_mem arg7.view g _ _ _ y y (off' := ![0, 0, 0]) rfl ?_).trans ?_
  · intro a
    fin_cases a <;> exact (Nat.zero_add _).symm
  · dsimp only [k0_pay1]
    rw [shapeCast_self]
    refine congrArg (arg2.view.read (Elt F) f2) (funext fun a => Fin.ext ?_)
    show (![0, 0, 0] : Fin 3 → ℕ) a + 1 * (y a).val = (y a).val
    fin_cases a <;> simp

/-- The body at a later block: the state goes on from what the buffer holds. -/
theorem body_later (hc0 : ¬ cond0_0 i) (x : Vec F SX .f32) (s0 : Vec F SS .f32) (gain bias rk : Vec F SV .f32) (s : Vec F SS .f32) (E : Set ℕ) (K : PUnit → sProp 𝕄L) :
    iprop(owns (c : Thread nD τ) arg1 fullShare x ∗ owns (c : Thread nD τ) arg2 fullShare s0 ∗ owns (c : Thread nD τ) arg3 fullShare gain ∗ owns (c : Thread nD τ) arg4 fullShare bias ∗ owns (c : Thread nD τ) arg5 fullShare rk ∗ (∃ d, owns (c : Thread nD τ) arg6 fullShare d) ∗ owns (c : Thread nD τ) arg7 fullShare s
        ∗ (iprop(owns (c : Thread nD τ) arg1 fullShare x ∗ owns (c : Thread nD τ) arg2 fullShare s0 ∗ owns (c : Thread nD τ) arg3 fullShare gain ∗ owns (c : Thread nD τ) arg4 fullShare bias ∗ owns (c : Thread nD τ) arg5 fullShare rk ∗ owns (c : Thread nD τ) arg6 fullShare (block s x gain bias rk) ∗ owns (c : Thread nD τ) arg7 fullShare (after s x 16 le_rfl)) -∗ K ⟨⟩))
      ⊢ wp frame (wpE (defs₀ (F := F)) Variants.none c none) E (cc0_wkv_scan i arg1 harg1 arg2 harg2 arg3 harg3 arg4 harg4 arg5 harg5 arg6 harg6 arg7 harg7) K := by
  simp only [cc0_wkv_scan_eq_skeleton]; unfold cc0_wkv_scan_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  sl_exec (disch := first | sl_exact hc0)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]
  · iexists _
    isplitr
    swap
    · iexact H6
    · ipureintro
      rw [trips16]
      exact (congrArg (fun L => arg6.view.read (Elt F) (arg6.view.writes (Elt F) f6 L))
        (pieces _ _ _ _ _ _ _ _ _ _ _ _ _ _ _ _ _ _ _ _ _ _ _ _ s hf7 x hf1 gain bias rk hf3 hf4 hf5 16 le_rfl).1).trans (read_block _ _ _ _ _ _ _)
  · iexists _
    isplitr
    swap
    · iexact H7
    · ipureintro
      rw [trips16]
      exact (pieces _ _ _ _ _ _ _ _ _ _ _ _ _ _ _ _ _ _ _ _ _ _ _ _ s hf7 x hf1 gain bias rk hf3 hf4 hf5 16 le_rfl).2

/-- The body at the first block: the state starts at the given one. -/
theorem body_first (hc0 : cond0_0 i) (x : Vec F SX .f32) (s0 : Vec F SS .f32) (gain bias rk : Vec F SV .f32) (E : Set ℕ) (K : PUnit → sProp 𝕄L) :
    iprop(owns (c : Thread nD τ) arg1 fullShare x ∗ owns (c : Thread nD τ) arg2 fullShare s0 ∗ owns (c : Thread nD τ) arg3 fullShare gain ∗ owns (c : Thread nD τ) arg4 fullShare bias ∗ owns (c : Thread nD τ) arg5 fullShare rk ∗ (∃ d, owns (c : Thread nD τ) arg6 fullShare d) ∗ (∃ d, owns (c : Thread nD τ) arg7 fullShare d)
        ∗ (iprop(owns (c : Thread nD τ) arg1 fullShare x ∗ owns (c : Thread nD τ) arg2 fullShare s0 ∗ owns (c : Thread nD τ) arg3 fullShare gain ∗ owns (c : Thread nD τ) arg4 fullShare bias ∗ owns (c : Thread nD τ) arg5 fullShare rk ∗ owns (c : Thread nD τ) arg6 fullShare (block s0 x gain bias rk) ∗ owns (c : Thread nD τ) arg7 fullShare (after s0 x 16 le_rfl)) -∗ K ⟨⟩))
      ⊢ wp frame (wpE (defs₀ (F := F)) Variants.none c none) E (cc0_wkv_scan i arg1 harg1 arg2 harg2 arg3 harg3 arg4 harg4 arg5 harg5 arg6 harg6 arg7 harg7) K := by
  simp only [cc0_wkv_scan_eq_skeleton]; unfold cc0_wkv_scan_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  sl_exec (disch := first | sl_exact hc0)
  sl_step
  iapply Hk
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]
  · iexists _
    isplitr
    swap
    · iexact H6
    · ipureintro
      rw [trips16]
      exact (congrArg (fun L => arg6.view.read (Elt F) (arg6.view.writes (Elt F) f6 L))
        (pieces _ _ _ _ _ _ _ _ _ _ _ _ _ _ _ _ _ _ _ _ _ _ _ _ s0 (start _ _ _ _ hf2) x hf1 gain bias rk hf3 hf4 hf5 16 le_rfl).1).trans (read_block _ _ _ _ _ _ _)
  · iexists _
    isplitr
    swap
    · iexact H7
    · ipureintro
      rw [trips16]
      rw [View.writes_append]
      exact (pieces _ _ _ _ _ _ _ _ _ _ _ _ _ _ _ _ _ _ _ _ _ _ _ _ s0 (start _ _ _ _ hf2) x hf1 gain bias rk hf3 hf4 hf5 16 le_rfl).2

end Cert.WkvIdealLoop

end
-- ==== Proof.WkvIdealFrame.lean ====
module

public import proofs.«01_k».proof.Proof.WkvIdealRun
public import proofs.«01_k».proof.Proof.Gen.WkvIdeal.Points

/-! The launch of the recurrence's kernel: its run, block after block, and its frame. -/

@[expose] public section

set_option maxRecDepth 16384

noncomputable section

namespace Cert.WkvIdealLoop

open Cert.WkvIdeal Cert.WkvIdeal.Gen Cert.WkvStep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄L" => MT nD τ sig Unit (Elt F) ℕ (UR sig nD τ) ℕ

variable (m : (ℓ : Loc nD τ sig) → Buf (Elt F) ℓ) (ρ : Dev nD → PrngReg)

/-- The state before block `n`: the given one, then what each block leaves. -/
def state (c : Dev nD) : (n : ℕ) → n ≤ cfg0.N → Vec F SS .f32
  | 0, _ => iblk m c 1 ⟨0, by rw [show cfg0.N = 128 from N_0]; omega⟩
  | n + 1, h => after (state c n (by omega)) (iblk m c 0 ⟨n, h⟩) 16 le_rfl

/-- The results of block `t`. -/
def results (c : Dev nD) (t : Fin cfg0.N) : Vec F SY .f32 :=
  block (state m c t.val t.isLt.le) (iblk m c 0 t) (iblk m c 2 t) (iblk m c 3 t) (iblk m c 4 t)

/-- What each window's buffer holds after the body at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => results m c t
    | ⟨6, _⟩ => state m c (t.val + 1) t.isLt
  Φ _ := Pipeline.ΦA spec0 c
  q _ := fullShare
  owed _ := 0

theorem entry (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  before0_0_of m (dats m 0 c) (entry m c 0) (fun _ => by dsimp only [dats]) t d

theorem before_1 (c : Dev nD) (t : Fin cfg0.N) (d) : (dats m 0 c).before 1 t d = iblk m c 1 t :=
  before0_1_of m (dats m 0 c) (entry m c 1) (fun _ => by dsimp only [dats]) t d

theorem before_2 (c : Dev nD) (t : Fin cfg0.N) (d) : (dats m 0 c).before 2 t d = iblk m c 2 t :=
  before0_2_of m (dats m 0 c) (entry m c 2) (fun _ => by dsimp only [dats]) t d

theorem before_3 (c : Dev nD) (t : Fin cfg0.N) (d) : (dats m 0 c).before 3 t d = iblk m c 3 t :=
  before0_3_of m (dats m 0 c) (entry m c 3) (fun _ => by dsimp only [dats]) t d

theorem before_4 (c : Dev nD) (t : Fin cfg0.N) (d) : (dats m 0 c).before 4 t d = iblk m c 4 t :=
  before0_4_of m (dats m 0 c) (entry m c 4) (fun _ => by dsimp only [dats]) t d

theorem after_5 (c : Dev nD) (t : Fin cfg0.N) : (dats m 0 c).after 5 t = results m c t := by dsimp only [dats]

theorem after_6 (c : Dev nD) (t : Fin cfg0.N) : (dats m 0 c).after 6 t = state m c (t.val + 1) t.isLt := by dsimp only [dats]

/-- After the first block the state's buffer still holds what the block before left. -/
theorem before_6 (c : Dev nD) (t : Fin cfg0.N) (h : t.val ≠ 0) (d) :
    (dats m 0 c).before 6 t d = state m c t.val t.isLt.le := by
  have hN : t.val < 128 := lt_of_lt_of_eq t.isLt (show cfg0.N = 128 from N_0)
  rw [Dat.before_out_kept _ 6 rfl t h (Bool.eq_false_iff.mpr fun hf => by have := (flush0_6 _).mp hf; dsimp only at this; omega)
    (fun _ => rfl) (fun _ _ => rfl)]
  obtain ⟨n, hn⟩ := t
  cases n with
  | zero => exact absurd rfl h
  | succ n => exact after_6 m c ⟨n, by omega⟩

/-- The windows' buffers before the body at a point. -/
def pre (c : Dev nD) (t : Fin cfg0.N) : sProp 𝕄L :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- The windows' buffers after the body at a point. -/
def post (c : Dev nD) (t : Fin cfg0.N) : sProp 𝕄L :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at every point. -/
theorem body (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4]
  rw [show (dats m 0 c).Φ t.succ = (dats m 0 c).Φ t.castSucc from rfl,
    show (dats m 0 c).owesAt () t.succ = (dats m 0 c).owesAt () t.castSucc from rfl, after_5, after_6]
  have hN : t.val < 128 := lt_of_lt_of_eq t.isLt (show cfg0.N = 128 from N_0)
  by_cases h0 : t.val = 0
  · have hc : cond0_0 (grid0.coords t) := (hcond0_0 t).mpr (by omega)
    have hr : results m c t = block (iblk m c 1 t) (iblk m c 0 t) (iblk m c 2 t) (iblk m c 3 t) (iblk m c 4 t) := by
      obtain ⟨n, hn⟩ := t
      obtain rfl : n = 0 := h0
      rfl
    have hs : state m c (t.val + 1) t.isLt = after (iblk m c 1 t) (iblk m c 0 t) 16 le_rfl := by
      obtain ⟨n, hn⟩ := t
      obtain rfl : n = 0 := h0
      rfl
    rw [hr, hs]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body_first c (grid0.coords t) _ _ _ _ _ _ _ _ _ _ _ _ _ _ hc (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc : ¬ cond0_0 (grid0.coords t) := fun h => by have := (hcond0_0 t).mp h; omega
    simp only [before_6 m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body_later c (grid0.coords t) _ _ _ _ _ _ _ _ _ _ _ _ _ _ hc (iblk m c 0 t) (iblk m c 1 t) (iblk m c 2 t) (iblk m c 3 t) (iblk m c 4 t) (state m c t.val t.isLt.le) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (body m c t) rfl .rfl fun _ => .rfl

set_option backward.isDefEq.respectTransparency.types false in
/-- The launch runs: each window's array ends as its write-backs leave it, every counter at zero. -/
theorem run_all : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := entry m) (hΦ := fun _ _ => rfl)

/-- The two result arrays after the run, named. -/
theorem run_arrays : θ_run defs (onTc (τ := τ) (main (F := F))) (s₀ m ρ) (Pipeline.FramePost cfgs (dats m) 0 (V m)) :=
  (θ_run defs _ _).mono (fun _ h => h.1) (run_all m ρ)

/-- The frame: the arguments end as they began, every counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  θ_run_and (frame_of m ρ (dats m) (entry m) (run_arrays m ρ)) ((θ_run defs _ _).mono (fun _ h => h.2) (run_all m ρ))

end Cert.WkvIdealLoop

end
-- ==== Proof.InProj.lean ====
module

public import proofs.«01_k».proof.Proof.Gen.InProjIdeal.Value
public import proofs.«01_k».proof.Proof.Gen.InProjRefIdeal.Read
public import Idealize.ShloMosaic.Lib.Pipeline.ValueKit
public import Idealize.ShloMosaic.Lib.Claim

/-! The input projection: the rows normalised by their root mean square, times the layer's input weight, whose columns
    the layer keeps in another order, with zero columns at the end. A grid point takes 1536 rows and 512 columns; the
    normalised rows are computed at the first of a row block's 17 points and kept for the others. -/

@[expose] public section

set_option maxRecDepth 16384

noncomputable section

namespace Cert.InProjProof

open Idealize.ShloMosaic Idealize.ShloMosaic.TcCoe Idealize.SL.Sem
open Idealize.ShloMosaic.Pipeline (Dat)
open Cert.InProjIdeal Cert.InProjIdeal.Gen

variable (m : (ℓ : Loc nD τ sig) → Buf (Elt Ideal) ℓ)

/-- Where each window's block sits at grid point `t`. -/
theorem idx : ∀ t : Fin cfg0.N, win0_0.index t = ![t.val / 17, 0] ∧ win0_1.index t = ![0, 0]
    ∧ win0_2.index t = ![1, 0, t.val % 17] ∧ win0_3.index t = ![t.val / 17, t.val % 17] :=
  (by decide +kernel : ∀ t : Fin grid0.N, _)

/-- The rows a point of a row block works on are the same at all of the row block's points. -/
theorem kept_rows (c : Dev nD) (t : Fin cfg0.N) (s : Fin cfg0.N) (h : s.val / 17 = t.val / 17) :
    (iblk m c 0 s : FVec Ideal S1536x2048 .f32) = iblk m c 0 t ∧ (iblk m c 1 s : FVec Ideal S1x2048 .f32) = iblk m c 1 t := by
  constructor
  · funext y
    blk_ext [iblk, V, idx t, idx s]
  · funext y
    blk_ext [iblk, V, idx t, idx s]

/-- After every point the scratch holds the normalised rows of the point's row block. -/
theorem scratch (c : Dev nD) : ∀ (n : ℕ) (hn : n < cfg0.N),
    (outsAt0 m c n hn).2 = k0_pay1 (iblk m c 0 ⟨n, hn⟩) (iblk m c 1 ⟨n, hn⟩) := by
  intro n
  induction n with
  | zero =>
    intro hn
    rw [outsAt0_A m c ⟨0, hn⟩ (Nat.zero_mod _)]
    frame_out
  | succ n ih =>
    intro hn
    by_cases h0 : (n + 1) % 17 = 0
    · rw [outsAt0_A m c ⟨n + 1, hn⟩ h0]
      frame_out
    · rw [outsAt0_B m c ⟨n + 1, hn⟩ h0]
      have hk := kept_rows m c ⟨n + 1, hn⟩ ⟨n, Nat.lt_of_succ_lt hn⟩ (by show n / 17 = (n + 1) / 17; omega)
      refine Eq.trans (ih (Nat.lt_of_succ_lt hn)) ?_
      rw [hk.1, hk.2]

/-- What every point leaves in the output block. -/
theorem outs (c : Dev nD) (t : Fin cfg0.N) :
    (outsAt0 m c t.val t.isLt).1 = k0_pay2 (k0_pay1 (iblk m c 0 t) (iblk m c 1 t)) (iblk m c 2 t) := by
  by_cases h0 : t.val % 17 = 0
  · rw [outsAt0_A m c t h0]
    frame_out
  · have h1 := scratch m c (t.val - 1) (Nat.lt_of_le_of_lt (Nat.sub_le _ _) t.isLt)
    have hk := kept_rows m c t ⟨t.val - 1, Nat.lt_of_le_of_lt (Nat.sub_le _ _) t.isLt⟩ (by show (t.val - 1) / 17 = t.val / 17; omega)
    rw [hk.1, hk.2] at h1
    rw [outsAt0_B m c t h0, ← h1]
    frame_out
    exact congrArg (fun h => k0_pay2 h (iblk m c 2 t)) ((Memref.isWhole_whole cc0_scratch0).read_unread _)

/-- The reference's term over the three argument arrays. -/
def REF (X : FVec Ideal S16896x2048 .f32) (g : FVec Ideal S4x2048 .f32) (W : FVec Ideal S4x2048x8480 .f32) :
    FVec Ideal S16896x8704 .f32 :=
  Cert.InProjRefIdeal.Read.val_main_v25 (F := Ideal) X g W

/-- Column `j` of the reordered weight, at row `k`: the three shift parts, the pool part, the two gates, the low-rank
    part, then zero columns. -/
def wcol (W : FVec Ideal S4x2048x8480 .f32) (k : Fin 2048) (j : Fin 8704) : EReal :=
  if h : j.val < 3072 then W (ix3 1 k ⟨1024 + j.val, by omega⟩)
  else if h : j.val - 3072 < 1024 then W (ix3 1 k ⟨j.val - 3072, by omega⟩)
  else if h : j.val - 3072 - 1024 < 2048 then W (ix3 1 k ⟨4384 + (j.val - 3072 - 1024), by omega⟩)
  else if h : j.val - 3072 - 1024 - 2048 < 2048 then W (ix3 1 k ⟨6432 + (j.val - 3072 - 1024 - 2048), by omega⟩)
  else if h : j.val - 3072 - 1024 - 2048 - 2048 < 288 then
    W (ix3 1 k ⟨1024 + (3072 + (j.val - 3072 - 1024 - 2048 - 2048)), by omega⟩)
  else 0

/-- The weight the host lays out before the kernel runs: the parts of `w_in` side by side, zero columns last. -/
def wlaid (W : FVec Ideal S4x2048x8480 .f32) : FVec Ideal S4x2048x8704 .bf16 :=
  truncf .bf16 (concatenate S4x2048x8704 2
    [⟨S4x2048x3072, (extractStridedSlice S4x2048x3072 ![0, 0, 1024] W slices_S4x2048x8480_S4x2048x3072_0_0_1024 : FVec Ideal S4x2048x3072 .f32)⟩,
     ⟨S4x2048x1024, (extractStridedSlice S4x2048x1024 ![0, 0, 0] W slices_S4x2048x8480_S4x2048x1024_0_0_0 : FVec Ideal S4x2048x1024 .f32)⟩,
     ⟨S4x2048x2048, (extractStridedSlice S4x2048x2048 ![0, 0, 4384] W slices_S4x2048x8480_S4x2048x2048_0_0_4384 : FVec Ideal S4x2048x2048 .f32)⟩,
     ⟨S4x2048x2048, (extractStridedSlice S4x2048x2048 ![0, 0, 6432] W slices_S4x2048x8480_S4x2048x2048_0_0_6432 : FVec Ideal S4x2048x2048 .f32)⟩,
     ⟨S4x2048x288, (extractStridedSlice S4x2048x288 ![0, 0, 4096] W slices_S4x2048x8480_S4x2048x288_0_0_4096 : FVec Ideal S4x2048x288 .f32)⟩,
     ⟨S4x2048x224, (broadcastInDim S4x2048x224 ![] bcast_S_S4x2048x224 (constant S_ .f32 0x00000000#32) : FVec Ideal S4x2048x224 .f32)⟩]
    concatenates_S4x2048x3072_S4x2048x1024_S4x2048x2048_S4x2048x2048_S4x2048x288_S4x2048x224_S4x2048x8704_d2 :
      FVec Ideal S4x2048x8704 .f32) bitsLt_bf16_f32

/-- The weight array the kernel reads is the laid out weight. -/
theorem weight_arr (c : Dev nD) : V m c main_v7 = wlaid (m ((c : Thread nD τ).loc main_arg2)) := by
  unfold wlaid
  show StableHlo.after hostOps0 (fun b => m (c, b)) (Proc.devRef .tc main_v7) = _
  unfold hostOps0
  after_results <;> rfl

/-- The laid out weight read at one index. -/
theorem weight_at (W : FVec Ideal S4x2048x8480 .f32) (k : Fin 2048) (j : Fin 8704) : wlaid W (ix3 1 k j) = wcol W k j := by
  have e : ∀ n : ℕ, 1024 + (3072 + n) = 4096 + n := fun n => by omega
  pointwise [wcol, wlaid]
  simp only [e]

/-- One entry of a row normalised by its root mean square and multiplied by the gain. -/
def hrow (X : FVec Ideal S16896x2048 .f32) (g : FVec Ideal S4x2048 .f32) (r : Fin 16896) (k : Fin 2048) : EReal :=
  X (ix2 r k) * Ideal.rsqrt (Ideal.div (∑ x : Fin 2048, X (ix2 r x) * X (ix2 r x)) (Ideal.ofBits .f32 0x45000000#32)
    + Ideal.ofBits .f32 0x358637BD#32) * g (ix2 1 k)

open Cert.InProjRefIdeal.Read in
/-- The reference read at one index: the normalised row against one column of the reordered weight. -/
theorem ref_at (X : FVec Ideal S16896x2048 .f32) (g : FVec Ideal S4x2048 .f32) (W : FVec Ideal S4x2048x8480 .f32)
    (r : Fin 16896) (j : Fin 8704) :
    REF X g W (ix2 r j) = ∑ k : Fin 2048, hrow X g r k * wcol W k j := by
  unfold REF
  pointwise [val_main_cst,val_main_cst_0,val_main_cst_1,val_main_cst_2,val_main_v0,val_main_v1,val_main_v10,val_main_v11,val_main_v12,val_main_v13,val_main_v14,val_main_v15,val_main_v16,val_main_v17,val_main_v18,val_main_v19,val_main_v2,val_main_v20,val_main_v21,val_main_v22,val_main_v23,val_main_v24,val_main_v25,val_main_v3,val_main_v4,val_main_v5,val_main_v6,val_main_v7,val_main_v8,val_main_v9]
  unfold wcol
  by_cases h1 : j.val < 3072
  · simp only [dif_pos h1]; rfl
  by_cases h2 : j.val - 3072 < 1024
  · simp only [dif_neg h1, dif_pos h2]; rfl
  by_cases h3 : j.val - 3072 - 1024 < 2048
  · simp only [dif_neg h1, dif_neg h2, dif_pos h3]; rfl
  by_cases h4 : j.val - 3072 - 1024 - 2048 < 2048
  · simp only [dif_neg h1, dif_neg h2, dif_neg h3, dif_pos h4]; rfl
  by_cases h5 : j.val - 3072 - 1024 - 2048 - 2048 < 288
  · simp only [dif_neg h1, dif_neg h2, dif_neg h3, dif_neg h4, dif_pos h5]; rfl
  · simp only [dif_neg h1, dif_neg h2, dif_neg h3, dif_neg h4, dif_neg h5, mul_zero, Finset.sum_const_zero]

/-- What grid point `t` leaves at block index `y` is the reference at the array index `y` sits at. -/
theorem point (c : Dev nD) (t : Fin cfg0.N) (y : S1536x512.Idx) (i : S16896x8704.Idx)
    (h0 : (i 0).val = t.val / 17 * 1536 + (y 0).val) (h1 : (i 1).val = t.val % 17 * 512 + (y 1).val) :
    k0_pay2 (k0_pay1 (iblk m c 0 t) (iblk m c 1 t)) (iblk m c 2 t) y
    = REF (m ((c : Thread nD τ).loc main_arg0)) (m ((c : Thread nD τ).loc main_arg1)) (m ((c : Thread nD τ).loc main_arg2)) i := by
  rw [eq_ix2 i]
  refine Eq.trans ?_ (ref_at _ _ _ (i 0) (i 1)).symm
  pointwise [k0_pay1, k0_pay2, hrow]
  refine Finset.sum_congr rfl fun k _ => ?_
  refine Ideal.mul_congr ?_ ?_
  · blk_point [iblk, V, idx t]
  · refine Eq.trans ?_ (weight_at _ k (i 1))
    rw [← weight_arr m c]
    blk_ext [iblk, idx t]

/-- The result array after the run is the reference's term. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, outs]
  refine point m c t y _ ?_ ?_
  · blk_simp [idx t]
  · blk_simp [idx t]

end Cert.InProjProof
-- ==== Proof.Ffn.lean ====
module

public import proofs.«01_k».proof.Proof.Gen.FfnIdeal.Value
public import proofs.«01_k».proof.Proof.Gen.FfnRefIdeal.Read
public import Idealize.ShloMosaic.Lib.Pipeline.ValueKit
public import Idealize.ShloMosaic.Lib.Claim

/-! The feed-forward part: the rows plus the gated product of their normalised rows with the gate and up weights,
    against the down weight. A grid point takes 768 rows and 512 of the 5632 hidden columns; the normalised rows are
    computed at the first of a row block's eleven points, the output block is summed up over the eleven. -/

@[expose] public section

set_option maxRecDepth 16384

noncomputable section

namespace Cert.FfnProof

open Idealize.ShloMosaic Idealize.ShloMosaic.TcCoe Idealize.SL.Sem
open Idealize.ShloMosaic.Pipeline (Dat)
open Cert.FfnIdeal Cert.FfnIdeal.Gen

variable (m : (ℓ : Loc nD τ sig) → Buf (Elt Ideal) ℓ)

/-- Where each window's block sits at grid point `t`. -/
theorem idx : ∀ t : Fin cfg0.N, win0_0.index t = ![t.val / 11, 0] ∧ win0_1.index t = ![0, 0]
    ∧ win0_2.index t = ![1, 0, t.val % 11] ∧ win0_3.index t = ![1, 0, t.val % 11]
    ∧ win0_4.index t = ![1, t.val % 11, 0] ∧ win0_5.index t = ![t.val / 11, 0] :=
  (by decide +kernel : ∀ t : Fin grid0.N, _)

/-- The rows a point of a row block works on are the same at all of the row block's points. -/
theorem kept_rows (c : Dev nD) (t : Fin cfg0.N) (s : Fin cfg0.N) (h : s.val / 11 = t.val / 11) :
    (iblk m c 0 s : FVec Ideal S768x2048 .f32) = iblk m c 0 t ∧ (iblk m c 1 s : FVec Ideal S1x2048 .f32) = iblk m c 1 t := by
  constructor
  · funext y
    blk_ext [iblk, V, idx t, idx s]
  · funext y
    blk_ext [iblk, V, idx t, idx s]

/-- After every point the scratch holds the normalised rows of the point's row block. -/
theorem scratch (c : Dev nD) : ∀ (n : ℕ) (hn : n < cfg0.N),
    (outsAt0 m c n hn).2 = k0_pay1 (iblk m c 0 ⟨n, hn⟩) (iblk m c 1 ⟨n, hn⟩) := by
  intro n
  induction n with
  | zero =>
    intro hn
    rw [outsAt0_A m c ⟨0, hn⟩ (Nat.zero_mod _)]
    frame_out
  | succ n ih =>
    intro hn
    by_cases h0 : (n + 1) % 11 = 0
    · rw [outsAt0_A m c ⟨n + 1, hn⟩ h0]
      frame_out
    · rw [outsAt0_B m c ⟨n + 1, hn⟩ h0]
      have hk := kept_rows m c ⟨n + 1, hn⟩ ⟨n, Nat.lt_of_succ_lt hn⟩ (by show n / 11 = (n + 1) / 11; omega)
      refine Eq.trans (ih (Nat.lt_of_succ_lt hn)) ?_
      rw [hk.1, hk.2]

/-- What a point leaves in the output block: the step over the block it found, at the first point of a row block the
    rows themselves. -/
theorem outs_first (c : Dev nD) (t : Fin cfg0.N) (h0 : t.val % 11 = 0) :
    (outsAt0 m c t.val t.isLt).1 = k0_pay2 (k0_pay1 (iblk m c 0 t) (iblk m c 1 t)) (iblk m c 2 t) (iblk m c 3 t) (iblk m c 0 t)
      (iblk m c 4 t) := by
  rw [outsAt0_A m c t h0]
  frame_out

/-- At a later point of a row block the step works on what the point before left. -/
theorem outs_next (c : Dev nD) (t : Fin cfg0.N) (h0 : ¬t.val % 11 = 0) :
    (outsAt0 m c t.val t.isLt).1 = k0_pay2 (k0_pay1 (iblk m c 0 t) (iblk m c 1 t)) (iblk m c 2 t) (iblk m c 3 t)
      (outsAt0 m c (t.val - 1) (Nat.lt_of_le_of_lt (Nat.sub_le _ _) t.isLt)).1 (iblk m c 4 t) := by
  have h1 := scratch m c (t.val - 1) (Nat.lt_of_le_of_lt (Nat.sub_le _ _) t.isLt)
  have hk := kept_rows m c t ⟨t.val - 1, Nat.lt_of_le_of_lt (Nat.sub_le _ _) t.isLt⟩ (by show (t.val - 1) / 11 = t.val / 11; omega)
  rw [hk.1, hk.2] at h1
  rw [outsAt0_B m c t h0, ← h1]
  frame_out
  exact congrArg (fun h => k0_pay2 h (iblk m c 2 t) (iblk m c 3 t) _ (iblk m c 4 t))
      ((Memref.isWhole_whole cc0_scratch0).read_unread _)

/-- One entry of a row normalised by its root mean square and multiplied by the gain. -/
def hrow (X : FVec Ideal S16896x2048 .f32) (g : FVec Ideal S4x2048 .f32) (r : Fin 16896) (k : Fin 2048) : EReal :=
  X (ix2 r k) * Ideal.rsqrt (Ideal.div (∑ x : Fin 2048, X (ix2 r x) * X (ix2 r x)) (Ideal.ofBits .f32 0x45000000#32)
    + Ideal.ofBits .f32 0x358637BD#32) * g (ix2 1 k)

/-- What hidden column `f` adds to row `r`, column `d` of the result. -/
def hid (X : FVec Ideal S16896x2048 .f32) (g : FVec Ideal S4x2048 .f32) (Wg Wu : FVec Ideal S4x2048x5632 .f32)
    (Wd : FVec Ideal S4x5632x2048 .f32) (r : Fin 16896) (d : Fin 2048) (f : Fin 5632) : EReal :=
  (∑ k : Fin 2048, hrow X g r k * Wg (ix3 1 k f)) * Ideal.logistic (∑ k : Fin 2048, hrow X g r k * Wg (ix3 1 k f))
    * (∑ k : Fin 2048, hrow X g r k * Wu (ix3 1 k f)) * Wd (ix3 1 f d)

/-- The reference's term over the five argument arrays. -/
def REF (X : FVec Ideal S16896x2048 .f32) (g : FVec Ideal S4x2048 .f32) (Wg Wu : FVec Ideal S4x2048x5632 .f32)
    (Wd : FVec Ideal S4x5632x2048 .f32) : FVec Ideal S16896x2048 .f32 :=
  Cert.FfnRefIdeal.Read.val_main_v26 (F := Ideal) X g Wg Wu Wd

open Cert.FfnRefIdeal.Read in
/-- The reference read at one index. -/
theorem ref_at (X : FVec Ideal S16896x2048 .f32) (g : FVec Ideal S4x2048 .f32) (Wg Wu : FVec Ideal S4x2048x5632 .f32)
    (Wd : FVec Ideal S4x5632x2048 .f32) (r : Fin 16896) (d : Fin 2048) :
    REF X g Wg Wu Wd (ix2 r d) = X (ix2 r d) + ∑ f : Fin 5632, hid X g Wg Wu Wd r d f := by
  unfold REF
  pointwise [val_main_call0_cst, val_main_call0_cst_0, val_main_call0_v0, val_main_call0_v1, val_main_call0_v2, val_main_call0_v3, val_main_call0_v4, val_main_call0_v5, val_main_cst, val_main_cst_0, val_main_cst_1, val_main_v0, val_main_v1, val_main_v10, val_main_v11, val_main_v12, val_main_v13, val_main_v14, val_main_v15, val_main_v16, val_main_v17, val_main_v18, val_main_v19, val_main_v2, val_main_v20, val_main_v21, val_main_v22, val_main_v23, val_main_v24, val_main_v25, val_main_v26, val_main_v3, val_main_v4, val_main_v5, val_main_v6, val_main_v7, val_main_v8, val_main_v9]
  rfl

/-- What one step adds at block index `y` of grid point `t`: the point's 512 hidden columns. -/
theorem step_at (c : Dev nD) (t : Fin cfg0.N) (acc : FVec Ideal S768x2048 .f32) (y : S768x2048.Idx) (r : Fin 16896) (d : Fin 2048)
    (h0 : r.val = t.val / 11 * 768 + (y 0).val) (h1 : d.val = (y 1).val) :
    k0_pay2 (k0_pay1 (iblk m c 0 t) (iblk m c 1 t)) (iblk m c 2 t) (iblk m c 3 t) acc (iblk m c 4 t) y
    = acc y + ∑ k : Fin 512, hid (m ((c : Thread nD τ).loc main_arg0)) (m ((c : Thread nD τ).loc main_arg1)) (m ((c : Thread nD τ).loc main_arg2)) (m ((c : Thread nD τ).loc main_arg3)) (m ((c : Thread nD τ).loc main_arg4)) r d ⟨t.val % 11 * 512 + k.val, by omega⟩ := by
  pointwise [k0_pay1, k0_pay2, hrow, hid]
  all_goals blk_point [iblk, V, idx t]

/-- The array row that row `a` of grid point `t`'s block is. -/
def rowOf (t : Fin cfg0.N) (a : Fin 768) : Fin 16896 :=
  ⟨t.val / 11 * 768 + a.val, by have h := t.isLt; have h2 : cfg0.N = 242 := N_0; omega⟩

/-- The block of rows read at one index. -/
theorem rows_at (c : Dev nD) (t : Fin cfg0.N) (y : S768x2048.Idx) :
    (iblk m c 0 t : FVec Ideal S768x2048 .f32) y
    = (m ((c : Thread nD τ).loc main_arg0) : FVec Ideal S16896x2048 .f32) (ix2 (rowOf t (y 0)) (y 1)) := by
  have hr : (rowOf t (y 0)).val = t.val / 11 * 768 + (y 0).val := rfl
  blk_ext [iblk, V, idx t]

/-- What one step adds at block index `y`: its row block's rows at the first point, then the point's hidden columns. -/
def add (X : FVec Ideal S16896x2048 .f32) (g : FVec Ideal S4x2048 .f32) (Wg Wu : FVec Ideal S4x2048x5632 .f32)
    (Wd : FVec Ideal S4x5632x2048 .f32) (t : Fin cfg0.N) (y : S768x2048.Idx) : EReal :=
  (if t.val % 11 = 0 then X (ix2 (rowOf t (y 0)) (y 1)) else 0)
    + ∑ k : Fin 512, hid X g Wg Wu Wd (rowOf t (y 0)) (y 1) ⟨t.val % 11 * 512 + k.val, by omega⟩

/-- What the last point of a row block leaves is the reference at the array index. -/
theorem point (c : Dev nD) (t : Fin cfg0.N) (ht : t.val % 11 = 10) (y : S768x2048.Idx) (i : S16896x2048.Idx)
    (h0 : (i 0).val = t.val / 11 * 768 + (y 0).val) (h1 : (i 1).val = (y 1).val) :
    (outsAt0 m c t.val t.isLt).1 y = REF (m ((c : Thread nD τ).loc main_arg0)) (m ((c : Thread nD τ).loc main_arg1)) (m ((c : Thread nD τ).loc main_arg2)) (m ((c : Thread nD τ).loc main_arg3)) (m ((c : Thread nD τ).loc main_arg4)) i := by
  have e0 : i 0 = rowOf t (y 0) := Fin.ext h0
  have e1 : i 1 = y 1 := Fin.ext h1
  have er : ∀ (s : Fin 11) (h : 11 * (t.val / 11) + s.val < cfg0.N), rowOf ⟨11 * (t.val / 11) + s.val, h⟩ (y 0) = rowOf t (y 0) :=
    fun s h => Fin.ext (by show (11 * (t.val / 11) + s.val) / 11 * 768 + _ = t.val / 11 * 768 + _; omega)
  rw [eq_ix2 i, e0, e1]
  refine Eq.trans ?_ (ref_at _ _ _ _ _ (rowOf t (y 0)) (y 1)).symm
  refine (Pipeline.eq_sum_fin_of_reset_step_apply_of_flush (fun n h => (outsAt0 m c n h).1) 11 (fun _ => (0 : EReal)) (add (m ((c : Thread nD τ).loc main_arg0)) (m ((c : Thread nD τ).loc main_arg1)) (m ((c : Thread nD τ).loc main_arg2)) (m ((c : Thread nD τ).loc main_arg3)) (m ((c : Thread nD τ).loc main_arg4)))
    (fun t h y => ?_) (fun t h y => ?_) t ht y).trans ?_
  · rw [outs_first m c t h, step_at m c t _ y (rowOf t (y 0)) (y 1) rfl rfl, rows_at]
    unfold add
    rw [if_pos h, zero_add]
  · rw [outs_next m c t h, step_at m c t _ y (rowOf t (y 0)) (y 1) rfl rfl]
    unfold add
    rw [if_neg h, zero_add]
  · unfold add
    rw [Finset.sum_add_distrib, zero_add]
    refine congrArg₂ (· + ·) ?_ ?_
    · rw [Fin.sum_univ_succ, Finset.sum_eq_zero, add_zero, if_pos, er]
      · show (11 * (t.val / 11) + 0) % 11 = 0
        omega
      · intro s _
        rw [if_neg]
        show ¬(11 * (t.val / 11) + (s.val + 1)) % 11 = 0
        omega
    · refine Fin.sum_mul_add_congr fun s k hl => ?_
      rw [er]
      refine congrArg (hid _ _ _ _ _ _ _) (Fin.ext ?_)
      show (11 * (t.val / 11) + s.val) % 11 * 512 + k.val = s.val * 512 + k.val
      omega

/-- The result array after the run is the reference's term. -/
theorem final (c : Dev nD) : (dats m 0 c).arrAt 5 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t ht y => ?_
  blk_simp
  rw [after0_5]
  refine point m c t ?_ y _ ?_ ?_
  · exact (flush0_5 t).mp ht
  · blk_simp [idx t]
  · blk_simp [idx t]

end Cert.FfnProof
-- ==== Proof.Merge.lean ====
module

public import proofs.«01_k».proof.Proof.Gen.MergeIdeal.Value
public import proofs.«01_k».proof.Proof.Gen.MergeRefIdeal.Read
public import Idealize.ShloMosaic.Lib.Pipeline.ValueKit
public import Idealize.ShloMosaic.Lib.Claim

/-! The gated sum of the two branches: each branch against its projection weight, times the sigmoid of its gate
    columns. A grid point takes 768 rows and 512 columns; the gated second branch's rows are computed at the first of a
    row block's four points and kept for the others. -/

@[expose] public section

set_option maxRecDepth 16384

noncomputable section

namespace Cert.MergeProof

open Idealize.ShloMosaic Idealize.ShloMosaic.TcCoe Idealize.SL.Sem
open Idealize.ShloMosaic.Pipeline (Dat)
open Cert.MergeIdeal Cert.MergeIdeal.Gen

variable (m : (ℓ : Loc nD τ sig) → Buf (Elt Ideal) ℓ)

/-- Where each window's block sits at grid point `t`. -/
theorem idx : ∀ t : Fin cfg0.N, win0_0.index t = ![t.val / 4, 0] ∧ win0_1.index t = ![t.val / 4, 0]
    ∧ win0_2.index t = ![t.val / 4, 0] ∧ win0_3.index t = ![t.val / 4, 8 + t.val % 4]
    ∧ win0_4.index t = ![t.val / 4, 12 + t.val % 4] ∧ win0_5.index t = ![1, 0, t.val % 4]
    ∧ win0_6.index t = ![1, 0, t.val % 4] ∧ win0_7.index t = ![t.val / 4, t.val % 4] :=
  (by decide +kernel : ∀ t : Fin grid0.N, _)

/-- The rows a point of a row block works on are the same at all of the row block's points. -/
theorem kept_rows (c : Dev nD) (t : Fin cfg0.N) (s : Fin cfg0.N) (h : s.val / 4 = t.val / 4) :
    (iblk m c 1 s : FVec Ideal S768x1024 .f32) = iblk m c 1 t ∧ (iblk m c 2 s : FVec Ideal S768x1024 .f32) = iblk m c 2 t := by
  constructor
  · funext y
    blk_ext [iblk, V, idx t, idx s]
  · funext y
    blk_ext [iblk, V, idx t, idx s]

/-- After every point the scratch holds the gated rows of the point's row block. -/
theorem scratch (c : Dev nD) : ∀ (n : ℕ) (hn : n < cfg0.N),
    (outsAt0 m c n hn).2 = k0_pay1 (iblk m c 1 ⟨n, hn⟩) (iblk m c 2 ⟨n, hn⟩) := by
  intro n
  induction n with
  | zero =>
    intro hn
    rw [outsAt0_A m c ⟨0, hn⟩ (Nat.zero_mod _)]
    frame_out
  | succ n ih =>
    intro hn
    by_cases h0 : (n + 1) % 4 = 0
    · rw [outsAt0_A m c ⟨n + 1, hn⟩ h0]
      frame_out
    · rw [outsAt0_B m c ⟨n + 1, hn⟩ h0]
      have hk := kept_rows m c ⟨n + 1, hn⟩ ⟨n, Nat.lt_of_succ_lt hn⟩ (by show n / 4 = (n + 1) / 4; omega)
      refine Eq.trans (ih (Nat.lt_of_succ_lt hn)) ?_
      rw [hk.1, hk.2]

/-- What every point leaves in the output block. -/
theorem outs (c : Dev nD) (t : Fin cfg0.N) :
    (outsAt0 m c t.val t.isLt).1 = k0_pay2 (iblk m c 0 t) (iblk m c 5 t) (k0_pay1 (iblk m c 1 t) (iblk m c 2 t)) (iblk m c 6 t)
      (iblk m c 3 t) (iblk m c 4 t) := by
  by_cases h0 : t.val % 4 = 0
  · rw [outsAt0_A m c t h0]
    frame_out
  · have h1 := scratch m c (t.val - 1) (Nat.lt_of_le_of_lt (Nat.sub_le _ _) t.isLt)
    have hk := kept_rows m c t ⟨t.val - 1, Nat.lt_of_le_of_lt (Nat.sub_le _ _) t.isLt⟩ (by show (t.val - 1) / 4 = t.val / 4; omega)
    rw [hk.1, hk.2] at h1
    rw [outsAt0_B m c t h0, ← h1]
    frame_out
    exact congrArg (fun h => k0_pay2 (iblk m c 0 t) (iblk m c 5 t) h (iblk m c 6 t) (iblk m c 3 t) (iblk m c 4 t))
      ((Memref.isWhole_whole cc0_scratch0).read_unread _)

/-- The reference's term over the six argument arrays. -/
def REF (ya : FVec Ideal S16896x1024 .bf16) (yb g : FVec Ideal S16896x1024 .f32) (P : FVec Ideal S16896x8704 .f32)
    (Wp Wr : FVec Ideal S4x1024x2048 .f32) : FVec Ideal S16896x2048 .bf16 :=
  Cert.MergeRefIdeal.Read.val_main_v25 (F := Ideal) ya yb g P Wp Wr

open Cert.MergeRefIdeal.Read in
/-- What grid point `t` leaves at block index `y` is the reference at the array index `y` sits at. -/
theorem point (c : Dev nD) (t : Fin cfg0.N) (y : S768x512.Idx) (i : S16896x2048.Idx)
    (h0 : (i 0).val = t.val / 4 * 768 + (y 0).val) (h1 : (i 1).val = t.val % 4 * 512 + (y 1).val) :
    k0_pay2 (iblk m c 0 t) (iblk m c 5 t) (k0_pay1 (iblk m c 1 t) (iblk m c 2 t)) (iblk m c 6 t) (iblk m c 3 t) (iblk m c 4 t) y
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := by
  unfold REF
  rw [eq_ix2 i]
  pointwise [k0_pay1, k0_pay2, val_main_cst, val_main_cst_0, val_main_cst_1, val_main_cst_2, val_main_v0, val_main_v1, val_main_v10, val_main_v11, val_main_v12, val_main_v13, val_main_v14, val_main_v15, val_main_v16, val_main_v17, val_main_v18, val_main_v19, val_main_v2, val_main_v20, val_main_v21, val_main_v22, val_main_v23, val_main_v24, val_main_v25, val_main_v3, val_main_v4, val_main_v5, val_main_v6, val_main_v7, val_main_v8, val_main_v9]
  all_goals blk_point [iblk, V, idx t]
  · refine congrArg (fun z => Ideal.logistic z * _) ?_
    blk_ext [V, idx t]
  · refine congrArg (fun z => Ideal.logistic z * _) ?_
    blk_ext [V, idx t]

/-- The result array after the run is the reference's term. -/
theorem final (c : Dev nD) : (dats m 0 c).arrAt 7 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7, outs]
  refine point m c t y _ ?_ ?_
  · blk_simp [idx t]
  · blk_simp [idx t]

end Cert.MergeProof
-- ==== Proof.OutProj.lean ====
module

public import proofs.«01_k».proof.Proof.Gen.OutProjIdeal.Value
public import proofs.«01_k».proof.Proof.Gen.OutProjRefIdeal.Read
public import Idealize.ShloMosaic.Lib.Pipeline.ValueKit
public import Idealize.ShloMosaic.Lib.Claim

/-! The output projection: the layer's input plus the merged branches times the layer's output weight.
    A grid point takes 768 rows and stores them as four tiles of 512 columns. -/

@[expose] public section

set_option maxRecDepth 16384

noncomputable section

namespace Cert.OutProjProof

open Idealize.ShloMosaic Idealize.ShloMosaic.TcCoe Idealize.SL.Sem
open Idealize.ShloMosaic.Pipeline (Dat)
open Cert.OutProjIdeal Cert.OutProjIdeal.Gen

variable (m : (ℓ : Loc nD τ sig) → Buf (Elt Ideal) ℓ)

/-- Where each window's block sits at grid point `t`. -/
theorem idx : ∀ t : Fin cfg0.N, win0_0.index t = ![t.val, 0] ∧ win0_1.index t = ![1, 0, 0]
    ∧ win0_2.index t = ![t.val, 0] ∧ win0_3.index t = ![t.val, 0] :=
  (by decide +kernel : ∀ t : Fin grid0.N, _)

/-- The reference's term over the three argument arrays. -/
def REF (X : FVec Ideal S16896x2048 .bf16) (W : FVec Ideal S4x2048x2048 .f32) (R : FVec Ideal S16896x2048 .f32) :
    FVec Ideal S16896x2048 .f32 :=
  Cert.OutProjRefIdeal.Read.val_main_v4 (F := Ideal) X W R

/-- The reference read at one index. -/
theorem ref_at (X : FVec Ideal S16896x2048 .bf16) (W : FVec Ideal S4x2048x2048 .f32) (R : FVec Ideal S16896x2048 .f32)
    (i : S16896x2048.Idx) :
    REF X W R i = R i + ∑ k : Fin 2048, X (ix2 (i 0) k) * W (ix3 1 k (i 1)) := by
  unfold REF
  rw [← Cert.OutProjRefIdeal.Read.val_main_v4_eq]
  pointwise

/-- What grid point `t` leaves at block index `y` is the reference at the array index `y` sits at. -/
theorem point (c : Dev nD) (t : Fin cfg0.N) (y) : out0_3 (iblk m c 0 t) (iblk m c 1 t) (iblk m c 2 t) y
    = REF (m ((c : Thread nD τ).loc main_arg0)) (m ((c : Thread nD τ).loc main_arg1)) (m ((c : Thread nD τ).loc main_arg2))
        (((cfg0.win 3).blk t).view.emb y) := by
  rw [ref_at]
  unfold out0_3
  canon_tiles x h
  all_goals pointwise [k0_pay1, k0_pay2, k0_pay3, k0_pay4]
  all_goals blk_point [iblk, V, idx t]

/-- The result array after the run is the reference's term. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.OutProjProof
-- ==== Proof.Ple.lean ====
module

public import proofs.«01_k».proof.Proof.Gen.PleIdeal.Value
public import proofs.«01_k».proof.Proof.Gen.PleRefIdeal.Read
public import Idealize.ShloMosaic.Lib.Pipeline.ValueKit
public import Idealize.ShloMosaic.Lib.Claim

/-! The per-layer embedding: the rows plus the sigmoid of their normalised rows against the gate weight, times the
    embedding rows against the projection weight. A grid point takes 768 rows, four column tiles of 512. -/

@[expose] public section

set_option maxRecDepth 16384

noncomputable section

namespace Cert.PleProof

open Idealize.ShloMosaic Idealize.ShloMosaic.TcCoe Idealize.SL.Sem
open Idealize.ShloMosaic.Pipeline (Dat)
open Cert.PleIdeal Cert.PleIdeal.Gen

variable (m : (ℓ : Loc nD τ sig) → Buf (Elt Ideal) ℓ)

/-- Where each window's block sits at grid point `t`. -/
theorem idx : ∀ t : Fin cfg0.N, win0_0.index t = ![t.val, 0] ∧ win0_1.index t = ![0, 0]
    ∧ win0_2.index t = ![1, 0, 0] ∧ win0_3.index t = ![t.val, 0] ∧ win0_4.index t = ![1, 0, 0] ∧ win0_5.index t = ![t.val, 0] :=
  (by decide +kernel : ∀ t : Fin grid0.N, _)

/-- The reference's term over the six argument arrays. -/
def REF (X : FVec Ideal S16896x2048 .f32) (g : FVec Ideal S4x2048 .f32) (Wg : FVec Ideal S4x2048x2048 .f32)
    (Pp : FVec Ideal S4x8x2048x256 .f32) (Ps : FVec Ideal S4x8x64x256 .f32) (Wp : FVec Ideal S4x256x2048 .f32) :
    FVec Ideal S16896x2048 .f32 :=
  Cert.PleRefIdeal.Read.val_main_v35 (F := Ideal) X g Wg Pp Ps Wp

/-- One entry of a row normalised by its root mean square and multiplied by the gain. -/
def hrow (X : FVec Ideal S16896x2048 .f32) (g : FVec Ideal S4x2048 .f32) (r : Fin 16896) (k : Fin 2048) : EReal :=
  X (ix2 r k) * Ideal.rsqrt (Ideal.div (∑ x : Fin 2048, X (ix2 r x) * X (ix2 r x)) (Ideal.ofBits .f32 0x45000000#32)
    + Ideal.ofBits .f32 0x358637BD#32) * g (ix2 1 k)

open Cert.PleRefIdeal.Read in
/-- The embedding rows: the prompt's before the sample's. -/
def PREF (Pp : FVec Ideal S4x8x2048x256 .f32) (Ps : FVec Ideal S4x8x64x256 .f32) : FVec Ideal S16896x256 .f32 :=
  val_main_v6 (F := Ideal) Pp Ps

open Cert.PleRefIdeal.Read in
/-- The reference read at one index. -/
theorem ref_at (X : FVec Ideal S16896x2048 .f32) (g : FVec Ideal S4x2048 .f32) (Wg : FVec Ideal S4x2048x2048 .f32)
    (Pp : FVec Ideal S4x8x2048x256 .f32) (Ps : FVec Ideal S4x8x64x256 .f32) (Wp : FVec Ideal S4x256x2048 .f32)
    (r : Fin 16896) (j : Fin 2048) :
    REF X g Wg Pp Ps Wp (ix2 r j) = X (ix2 r j) + Ideal.logistic (∑ k : Fin 2048, hrow X g r k * Wg (ix3 1 k j))
      * ∑ k : Fin 256, PREF Pp Ps (ix2 r k) * Wp (ix3 1 k j) := by
  unfold REF PREF
  pointwise [val_main_cst, val_main_cst_0, val_main_cst_1, val_main_cst_2, val_main_cst_3, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v7, val_main_v8, val_main_v9]
  rfl

/-- The embedding rows the kernel reads are the prompt's before the sample's. -/
theorem p_arr (c : Dev nD) : V m c main_v6 = PREF (m ((c : Thread nD τ).loc main_arg3)) (m ((c : Thread nD τ).loc main_arg4)) := by
  show StableHlo.after hostOps0 (fun b => m (c, b)) (Proc.devRef .tc main_v6) = _
  unfold hostOps0
  after_results <;> rfl

/-- What grid point `t` leaves at block index `y` is the reference at the array index `y` sits at. -/
theorem point (c : Dev nD) (t : Fin cfg0.N) (y : S768x2048.Idx) (i : S16896x2048.Idx)
    (h0 : (i 0).val = t.val * 768 + (y 0).val) (h1 : (i 1).val = (y 1).val) :
    outsAt0 m c t y = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := by
  rw [eq_ix2 i]
  refine Eq.trans ?_ (ref_at _ _ _ _ _ _ (i 0) (i 1)).symm
  unfold outsAt0
  frame_out
  canon_tiles x h
  all_goals pointwise [k0_pay1, k0_pay2, k0_pay3, k0_pay4, k0_pay5, k0_pay6, hrow]
  all_goals rw [← p_arr m c]
  all_goals blk_point [iblk, idx t]

/-- The result array after the run is the reference's term. -/
theorem final (c : Dev nD) : (dats m 0 c).arrAt 5 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 5 _ (by decide +kernel) fun t _ y => ?_
  blk_simp
  rw [after0_5]
  refine point m c t y _ ?_ ?_
  · blk_simp [idx t]
  · blk_simp [idx t]

end Cert.PleProof
-- ==== Proof.FinPrompt.lean ====
module

public import proofs.«01_k».proof.Proof.Gen.FinPromptIdeal.Value
public import proofs.«01_k».proof.Proof.Gen.FinPromptRefIdeal.Read
public import Idealize.ShloMosaic.Lib.Pipeline.ValueKit
public import Idealize.ShloMosaic.Lib.Claim

/-! The last normalisation of the prompt's rows: every row of the result is that row of the last layer's
    output over its root mean square, times the gain. -/

@[expose] public section

set_option maxRecDepth 16384

noncomputable section

namespace Cert.FinPromptProof

open Idealize.ShloMosaic Idealize.ShloMosaic.TcCoe Idealize.SL.Sem
open Idealize.ShloMosaic.Pipeline (Dat)
open Cert.FinPromptIdeal Cert.FinPromptIdeal.Gen

variable (m : (ℓ : Loc nD τ sig) → Buf (Elt Ideal) ℓ)

/-- Where each window's block sits at grid point `t`. -/
theorem idx : ∀ t : Fin cfg0.N, win0_0.index t = ![t.val, 0] ∧ win0_1.index t = ![0, 0] ∧ win0_2.index t = ![t.val, 0] :=
  (by decide +kernel : ∀ t : Fin grid0.N, _)

/-- The reference's term over the two argument arrays. -/
def REF (X : FVec Ideal S16896x2048 .f32) (g : FVec Ideal S2048 .f32) : FVec Ideal S16384x2048 .f32 :=
  Cert.FinPromptRefIdeal.Read.val_main_v13 (F := Ideal) X g

open Cert.FinPromptRefIdeal.Read in
/-- What grid point `t` stores at block index `y` is the reference at the array index `y` sits at. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  unfold REF
  rw [← val_main_v13_eq]
  pointwise [k0_pay1]
  blk_point [iblk, V, idx t]

/-- The result array after the run is the reference's term. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.FinPromptProof
-- ==== Proof.FinSample.lean ====
module

public import proofs.«01_k».proof.Proof.Gen.FinSampleIdeal.Value
public import proofs.«01_k».proof.Proof.Gen.FinSampleRefIdeal.Read
public import Idealize.ShloMosaic.Lib.Pipeline.ValueKit
public import Idealize.ShloMosaic.Lib.Claim

/-! The last normalisation of the sample's rows: every row of the result is that row of the last layer's
    output over its root mean square, times the gain. -/

@[expose] public section

set_option maxRecDepth 16384

noncomputable section

namespace Cert.FinSampleProof

open Idealize.ShloMosaic Idealize.ShloMosaic.TcCoe Idealize.SL.Sem
open Idealize.ShloMosaic.Pipeline (Dat)
open Cert.FinSampleIdeal Cert.FinSampleIdeal.Gen

variable (m : (ℓ : Loc nD τ sig) → Buf (Elt Ideal) ℓ)

/-- Where each window's block sits at grid point `t`. -/
theorem idx : ∀ t : Fin cfg0.N, win0_0.index t = ![32, 0] ∧ win0_1.index t = ![0, 0] ∧ win0_2.index t = ![0, 0] :=
  (by decide +kernel : ∀ t : Fin grid0.N, _)

/-- The reference's term over the two argument arrays. -/
def REF (X : FVec Ideal S16896x2048 .f32) (g : FVec Ideal S2048 .f32) : FVec Ideal S512x2048 .f32 :=
  Cert.FinSampleRefIdeal.Read.val_main_v13 (F := Ideal) X g

open Cert.FinSampleRefIdeal.Read in
/-- What grid point `t` stores at block index `y` is the reference at the array index `y` sits at. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  unfold REF
  rw [← val_main_v13_eq]
  pointwise [k0_pay1]
  blk_point [iblk, V, idx t]

/-- The result array after the run is the reference's term. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.FinSampleProof
-- ==== Proof.Values.lean ====
module

public import proofs.«01_k».proof.Proof.InProj
public import proofs.«01_k».proof.Proof.Ffn
public import proofs.«01_k».proof.Proof.Merge
public import proofs.«01_k».proof.Proof.OutProj
public import proofs.«01_k».proof.Proof.Ple
public import proofs.«01_k».proof.Proof.FinPrompt
public import proofs.«01_k».proof.Proof.FinSample
public import proofs.«01_k».proof.Defs
public import proofs.«01_k».proof.Proof.Gen.InProjRefIdeal.Run
public import proofs.«01_k».proof.Proof.Gen.FfnRefIdeal.Run
public import proofs.«01_k».proof.Proof.Gen.MergeRefIdeal.Run
public import proofs.«01_k».proof.Proof.Gen.OutProjRefIdeal.Run
public import proofs.«01_k».proof.Proof.Gen.PleRefIdeal.Run
public import proofs.«01_k».proof.Proof.Gen.FinPromptRefIdeal.Run
public import proofs.«01_k».proof.Proof.Gen.FinSampleRefIdeal.Run

/-! The value claims: each kernel call and its reference leave the same array, over the extended reals. -/

@[expose] public section

set_option maxRecDepth 16384

noncomputable section

namespace Cert.Values

open Idealize.ShloMosaic Idealize.ShloMosaic.TcCoe Idealize.SL.Sem

/-- The value claim of the input projection. -/
theorem inProj : algebraic_InProjIdeal_InProjRefIdeal (hInProjIdeal := Cert.InProjIdeal.Gen.facts) (hInProjRefIdeal := Cert.InProjRefIdeal.Gen.facts) := by
  unfold algebraic_InProjIdeal_InProjRefIdeal
  pair_intro
  · run_from Cert.InProjIdeal.Gen.run_main m g
  · run_from Cert.InProjRefIdeal.Value.run m' g'
    obtain ⟨e0, e1, e2⟩ := hagree c
    rw [Cert.InProjRefIdeal.Read.val_main_v25_eq m' c, e0, e1, e2]
    exact (Cert.InProjProof.final m c).symm

/-- The value claim of the feed-forward part. -/
theorem ffn : algebraic_FfnIdeal_FfnRefIdeal (hFfnIdeal := Cert.FfnIdeal.Gen.facts) (hFfnRefIdeal := Cert.FfnRefIdeal.Gen.facts) := by
  unfold algebraic_FfnIdeal_FfnRefIdeal
  pair_intro
  · run_from Cert.FfnIdeal.Gen.run_main m g
  · run_from Cert.FfnRefIdeal.Value.run m' g'
    exact (Cert.FfnProof.final m c).symm

/-- The value claim of the gated sum of the two branches. -/
theorem merge : algebraic_MergeIdeal_MergeRefIdeal (hMergeIdeal := Cert.MergeIdeal.Gen.facts) (hMergeRefIdeal := Cert.MergeRefIdeal.Gen.facts) := by
  unfold algebraic_MergeIdeal_MergeRefIdeal
  pair_intro
  · run_from Cert.MergeIdeal.Gen.run_main m g
  · run_from Cert.MergeRefIdeal.Value.run m' g'
    exact (Cert.MergeProof.final m c).symm

/-- The value claim of the output projection. -/
theorem outProj : algebraic_OutProjIdeal_OutProjRefIdeal (hOutProjIdeal := Cert.OutProjIdeal.Gen.facts) (hOutProjRefIdeal := Cert.OutProjRefIdeal.Gen.facts) := by
  unfold algebraic_OutProjIdeal_OutProjRefIdeal
  pair_intro
  · run_from Cert.OutProjIdeal.Gen.run_main m g
  · run_from Cert.OutProjRefIdeal.Value.run m' g'
    exact (Cert.OutProjProof.final m c).symm

/-- The value claim of the per-layer embedding. -/
theorem ple : algebraic_PleIdeal_PleRefIdeal (hPleIdeal := Cert.PleIdeal.Gen.facts) (hPleRefIdeal := Cert.PleRefIdeal.Gen.facts) := by
  unfold algebraic_PleIdeal_PleRefIdeal
  pair_intro
  · run_from Cert.PleIdeal.Gen.run_main m g
  · run_from Cert.PleRefIdeal.Value.run m' g'
    obtain ⟨-, -, -, e3, e4, -⟩ := hagree c
    refine (Cert.PleRefIdeal.Read.val_main_v35_eq (F := Ideal) (m (c.tc.loc Cert.PleIdeal.main_arg0)) (m (c.tc.loc Cert.PleIdeal.main_arg1))
      (m (c.tc.loc Cert.PleIdeal.main_arg2)) (m' (c.tc.loc Cert.PleRefIdeal.main_arg3)) (m' (c.tc.loc Cert.PleRefIdeal.main_arg4))
      (m (c.tc.loc Cert.PleIdeal.main_arg5))).trans ?_
    rw [e3, e4]
    exact (Cert.PleProof.final m c).symm

/-- The value claim of the final norm of the prompt's rows. -/
theorem finPrompt : algebraic_FinPromptIdeal_FinPromptRefIdeal (hFinPromptIdeal := Cert.FinPromptIdeal.Gen.facts) (hFinPromptRefIdeal := Cert.FinPromptRefIdeal.Gen.facts) := by
  unfold algebraic_FinPromptIdeal_FinPromptRefIdeal
  pair_intro
  · run_from Cert.FinPromptIdeal.Gen.run_main m g
  · run_from Cert.FinPromptRefIdeal.Value.run m' g'
    exact (Cert.FinPromptProof.final m c).symm

/-- The value claim of the final norm of the sample's rows. -/
theorem finSample : algebraic_FinSampleIdeal_FinSampleRefIdeal (hFinSampleIdeal := Cert.FinSampleIdeal.Gen.facts) (hFinSampleRefIdeal := Cert.FinSampleRefIdeal.Gen.facts) := by
  unfold algebraic_FinSampleIdeal_FinSampleRefIdeal
  pair_intro
  · run_from Cert.FinSampleIdeal.Gen.run_main m g
  · run_from Cert.FinSampleRefIdeal.Value.run m' g'
    exact (Cert.FinSampleProof.final m c).symm

end Cert.Values
-- ==== Proof.WkvMath.lean ====
module

public import proofs.«01_k».proof.Proof.WkvStep
public import Idealize.ShloMosaic.Lib.Claim

/-! The recurrence of one head over the extended reals, written index by index, and the kernel's step as that. -/

@[expose] public section

set_option maxRecDepth 16384

noncomputable section

namespace Cert.WkvMath

open Idealize.ShloMosaic Cert.WkvStep

/-- A vector over a head's 64 entries. -/
abbrev Head : Type := Fin 64 → EReal

/-- The state after one step: the state decayed, minus what it holds at the normalized key, plus value times key. -/
def step (w k v kk b : Head) (s : Fin 64 → Head) : Fin 64 → Head := fun i j =>
  s i j * w j + -(∑ q, s i q * kk q) * b j + v i * k j

/-- The state before step `t`; the channels of `X` are r, decay, k, v, kk, b. -/
def run (X : ℕ → Fin 6 → Head) (s : Fin 64 → Head) : ℕ → Fin 64 → Head
  | 0 => s
  | t + 1 => step (X t 1) (X t 2) (X t 3) (X t 4) (X t 5) (run X s t)

/-- The state applied to the receptance. -/
def readout (r : Head) (s : Fin 64 → Head) : Head := fun i => ∑ j, s i j * r j

/-- The mean over a head. -/
def mean (y : Head) : EReal := Ideal.div (∑ i, y i) (Ideal.ofBits .f32 0x42800000#32)

/-- The read-out normalized over its head, scaled and shifted, plus the bonus. -/
def norm (gain bias rk r k v y : Head) : Head := fun i =>
  (y i - mean y) * Ideal.rsqrt (mean (fun j => (y j - mean y) * (y j - mean y)) + Ideal.ofBits .f32 0x3A27C5AC#32) * gain i + bias i
    + (∑ j, r j * k j * rk j) * v i

/-- The result of step `t`. -/
def out (X : ℕ → Fin 6 → Head) (s : Fin 64 → Head) (gain bias rk : Head) (t : ℕ) : Head :=
  norm gain bias rk (X t 0) (X t 2) (X t 3) (readout (X t 0) (run X s (t + 1)))

/-- Running `a` steps and then `b` more is running `a + b`. -/
theorem run_add (X : ℕ → Fin 6 → Head) (s : Fin 64 → Head) (a b : ℕ) :
    run X s (a + b) = run (fun t => X (a + t)) (run X s a) b := by
  induction b with
  | zero => rfl
  | succ b ih => rw [← Nat.add_assoc, run, run, ih]

/-! ## The two results, of the call's arguments -/

/-- The inputs: channel, batch row and step, head and head entry. -/
abbrev SP : Shape := ⟨3, ![6, 16384, 1024]⟩
/-- The states: batch row, head, value entry, key entry. -/
abbrev SI : Shape := ⟨4, ![8, 16, 64, 64]⟩
/-- A vector over all channels. -/
abbrev SG : Shape := ⟨1, ![1024]⟩
/-- A table of heads. -/
abbrev SK : Shape := ⟨2, ![16, 64]⟩
/-- The results of all steps: step, head entry, lane. -/
abbrev SO : Shape := ⟨3, ![2048, 64, 128]⟩

/-- The inputs of head `h` of batch row `b`. -/
def ins (P : FVec Ideal SP .f32) (b : Fin 8) (h : Fin 16) (t : ℕ) (ch : Fin 6) : Head := fun n =>
  if ht : t < 2048 then P (ix3 ch ⟨b.val * 2048 + t, by omega⟩ ⟨h.val * 64 + n.val, by omega⟩) else 0

/-- The state head `h` of batch row `b` begins with: value entry, key entry. -/
def init (s : FVec Ideal SI .f32) (b : Fin 8) (h : Fin 16) : Fin 64 → Head := fun i j => s (ix4 b h i j)

/-- Head `h` of a vector over all channels. -/
def headOf (g : FVec Ideal SG .f32) (h : Fin 16) : Head := fun i => g (ix1 ⟨h.val * 64 + i.val, by omega⟩)

/-- Lane `l`'s batch row. -/
def lb (l : Fin 128) : Fin 8 := ⟨l.val / 16, by omega⟩

/-- Lane `l`'s head. -/
def lh (l : Fin 128) : Fin 16 := ⟨l.val % 16, by omega⟩

/-- The first result: step, head entry, lane. -/
def REFY (P : FVec Ideal SP .f32) (s : FVec Ideal SI .f32) (g b : FVec Ideal SG .f32) (rk : FVec Ideal SK .f32) :
    FVec Ideal SO .f32 := fun z =>
  out (ins P (lb (z 2)) (lh (z 2))) (init s (lb (z 2)) (lh (z 2))) (headOf g (lh (z 2))) (headOf b (lh (z 2)))
    (fun i => rk (ix2 (lh (z 2)) i)) (z 0).val (z 1)

/-- The second result, the state after the last step: key entry, value entry, lane. -/
def REFS (P : FVec Ideal SP .f32) (s : FVec Ideal SI .f32) : FVec Ideal SS .f32 := fun z =>
  run (ins P (lb (z 2)) (lh (z 2))) (init s (lb (z 2)) (lh (z 2))) 2048 (z 1) (z 0)

/-! ## The kernel's step -/

theorem row_apply (s : Vec Ideal SS .f32) (n : ℕ) (h : n < 64) (v : Fin 64) (l : Fin 128) :
    row s n h (ix2 v l) = s (ix3 ⟨n, h⟩ v l) := by
  unfold row
  refine (shapeCast_dropUnit_apply ![64, 128] _ cast_row _).trans ?_
  refine congrArg s (funext fun a => Fin.ext ?_)
  fin_cases a <;> simp [Rect.unit, ix2, ix3] <;> rfl

theorem lane_apply (x : Vec Ideal SX .f32) {o : ℕ} (ho : o < 16) (ch : Fin 6) (n : ℕ) (h : n < 64) (v : Fin 64) (l : Fin 128) :
    lane x ho ch n h (ix2 v l) = x (ix4 ⟨o, ho⟩ ch ⟨n, h⟩ l) := by
  unfold lane
  pointwise []

theorem vec_apply (x : Vec Ideal SX .f32) {o : ℕ} (ho : o < 16) (ch : Fin 6) (v : Fin 64) (l : Fin 128) :
    vec x ho ch (ix2 v l) = x (ix4 ⟨o, ho⟩ ch v l) := by
  unfold vec
  refine (shapeCast_apply _ cast_vec _ (ix4 0 0 v l) ?_).trans ?_
  · rw [Shape.rowMajor_val_four, Shape.rowMajor_val_two]
    simp [ix2, ix4]
  · refine congrArg x (funext fun a => Fin.ext ?_)
    fin_cases a <;> simp [Rect.unit, ix4]

theorem acc_apply (T : (n : ℕ) → n < 64 → FVec Ideal SV .f32) (b : Fin 2) (j : ℕ) (h : j ≤ 32) (y : SV.Idx) :
    acc T b j h y = ∑ q : Fin j, T (2 * q.val + b.val) (by have := b.isLt; have := q.isLt; omega) y := by
  induction j with
  | zero =>
    rw [Finset.univ_eq_empty, Finset.sum_empty]
    exact Ideal.ofBits_zero_f32
  | succ j ih =>
    rw [Fin.sum_univ_castSucc]
    exact congrArg (· + _) (ih (by omega))

/-- The sum of the even terms plus the sum of the odd terms is the sum of all. -/
theorem sum64_apply (T : (n : ℕ) → n < 64 → FVec Ideal SV .f32) (y : SV.Idx) : sum64 T y = ∑ n : Fin 64, T n.val n.isLt y := by
  have e : sum64 T y = acc T 0 32 le_rfl y + acc T 1 32 le_rfl y := rfl
  rw [e, acc_apply, acc_apply, ← Finset.sum_add_distrib]
  refine Eq.trans ?_ (Fintype.sum_equiv (finProdFinEquiv (m := 32) (n := 2)) (fun p => T (2 * p.1.val + p.2.val)
    (by have := p.1.isLt; have := p.2.isLt; omega) y) (fun n : Fin 64 => T n.val n.isLt y) fun p => ?_)
  · rw [Fintype.sum_prod_type]
    refine Finset.sum_congr rfl fun q _ => ?_
    rw [Fin.sum_univ_two]
  · congr 1
    simp [finProdFinEquiv, Nat.add_comm]

/-- One lane's channel of a step. -/
def chan (x : Vec Ideal SX .f32) (l : Fin 128) (o : Fin 16) (ch : Fin 6) : Head := fun n => x (ix4 o ch n l)

/-- One lane's state. -/
def lstate (s : Vec Ideal SS .f32) (l : Fin 128) : Fin 64 → Head := fun i j => s (ix3 j i l)

/-- One lane of a head's table. -/
def ltab (t : Vec Ideal SV .f32) (l : Fin 128) : Head := fun i => t (ix2 i l)

theorem newRow_apply (s : Vec Ideal SS .f32) (x : Vec Ideal SX .f32) (o : Fin 16) (n : ℕ) (h : n < 64) (v : Fin 64) (l : Fin 128) :
    newRow s x o.isLt (removal s x o.isLt) n h (ix2 v l)
      = step (chan x l o 1) (chan x l o 2) (chan x l o 3) (chan x l o 4) (chan x l o 5) (lstate s l) v ⟨n, h⟩ := by
  have e : newRow s x o.isLt (removal s x o.isLt) n h (ix2 v l)
      = row s n h (ix2 v l) * lane x o.isLt 1 n h (ix2 v l)
        + (Ideal.ofBits .f32 0x00000000#32 - sum64 (fun n h => mulf (row s n h) (lane x o.isLt 4 n h)) (ix2 v l)) * lane x o.isLt 5 n h (ix2 v l)
        + vec x o.isLt 3 (ix2 v l) * lane x o.isLt 2 n h (ix2 v l) := rfl
  have e4 : ∀ q : Fin 64, mulf (row s q.val q.isLt) (lane x o.isLt 4 q.val q.isLt) (ix2 v l) = s (ix3 q v l) * x (ix4 o 4 q l) := fun q =>
    congrArg₂ (· * ·) (row_apply s q.val q.isLt v l) (lane_apply x o.isLt 4 q.val q.isLt v l)
  rw [e, row_apply, lane_apply, lane_apply, lane_apply, vec_apply, sum64_apply, Ideal.ofBits_zero_f32, zero_sub]
  simp only [e4]
  rfl

/-- One lane of the state after a step is the step of the lane's state. -/
theorem next_lane (s : Vec Ideal SS .f32) (x : Vec Ideal SX .f32) (o : Fin 16) (l : Fin 128) :
    lstate (next s x o.isLt) l = step (chan x l o 1) (chan x l o 2) (chan x l o 3) (chan x l o 4) (chan x l o 5) (lstate s l) := by
  funext i j
  exact newRow_apply s x o j.val j.isLt i l

theorem readOut_apply (s : Vec Ideal SS .f32) (x : Vec Ideal SX .f32) (o : Fin 16) (v : Fin 64) (l : Fin 128) :
    readOut s x o.isLt (removal s x o.isLt) (ix2 v l) = readout (chan x l o 0) (lstate (next s x o.isLt) l) v := by
  unfold readOut
  rw [sum64_apply]
  refine Finset.sum_congr rfl fun q _ => ?_
  refine congrArg₂ (· * ·) ?_ (lane_apply x o.isLt 0 q.val q.isLt v l)
  rw [next_lane]
  exact newRow_apply s x o q.val q.isLt v l

theorem headSum_apply (y : FVec Ideal SV .f32) (l : Fin 128) : headSum y (ix2 0 l) = ∑ i : Fin 64, y (ix2 i l) := by
  unfold headSum
  pointwise []

theorem result_apply (x : Vec Ideal SX .f32) (o : Fin 16) (gain bias rk : Vec Ideal SV .f32) (y : FVec Ideal SV .f32) (v : Fin 64) (l : Fin 128) :
    result x o.isLt gain bias rk y (ix2 v l)
      = norm (ltab gain l) (ltab bias l) (ltab rk l) (chan x l o 0) (chan x l o 2) (chan x l o 3) (fun i => y (ix2 i l)) v := by
  unfold result
  pointwise [headMean, headSum_apply, vec_apply]
  rfl

end Cert.WkvMath

end
-- ==== Proof.WkvArrays.lean ====
module

public import proofs.«01_k».proof.Proof.WkvMath
public import proofs.«01_k».proof.Proof.WkvIdealFrame
public import Idealize.ShloMosaic.Lib.Claim

/-! What the recurrence's kernel leaves in its two result arrays, head by head, over the extended reals. -/

@[expose] public section

set_option maxRecDepth 16384

noncomputable section

namespace Cert.WkvArrays

open Idealize.ShloMosaic Idealize.ShloMosaic.TcCoe Idealize.SL.Sem
open Idealize.ShloMosaic.Pipeline (Dat)
open Cert.WkvIdeal Cert.WkvIdeal.Gen Cert.WkvStep Cert.WkvMath Cert.WkvIdealLoop

/-! ## The operands, laid out by the host -/

/-- The inputs as the kernel takes them: step, channel, head entry, lane. -/
def xlaid (P : FVec Ideal S6x16384x1024 .f32) : FVec Ideal S2048x6x64x128 .f32 :=
  shapeCast _ (transpose S2048x6x64x8x16 [2, 0, 4, 1, 3] (shapeCast S6x8x2048x16x64 P shapeCasts_S6x16384x1024_S6x8x2048x16x64)
    transposes_S6x8x2048x16x64_S2048x6x64x8x16_2_0_4_1_3) shapeCasts_S2048x6x64x8x16_S2048x6x64x128

/-- The state as the kernel takes it: key entry, value entry, lane. -/
def slaid (s : FVec Ideal S8x16x64x64 .f32) : FVec Ideal S64x64x128 .f32 :=
  shapeCast _ (transpose S64x64x8x16 [3, 2, 0, 1] s transposes_S8x16x64x64_S64x64x8x16_3_2_0_1) shapeCasts_S64x64x8x16_S64x64x128

/-- A table of heads as the kernel takes it: head entry, lane. -/
def tlaid (g : FVec Ideal S16x64 .f32) : FVec Ideal S64x128 .f32 :=
  shapeCast _ (broadcastInDim S1x64x8x16 ![0, 1, 2, 3] bcast_S1x64x1x16_S1x64x8x16_0_1_2_3
    (shapeCast S1x64x1x16 (transpose S64x16 [1, 0] g transposes_S16x64_S64x16_1_0) shapeCasts_S64x16_S1x64x1x16)) shapeCasts_S1x64x8x16_S64x128

theorem xlaid_at (P : FVec Ideal S6x16384x1024 .f32) (t : Fin 2048) (ch : Fin 6) (n : Fin 64) (l : Fin 128) :
    xlaid P (ix4 t ch n l) = ins P (lb l) (lh l) t.val ch n := by
  unfold xlaid ins lb lh
  rw [dif_pos t.isLt]
  pointwise []

theorem slaid_at (s : FVec Ideal S8x16x64x64 .f32) (i j : Fin 64) (l : Fin 128) : slaid s (ix3 j i l) = init s (lb l) (lh l) i j := by
  unfold slaid init lb lh
  pointwise []

theorem tlaid_at (g : FVec Ideal S16x64 .f32) (i : Fin 64) (l : Fin 128) : tlaid g (ix2 i l) = g (ix2 (lh l) i) := by
  unfold tlaid lh
  pointwise []

theorem headOf_at (g : FVec Ideal S1024 .f32) (h : Fin 16) (i : Fin 64) :
    shapeCast S16x64 g shapeCasts_S1024_S16x64 (ix2 h i) = headOf g h i := by
  unfold headOf
  pointwise []

variable (m : (ℓ : Loc nD τ sig) → Buf (Elt Ideal) ℓ)

theorem arr_x (c : Dev nD) : V m c main_v2 = xlaid (m ((c : Thread nD τ).loc main_arg0)) := by
  unfold xlaid
  show StableHlo.after hostOps0 (fun b => m (c, b)) (Proc.devRef .tc main_v2) = _
  unfold hostOps0
  after_results <;> rfl

theorem arr_s (c : Dev nD) : V m c main_v4 = slaid (m ((c : Thread nD τ).loc main_arg1)) := by
  unfold slaid
  show StableHlo.after hostOps0 (fun b => m (c, b)) (Proc.devRef .tc main_v4) = _
  unfold hostOps0
  after_results <;> rfl

theorem arr_gain (c : Dev nD) : V m c main_v9 = tlaid (shapeCast S16x64 (m ((c : Thread nD τ).loc main_arg2)) shapeCasts_S1024_S16x64) := by
  unfold tlaid
  show StableHlo.after hostOps0 (fun b => m (c, b)) (Proc.devRef .tc main_v9) = _
  unfold hostOps0
  after_results <;> rfl

theorem arr_bias (c : Dev nD) : V m c main_v14 = tlaid (shapeCast S16x64 (m ((c : Thread nD τ).loc main_arg3)) shapeCasts_S1024_S16x64) := by
  unfold tlaid
  show StableHlo.after hostOps0 (fun b => m (c, b)) (Proc.devRef .tc main_v14) = _
  unfold hostOps0
  after_results <;> rfl

theorem arr_rk (c : Dev nD) : V m c main_v20 = tlaid (shapeCast S16x64 (shapeCast S1024 (m ((c : Thread nD τ).loc main_arg4)) shapeCasts_S16x64_S1024) shapeCasts_S1024_S16x64) := by
  unfold tlaid
  show StableHlo.after hostOps0 (fun b => m (c, b)) (Proc.devRef .tc main_v20) = _
  unfold hostOps0
  after_results <;> rfl

/-! ## The blocks -/

/-- Where each window's block sits at grid point `t`. -/
theorem idx : ∀ t : Fin cfg0.N, win0_0.index t = ![t.val, 0, 0, 0] ∧ win0_1.index t = ![0, 0, 0]
    ∧ win0_2.index t = ![0, 0] ∧ win0_3.index t = ![0, 0] ∧ win0_4.index t = ![0, 0]
    ∧ win0_5.index t = ![t.val, 0, 0] ∧ win0_6.index t = ![0, 0, 0] :=
  (by decide +kernel : ∀ t : Fin grid0.N, _)

theorem blk_x (c : Dev nD) (t : Fin cfg0.N) (o : Fin 16) (ch : Fin 6) (l : Fin 128) :
    chan (iblk m c 0 t) l o ch = ins (m ((c : Thread nD τ).loc main_arg0)) (lb l) (lh l) (t.val * 16 + o.val) ch := by
  have hN : t.val < 128 := lt_of_lt_of_eq t.isLt (show cfg0.N = 128 from N_0)
  funext n
  refine Eq.trans ?_ (xlaid_at _ ⟨t.val * 16 + o.val, by omega⟩ ch n l)
  rw [← arr_x]
  unfold chan
  blk_point [iblk, idx t]

theorem blk_s (c : Dev nD) (t : Fin cfg0.N) (l : Fin 128) :
    lstate (iblk m c 1 t) l = init (m ((c : Thread nD τ).loc main_arg1)) (lb l) (lh l) := by
  funext i j
  rw [← slaid_at, ← arr_s]
  unfold lstate
  blk_point [iblk, idx t]

theorem blk_gain (c : Dev nD) (t : Fin cfg0.N) (l : Fin 128) :
    ltab (iblk m c 2 t) l = headOf (m ((c : Thread nD τ).loc main_arg2)) (lh l) := by
  funext i
  refine Eq.trans ?_ ((tlaid_at _ i l).trans (headOf_at _ (lh l) i))
  rw [← arr_gain]
  unfold ltab
  blk_point [iblk, idx t]

theorem blk_bias (c : Dev nD) (t : Fin cfg0.N) (l : Fin 128) :
    ltab (iblk m c 3 t) l = headOf (m ((c : Thread nD τ).loc main_arg3)) (lh l) := by
  funext i
  refine Eq.trans ?_ ((tlaid_at _ i l).trans (headOf_at _ (lh l) i))
  rw [← arr_bias]
  unfold ltab
  blk_point [iblk, idx t]

theorem blk_rk (c : Dev nD) (t : Fin cfg0.N) (l : Fin 128) :
    ltab (iblk m c 4 t) l = fun i => m ((c : Thread nD τ).loc main_arg4) (ix2 (lh l) i) := by
  funext i
  have e : shapeCast S16x64 (shapeCast S1024 (m ((c : Thread nD τ).loc main_arg4) : FVec Ideal S16x64 .f32) shapeCasts_S16x64_S1024) shapeCasts_S1024_S16x64
      = m ((c : Thread nD τ).loc main_arg4) := shapeCast_shapeCast _ _ _
  refine Eq.trans ?_ ((tlaid_at _ i l).trans (congrFun e _))
  rw [← arr_rk]
  unfold ltab
  blk_point [iblk, idx t]

/-! ## The run, lane by lane -/

/-- A block's steps, lane by lane: `X` lists the inputs of the block's steps. -/
theorem after_lane (s : Vec Ideal SS .f32) (x : Vec Ideal SX .f32) (l : Fin 128) (X : ℕ → Fin 6 → Head)
    (hX : ∀ (o : Fin 16) (ch : Fin 6), chan x l o ch = X o.val ch) (j : ℕ) (h : j ≤ 16) :
    lstate (after s x j h) l = run X (lstate s l) j := by
  induction j with
  | zero => rfl
  | succ j ih =>
    have e := next_lane (after s x j (Nat.le_of_succ_le h)) x ⟨j, h⟩ l
    rw [hX, hX, hX, hX, hX, ih (Nat.le_of_succ_le h)] at e
    exact e

/-- The inputs of lane `l` of the argument `pre`. -/
def X (c : Dev nD) (l : Fin 128) : ℕ → Fin 6 → Head := ins (m ((c : Thread nD τ).loc main_arg0)) (lb l) (lh l)

/-- The state lane `l` begins with. -/
def S (c : Dev nD) (l : Fin 128) : Fin 64 → Head := init (m ((c : Thread nD τ).loc main_arg1)) (lb l) (lh l)

/-- The state before block `n` is the state after the first `16 n` steps. -/
theorem state_lane (c : Dev nD) (l : Fin 128) (n : ℕ) (h : n ≤ cfg0.N) : lstate (state m c n h) l = run (X m c l) (S m c l) (n * 16) := by
  induction n with
  | zero => exact blk_s m c _ l
  | succ n ih =>
    rw [Nat.succ_mul, run_add, ← ih (Nat.le_of_succ_le h)]
    exact after_lane _ _ l _ (fun o ch => blk_x m c ⟨n, h⟩ o ch l) 16 le_rfl

/-- The results of block `t`. -/
theorem results_at (c : Dev nD) (t : Fin cfg0.N) (o : Fin 16) (i : Fin 64) (l : Fin 128) :
    results m c t (ix3 o i l)
      = out (X m c l) (S m c l) (headOf (m ((c : Thread nD τ).loc main_arg2)) (lh l)) (headOf (m ((c : Thread nD τ).loc main_arg3)) (lh l))
          (fun i => m ((c : Thread nD τ).loc main_arg4) (ix2 (lh l) i)) (t.val * 16 + o.val) i := by
  have hx := fun (o : Fin 16) (ch : Fin 6) => blk_x m c t o ch l
  have hs := after_lane (state m c t.val t.isLt.le) (iblk m c 0 t) l (fun k => X m c l (t.val * 16 + k)) hx (o.val + 1) o.isLt
  rw [state_lane, ← run_add] at hs
  show resultOf (after (state m c t.val t.isLt.le) (iblk m c 0 t) o.val o.isLt.le) (iblk m c 0 t) (iblk m c 2 t) (iblk m c 3 t) (iblk m c 4 t) o.isLt (ix2 i l) = _
  unfold resultOf
  rw [result_apply, blk_gain, blk_bias, blk_rk, hx, hx, hx]
  simp only [readOut_apply]
  rw [hx]
  exact congrArg (fun s => norm _ _ _ _ _ _ (readout _ s) i) hs

/-- The first result array after the run. -/
theorem final_y (c : Dev nD) : (dats m 0 c).arrAt 5 (cfgs 0).N = REFY (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after_5]
  have e : ((cfg0.win 5).blk t).view.emb y = ix3 ⟨t.val * 16 + (y 0).val, by
      have hN : t.val < 128 := lt_of_lt_of_eq t.isLt (show cfg0.N = 128 from N_0)
      have h0 : (y 0).val < 16 := (y 0).isLt
      omega⟩ (y 1) (y 2) := by
    blk_ext [idx t]
  have e' : (y : SY.Idx) = ix3 (y 0) (y 1) (y 2) := (ix3_eta y).symm
  rw [e]
  exact (congrArg (results m c t) e').trans (results_at m c t (y 0) (y 1) (y 2))

/-- The second result array after the run. -/
theorem final_s (c : Dev nD) : (dats m 0 c).arrAt 6 (cfgs 0).N = REFS (m ((c : Thread nD τ).loc main_arg0)) (m ((c : Thread nD τ).loc main_arg1)) := by
  refine (dats m 0 c).arrAt_eq_of_covers 6 _ (by decide +kernel) fun t hf y => ?_
  have hN : t.val < 128 := lt_of_lt_of_eq t.isLt (show cfg0.N = 128 from N_0)
  have h1 := (flush0_6 t).mp hf
  have h2 : (t.val + 1) * 16 = 2048 := by omega
  blk_simp
  rw [after_6]
  have e : ((cfg0.win 6).blk t).view.emb y = ix3 (y 0) (y 1) (y 2) := by
    blk_ext [idx t]
  have e' : (y : SS.Idx) = ix3 (y 0) (y 1) (y 2) := (ix3_eta y).symm
  rw [e]
  refine (congrArg (state m c (t.val + 1) t.isLt) e').trans ?_
  refine (congrFun (congrFun (state_lane m c (y 2) (t.val + 1) t.isLt) (y 1)) (y 0)).trans ?_
  rw [h2]
  rfl

end Cert.WkvArrays

end
-- ==== Proof.WkvRef.lean ====
module

public import proofs.«01_k».proof.Proof.WkvMath
public import proofs.«01_k».proof.Proof.Gen.WkvRefIdeal
public import proofs.«01_k».proof.Proof.Gen.WkvRefIdeal.Run
public import Idealize.ShloMosaic.Lib.Claim
public import Idealize.ShloMosaic.Lib.DynamicIndex

/-! What the recurrence's reference computes: its loop, step after step, and the group norm after it. -/

@[expose] public section

set_option maxRecDepth 16384

noncomputable section

namespace Cert.WkvRefProof

open Idealize.ShloMosaic Idealize.ShloMosaic.TcCoe Idealize.SL.Sem Idealize.ShloMosaic.StableHlo
open Cert.WkvRefIdeal Cert.WkvRefIdeal.Gen Cert.WkvRefIdeal.Value Cert.WkvMath

/-- Where a trip's slices start, the counter being `w`: at the counter's row. -/
def corner (w : (⟨S_, .i32⟩ : BufTy).Contents (Elt Ideal)) : Fin 4 → Int := fun k =>
  (((![w, constantI S_ 32 0#32, constantI S_ 32 0#32, constantI S_ 32 0#32] : Fin 4 → (⟨S_, .i32⟩ : BufTy).Contents (Elt Ideal))) k
    (Shape.Idx.first h_S_)).toInt

/-- The inputs of the trip out of one channel's array. -/
def slab (w : (⟨S_, .i32⟩ : BufTy).Contents (Elt Ideal)) (A : FVec Ideal S2048x8x16x64 .f32) : FVec Ideal S8x16x64 .f32 :=
  shapeCast S8x16x64 (Host.dynamicSlice S1x8x16x64 A (corner w) sliceFits_S2048x8x16x64_S1x8x16x64) shapeCasts_S1x8x16x64_S8x16x64

/-- The state after a trip. -/
def newState (s : FVec Ideal S8x16x64x64 .f32)
    (A1 A2 A3 A4 A5 : FVec Ideal S8x16x64 .f32) : FVec Ideal S8x16x64x64 .f32 :=
  addf (addf (mulf s (broadcastInDim S8x16x64x64 ![0, 1, 2, 3] bcast_S8x16x1x64_S8x16x64x64_0_1_2_3
      (broadcastInDim S8x16x1x64 ![0, 1, 3] bcast_S8x16x64_S8x16x1x64_0_1_3 A1)))
    (mulf (broadcastInDim S8x16x64x64 ![0, 1, 2, 3] bcast_S8x16x64x1_S8x16x64x64_0_1_2_3
      (broadcastInDim S8x16x64x1 ![0, 1, 2] bcast_S8x16x64_S8x16x64x1_0_1_2
        (Host.negf (Host.dotGeneral dot_S8x16x64x64_S8x16x64_S8x16x64_3_2_2_n_01_01 none s A4))))
      (broadcastInDim S8x16x64x64 ![0, 1, 2, 3] bcast_S8x16x1x64_S8x16x64x64_0_1_2_3
        (broadcastInDim S8x16x1x64 ![0, 1, 3] bcast_S8x16x64_S8x16x1x64_0_1_3 A5))))
    (mulf (broadcastInDim S8x16x64x64 ![0, 1, 2, 3] bcast_S8x16x64x1_S8x16x64x64_0_1_2_3
      (broadcastInDim S8x16x64x1 ![0, 1, 2] bcast_S8x16x64_S8x16x64x1_0_1_2 A3))
      (broadcastInDim S8x16x64x64 ![0, 1, 2, 3] bcast_S8x16x1x64_S8x16x64x64_0_1_2_3
        (broadcastInDim S8x16x1x64 ![0, 1, 3] bcast_S8x16x64_S8x16x1x64_0_1_3 A2)))

theorem counter {k : ℕ} (hk : k < 2048) : (Scf.iv 0#32 1#32 k).toInt = (k : Int) := by
  have e : (Scf.iv 0#32 1#32 k).toNat = k := by
    simp [Scf.iv]
    omega
  rw [BitVec.toInt_eq_toNat_of_lt (by rw [e]; omega), e]

theorem corner_at {k : ℕ} (hk : k < 2048) (a : Fin 4) :
    corner (fun _ => Scf.iv 0#32 1#32 k) a = ((![k, 0, 0, 0] : Fin 4 → ℕ) a : Int) := by
  fin_cases a
  · exact counter hk
  · rfl
  · rfl
  · rfl

theorem slices_row {k : ℕ} (hk : k < 2048) : S2048x8x16x64.Slices ![k, 0, 0, 0] S1x8x16x64 := by
  refine ⟨rfl, fun a => ?_⟩
  fin_cases a <;> simp [S2048x8x16x64, S1x8x16x64] <;> omega

theorem slab_at {k : ℕ} (hk : k < 2048) (A : FVec Ideal S2048x8x16x64 .f32) (b : Fin 8) (h : Fin 16) (n : Fin 64) :
    slab (fun _ => Scf.iv 0#32 1#32 k) A (ix3 b h n) = A (ix4 ⟨k, hk⟩ b h n) := by
  unfold slab
  rw [Host.dynamicSlice_eq_extractStridedSlice _ A _ ![k, 0, 0, 0] _ (slices_row hk) (corner_at hk)]
  refine (shapeCast_dropUnit_apply ![8, 16, 64] _ _ _).trans ?_
  refine congrArg A (funext fun a => Fin.ext ?_)
  fin_cases a <;> simp [ix3, ix4] <;> rfl

/-- A head's slice of an array over batch row, head and head entry. -/
def hd (A : FVec Ideal S8x16x64 .f32) (b : Fin 8) (h : Fin 16) : Head := fun n => A (ix3 b h n)

/-- A head's state. -/
def hs (s : FVec Ideal S8x16x64x64 .f32) (b : Fin 8) (h : Fin 16) : Fin 64 → Head := fun i j => s (ix4 b h i j)

theorem newState_at (s : FVec Ideal S8x16x64x64 .f32)
    (A1 A2 A3 A4 A5 : FVec Ideal S8x16x64 .f32) (b : Fin 8) (h : Fin 16) (i j : Fin 64) :
    newState s A1 A2 A3 A4 A5 (ix4 b h i j)
      = step (hd A1 b h) (hd A2 b h) (hd A3 b h) (hd A4 b h) (hd A5 b h) (hs s b h) i j := by
  unfold newState step hd hs
  pointwise []

theorem dot_at (s : FVec Ideal S8x16x64x64 .f32) (A : FVec Ideal S8x16x64 .f32) (b : Fin 8) (h : Fin 16) (i : Fin 64) :
    Host.dotGeneral dot_S8x16x64x64_S8x16x64_S8x16x64_3_2_2_n_01_01 none s A (ix3 b h i) = readout (hd A b h) (hs s b h) i := by
  unfold readout hd hs
  pointwise []

theorem res_eq (V0 : Valuation τ sig (Elt Ideal)) : res_main_while0b_v98 V0
    = newState (V0 (Proc.devRef .tc main_v25_7))
        (slab (V0 (Proc.devRef .tc main_v25_6)) (V0 (Proc.devRef .tc main_v25_1))) (slab (V0 (Proc.devRef .tc main_v25_6)) (V0 (Proc.devRef .tc main_v25_2)))
        (slab (V0 (Proc.devRef .tc main_v25_6)) (V0 (Proc.devRef .tc main_v25_3))) (slab (V0 (Proc.devRef .tc main_v25_6)) (V0 (Proc.devRef .tc main_v25_4)))
        (slab (V0 (Proc.devRef .tc main_v25_6)) (V0 (Proc.devRef .tc main_v25_5))) := rfl

/-! ## The loop -/

variable (m : (ℓ : Loc nD τ sig) → Buf (Elt Ideal) ℓ)

/-- Every buffer's contents after `k` trips. -/
abbrev at_ (c : Dev nD) (k : ℕ) : Valuation τ sig (Elt Ideal) := STEP^[k] (entryContents preI m c)

theorem at_succ (c : Dev nD) (k : ℕ) : at_ m c (k + 1) = STEP (at_ m c k) := Function.iterate_succ_apply' ..

theorem at_ctr (c : Dev nD) (k : ℕ) : at_ m c k (Proc.devRef .tc main_v25_6) = fun _ => Scf.iv 0#32 1#32 k :=
  (atK_agree m c k main_v25_6 (by decide)).symm.trans (atK_ctr m c k)

/-- One channel of the inputs, as the loop takes it: step, batch row, head, head entry. -/
def channel (P : FVec Ideal S6x16384x1024 .f32) (off : Fin 3 → ℕ) (h : S6x16384x1024.Slices off S1x16384x1024) : FVec Ideal S2048x8x16x64 .f32 :=
  transpose S2048x8x16x64 [1, 0, 2, 3] (shapeCast S8x2048x16x64 (shapeCast S16384x1024 (extractStridedSlice S1x16384x1024 off P h)
    shapeCasts_S1x16384x1024_S16384x1024) shapeCasts_S16384x1024_S8x2048x16x64) transposes_S8x2048x16x64_S2048x8x16x64_1_0_2_3

theorem channel_at (P : FVec Ideal S6x16384x1024 .f32) (ch : Fin 6) (h : S6x16384x1024.Slices ![ch.val, 0, 0] S1x16384x1024)
    (t : Fin 2048) (b : Fin 8) (hd : Fin 16) (n : Fin 64) :
    channel P ![ch.val, 0, 0] h (ix4 t b hd n) = P (ix3 ch ⟨b.val * 2048 + t.val, by omega⟩ ⟨hd.val * 64 + n.val, by omega⟩) := by
  unfold channel
  pointwise []

theorem entry_0 (c : Dev nD) : entryContents preI m c (Proc.devRef .tc main_v25_0)
    = channel (m ((c.tc : Thread nD τ).loc main_arg0)) ![0, 0, 0] slices_S6x16384x1024_S1x16384x1024_0_0_0 := by
  simp only [entryContents, afterL_cons, afterL_nil]
  after_reads_simp
  rfl

theorem entry_1 (c : Dev nD) : entryContents preI m c (Proc.devRef .tc main_v25_1)
    = channel (m ((c.tc : Thread nD τ).loc main_arg0)) ![1, 0, 0] slices_S6x16384x1024_S1x16384x1024_1_0_0 := by
  simp only [entryContents, afterL_cons, afterL_nil]
  after_reads_simp
  rfl

theorem entry_2 (c : Dev nD) : entryContents preI m c (Proc.devRef .tc main_v25_2)
    = channel (m ((c.tc : Thread nD τ).loc main_arg0)) ![2, 0, 0] slices_S6x16384x1024_S1x16384x1024_2_0_0 := by
  simp only [entryContents, afterL_cons, afterL_nil]
  after_reads_simp
  rfl

theorem entry_3 (c : Dev nD) : entryContents preI m c (Proc.devRef .tc main_v25_3)
    = channel (m ((c.tc : Thread nD τ).loc main_arg0)) ![3, 0, 0] slices_S6x16384x1024_S1x16384x1024_3_0_0 := by
  simp only [entryContents, afterL_cons, afterL_nil]
  after_reads_simp
  rfl

theorem entry_4 (c : Dev nD) : entryContents preI m c (Proc.devRef .tc main_v25_4)
    = channel (m ((c.tc : Thread nD τ).loc main_arg0)) ![4, 0, 0] slices_S6x16384x1024_S1x16384x1024_4_0_0 := by
  simp only [entryContents, afterL_cons, afterL_nil]
  after_reads_simp
  rfl

theorem entry_5 (c : Dev nD) : entryContents preI m c (Proc.devRef .tc main_v25_5)
    = channel (m ((c.tc : Thread nD τ).loc main_arg0)) ![5, 0, 0] slices_S6x16384x1024_S1x16384x1024_5_0_0 := by
  simp only [entryContents, afterL_cons, afterL_nil]
  after_reads_simp
  rfl

theorem entry_7 (c : Dev nD) : entryContents preI m c (Proc.devRef .tc main_v25_7) = m ((c.tc : Thread nD τ).loc main_arg1) := by
  simp only [entryContents, afterL_cons, afterL_nil]
  after_reads_simp
  rfl

/-- A trip's slice of a channel is the step's inputs. -/
theorem slab_ins (P : FVec Ideal S6x16384x1024 .f32) (ch : Fin 6) (h : S6x16384x1024.Slices ![ch.val, 0, 0] S1x16384x1024)
    {k : ℕ} (hk : k < 2048) (b : Fin 8) (q : Fin 16) :
    hd (slab (fun _ => Scf.iv 0#32 1#32 k) (channel P ![ch.val, 0, 0] h)) b q = ins P b q k ch := by
  funext n
  unfold hd ins
  rw [slab_at hk, dif_pos hk]
  exact channel_at P ch h ⟨k, hk⟩ b q n

theorem keep_0 (c : Dev nD) (k : ℕ) : at_ m c k (Proc.devRef .tc main_v25_0) = at_ m c 0 (Proc.devRef .tc main_v25_0) := by
  induction k with
  | zero => rfl
  | succ k ih => rw [at_succ, STEP_main_v25_0, ih]

theorem keep_1 (c : Dev nD) (k : ℕ) : at_ m c k (Proc.devRef .tc main_v25_1) = at_ m c 0 (Proc.devRef .tc main_v25_1) := by
  induction k with
  | zero => rfl
  | succ k ih => rw [at_succ, STEP_main_v25_1, ih]

theorem keep_2 (c : Dev nD) (k : ℕ) : at_ m c k (Proc.devRef .tc main_v25_2) = at_ m c 0 (Proc.devRef .tc main_v25_2) := by
  induction k with
  | zero => rfl
  | succ k ih => rw [at_succ, STEP_main_v25_2, ih]

theorem keep_3 (c : Dev nD) (k : ℕ) : at_ m c k (Proc.devRef .tc main_v25_3) = at_ m c 0 (Proc.devRef .tc main_v25_3) := by
  induction k with
  | zero => rfl
  | succ k ih => rw [at_succ, STEP_main_v25_3, ih]

theorem keep_4 (c : Dev nD) (k : ℕ) : at_ m c k (Proc.devRef .tc main_v25_4) = at_ m c 0 (Proc.devRef .tc main_v25_4) := by
  induction k with
  | zero => rfl
  | succ k ih => rw [at_succ, STEP_main_v25_4, ih]

theorem keep_5 (c : Dev nD) (k : ℕ) : at_ m c k (Proc.devRef .tc main_v25_5) = at_ m c 0 (Proc.devRef .tc main_v25_5) := by
  induction k with
  | zero => rfl
  | succ k ih => rw [at_succ, STEP_main_v25_5, ih]

/-- The inputs of head `q` of batch row `b`. -/
abbrev X (c : Dev nD) (b : Fin 8) (q : Fin 16) : ℕ → Fin 6 → Head := ins (m ((c.tc : Thread nD τ).loc main_arg0)) b q

/-- The state head `q` of batch row `b` begins with. -/
abbrev S (c : Dev nD) (b : Fin 8) (q : Fin 16) : Fin 64 → Head := init (m ((c.tc : Thread nD τ).loc main_arg1)) b q

/-- The trip's new state, head by head. -/
theorem res_at (c : Dev nD) {k : ℕ} (hk : k < 2048) (b : Fin 8) (q : Fin 16) :
    hs (res_main_while0b_v98 (at_ m c k)) b q
      = step (X m c b q k 1) (X m c b q k 2) (X m c b q k 3) (X m c b q k 4) (X m c b q k 5) (hs (at_ m c k (Proc.devRef .tc main_v25_7)) b q) := by
  have e1 : _ = X m c b q k 1 := slab_ins (m ((c.tc : Thread nD τ).loc main_arg0)) 1 slices_S6x16384x1024_S1x16384x1024_1_0_0 hk b q
  have e2 : _ = X m c b q k 2 := slab_ins (m ((c.tc : Thread nD τ).loc main_arg0)) 2 slices_S6x16384x1024_S1x16384x1024_2_0_0 hk b q
  have e3 : _ = X m c b q k 3 := slab_ins (m ((c.tc : Thread nD τ).loc main_arg0)) 3 slices_S6x16384x1024_S1x16384x1024_3_0_0 hk b q
  have e4 : _ = X m c b q k 4 := slab_ins (m ((c.tc : Thread nD τ).loc main_arg0)) 4 slices_S6x16384x1024_S1x16384x1024_4_0_0 hk b q
  have e5 : _ = X m c b q k 5 := slab_ins (m ((c.tc : Thread nD τ).loc main_arg0)) 5 slices_S6x16384x1024_S1x16384x1024_5_0_0 hk b q
  funext i j
  rw [res_eq, at_ctr, keep_1, keep_2, keep_3, keep_4, keep_5,
    show at_ m c 0 = entryContents preI m c from rfl, entry_1, entry_2, entry_3, entry_4, entry_5]
  refine (newState_at _ _ _ _ _ _ b q i j).trans ?_
  rw [← e1, ← e2, ← e3, ← e4, ← e5]
  rfl

/-- After `k` trips the state is the recurrence's after `k` steps. -/
theorem state_at (c : Dev nD) (k : ℕ) (hk : k ≤ 2048) (b : Fin 8) (q : Fin 16) :
    hs (at_ m c k (Proc.devRef .tc main_v25_7)) b q = run (X m c b q) (S m c b q) k := by
  induction k with
  | zero =>
    rw [show at_ m c 0 = entryContents preI m c from rfl, entry_7]
    rfl
  | succ k ih =>
    rw [at_succ, STEP_main_v25_7]
    refine (res_at m c hk b q).trans ?_
    rw [ih (Nat.le_of_succ_le hk)]
    rfl

/-- A row stored at the counter's place, read at one index. -/
theorem store_at {k : ℕ} (hk : k < 2048) (A : FVec Ideal S2048x8x16x64 .f32) (u : FVec Ideal S1x8x16x64 .f32)
    (t : Fin 2048) (b : Fin 8) (q : Fin 16) (i : Fin 64) :
    Host.dynamicUpdateSlice A u (corner (fun _ => Scf.iv 0#32 1#32 k)) updateFits_S2048x8x16x64_S1x8x16x64 (ix4 t b q i)
      = if t.val = k then u (ix4 0 b q i) else A (ix4 t b q i) := by
  have ec : ∀ a, Host.clampedStart S2048x8x16x64 S1x8x16x64 updateFits_S2048x8x16x64_S1x8x16x64.1 (corner (fun _ => Scf.iv 0#32 1#32 k)) a
      = (![k, 0, 0, 0] : Fin 4 → ℕ) a := fun a =>
    Host.clampedStart_of_le _ _ a _ (corner_at hk a) (by
      have := (slices_row hk).2 a
      exact this)
  rw [Host.dynamicUpdateSlice_apply]
  by_cases e : t.val = k
  · rw [if_pos e, dif_pos]
    · refine congrArg u (funext fun a => Fin.ext ?_)
      fin_cases a <;> simp [ec, ix4, Shape.Idx.norm_def] <;> omega
    · intro a
      rw [ec]
      fin_cases a <;> simp [ix4, S1x8x16x64] <;> omega
  · rw [if_neg e, dif_neg]
    intro h
    have := h 0
    rw [ec] at this
    simp [ix4, S1x8x16x64] at this
    omega

/-- After `k` trips the first `k` rows of the results are the read-outs of the first `k` steps. -/
theorem rows_at (c : Dev nD) (k : ℕ) (hk : k ≤ 2048) (t : Fin 2048) (ht : t.val < k) (b : Fin 8) (q : Fin 16) (i : Fin 64) :
    at_ m c k (Proc.devRef .tc main_v25_8) (ix4 t b q i) = readout (X m c b q t.val 0) (run (X m c b q) (S m c b q) (t.val + 1)) i := by
  induction k with
  | zero => omega
  | succ k ih =>
    rw [at_succ, STEP_main_v25_8]
    have e0 := slab_ins (m ((c.tc : Thread nD τ).loc main_arg0)) 0 slices_S6x16384x1024_S1x16384x1024_0_0_0 hk b q
    show Host.dynamicUpdateSlice (at_ m c k (Proc.devRef .tc main_v25_8)) (broadcastInDim S1x8x16x64 ![1, 2, 3] bcast_S8x16x64_S1x8x16x64_1_2_3
      (Host.dotGeneral dot_S8x16x64x64_S8x16x64_S8x16x64_3_2_2_n_01_01 none (res_main_while0b_v98 (at_ m c k))
        (slab (at_ m c k (Proc.devRef .tc main_v25_6)) (at_ m c k (Proc.devRef .tc main_v25_0)))))
      (corner (at_ m c k (Proc.devRef .tc main_v25_6))) updateFits_S2048x8x16x64_S1x8x16x64 (ix4 t b q i) = _
    rw [at_ctr, keep_0, show at_ m c 0 = entryContents preI m c from rfl, entry_0]
    refine (store_at hk _ _ t b q i).trans ?_
    by_cases e : t.val = k
    · rw [if_pos e, e]
      have hb : ∀ (z : FVec Ideal S8x16x64 .f32), broadcastInDim S1x8x16x64 ![1, 2, 3] bcast_S8x16x64_S1x8x16x64_1_2_3 z (ix4 0 b q i) = z (ix3 b q i) := by
        intro z
        pointwise []
      refine (hb _).trans ((dot_at _ _ b q i).trans ?_)
      rw [res_at m c hk b q, state_at m c k (Nat.le_of_succ_le hk) b q]
      exact congrArg (fun r => readout r _ i) e0
    · rw [if_neg e]
      exact ih (Nat.le_of_succ_le hk) (by omega)

end Cert.WkvRefProof

end
-- ==== Proof.WkvRefOut.lean ====
module

public import proofs.«01_k».proof.Proof.WkvRef

/-! The recurrence's reference after its loop: the group norm over each head, the bonus, and the two results as the kernel's call lays them out. -/

@[expose] public section

set_option maxRecDepth 16384

noncomputable section

namespace Cert.WkvRefProof

open Idealize.ShloMosaic Idealize.ShloMosaic.TcCoe Idealize.SL.Sem Idealize.ShloMosaic.StableHlo
open Cert.WkvRefIdeal Cert.WkvRefIdeal.Gen Cert.WkvRefIdeal.Value Cert.WkvMath

/-- One channel of the inputs: batch row, step, head, head entry. -/
def rows (P : FVec Ideal S6x16384x1024 .f32) (off : Fin 3 → ℕ) (h : S6x16384x1024.Slices off S1x16384x1024) : FVec Ideal S8x2048x16x64 .f32 :=
  shapeCast S8x2048x16x64 (shapeCast S16384x1024 (extractStridedSlice S1x16384x1024 off P h)
    shapeCasts_S1x16384x1024_S16384x1024) shapeCasts_S16384x1024_S8x2048x16x64

theorem rows_ins (P : FVec Ideal S6x16384x1024 .f32) (ch : Fin 6) (h : S6x16384x1024.Slices ![ch.val, 0, 0] S1x16384x1024)
    (b : Fin 8) (t : Fin 2048) (q : Fin 16) (n : Fin 64) :
    rows P ![ch.val, 0, 0] h (ix4 b t q n) = ins P b q t.val ch n := by
  unfold ins
  rw [dif_pos t.isLt]
  unfold rows
  pointwise []

/-- The mean over each head. -/
def means (Y : FVec Ideal S8x2048x16x64 .f32) : FVec Ideal S8x2048x16x1 .f32 :=
  Host.divf (broadcastInDim S8x2048x16x1 ![0, 1, 2] bcast_S8x2048x16_S8x2048x16x1_0_1_2
    (Host.reduceAdd Y (constant S_ .f32 0x00000000#32) reducesTo_S8x2048x16x64_S8x2048x16_d3 h_S_))
    (broadcastInDim S8x2048x16x1 ![] bcast_S_S8x2048x16x1 (constant S_ .f32 0x42800000#32))

/-- One number per head, at every entry of the head. -/
def spread (z : FVec Ideal S8x2048x16x1 .f32) : FVec Ideal S8x2048x16x64 .f32 :=
  broadcastInDim S8x2048x16x64 ![0, 1, 2, 3] bcast_S8x2048x16x1_S8x2048x16x64_0_1_2_3 z

/-- A sum over each head, at every entry of the head. -/
def sums (Y : FVec Ideal S8x2048x16x64 .f32) : FVec Ideal S8x2048x16x64 .f32 :=
  spread (broadcastInDim S8x2048x16x1 ![0, 1, 2] bcast_S8x2048x16_S8x2048x16x1_0_1_2
    (Host.reduceAdd Y (constant S_ .f32 0x00000000#32) reducesTo_S8x2048x16x64_S8x2048x16_d3 h_S_))

def centered (Y : FVec Ideal S8x2048x16x64 .f32) : FVec Ideal S8x2048x16x64 .f32 := subf Y (spread (means Y))

def normed (Y : FVec Ideal S8x2048x16x64 .f32) : FVec Ideal S8x2048x16x64 .f32 :=
  mulf (centered Y) (spread (Host.rsqrt (addf (means (mulf (centered Y) (centered Y)))
    (broadcastInDim S8x2048x16x1 ![] bcast_S_S8x2048x16x1 (constant S_ .f32 0x3A27C5AC#32)))))

/-- A vector over all channels, at every row. -/
def everywhere (g : FVec Ideal S1024 .f32) : FVec Ideal S8x2048x1024 .f32 :=
  broadcastInDim S8x2048x1024 ![0, 1, 2] bcast_S1x1x1024_S8x2048x1024_0_1_2 (broadcastInDim S1x1x1024 ![2] bcast_S1024_S1x1x1024_2 g)

def flat (A : FVec Ideal S8x2048x16x64 .f32) : FVec Ideal S8x2048x1024 .f32 := shapeCast S8x2048x1024 A shapeCasts_S8x2048x16x64_S8x2048x1024

/-- The result as the call gives it: step, head entry, lane. -/
def lanes (A : FVec Ideal S8x2048x1024 .f32) : FVec Ideal S2048x64x128 .f32 :=
  shapeCast S2048x64x128 (transpose S2048x64x8x16 [1, 3, 0, 2] (shapeCast S8x2048x16x64 A shapeCasts_S8x2048x1024_S8x2048x16x64)
    transposes_S8x2048x16x64_S2048x64x8x16_1_3_0_2) shapeCasts_S2048x64x8x16_S2048x64x128

/-- The products the bonus sums. -/
def weighed (P : FVec Ideal S6x16384x1024 .f32) (rk : FVec Ideal S16x64 .f32) : FVec Ideal S8x2048x16x64 .f32 :=
  mulf (mulf (rows P ![0, 0, 0] slices_S6x16384x1024_S1x16384x1024_0_0_0) (rows P ![2, 0, 0] slices_S6x16384x1024_S1x16384x1024_2_0_0))
    (broadcastInDim S8x2048x16x64 ![0, 1, 2, 3] bcast_S1x1x16x64_S8x2048x16x64_0_1_2_3 (broadcastInDim S1x1x16x64 ![2, 3] bcast_S16x64_S1x1x16x64_2_3 rk))

theorem out_y_eq (V0 : Valuation τ sig (Elt Ideal)) : out_main_v73 V0
    = lanes (addf (addf (mulf (flat (normed (transpose S8x2048x16x64 [1, 0, 2, 3] (V0 (Proc.devRef .tc main_v25_8)) transposes_S2048x8x16x64_S8x2048x16x64_1_0_2_3)))
        (everywhere (V0 (Proc.devRef .tc main_arg2)))) (everywhere (V0 (Proc.devRef .tc main_arg3))))
      (flat (mulf (sums (weighed (V0 (Proc.devRef .tc main_arg0)) (V0 (Proc.devRef .tc main_arg4))))
        (rows (V0 (Proc.devRef .tc main_arg0)) ![3, 0, 0] slices_S6x16384x1024_S1x16384x1024_3_0_0)))) := rfl

section
variable (Y : FVec Ideal S8x2048x16x64 .f32) (b : Fin 8) (t : Fin 2048) (q : Fin 16)

/-- Head `q` of batch row `b` at step `t`. -/
def part (i : Fin 64) : EReal := Y (ix4 b t q i)

theorem means_at : means Y (ix4 b t q 0) = mean (part Y b t q) := by
  unfold means mean part
  pointwise []

theorem spread_at (z : FVec Ideal S8x2048x16x1 .f32) (i : Fin 64) : spread z (ix4 b t q i) = z (ix4 b t q 0) := by
  unfold spread
  pointwise []

theorem sums_at (i : Fin 64) : sums Y (ix4 b t q i) = ∑ j, part Y b t q j := by
  unfold sums spread part
  pointwise []

theorem centered_at (i : Fin 64) : centered Y (ix4 b t q i) = part Y b t q i - mean (part Y b t q) := by
  rw [← means_at, ← spread_at b t q (means Y) i]
  rfl

theorem normed_at (i : Fin 64) : normed Y (ix4 b t q i)
    = (part Y b t q i - mean (part Y b t q)) * Ideal.rsqrt (mean (fun j => (part Y b t q j - mean (part Y b t q)) * (part Y b t q j - mean (part Y b t q)))
        + Ideal.ofBits .f32 0x3A27C5AC#32) := by
  have e : part (mulf (centered Y) (centered Y)) b t q = fun j => (part Y b t q j - mean (part Y b t q)) * (part Y b t q j - mean (part Y b t q)) := by
    funext j
    rw [← centered_at]
    rfl
  rw [← e, ← centered_at, ← means_at]
  unfold normed
  show centered Y (ix4 b t q i) * spread _ (ix4 b t q i) = _
  rw [spread_at]
  rfl

theorem flat_at (i : Fin 64) (h : q.val * 64 + i.val < 1024) : flat Y (ix3 b t ⟨q.val * 64 + i.val, h⟩) = part Y b t q i := by
  unfold flat part
  pointwise []

theorem everywhere_at (g : FVec Ideal S1024 .f32) (i : Fin 64) (h : q.val * 64 + i.val < 1024) :
    everywhere g (ix3 b t ⟨q.val * 64 + i.val, h⟩) = headOf g q i := by
  unfold everywhere headOf
  pointwise []

end

theorem lanes_at (A : FVec Ideal S8x2048x1024 .f32) (t : Fin 2048) (i : Fin 64) (l : Fin 128) :
    lanes A (ix3 t i l) = A (ix3 (lb l) t ⟨(lh l).val * 64 + i.val, by omega⟩) := by
  unfold lanes lb lh
  pointwise []

variable (m : (ℓ : Loc nD τ sig) → Buf (Elt Ideal) ℓ)

theorem result_s (c : Dev nD) : out_main_v75 (at_ m c 2048)
    = REFS (m ((c.tc : Thread nD τ).loc main_arg0)) (m ((c.tc : Thread nD τ).loc main_arg1)) := by
  funext z
  rw [show z = ix3 (z 0) (z 1) (z 2) from (ix3_eta z).symm]
  generalize z 0 = j; generalize z 1 = i; generalize z 2 = l
  have e : out_main_v75 (at_ m c 2048) (ix3 j i l) = hs (at_ m c 2048 (Proc.devRef .tc main_v25_7)) (lb l) (lh l) i j := by
    unfold out_main_v75 hs lb lh
    pointwise []
  refine e.trans ?_
  rw [state_at m c 2048 le_rfl]
  rfl

theorem result_y_at (c : Dev nD) (t : Fin 2048) (i : Fin 64) (l : Fin 128) : out_main_v73 (at_ m c 2048) (ix3 t i l)
    = REFY (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (ix3 t i l) := by
  rw [out_y_eq, show at_ m c 2048 (Proc.devRef .tc main_arg0) = _ from iter_main_arg0 m c 2048, show at_ m c 2048 (Proc.devRef .tc main_arg2) = _ from iter_main_arg2 m c 2048,
    show at_ m c 2048 (Proc.devRef .tc main_arg3) = _ from iter_main_arg3 m c 2048, show at_ m c 2048 (Proc.devRef .tc main_arg4) = _ from iter_main_arg4 m c 2048]
  generalize hY : transpose S8x2048x16x64 [1, 0, 2, 3] (at_ m c 2048 (Proc.devRef .tc main_v25_8)) transposes_S2048x8x16x64_S8x2048x16x64_1_0_2_3 = Y
  have eY : part Y (lb l) t (lh l) = readout (X m c (lb l) (lh l) t.val 0) (run (X m c (lb l) (lh l)) (S m c (lb l) (lh l)) (t.val + 1)) := by
    funext i
    rw [← rows_at m c 2048 le_rfl t t.isLt, ← hY]
    unfold part
    pointwise []
  refine (lanes_at _ t i l).trans ?_
  show flat _ _ * everywhere _ _ + everywhere _ _ + flat _ _ = _
  rw [flat_at, flat_at, everywhere_at, everywhere_at]
  show normed Y (ix4 _ _ _ i) * _ + _ + sums _ (ix4 _ _ _ i) * rows _ _ _ (ix4 _ _ _ i) = _
  have e3 : rows (m ((c.tc : Thread nD τ).loc main_arg0)) ![3, 0, 0] slices_S6x16384x1024_S1x16384x1024_3_0_0 (ix4 (lb l) t (lh l) i)
      = X m c (lb l) (lh l) t.val 3 i := rows_ins _ 3 _ _ _ _ _
  rw [normed_at, sums_at, eY, e3]
  have eb : (fun j => part (weighed (m ((c.tc : Thread nD τ).loc main_arg0)) (m ((c.tc : Thread nD τ).loc main_arg4))) (lb l) t (lh l) j)
      = fun j => X m c (lb l) (lh l) t.val 0 j * X m c (lb l) (lh l) t.val 2 j * m ((c.tc : Thread nD τ).loc main_arg4) (ix2 (lh l) j) := by
    funext j
    have e0 : rows (m ((c.tc : Thread nD τ).loc main_arg0)) ![0, 0, 0] slices_S6x16384x1024_S1x16384x1024_0_0_0 (ix4 (lb l) t (lh l) j)
        = X m c (lb l) (lh l) t.val 0 j := rows_ins _ 0 _ _ _ _ _
    have e2 : rows (m ((c.tc : Thread nD τ).loc main_arg0)) ![2, 0, 0] slices_S6x16384x1024_S1x16384x1024_2_0_0 (ix4 (lb l) t (lh l) j)
        = X m c (lb l) (lh l) t.val 2 j := rows_ins _ 2 _ _ _ _ _
    rw [← e0, ← e2]
    unfold part weighed
    pointwise []
  rw [eb]
  rfl

theorem result_y (c : Dev nD) : out_main_v73 (at_ m c 2048)
    = REFY (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) :=
  funext fun z => by
    have e := ix3_eta (n0 := 2048) (n1 := 64) (n2 := 128) z
    rw [← e]
    exact result_y_at m c _ _ _

end Cert.WkvRefProof
-- ==== Proof.WkvValue.lean ====
module

public import proofs.«01_k».proof.Proof.WkvArrays
public import proofs.«01_k».proof.Proof.WkvRefOut
public import proofs.«01_k».proof.Defs

/-! The recurrence's value claim: the kernel call and its reference leave the same two arrays, over the extended reals. -/

@[expose] public section

set_option maxRecDepth 16384

noncomputable section

namespace Cert.Values

open Idealize.ShloMosaic Idealize.ShloMosaic.TcCoe Idealize.SL.Sem

section
open Cert.WkvIdeal Cert.WkvIdeal.Gen Cert.WkvIdealLoop

variable (m : (ℓ : Loc nD τ sig) → Buf (Elt Ideal) ℓ)

/-- The kernel call leaves the two arrays of the recurrence, its arguments as they began. -/
theorem wkv_run (ρ : Dev nD → PrngReg) : θ_run (defs (F := Ideal)) (onTc (τ := τ) (main (F := Ideal))) ⟨m, fun _ => 0, ρ⟩ fun r => ∀ c : Dev nD,
      r.2.mem ((c.tc : Thread nD τ).loc main_v21_0) = Cert.WkvMath.REFY (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c.tc : Thread nD τ).loc main_v21_1) = Cert.WkvMath.REFS (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).1 5).trans (Cert.WkvArrays.final_y m c), ((h.1 c).1 6).trans (Cert.WkvArrays.final_s m c), h.2.1 c⟩)
    (θ_run_and (run_arrays m ρ) (unchanged m ρ))

end

/-- The value claim of the recurrence. -/
theorem wkv : algebraic_WkvIdeal_WkvRefIdeal (hWkvIdeal := Cert.WkvIdeal.Gen.facts) (hWkvRefIdeal := Cert.WkvRefIdeal.Gen.facts) := by
  unfold algebraic_WkvIdeal_WkvRefIdeal
  intro m g m' g' _ hagree
  refine ⟨_, _, wkv_run m g, (θ_run _ _ _).mono (fun r h c => ?_) (Cert.WkvRefIdeal.Value.run m' g')⟩
  obtain ⟨hy, hs, hk⟩ := h c
  obtain ⟨e0, e1, e2, e3, e4⟩ := hagree c
  refine ⟨hy.trans ((Cert.WkvRefProof.result_y m' c).trans ?_), hs.trans ((Cert.WkvRefProof.result_s m' c).trans ?_), hk⟩
  · rw [e0, e1, e2, e3, e4]
  · rw [e0, e1]

end Cert.Values

end
-- ==== Proof.PoolMath.lean ====
module

public import proofs.«01_k».proof.Proof.Gen.PoolIdeal.Value
public import Idealize.ShloMosaic.Lib.Pipeline.ValueKit

/-! The pooling mixer's block computation at an index: sums over the last 2, 4, 8 and 16 rows, built by doubling. -/

@[expose] public section

set_option maxRecDepth 16384

noncomputable section

namespace Cert.PoolMath

open Idealize.ShloMosaic Idealize.ShloMosaic.TcCoe Idealize.SL.Sem
open Cert.PoolIdeal Cert.PoolIdeal.Gen

/-- The entry at `j` and the `n` before it, added one at a time. -/
def wsum (f : ℕ → EReal) : ℕ → ℕ → EReal
  | 0, j => f j
  | n + 1, j => wsum f n j + f (j - (n + 1))

/-- Adding an array to itself moved down by `sh` rows, at a row that has `sh` rows above it. -/
theorem dbl_at (b : BitVec 32) (sh : ℕ) (hb : b.toNat = sh) (hs : sh < 272) (x : FVec Ideal S272x256 .f32) (h : S272x256.Rotates 0 none)
    (k : Fin 256) (f : ℕ → EReal) (lo : ℕ) (hx : ∀ j : Fin 272, lo ≤ j.val → x (ix2 j k) = f j.val) (j : Fin 272) (hj : lo + sh ≤ j.val) :
    addf x (dynamicRotate 0 b none x h) (ix2 j k) = f j.val + f (j.val - sh) := by
  have e : dynamicRotate 0 b none x h (ix2 j k) = x (ix2 ⟨j.val - sh, by omega⟩ k) := by
    pointwise []
    refine congrArg x (congrArg (fun a => ix2 a k) (Fin.ext ?_))
    show (j.val + 272 - b.toNat % 272) % 272 = j.val - sh
    rw [hb, Nat.mod_eq_of_lt hs]
    omega
  show x (ix2 j k) + dynamicRotate 0 b none x h (ix2 j k) = _
  rw [e, hx _ (by omega), hx _ (by show lo ≤ j.val - sh; omega)]

/-- How many rows the mean at position `p` is over: `p + 1`, at most the window. -/
def cnt (p : ℕ) (w : BitVec 32) : EReal := FloatOps.sitofp (F := Ideal) .f32 (IntOp.minsi (IntOp.addi (BitVec.ofNat 32 p) 1#32) w)

theorem pay6_at (i : grid0.Coords) (r : Fin 256) : k0_pay6 i (ix2 r 0) = BitVec.ofNat 32 ((i 1).val * 256 + r.val) := by
  pointwise [k0_pay6]
  show 0#32 + BitVec.ofNat 32 (i 1).val * BitVec.ofNat 32 256 + BitVec.ofNat 32 r.val = _
  rw [BitVec.zero_add, BitVec.ofNat_add, BitVec.ofNat_mul]

theorem cnt_at (i : grid0.Coords) (r : Fin 256) (w : BitVec 32) :
    sitofp (F := Ideal) .f32 (minsi (addi (k0_pay6 i) (broadcast S256x1 1#32)) (broadcast S256x1 w)) (ix2 r 0) = cnt ((i 1).val * 256 + r.val) w := by
  unfold cnt
  rw [← pay6_at]
  pointwise []

/-- One group's product: the mean less the row itself, against the group's weight. -/
theorem group_at (D : FVec Ideal S272x256 .f32) (C : FVec Ideal S256x1 .f32) (U : FVec Ideal S256x256 .f32) (W : FVec Ideal S1x256x256 .bf16)
    (r n : Fin 256) :
    matmul dot_S256x256_S256x256_S256x256_1_0_0_1_n_n none
      (truncf .bf16 (subf (divf (extractStridedSlice S256x256 ![16, 0] D slices_S272x256_o16_0_S256x256)
        (broadcastTo S256x256 C broadcasts_S256x1_S256x256)) U) bitsLt_bf16_f32)
      (shapeCast S256x256 W shapeCasts_S1x256x256_S256x256) (constant S256x256 .f32 0x00000000#32) (ix2 r n)
    = ∑ k : Fin 256, (Ideal.div (D (ix2 ⟨16 + r.val, by omega⟩ k)) (C (ix2 r 0)) - U (ix2 r k)) * W (ix3 0 k n) := by
  pointwise []

/-- The 16 rows before the block and the block, one under the other, a column read downwards. -/
def col (u : FVec Ideal S256x1024 .f32) (cr : FVec Ideal S16x1024 .f32) (k : Fin 1024) (j : ℕ) : EReal :=
  if h : j < 272 then k0_pay3 (F := Ideal) u cr (ix2 ⟨j, h⟩ k) else 0

theorem slice_at (o : ℕ) (ho : o ≤ 768) (x : FVec Ideal S272x1024 .f32) (h) (j : Fin 272) (k : Fin 256) :
    extractStridedSlice S272x256 ![0, o] x h (ix2 j k) = x (ix2 j ⟨o + k.val, by omega⟩) := by
  pointwise []

theorem slice_u_at (o : ℕ) (ho : o ≤ 768) (x : FVec Ideal S256x1024 .f32) (h) (j : Fin 256) (k : Fin 256) :
    extractStridedSlice S256x256 ![0, o] x h (ix2 j k) = x (ix2 j ⟨o + k.val, by omega⟩) := by
  pointwise []

theorem slice_col (o : ℕ) (ho : o ≤ 768) (u : FVec Ideal S256x1024 .f32) (cr : FVec Ideal S16x1024 .f32) (h) (k : Fin 256) (j : Fin 272) :
    extractStridedSlice S272x256 ![0, o] (k0_pay3 (F := Ideal) u cr) h (ix2 j k) = col u cr ⟨o + k.val, by omega⟩ j.val := by
  unfold col
  rw [slice_at o ho, dif_pos j.isLt]

section
variable (x : FVec Ideal S272x256 .f32) (h : S272x256.Rotates 0 none) (k : Fin 256) (f : ℕ → EReal)

theorem sum2_at (hx : ∀ j : Fin 272, x (ix2 j k) = f j.val) (j : Fin 272) (hj : 1 ≤ j.val) :
    addf x (dynamicRotate 0 1#32 none x h) (ix2 j k) = wsum f 1 j.val :=
  dbl_at 1#32 1 rfl (by decide) x h k f 0 (fun j _ => hx j) j (by omega)

theorem sum4_at (hx : ∀ j : Fin 272, 1 ≤ j.val → x (ix2 j k) = wsum f 1 j.val) (j : Fin 272) (hj : 3 ≤ j.val) :
    addf x (dynamicRotate 0 2#32 none x h) (ix2 j k) = wsum f 3 j.val := by
  rw [dbl_at 2#32 2 rfl (by decide) x h k (wsum f 1) 1 hx j (by omega)]
  simp only [wsum, Nat.sub_sub, Nat.reduceAdd, add_assoc]

theorem sum8_at (hx : ∀ j : Fin 272, 3 ≤ j.val → x (ix2 j k) = wsum f 3 j.val) (j : Fin 272) (hj : 7 ≤ j.val) :
    addf x (dynamicRotate 0 4#32 none x h) (ix2 j k) = wsum f 7 j.val := by
  rw [dbl_at 4#32 4 rfl (by decide) x h k (wsum f 3) 3 hx j (by omega)]
  simp only [wsum, Nat.sub_sub, Nat.reduceAdd, add_assoc]

theorem sum16_at (hx : ∀ j : Fin 272, 7 ≤ j.val → x (ix2 j k) = wsum f 7 j.val) (j : Fin 272) (hj : 15 ≤ j.val) :
    addf x (dynamicRotate 0 8#32 none x h) (ix2 j k) = wsum f 15 j.val := by
  rw [dbl_at 8#32 8 rfl (by decide) x h k (wsum f 7) 7 hx j (by omega)]
  simp only [wsum, Nat.sub_sub, Nat.reduceAdd, add_assoc]

end

/-- One group of columns of a block's product: the mean over the last rows less the row, against the group's weight. -/
def grp (i : grid0.Coords) (u : FVec Ideal S256x1024 .f32) (cr : FVec Ideal S16x1024 .f32) (W : FVec Ideal S1x256x256 .bf16)
    (o : ℕ) (ho : o ≤ 768) (lags : ℕ) (w : BitVec 32) (r n : Fin 256) : EReal :=
  ∑ k : Fin 256, (Ideal.div (wsum (col u cr ⟨o + k.val, by omega⟩) lags (16 + r.val)) (cnt ((i 1).val * 256 + r.val) w)
    - u (ix2 r ⟨o + k.val, by omega⟩)) * W (ix3 0 k n)

variable (i : grid0.Coords) (u : FVec Ideal S256x1024 .f32) (cr : FVec Ideal S16x1024 .f32) (W : FVec Ideal S1x256x256 .bf16) (r n : Fin 256)

theorem grp0_at : k0_pay9 (F := Ideal) (k0_pay7 i u cr) (k0_pay8 W) (constant S256x256 .f32 0x00000000#32) (ix2 r n)
    = grp i u cr W 0 (by omega) 1 2#32 r n := by
  unfold k0_pay9 k0_pay7 k0_pay8 grp
  dsimp only
  refine (group_at _ _ _ W r n).trans (Finset.sum_congr rfl fun k _ => congrArg (· * W (ix3 0 k n)) (congrArg₂ (· - ·)
    (congrArg₂ Ideal.div ?_ (cnt_at i r _)) (slice_u_at 0 (by omega) u _ r k)))
  exact sum2_at _ _ k _ (slice_col 0 (by omega) u cr _ k) _ (by show 1 ≤ 16 + r.val; omega)

theorem grp1_at : k0_pay10 (F := Ideal) u (k0_pay3 u cr) (k0_pay6 i) W (ix2 r n) = grp i u cr W 256 (by omega) 3 4#32 r n := by
  unfold k0_pay10 grp
  dsimp only
  refine (group_at _ _ _ W r n).trans (Finset.sum_congr rfl fun k _ => congrArg (· * W (ix3 0 k n)) (congrArg₂ (· - ·)
    (congrArg₂ Ideal.div ?_ (cnt_at i r _)) (slice_u_at 256 (by omega) u _ r k)))
  exact sum4_at _ _ k _ (sum2_at _ _ k _ (slice_col 256 (by omega) u cr _ k)) _ (by show 3 ≤ 16 + r.val; omega)

theorem grp2_at : k0_pay11 (F := Ideal) u (k0_pay3 u cr) (k0_pay6 i) W (ix2 r n) = grp i u cr W 512 (by omega) 7 8#32 r n := by
  unfold k0_pay11 grp
  dsimp only
  refine (group_at _ _ _ W r n).trans (Finset.sum_congr rfl fun k _ => congrArg (· * W (ix3 0 k n)) (congrArg₂ (· - ·)
    (congrArg₂ Ideal.div ?_ (cnt_at i r _)) (slice_u_at 512 (by omega) u _ r k)))
  exact sum8_at _ _ k _ (sum4_at _ _ k _ (sum2_at _ _ k _ (slice_col 512 (by omega) u cr _ k))) _ (by show 7 ≤ 16 + r.val; omega)

/-- The four groups side by side, scaled. -/
theorem cat_at (A B C D : FVec Ideal S256x256 .f32) (ps : FVec Ideal S1x1024 .f32) (j : Fin 1024) :
    truncf .bf16 (mulf (concatenate S256x1024 1 [⟨S256x256, A⟩, ⟨S256x256, B⟩, ⟨S256x256, C⟩, ⟨S256x256, D⟩] concatenates_S256x256_S256x256_S256x256_S256x256_S256x1024_d1)
      (broadcastTo S256x1024 (shapeCast S1x1024 ps shapeCasts_S1x1024_S1x1024) broadcasts_S1x1024_S256x1024)) bitsLt_bf16_f32 (ix2 r j)
    = (if h : j.val < 256 then A (ix2 r ⟨j.val, h⟩) else if h : j.val < 512 then B (ix2 r ⟨j.val - 256, by omega⟩)
      else if h : j.val < 768 then C (ix2 r ⟨j.val - 512, by omega⟩) else D (ix2 r ⟨j.val - 768, by omega⟩)) * ps (ix2 0 j) := by
  pointwise []
  refine congrArg (· * ps (ix2 0 j)) ?_
  by_cases h0 : j.val < 256
  · rw [dif_pos h0, dif_pos h0]
  rw [dif_neg h0, dif_neg h0]
  by_cases h1 : j.val < 512
  · rw [dif_pos h1, dif_pos (by omega)]
  rw [dif_neg h1, dif_neg (by omega)]
  by_cases h2 : j.val < 768
  · rw [dif_pos h2, dif_pos (by omega)]
    rfl
  · rw [dif_neg h2, dif_neg (by omega)]
    rfl

/-- A block of the result. -/
def body (W0 W1 W2 W3 : FVec Ideal S1x256x256 .bf16) (ps : FVec Ideal S1x1024 .f32) : FVec Ideal S256x1024 .bf16 :=
  k0_pay1 u (k0_pay6 i) (k0_pay9 (k0_pay7 i u cr) (k0_pay8 W0) (constant S256x256 .f32 0x00000000#32)) (k0_pay10 u (k0_pay3 u cr) (k0_pay6 i) W1)
    (k0_pay11 u (k0_pay3 u cr) (k0_pay6 i) W2) (k0_pay12 (k0_pay3 u cr)) 1#32 W3 ps

theorem body_at (W0 W1 W2 W3 : FVec Ideal S1x256x256 .bf16) (ps : FVec Ideal S1x1024 .f32) (j : Fin 1024) :
    body i u cr W0 W1 W2 W3 ps (ix2 r j)
    = (if h : j.val < 256 then grp i u cr W0 0 (by omega) 1 2#32 r ⟨j.val, h⟩
      else if h : j.val < 512 then grp i u cr W1 256 (by omega) 3 4#32 r ⟨j.val - 256, by omega⟩
      else if h : j.val < 768 then grp i u cr W2 512 (by omega) 7 8#32 r ⟨j.val - 512, by omega⟩
      else grp i u cr W3 768 (by omega) 15 16#32 r ⟨j.val - 768, by omega⟩) * ps (ix2 0 j) := by
  unfold body k0_pay1 k0_pay12
  dsimp only
  refine (cat_at r _ _ _ _ ps j).trans (congrArg (· * ps (ix2 0 j)) ?_)
  by_cases h0 : j.val < 256
  · rw [dif_pos h0, dif_pos h0]
    exact grp0_at i u cr W0 r _
  rw [dif_neg h0, dif_neg h0]
  by_cases h1 : j.val < 512
  · rw [dif_pos h1, dif_pos h1]
    exact grp1_at i u cr W1 r _
  rw [dif_neg h1, dif_neg h1]
  by_cases h2 : j.val < 768
  · rw [dif_pos h2, dif_pos h2]
    exact grp2_at i u cr W2 r _
  rw [dif_neg h2, dif_neg h2]
  unfold grp
  refine (group_at _ _ _ W3 r _).trans (Finset.sum_congr rfl fun k _ => congrArg (· * W3 (ix3 0 k _)) (congrArg₂ (· - ·)
    (congrArg₂ Ideal.div ?_ (cnt_at i r _)) (slice_u_at 768 (by omega) u _ r k)))
  exact sum16_at _ _ k _ (sum8_at _ _ k _ (sum4_at _ _ k _ (sum2_at _ _ k _ (slice_col 768 (by omega) u cr _ k)))) _ (by show 15 ≤ 16 + r.val; omega)

/-! ## The result, from the four argument arrays -/

/-- A sequence's rows of one column with the 15 rows before them: row `s` is the sequence's row `s - 16`. -/
def zrow (P : FVec Ideal S16384x8704 .f32) (past : FVec Ideal S8x15x1024 .f32) (b : Fin 8) (k : Fin 1024) (s : ℕ) : EReal :=
  if h : 1 ≤ s ∧ s < 16 then past (ix3 b ⟨s - 1, by omega⟩ k)
  else if h : s - 16 < 2048 then P (ix2 ⟨b.val * 2048 + (s - 16), by omega⟩ ⟨3072 + k.val, by omega⟩) else 0

/-- How many rows before its own a group's mean takes. -/
def lags : Fin 4 → ℕ := ![1, 3, 7, 15]

/-- How many rows a group's mean takes. -/
def wins : Fin 4 → BitVec 32 := ![2#32, 4#32, 8#32, 16#32]

/-- One entry of the result: sequence `b`, step `p`, column `n` of group `g`. -/
def gout (P : FVec Ideal S16384x8704 .f32) (past : FVec Ideal S8x15x1024 .f32) (W : FVec Ideal S4x256x256 .f32) (sc : FVec Ideal S1024 .f32)
    (b : Fin 8) (p : Fin 2048) (g : Fin 4) (n : Fin 256) : EReal :=
  (∑ k : Fin 256, (Ideal.div (wsum (zrow P past b ⟨g.val * 256 + k.val, by omega⟩) (lags g) (16 + p.val)) (cnt p.val (wins g))
    - P (ix2 ⟨b.val * 2048 + p.val, by omega⟩ ⟨3072 + (g.val * 256 + k.val), by omega⟩)) * W (ix3 g k n)) * sc (ix1 ⟨g.val * 256 + n.val, by omega⟩)

/-- Moving a window's rows by the same number of rows moves its sum. -/
theorem wsum_congr (f f' : ℕ → EReal) (j j' : ℕ) : ∀ n : ℕ, (∀ l ≤ n, f (j - l) = f' (j' - l)) → wsum f n j = wsum f' n j'
  | 0, h => h 0 (Nat.le_refl 0)
  | n + 1, h => congrArg₂ (· + ·) (wsum_congr f f' j j' n fun l hl => h l (Nat.le_succ_of_le hl)) (h (n + 1) (Nat.le_refl _))

end Cert.PoolMath
-- ==== Proof.Pool.lean ====
module

public import proofs.«01_k».proof.Proof.Gen.PoolIdeal.Value
public import proofs.«01_k».proof.Proof.PoolMath
public import Idealize.ShloMosaic.Lib.Pipeline.ValueKit
public import Idealize.ShloMosaic.Lib.Claim

/-! The pooling mixer's kernel side: a grid point takes 256 rows of one sequence, with the 16 rows before them kept in
    the scratch from the point before. -/

@[expose] public section

set_option maxRecDepth 16384

noncomputable section

namespace Cert.PoolProof

open Idealize.ShloMosaic Idealize.ShloMosaic.TcCoe Idealize.SL.Sem
open Idealize.ShloMosaic.Pipeline (Dat)
open Cert.PoolIdeal Cert.PoolIdeal.Gen Cert.PoolMath

variable (m : (ℓ : Loc nD τ sig) → Buf (Elt Ideal) ℓ)

/-- Where each window's block sits at grid point `t`. -/
theorem idx : ∀ t : Fin cfg0.N, win0_0.index t = ![t.val, 3] ∧ win0_1.index t = ![t.val / 8, 0, 0]
    ∧ win0_2.index t = ![0, 0, 0] ∧ win0_3.index t = ![0, 0]
    ∧ win0_4.index t = ![t.val, 0] ∧ win0_5.index t = ![t.val / 8, 0, 0] :=
  (by decide +kernel : ∀ t : Fin grid0.N, _)

/-- The second grid coordinate of point `t`: its place among its sequence's points. -/
theorem coord : ∀ t : Fin cfg0.N, ((cfg0.grid.coords t) 1).val = t.val % 8 :=
  (by decide +kernel : ∀ t : Fin grid0.N, _)

/-- The last 16 rows of a block. -/
def lastRows (u : FVec Ideal S256x1024 .f32) : FVec Ideal S16x1024 .f32 := fun y => u (ix2 ⟨240 + (y 0).val, by have := (y 0).isLt; simp at this; omega⟩ (y 1))

theorem pay4_eq (u : FVec Ideal S256x1024 .f32) (cr : FVec Ideal S16x1024 .f32) : k0_pay4 u cr = lastRows u := by
  funext y
  obtain ⟨r, k, rfl⟩ : ∃ (r : Fin 16) (k : Fin 1024), y = ix2 r k := ⟨y 0, y 1, eq_ix2 y⟩
  pointwise [k0_pay4, k0_pay3, lastRows]
  rw [dif_neg (by omega)]
  refine congrArg u ?_
  blk_ext []

/-- After every point the scratch holds the last rows of the point's block. -/
theorem scratch (c : Dev nD) (t : Fin cfg0.N) : (outsAt0 m c t.val t.isLt).2.2 = lastRows (X0_0 m c t) := by
  by_cases h0 : t.val % 8 = 0
  · rw [outsAt0_A m c t h0]
    refine Eq.trans ?_ (pay4_eq (X0_0 m c t) (k0_pay2 (iblk m c 1 t)))
    frame_out
  · rw [outsAt0_B m c t h0]
    refine Eq.trans ?_ (pay4_eq (X0_0 m c t) (outsAt0 m c (t.val - 1) (Nat.lt_of_le_of_lt (Nat.sub_le _ _) t.isLt)).2.2)
    frame_out
    exact congrArg (fun h => k0_pay4 (X0_0 m c t) h) ((Memref.isWhole_whole cc0_scratch0).read_unread _)

/-- The rows before the sequences as the kernel takes them: one row of zeros in front. -/
def padded (past : FVec Ideal S8x15x1024 .f32) : FVec Ideal S8x16x1024 .f32 :=
  pad S8x16x1024 ![0, 1, 0] ![0, 0, 0] ![0, 0, 0] past (sitofp .f32 (constantI S_ 32 0#32)) pads_S8x15x1024_S8x16x1024_000_100_000

theorem padded_at (past : FVec Ideal S8x15x1024 .f32) (b : Fin 8) (r : Fin 16) (k : Fin 1024) (r' : Fin 15) (h : r.val = r'.val + 1) :
    padded past (ix3 b r k) = past (ix3 b r' k) := by
  unfold padded
  pointwise []
  rw [dif_pos (by omega)]
  refine congrArg past ?_
  blk_ext []

theorem arr_past (c : Dev nD) : V m c main_v0 = padded (m ((c : Thread nD τ).loc main_arg1)) := by
  unfold padded
  show StableHlo.after (List.flatten [hostOps0, hostOps0_1, hostOps0_2]) (fun b => m (c, b)) (Proc.devRef .tc main_v0) = _
  simp only [hostOps0, hostOps0_1, hostOps0_2, List.flatten_cons, List.flatten_nil, List.append_nil, List.cons_append, List.nil_append]
  after_results <;> rfl

theorem arr_w (c : Dev nD) : V m c main_v1 = (m ((c : Thread nD τ).loc main_arg2) : FVec Ideal S4x256x256 .f32) := by
  show StableHlo.after (List.flatten [hostOps0, hostOps0_1, hostOps0_2]) (fun b => m (c, b)) (Proc.devRef .tc main_v1) = _
  simp only [hostOps0, hostOps0_1, hostOps0_2, List.flatten_cons, List.flatten_nil, List.append_nil, List.cons_append, List.nil_append]
  after_results <;> rfl

theorem arr_scale (c : Dev nD) : V m c main_v2 = shapeCast S1x1024 (m ((c : Thread nD τ).loc main_arg3) : FVec Ideal S1024 .f32) shapeCasts_S1024_S1x1024 := by
  show StableHlo.after (List.flatten [hostOps0, hostOps0_1, hostOps0_2]) (fun b => m (c, b)) (Proc.devRef .tc main_v2) = _
  simp only [hostOps0, hostOps0_1, hostOps0_2, List.flatten_cons, List.flatten_nil, List.append_nil, List.cons_append, List.nil_append]
  after_results <;> rfl

/-- One entry of the point's block of rows. -/
theorem rows_at (c : Dev nD) (t : Fin cfg0.N) (r : Fin 256) (k : Fin 1024) (R : Fin 16384) (K : Fin 8704)
    (hR : R.val = t.val * 256 + r.val) (hK : K.val = 3072 + k.val) :
    (X0_0 m c t : FVec Ideal S256x1024 .f32) (ix2 r k) = (m ((c : Thread nD τ).loc main_arg0) : FVec Ideal S16384x8704 .f32) (ix2 R K) := by
  unfold X0_0 Pipeline.Window.fill
  rw [dif_pos (moved0_0 t _)]
  blk_point [iblk, V, idx t]

/-- One entry of the rows before the sequence. -/
theorem past_at (c : Dev nD) (t : Fin cfg0.N) (r : Fin 16) (k : Fin 1024) (b : Fin 8) (r' : Fin 15) (hb : b.val = t.val / 8)
    (h : r.val = r'.val + 1) :
    (k0_pay2 (iblk m c 1 t) : FVec Ideal S16x1024 .f32) (ix2 r k) = (m ((c : Thread nD τ).loc main_arg1) : FVec Ideal S8x15x1024 .f32) (ix3 b r' k) := by
  refine Eq.trans ?_ (padded_at _ b r k r' h)
  rw [← arr_past]
  pointwise [k0_pay2]
  blk_point [iblk, idx t]

theorem w_at (c : Dev nD) (t : Fin cfg0.N) (y : S4x256x256.Idx) :
    (iblk m c 2 t : FVec Ideal S4x256x256 .bf16) y = (m ((c : Thread nD τ).loc main_arg2) : FVec Ideal S4x256x256 .f32) y := by
  refine Eq.trans ?_ (congrFun (arr_w m c) y)
  blk_point [iblk, idx t]

theorem scale_at (c : Dev nD) (t : Fin cfg0.N) (k : Fin 1024) :
    (iblk m c 3 t : FVec Ideal S1x1024 .f32) (ix2 0 k) = (m ((c : Thread nD τ).loc main_arg3) : FVec Ideal S1024 .f32) (ix1 k) := by
  refine Eq.trans ?_ ((congrFun (arr_scale m c) (ix2 0 k)).trans ?_)
  · blk_point [iblk, idx t]
  · pointwise []

/-- The 16 rows before the point's block: the rows before the sequence at a sequence's first point, the last rows of the
    point before at the others. -/
def carry (c : Dev nD) (t : Fin cfg0.N) : FVec Ideal S16x1024 .f32 :=
  if t.val % 8 = 0 then k0_pay2 (iblk m c 1 t) else (outsAt0 m c (t.val - 1) (Nat.lt_of_le_of_lt (Nat.sub_le _ _) t.isLt)).2.2

/-- Group `g`'s weight, of the four in the point's block. -/
def wpart (W : FVec Ideal S4x256x256 .bf16) (g : Fin 4) : FVec Ideal S1x256x256 .bf16 := fun y => W (ix3 g (y 1) (y 2))

theorem wpart_eq (W : FVec Ideal S4x256x256 .bf16) (g : Fin 4) (h) :
    View.ld (Val := Elt Ideal) (e' := .bf16) W (Rect.unit (s := S4x256x256) ![g.val, 0, 0] S1x256x256.size h) = wpart W g := by
  funext y
  unfold wpart
  obtain ⟨a, b, c, rfl⟩ : ∃ (a : Fin 1) (b c : Fin 256), y = ix3 a b c := ⟨y 0, y 1, y 2, eq_ix3 y⟩
  refine congrArg W (funext fun x => Fin.ext ?_)
  fin_cases x
  · show g.val + 1 * a.val = g.val
    omega
  · show 0 + 1 * b.val = b.val
    omega
  · show 0 + 1 * c.val = c.val
    omega

/-- What a point leaves in its block of the result. -/
theorem outs_y (c : Dev nD) (t : Fin cfg0.N) : (outsAt0 m c t.val t.isLt).1
    = body (grid0.coords t) (X0_0 m c t) (carry m c t) (wpart (iblk m c 2 t) 0) (wpart (iblk m c 2 t) 1) (wpart (iblk m c 2 t) 2) (wpart (iblk m c 2 t) 3) (iblk m c 3 t) := by
  unfold body carry
  by_cases h0 : t.val % 8 = 0
  · rw [if_pos h0, outsAt0_A m c t h0]
    frame_out
    rw [← wpart_eq (iblk m c 2 t) 0 inb_S4x256x256_S1x256x256_0_0_0, ← wpart_eq (iblk m c 2 t) 1 inb_S4x256x256_S1x256x256_1_0_0,
      ← wpart_eq (iblk m c 2 t) 2 inb_S4x256x256_S1x256x256_2_0_0, ← wpart_eq (iblk m c 2 t) 3 inb_S4x256x256_S1x256x256_3_0_0]
    rfl
  · rw [if_neg h0, outsAt0_B m c t h0]
    frame_out
    rw [← wpart_eq (iblk m c 2 t) 0 inb_S4x256x256_S1x256x256_0_0_0, ← wpart_eq (iblk m c 2 t) 1 inb_S4x256x256_S1x256x256_1_0_0,
      ← wpart_eq (iblk m c 2 t) 2 inb_S4x256x256_S1x256x256_2_0_0, ← wpart_eq (iblk m c 2 t) 3 inb_S4x256x256_S1x256x256_3_0_0]
    exact congrArg (fun h => body (grid0.coords t) (X0_0 m c t) h _ _ _ _ (iblk m c 3 t)) ((Memref.isWhole_whole cc0_scratch0).read_unread _)

/-- What a point leaves in its block of last rows. -/
theorem outs_s (c : Dev nD) (t : Fin cfg0.N) (r : Fin 16) (k : Fin 1024) :
    (outsAt0 m c t.val t.isLt).2.1 (ix3 0 r k) = (X0_0 m c t : FVec Ideal S256x1024 .f32) (ix2 ⟨240 + r.val, by omega⟩ k) := by
  have e : (outsAt0 m c t.val t.isLt).2.1 = k0_pay5 (X0_0 m c t) (carry m c t) := by
    unfold carry
    by_cases h0 : t.val % 8 = 0
    · rw [if_pos h0, outsAt0_A m c t h0]
      frame_out
    · rw [if_neg h0, outsAt0_B m c t h0]
      frame_out
      exact congrArg (fun h => k0_pay5 (X0_0 m c t) h) ((Memref.isWhole_whole cc0_scratch0).read_unread _)
  rw [e]
  refine Eq.trans ?_ (congrFun (pay4_eq (X0_0 m c t) (carry m c t)) (ix2 r k))
  generalize X0_0 m c t = u
  generalize carry m c t = cr
  pointwise [k0_pay5, k0_pay4]

/-- The sequence of a point. -/
def seqOf (t : Fin cfg0.N) : Fin 8 := ⟨t.val / 8, by have h := t.isLt; have h2 : cfg0.N = 64 := N_0; omega⟩

/-- The columns a point works on, its block under the 16 rows before it, are the sequence's from row `256 (t % 8)` on. -/
theorem col_at (c : Dev nD) (t : Fin cfg0.N) (k : Fin 1024) (j : ℕ) (h1 : 1 ≤ j) (h : j < 272) :
    col (X0_0 m c t) (carry m c t) k j
    = zrow (m ((c : Thread nD τ).loc main_arg0)) (m ((c : Thread nD τ).loc main_arg1)) (seqOf t) k (t.val % 8 * 256 + j) := by
  have hN : t.val < 64 := lt_of_lt_of_eq t.isLt (show cfg0.N = 64 from N_0)
  have e : col (X0_0 m c t) (carry m c t) k j = if h : j < 16 then (carry m c t) (ix2 ⟨j, h⟩ k)
      else (X0_0 m c t : FVec Ideal S256x1024 .f32) (ix2 ⟨j - 16, by omega⟩ k) := by
    unfold col
    rw [dif_pos h]
    generalize X0_0 m c t = u
    generalize carry m c t = cr
    pointwise [k0_pay3]
  rw [e]
  unfold zrow
  by_cases hj : j < 16
  · rw [dif_pos hj]
    unfold carry
    by_cases h0 : t.val % 8 = 0
    · rw [if_pos h0, dif_pos (by omega)]
      exact past_at m c t _ k (seqOf t) _ rfl (by show j = t.val % 8 * 256 + j - 1 + 1; omega)
    · rw [if_neg h0, dif_neg (by omega), dif_pos (by omega)]
      have hs := scratch m c ⟨t.val - 1, Nat.lt_of_le_of_lt (Nat.sub_le _ _) t.isLt⟩
      refine (congrFun hs (ix2 ⟨j, hj⟩ k)).trans ?_
      refine rows_at m c ⟨t.val - 1, _⟩ ⟨240 + j, by omega⟩ k _ _ ?_ rfl
      show t.val / 8 * 2048 + (t.val % 8 * 256 + j - 16) = (t.val - 1) * 256 + (240 + j)
      omega
  · rw [dif_neg hj, dif_neg (by omega), dif_pos (by omega)]
    refine rows_at m c t ⟨j - 16, by omega⟩ k _ _ ?_ rfl
    show t.val / 8 * 2048 + (t.val % 8 * 256 + j - 16) = t.val * 256 + (j - 16)
    omega

/-- One group of a point's product is the result's group. -/
theorem grp_at (c : Dev nD) (t : Fin cfg0.N) (g : Fin 4) (o : ℕ) (ho : o ≤ 768) (hg : o = g.val * 256) (r n : Fin 256) :
    grp (grid0.coords t) (X0_0 m c t) (carry m c t) (wpart (iblk m c 2 t) g) o ho (lags g) (wins g) r n
      * (iblk m c 3 t : FVec Ideal S1x1024 .f32) (ix2 0 ⟨o + n.val, by omega⟩)
    = gout (m ((c : Thread nD τ).loc main_arg0)) (m ((c : Thread nD τ).loc main_arg1)) (m ((c : Thread nD τ).loc main_arg2)) (m ((c : Thread nD τ).loc main_arg3))
      (seqOf t) ⟨t.val % 8 * 256 + r.val, by omega⟩ g n := by
  subst hg
  have hN : t.val < 64 := lt_of_lt_of_eq t.isLt (show cfg0.N = 64 from N_0)
  have hl : lags g ≤ 15 := by fin_cases g <;> simp [lags]
  unfold grp gout
  rw [scale_at]
  refine congrArg (· * _) (Finset.sum_congr rfl fun k _ => congrArg₂ (· * ·) (congrArg₂ (· - ·) (congrArg₂ Ideal.div ?_ ?_) ?_) ?_)
  · refine wsum_congr _ _ _ _ _ fun l hl' => ?_
    rw [col_at m c t _ _ (by omega) (by omega)]
    refine congrArg _ ?_
    show t.val % 8 * 256 + (16 + r.val - l) = 16 + (t.val % 8 * 256 + r.val) - l
    omega
  · exact congrArg (fun x => cnt (x * 256 + r.val) (wins g)) (coord t)
  · refine rows_at m c t r _ _ _ ?_ rfl
    show t.val / 8 * 2048 + (t.val % 8 * 256 + r.val) = t.val * 256 + r.val
    omega
  · exact w_at m c t (ix3 g k n)

/-- One entry of what a point leaves in its block of the result. -/
theorem point (c : Dev nD) (t : Fin cfg0.N) (r n : Fin 256) (g : Fin 4) (j : Fin 1024) (hj : j.val = g.val * 256 + n.val) :
    (outsAt0 m c t.val t.isLt).1 (ix2 r j)
    = gout (m ((c : Thread nD τ).loc main_arg0)) (m ((c : Thread nD τ).loc main_arg1)) (m ((c : Thread nD τ).loc main_arg2)) (m ((c : Thread nD τ).loc main_arg3))
      (seqOf t) ⟨t.val % 8 * 256 + r.val, by omega⟩ g n := by
  rw [outs_y, body_at]
  match g, hj with
  | 0, hj =>
    have hj' : j.val = 0 + n.val := hj
    refine Eq.trans (congrArg₂ (· * ·) ?_ (congrArg (fun x => (iblk m c 3 t : FVec Ideal S1x1024 .f32) (ix2 0 x)) (Fin.ext hj' : j = ⟨0 + n.val, by omega⟩)))
      (grp_at m c t 0 0 (by omega) rfl r n)
    rw [dif_pos (by omega)]
    exact congrArg (grp _ _ _ _ 0 _ _ _ r) (Fin.ext (by show j.val = n.val; omega))
  | 1, hj =>
    have hj' : j.val = 256 + n.val := hj
    refine Eq.trans (congrArg₂ (· * ·) ?_ (congrArg (fun x => (iblk m c 3 t : FVec Ideal S1x1024 .f32) (ix2 0 x)) (Fin.ext hj' : j = ⟨256 + n.val, by omega⟩)))
      (grp_at m c t 1 256 (by omega) rfl r n)
    rw [dif_neg (by omega), dif_pos (by omega)]
    exact congrArg (grp _ _ _ _ 256 _ _ _ r) (Fin.ext (by show j.val - 256 = n.val; omega))
  | 2, hj =>
    have hj' : j.val = 512 + n.val := hj
    refine Eq.trans (congrArg₂ (· * ·) ?_ (congrArg (fun x => (iblk m c 3 t : FVec Ideal S1x1024 .f32) (ix2 0 x)) (Fin.ext hj' : j = ⟨512 + n.val, by omega⟩)))
      (grp_at m c t 2 512 (by omega) rfl r n)
    rw [dif_neg (by omega), dif_neg (by omega), dif_pos (by omega)]
    exact congrArg (grp _ _ _ _ 512 _ _ _ r) (Fin.ext (by show j.val - 512 = n.val; omega))
  | 3, hj =>
    have hj' : j.val = 768 + n.val := hj
    refine Eq.trans (congrArg₂ (· * ·) ?_ (congrArg (fun x => (iblk m c 3 t : FVec Ideal S1x1024 .f32) (ix2 0 x)) (Fin.ext hj' : j = ⟨768 + n.val, by omega⟩)))
      (grp_at m c t 3 768 (by omega) rfl r n)
    rw [dif_neg (by omega), dif_neg (by omega), dif_neg (by omega)]
    exact congrArg (grp _ _ _ _ 768 _ _ _ r) (Fin.ext (by show j.val - 768 = n.val; omega))

/-- The result array, index by index. -/
def OUT (P : FVec Ideal S16384x8704 .f32) (past : FVec Ideal S8x15x1024 .f32) (W : FVec Ideal S4x256x256 .f32) (sc : FVec Ideal S1024 .f32) :
    FVec Ideal S16384x1024 .bf16 := fun i =>
  gout P past W sc ⟨(i 0).val / 2048, by have h : (i 0).val < 16384 := (i 0).isLt; omega⟩ ⟨(i 0).val % 2048, by omega⟩
    ⟨(i 1).val / 256, by have h : (i 1).val < 1024 := (i 1).isLt; omega⟩ ⟨(i 1).val % 256, by omega⟩

/-- The array of last rows, index by index. -/
def LAST (P : FVec Ideal S16384x8704 .f32) : FVec Ideal S8x16x1024 .f32 := fun i =>
  P (ix2 ⟨(i 0).val * 2048 + (2032 + (i 1).val), by have h : (i 0).val < 8 := (i 0).isLt; have h' : (i 1).val < 16 := (i 1).isLt; omega⟩
    ⟨3072 + (i 2).val, by have h : (i 2).val < 1024 := (i 2).isLt; omega⟩)

/-- The result array after the run. -/
theorem final_y (c : Dev nD) : (dats m 0 c).arrAt 4 (cfgs 0).N
    = OUT (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t ht y => ?_
  have hN : t.val < 64 := lt_of_lt_of_eq t.isLt (show cfg0.N = 64 from N_0)
  blk_simp
  rw [after0_4]
  have h0 : (y 0).val < 256 := (y 0).isLt
  have h1 : (y 1).val < 1024 := (y 1).isLt
  have e : ((cfg0.win 4).blk t).view.emb y = ix2 (n0 := 16384) (n1 := 1024) ⟨t.val * 256 + (y 0).val, by omega⟩ ⟨(y 1).val, h1⟩ := by
    blk_ext [idx t]
  rw [e]
  refine (congrArg (outsAt0 m c t.val t.isLt).1 (eq_ix2 (y : S256x1024.Idx))).trans ?_
  refine (point m c t (y 0) ⟨(y 1).val % 256, by omega⟩ ⟨(y 1).val / 256, by omega⟩ (y 1) (by show (y 1).val = (y 1).val / 256 * 256 + (y 1).val % 256; omega)).trans ?_
  unfold OUT
  refine congrArg₂ (fun b p => gout _ _ _ _ b p _ _) (Fin.ext ?_) (Fin.ext ?_)
  · show t.val / 8 = (t.val * 256 + (y 0).val) / 2048
    omega
  · show t.val % 8 * 256 + (y 0).val = (t.val * 256 + (y 0).val) % 2048
    omega

/-- The array of last rows after the run. -/
theorem final_s (c : Dev nD) : (dats m 0 c).arrAt 5 (cfgs 0).N = LAST (m ((c : Thread nD τ).loc main_arg0)) := by
  refine (dats m 0 c).arrAt_eq_of_covers 5 _ (by decide +kernel) fun t ht y => ?_
  have hN : t.val < 64 := lt_of_lt_of_eq t.isLt (show cfg0.N = 64 from N_0)
  have h7 := (flush0_5 t).mp ht
  blk_simp
  rw [after0_5]
  have h0 : (y 0).val < 1 := (y 0).isLt
  have e : ((cfg0.win 5).blk t).view.emb y = ix3 (n0 := 8) (n1 := 16) (n2 := 1024) ⟨t.val / 8, by omega⟩ (y 1) (y 2) := by
    blk_ext [idx t]
  have e' : (y : S1x16x1024.Idx) = ix3 0 (y 1) (y 2) := by
    refine (ix3_eta y).symm.trans (congrArg (fun a => ix3 (n0 := 1) a (y 1) (y 2)) (Fin.ext ?_))
    show (y 0).val = 0
    omega
  rw [e]
  refine (congrArg (outsAt0 m c t.val t.isLt).2.1 e').trans ((outs_s m c t (y 1) (y 2)).trans ?_)
  refine rows_at m c t ⟨240 + (y 1).val, _⟩ (y 2) _ _ ?_ rfl
  show t.val / 8 * 2048 + (2032 + (y 1).val) = t.val * 256 + (240 + (y 1).val)
  omega

end Cert.PoolProof
-- ==== Proof.PoolRef.lean ====
module

public import proofs.«01_k».proof.Proof.Gen.PoolRefIdeal.Read
public import proofs.«01_k».proof.Proof.PoolMath

/-! The pooling mixer's reference read at an index. -/

@[expose] public section

set_option maxRecDepth 16384

noncomputable section

namespace Cert.PoolRefProof

open Idealize.ShloMosaic Idealize.ShloMosaic.TcCoe Idealize.SL.Sem
open Cert.PoolRefIdeal Cert.PoolRefIdeal.Gen Cert.PoolRefIdeal.Read Cert.PoolMath

variable (P : FVec Ideal S16384x8704 .f32) (past : FVec Ideal S8x15x1024 .f32) (W : FVec Ideal S4x256x256 .f32) (sc : FVec Ideal S1024 .f32)

theorem u_at (b : Fin 8) (p : Fin 2048) (k : Fin 1024) :
    val_main_v1 (F := Ideal) P (ix3 b p k) = P (ix2 ⟨b.val * 2048 + p.val, by omega⟩ ⟨3072 + k.val, by omega⟩) := by
  pointwise [val_main_v1, val_main_v0]

theorem z_at (b : Fin 8) (s : Fin 2063) (k : Fin 1024) : val_main_v2 (F := Ideal) P past (ix3 b s k) = zrow P past b k (s.val + 1) := by
  unfold zrow
  pointwise [val_main_v2, val_main_v1, val_main_v0]
  by_cases h : s.val < 15
  · rw [dif_pos h, dif_pos (by omega)]
    rfl
  · rw [dif_neg h, dif_neg (by omega), dif_pos (by omega)]
    refine congrArg (fun r => P (ix2 r _)) (Fin.ext ?_)
    show b.val * 2048 + (s.val - 15) = b.val * 2048 + (s.val + 1 - 16)
    omega

/-- The rows `15 - l` before a sequence's rows. -/
theorem shift_at (l : ℕ) (hl : l ≤ 14) (h) (b : Fin 8) (p : Fin 2048) (k : Fin 1024) :
    extractStridedSlice S8x2048x1024 ![0, l, 0] (val_main_v2 (F := Ideal) P past) h (ix3 b p k) = zrow P past b k (16 + p.val - (15 - l)) := by
  have e : extractStridedSlice S8x2048x1024 ![0, l, 0] (val_main_v2 (F := Ideal) P past) h (ix3 b p k)
      = val_main_v2 (F := Ideal) P past (ix3 b ⟨l + p.val, by omega⟩ k) := by
    pointwise []
  rw [e, z_at]
  refine congrArg _ ?_
  show l + p.val + 1 = 16 + p.val - (15 - l)
  omega

/-- Adding the rows one further back lengthens the sum by one. -/
theorem next_at (A : FVec Ideal S8x2048x1024 .f32) (n l : ℕ) (hl : l + n = 14) (h)
    (hA : ∀ (b : Fin 8) (p : Fin 2048) (k : Fin 1024), A (ix3 b p k) = wsum (zrow P past b k) n (16 + p.val)) (b : Fin 8) (p : Fin 2048) (k : Fin 1024) :
    addf A (extractStridedSlice S8x2048x1024 ![0, l, 0] (val_main_v2 (F := Ideal) P past) h) (ix3 b p k) = wsum (zrow P past b k) (n + 1) (16 + p.val) := by
  refine congrArg₂ (· + ·) (hA b p k) ((shift_at P past l (by omega) h b p k).trans (congrArg _ ?_))
  omega

theorem total0_at (b : Fin 8) (p : Fin 2048) (k : Fin 1024) : val_main_v1 (F := Ideal) P (ix3 b p k) = wsum (zrow P past b k) 0 (16 + p.val) := by
  rw [u_at]
  show _ = zrow P past b k (16 + p.val)
  unfold zrow
  rw [dif_neg (by omega), dif_pos (by omega)]
  refine congrArg (fun r => P (ix2 r _)) (Fin.ext ?_)
  show b.val * 2048 + p.val = b.val * 2048 + (16 + p.val - 16)
  omega

section
variable (b : Fin 8) (p : Fin 2048) (k : Fin 1024)

theorem total1_at : val_main_v5 (F := Ideal) P past (ix3 b p k) = wsum (zrow P past b k) 1 (16 + p.val) :=
  next_at P past _ 0 14 rfl _ (total0_at P past) b p k

theorem total3_at : val_main_v18 (F := Ideal) P past (ix3 b p k) = wsum (zrow P past b k) 3 (16 + p.val) :=
  next_at P past _ 2 12 rfl _ (next_at P past _ 1 13 rfl _ (total1_at P past)) b p k

theorem total7_at : val_main_v35 (F := Ideal) P past (ix3 b p k) = wsum (zrow P past b k) 7 (16 + p.val) :=
  next_at P past _ 6 8 rfl _ (next_at P past _ 5 9 rfl _ (next_at P past _ 4 10 rfl _ (next_at P past _ 3 11 rfl _ (total3_at P past)))) b p k

theorem total15_at : val_main_v60 (F := Ideal) P past (ix3 b p k) = wsum (zrow P past b k) 15 (16 + p.val) :=
  next_at P past _ 14 0 rfl _ (next_at P past _ 13 1 rfl _ (next_at P past _ 12 2 rfl _ (next_at P past _ 11 3 rfl _ (next_at P past _ 10 4 rfl _ (next_at P past _ 9 5 rfl _ (next_at P past _ 8 6 rfl _ (next_at P past _ 7 7 rfl _ (total7_at P past)))))))) b p k

end

section
variable (b : Fin 8) (p : Fin 2048) (k : Fin 256)

theorem mean0_at : val_main_v14 (F := Ideal) P past (ix3 b p k)
    = Ideal.div (wsum (zrow P past b ⟨0 + k.val, by omega⟩) 1 (16 + p.val)) (cnt p.val 2#32) := by
  rw [← total1_at]
  unfold cnt
  pointwise [val_main_c, val_main_c_0, val_main_v10, val_main_v11, val_main_v12, val_main_v13, val_main_v14, val_main_v3, val_main_v6, val_main_v7, val_main_v8, val_main_v9]

theorem mean1_at : val_main_v27 (F := Ideal) P past (ix3 b p k)
    = Ideal.div (wsum (zrow P past b ⟨256 + k.val, by omega⟩) 3 (16 + p.val)) (cnt p.val 4#32) := by
  rw [← total3_at]
  unfold cnt
  pointwise [val_main_c_1, val_main_c_2, val_main_v19, val_main_v20, val_main_v21, val_main_v22, val_main_v23, val_main_v24, val_main_v25, val_main_v26, val_main_v27, val_main_v3]

theorem mean2_at : val_main_v44 (F := Ideal) P past (ix3 b p k)
    = Ideal.div (wsum (zrow P past b ⟨512 + k.val, by omega⟩) 7 (16 + p.val)) (cnt p.val 8#32) := by
  rw [← total7_at]
  unfold cnt
  pointwise [val_main_c_3, val_main_c_4, val_main_v3, val_main_v36, val_main_v37, val_main_v38, val_main_v39, val_main_v40, val_main_v41, val_main_v42, val_main_v43, val_main_v44]

theorem mean3_at : val_main_v69 (F := Ideal) P past (ix3 b p k)
    = Ideal.div (wsum (zrow P past b ⟨768 + k.val, by omega⟩) 15 (16 + p.val)) (cnt p.val 16#32) := by
  rw [← total15_at]
  unfold cnt
  pointwise [val_main_c_5, val_main_c_6, val_main_v3, val_main_v61, val_main_v62, val_main_v63, val_main_v64, val_main_v65, val_main_v66, val_main_v67, val_main_v68, val_main_v69]

end

/-- A group's means, of the four side by side. -/
theorem means_at (b : Fin 8) (p : Fin 2048) (g : Fin 4) (k : Fin 256) (j : Fin 1024) (hj : j.val = g.val * 256 + k.val) :
    val_main_v70 (F := Ideal) P past (ix3 b p j)
    = Ideal.div (wsum (zrow P past b ⟨g.val * 256 + k.val, by omega⟩) (lags g) (16 + p.val)) (cnt p.val (wins g)) := by
  unfold val_main_v70
  have e : ∀ A B C D : FVec Ideal S8x2048x256 .f32, concatenate S8x2048x1024 2 [⟨S8x2048x256, A⟩, ⟨S8x2048x256, B⟩, ⟨S8x2048x256, C⟩, ⟨S8x2048x256, D⟩]
      concatenates_S8x2048x256_S8x2048x256_S8x2048x256_S8x2048x256_S8x2048x1024_d2 (ix3 b p j) = (![A, B, C, D] g) (ix3 b p k) := by
    intro A B C D
    pointwise []
    match g, hj with
    | 0, hj =>
      have hj' : j.val = 0 + k.val := hj
      rw [dif_pos (by omega)]
      exact congrArg (fun x => A (ix3 b p x)) (Fin.ext (by show j.val = k.val; omega))
    | 1, hj =>
      have hj' : j.val = 256 + k.val := hj
      rw [dif_neg (by omega), dif_pos (by omega)]
      exact congrArg (fun x => B (ix3 b p x)) (Fin.ext (by show j.val - 256 = k.val; omega))
    | 2, hj =>
      have hj' : j.val = 512 + k.val := hj
      rw [dif_neg (by omega), dif_neg (by omega), dif_pos (by omega)]
      exact congrArg (fun x => C (ix3 b p x)) (Fin.ext (by show j.val - 256 - 256 = k.val; omega))
    | 3, hj =>
      have hj' : j.val = 768 + k.val := hj
      rw [dif_neg (by omega), dif_neg (by omega), dif_neg (by omega)]
      exact congrArg (fun x => D (ix3 b p x)) (Fin.ext (by show j.val - 256 - 256 - 256 = k.val; omega))
  rw [e]
  match g with
  | 0 => exact mean0_at P past b p k
  | 1 => exact mean1_at P past b p k
  | 2 => exact mean2_at P past b p k
  | 3 => exact mean3_at P past b p k

/-- The reference's first result. -/
theorem result_at (R : Fin 16384) (j : Fin 1024) (b : Fin 8) (p : Fin 2048) (g : Fin 4) (n : Fin 256) (hR : R.val = b.val * 2048 + p.val)
    (hj : j.val = g.val * 256 + n.val) :
    val_main_v79 (F := Ideal) P past W sc (ix2 R j) = gout P past W sc b p g n := by
  pointwise [val_main_v79, val_main_v78, val_main_v77, val_main_v76, val_main_v75, val_main_v74, val_main_v73, val_main_v72, val_main_v71]
  have e0 : (⟨R.val / 2048, by omega⟩ : Fin 8) = b := Fin.ext (by show R.val / 2048 = b.val; omega)
  have e1 : (⟨R.val % 2048, by omega⟩ : Fin 2048) = p := Fin.ext (by show R.val % 2048 = p.val; omega)
  have e2 : (⟨j.val / 256, by omega⟩ : Fin 4) = g := Fin.ext (by show j.val / 256 = g.val; omega)
  have e3 : (⟨j.val % 256, by omega⟩ : Fin 256) = n := Fin.ext (by show j.val % 256 = n.val; omega)
  have e4 : j = ⟨g.val * 256 + n.val, by omega⟩ := Fin.ext hj
  unfold gout
  rw [e0, e1, e2, e3]
  refine congrArg₂ (· * ·) (Finset.sum_congr rfl fun x _ => (mul_comm _ _).trans (congrArg (· * W (ix3 g x n)) ?_)) (congrArg (fun q => sc (ix1 q)) e4)
  have hx : j.val / 256 * 256 + x.val = g.val * 256 + x.val := by omega
  refine congrArg₂ (· - ·) (means_at P past b p g x _ hx) ((u_at P b p _).trans (congrArg (fun q => P (ix2 _ q)) (Fin.ext ?_)))
  show 3072 + (j.val / 256 * 256 + x.val) = 3072 + (g.val * 256 + x.val)
  omega

theorem last_at (b : Fin 8) (r : Fin 16) (k : Fin 1024) :
    val_main_v80 (F := Ideal) P (ix3 b r k) = P (ix2 ⟨b.val * 2048 + (2032 + r.val), by omega⟩ ⟨3072 + k.val, by omega⟩) := by
  pointwise [val_main_v80, val_main_v1, val_main_v0]

end Cert.PoolRefProof
-- ==== Proof.PoolValue.lean ====
module

public import proofs.«01_k».proof.Proof.Pool
public import proofs.«01_k».proof.Proof.PoolRef
public import proofs.«01_k».proof.Defs

/-! The pooling mixer's value claim: the kernel call and its reference leave the same two arrays, over the extended reals. -/

@[expose] public section

set_option maxRecDepth 16384

noncomputable section

namespace Cert.Values

open Idealize.ShloMosaic Idealize.ShloMosaic.TcCoe Idealize.SL.Sem

section
open Cert.PoolIdeal Cert.PoolProof

variable (P : FVec Ideal S16384x8704 .f32) (past : FVec Ideal S8x15x1024 .f32) (W : FVec Ideal S4x256x256 .f32) (sc : FVec Ideal S1024 .f32)

theorem pool_ref_y : (Cert.PoolRefIdeal.Read.val_main_v79 (F := Ideal) P past W sc : FVec Ideal S16384x1024 .bf16) = OUT P past W sc := by
  funext i
  have h0 : (i 0).val < 16384 := (i 0).isLt
  have h1 : (i 1).val < 1024 := (i 1).isLt
  refine (congrArg (Cert.PoolRefIdeal.Read.val_main_v79 (F := Ideal) P past W sc) (eq_ix2 i)).trans ?_
  refine Cert.PoolRefProof.result_at P past W sc (i 0) (i 1) _ _ _ _ ?_ ?_
  · show (i 0).val = (i 0).val / 2048 * 2048 + (i 0).val % 2048
    omega
  · show (i 1).val = (i 1).val / 256 * 256 + (i 1).val % 256
    omega

theorem pool_ref_s : (Cert.PoolRefIdeal.Read.val_main_v80 (F := Ideal) P : FVec Ideal S8x16x1024 .f32) = LAST P := by
  funext i
  refine (congrArg (Cert.PoolRefIdeal.Read.val_main_v80 (F := Ideal) P) (eq_ix3 i)).trans ?_
  exact Cert.PoolRefProof.last_at P (i 0) (i 1) (i 2)

end

/-- The value claim of the pooling mixer. -/
theorem pool : algebraic_PoolIdeal_PoolRefIdeal (hPoolIdeal := Cert.PoolIdeal.Gen.facts) (hPoolRefIdeal := Cert.PoolRefIdeal.Gen.facts) := by
  unfold algebraic_PoolIdeal_PoolRefIdeal
  intro m g m' g' _ hagree
  refine ⟨_, _, Cert.PoolIdeal.Value.run m g, (θ_run _ _ _).mono (fun r h c => ?_) (Cert.PoolRefIdeal.Value.run m' g')⟩
  obtain ⟨hy, hs, hk⟩ := h c
  obtain ⟨e0, e1, e2, e3⟩ := hagree c
  refine ⟨hy.trans ((Cert.PoolRefIdeal.Read.val_main_v79_eq m' c).trans ((pool_ref_y _ _ _ _).trans ?_)),
    hs.trans ((pool_ref_s _).trans ?_), hk⟩
  · rw [← Cert.PoolIdeal.Value.final4, Cert.PoolProof.final_y, e0, e1, e2, e3]
  · rw [← Cert.PoolIdeal.Value.final5, Cert.PoolProof.final_s, e0]

end Cert.Values

end
-- ==== Proof.PrepIdealRun.lean ====
module

public import proofs.«01_k».proof.Proof.Gen.PrepIdeal.Skeleton
public import proofs.«01_k».proof.Proof.Gen.PrepIdeal.Frame
public import Idealize.ShloMosaic.Lib.VecWindow
public import Idealize.ShloMosaic.Lib.WritesUnit
public import Idealize.ShloMosaic.Lib.Pipeline.ValueKit

/-! The preparing kernel's body on whole buffers: what it leaves from a block of the projection and the rows before it. -/

@[expose] public section

set_option maxRecDepth 16384

noncomputable section

namespace Cert.PrepIdealLoop

open Cert.PrepIdeal Cert.PrepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄L" => MT nD τ sig Unit (Elt F) ℕ (UR sig nD τ) ℕ

/-- The first point of a batch. -/
abbrev cond0_0 (i : grid0.Coords) : Prop :=
  (Scalar.cmpi .ne (Scalar.extui (Scalar.cmpi .eq (BitVec.ofNat 32 (i 1).val) 0#32)) 0#32) = 1#1

/-- One of three rows, as a block of one. -/
def row (j : Fin 3) (p : Vec F S3x1024 .f32) : Vec F S1x1024 .f32 := fun y => p (ix2 j (y 1))

/-- The first three rows of a buffer of eight. -/
def head3 (d : Vec F S8x1024 .f32) : Vec F S3x1024 .f32 := fun y => d (ix2 ⟨(y 0).val, lt_of_lt_of_le (y 0).isLt (by decide)⟩ (y 1))

/-- The first row of a buffer of eight. -/
def head1 (d : Vec F S8x512 .f32) : Vec F S1x512 .f32 := fun y => d (ix2 ⟨(y 0).val, lt_of_lt_of_le (y 0).isLt (by decide)⟩ (y 1))

variable (p : Vec F S3x1024 .f32) (pl : Vec F S1x512 .f32) (x0 : Vec F S256x1024 .f32) (x1 : Vec F S256x1024 .f32) (x2 : Vec F S256x1024 .f32) (x3 : Vec F S256x512 .f32) (x6 : Vec F S3x1024 .f32) (x7 : Vec F S1x512 .f32) (x8 : Vec F S1x1024 .f32) (x9 : Vec F S1x1024 .f32) (x10 : Vec F S1x1024 .f32) (x11 : Vec F S1x1024 .f32) (x12 : Vec F S128x1024 .bf16) (x13 : Vec F S128x1024 .bf16) (x14 : Vec F S256x1024 .bf16) (x15 : Vec F S128x128 .bf16)

/-- The mixed keys. -/
def mixK : FVec F S256x1024 .f32 := k0_pay8 x1 (row 1 p) (row 1 x6)

/-- The mixed low-rank inputs. -/
def mixL : FVec F S256x512 .f32 := k0_pay10 x3 pl x7

/-- The rates. -/
def rate : FVec F S256x1024 .f32 := k0_pay20 (k0_pay19 (mixL pl x3 x7) x13) x9

/-- The normalised keys, from the mixed ones. -/
def unitK (k : FVec F S256x1024 .f32) : FVec F S256x1024 .f32 :=
  k0_pay32 (k0_pay22 k x10) (k0_pay24 k x10) (k0_pay25 k x10) (k0_pay26 x15) (k0_pay27 k x10 x15) (k0_pay28 k x10 x15)
    (k0_pay29 k x10 x15) (k0_pay30 k x10 x15) (k0_pay31 k x10 x15)

/-- Six slabs, stacked. -/
def slabs (w0 w1 w2 w3 w4 w5 : Vec F S1x256x1024 .f32) : Vec F S6x256x1024 .f32 := fun y =>
  match y 0 with
  | ⟨0, _⟩ => w0 (ix3 0 (y 1) (y 2))
  | ⟨1, _⟩ => w1 (ix3 0 (y 1) (y 2))
  | ⟨2, _⟩ => w2 (ix3 0 (y 1) (y 2))
  | ⟨3, _⟩ => w3 (ix3 0 (y 1) (y 2))
  | ⟨4, _⟩ => w4 (ix3 0 (y 1) (y 2))
  | ⟨_, _⟩ => w5 (ix3 0 (y 1) (y 2))

/-- The six slabs a block gives. -/
def mixed : Vec F S6x256x1024 .f32 :=
  slabs (k0_pay33 (k0_pay7 x0 (row 0 p) (row 0 x6))) (k0_pay34 (k0_pay18 (mixL pl x3 x7) x12 x8))
    (k0_pay1 (mixK p x1 x6) (k0_pay35 (rate pl x3 x7 x9 x13) x11) k0_pay36) (k0_pay2 (k0_pay9 x2 (row 2 p) (row 2 x6)))
    (k0_pay3 (unitK x10 x15 (mixK p x1 x6))) (k0_pay4 (rate pl x3 x7 x9 x13) (unitK x10 x15 (mixK p x1 x6)))

/-- The gate a block gives. -/
def gate : FVec F S256x1024 .f32 := k0_pay21 (k0_pay17 (mixL pl x3 x7)) x14

section Views

variable {κ : Kind} {sp : Space}

/-- The six stores of a block's slabs leave the slabs stacked. -/
theorem slabs_read (v : View sig κ sp S6x256x1024 .f32) (f : v.ty.Contents (Elt F)) (w0 w1 w2 w3 w4 w5 : Vec F S1x256x1024 .f32) :
    v.read (Elt F) (v.writes (Elt F) f [⟨Rect.unit ![5, 0, 0] S1x256x1024.size inb_S6x256x1024_S1x256x1024_5_0_0, w5⟩,
      ⟨Rect.unit ![4, 0, 0] S1x256x1024.size inb_S6x256x1024_S1x256x1024_4_0_0, w4⟩,
      ⟨Rect.unit ![3, 0, 0] S1x256x1024.size inb_S6x256x1024_S1x256x1024_3_0_0, w3⟩,
      ⟨Rect.unit ![2, 0, 0] S1x256x1024.size inb_S6x256x1024_S1x256x1024_2_0_0, w2⟩,
      ⟨Rect.unit ![1, 0, 0] S1x256x1024.size inb_S6x256x1024_S1x256x1024_1_0_0, w1⟩,
      ⟨Rect.unit ![0, 0, 0] S1x256x1024.size inb_S6x256x1024_S1x256x1024_0_0_0, w0⟩]) = slabs w0 w1 w2 w3 w4 w5 := by
  funext y
  obtain ⟨i, a, b, rfl⟩ : ∃ i a b, y = ix3 i a b := ⟨y 0, y 1, y 2, eq_ix3 _⟩
  fin_cases i
  · refine (View.read_writes_cons_unit_of_not_mem v f _ _ _ _ rfl 0 (Or.inl (show (0 : ℕ) < 5 by decide))).trans ?_
    refine (View.read_writes_cons_unit_of_not_mem v f _ _ _ _ rfl 0 (Or.inl (show (0 : ℕ) < 4 by decide))).trans ?_
    refine (View.read_writes_cons_unit_of_not_mem v f _ _ _ _ rfl 0 (Or.inl (show (0 : ℕ) < 3 by decide))).trans ?_
    refine (View.read_writes_cons_unit_of_not_mem v f _ _ _ _ rfl 0 (Or.inl (show (0 : ℕ) < 2 by decide))).trans ?_
    refine (View.read_writes_cons_unit_of_not_mem v f _ _ _ _ rfl 0 (Or.inl (show (0 : ℕ) < 1 by decide))).trans ?_
    exact View.read_writes_cons_unit_of_mem v f _ _ _ _ (ix3 0 a b) rfl (fun x => by fin_cases x <;> simp [ix3])
  · refine (View.read_writes_cons_unit_of_not_mem v f _ _ _ _ rfl 0 (Or.inl (show (1 : ℕ) < 5 by decide))).trans ?_
    refine (View.read_writes_cons_unit_of_not_mem v f _ _ _ _ rfl 0 (Or.inl (show (1 : ℕ) < 4 by decide))).trans ?_
    refine (View.read_writes_cons_unit_of_not_mem v f _ _ _ _ rfl 0 (Or.inl (show (1 : ℕ) < 3 by decide))).trans ?_
    refine (View.read_writes_cons_unit_of_not_mem v f _ _ _ _ rfl 0 (Or.inl (show (1 : ℕ) < 2 by decide))).trans ?_
    exact View.read_writes_cons_unit_of_mem v f _ _ _ _ (ix3 0 a b) rfl (fun x => by fin_cases x <;> simp [ix3])
  · refine (View.read_writes_cons_unit_of_not_mem v f _ _ _ _ rfl 0 (Or.inl (show (2 : ℕ) < 5 by decide))).trans ?_
    refine (View.read_writes_cons_unit_of_not_mem v f _ _ _ _ rfl 0 (Or.inl (show (2 : ℕ) < 4 by decide))).trans ?_
    refine (View.read_writes_cons_unit_of_not_mem v f _ _ _ _ rfl 0 (Or.inl (show (2 : ℕ) < 3 by decide))).trans ?_
    exact View.read_writes_cons_unit_of_mem v f _ _ _ _ (ix3 0 a b) rfl (fun x => by fin_cases x <;> simp [ix3])
  · refine (View.read_writes_cons_unit_of_not_mem v f _ _ _ _ rfl 0 (Or.inl (show (3 : ℕ) < 5 by decide))).trans ?_
    refine (View.read_writes_cons_unit_of_not_mem v f _ _ _ _ rfl 0 (Or.inl (show (3 : ℕ) < 4 by decide))).trans ?_
    exact View.read_writes_cons_unit_of_mem v f _ _ _ _ (ix3 0 a b) rfl (fun x => by fin_cases x <;> simp [ix3])
  · refine (View.read_writes_cons_unit_of_not_mem v f _ _ _ _ rfl 0 (Or.inl (show (4 : ℕ) < 5 by decide))).trans ?_
    exact View.read_writes_cons_unit_of_mem v f _ _ _ _ (ix3 0 a b) rfl (fun x => by fin_cases x <;> simp [ix3])
  · exact View.read_writes_cons_unit_of_mem v f _ _ _ _ (ix3 0 a b) rfl (fun x => by fin_cases x <;> simp [ix3])

/-- A load of one of the first three rows. -/
theorem load_row (v : View sig κ sp S8x1024 .f32) (f : v.ty.Contents (Elt F)) (j : Fin 3) {o : ℕ} (ho : o = j.val)
    (inb : ∀ a, (![o, 0] : Fin 2 → ℕ) a + S1x1024.size a ≤ S8x1024.size a) :
    v.readAt (Elt F) (Rect.unit (s := S8x1024) ![o, 0] S1x1024.size inb).toLoadRect f = row j (head3 (v.read (Elt F) f)) := by
  subst ho
  funext y
  refine congrArg (v.read (Elt F) f) (funext fun a => Fin.ext ?_)
  have h0 : (y 0).val = 0 := Nat.lt_one_iff.mp (y 0).isLt
  fin_cases a
  · show j.val + 1 * (y 0).val = j.val
    omega
  · show 0 + 1 * (y 1).val = (y 1).val
    omega

/-- A load of one of three rows. -/
theorem load_mu (v : View sig κ sp S3x1024 .f32) (f : v.ty.Contents (Elt F)) (j : Fin 3) {o : ℕ} (ho : o = j.val)
    (inb : ∀ a, (![o, 0] : Fin 2 → ℕ) a + S1x1024.size a ≤ S3x1024.size a) :
    v.readAt (Elt F) (Rect.unit (s := S3x1024) ![o, 0] S1x1024.size inb).toLoadRect f = row j (v.read (Elt F) f) := by
  subst ho
  funext y
  refine congrArg (v.read (Elt F) f) (funext fun a => Fin.ext ?_)
  have h0 : (y 0).val = 0 := Nat.lt_one_iff.mp (y 0).isLt
  fin_cases a
  · show j.val + 1 * (y 0).val = j.val
    omega
  · show 0 + 1 * (y 1).val = (y 1).val
    omega

/-- A load of the first row. -/
theorem load_low (v : View sig κ sp S8x512 .f32) (f : v.ty.Contents (Elt F)) :
    v.readAt (Elt F) (Rect.unit (s := S8x512) ![0, 0] S1x512.size inb_S8x512_S1x512_0_0).toLoadRect f = head1 (v.read (Elt F) f) := by
  funext y
  refine congrArg (v.read (Elt F) f) (funext fun a => Fin.ext ?_)
  fin_cases a
  · show 0 + 1 * (y 0).val = (y 0).val
    omega
  · show 0 + 1 * (y 1).val = (y 1).val
    omega

/-- The first three rows after they are stored. -/
theorem head3_store (v : View sig κ sp S8x1024 .f32) (f : v.ty.Contents (Elt F)) (w : Vec F S3x1024 .f32) (L : List (View.Piece (Elt F) S8x1024 .f32)) :
    head3 (v.read (Elt F) (v.writes (Elt F) f (⟨Rect.unit ![0, 0] S3x1024.size inb_S8x1024_S3x1024_0_0, w⟩ :: L))) = w := by
  funext y
  exact View.read_writes_cons_unit_of_mem v f _ w L _ y rfl (fun a => by fin_cases a <;> exact (Nat.zero_add _).symm)

/-- The first row after it is stored. -/
theorem head1_store (v : View sig κ sp S8x512 .f32) (f : v.ty.Contents (Elt F)) (w : Vec F S1x512 .f32) (L : List (View.Piece (Elt F) S8x512 .f32)) :
    head1 (v.read (Elt F) (v.writes (Elt F) f (⟨Rect.unit ![0, 0] S1x512.size inb_S8x512_S1x512_0_0, w⟩ :: L))) = w := by
  funext y
  exact View.read_writes_cons_unit_of_mem v f _ w L _ y rfl (fun a => by fin_cases a <;> exact (Nat.zero_add _).symm)

end Views

variable (c : Dev nD) (i : grid0.Coords)
  (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x512 .f32) (harg5 : arg5.IsWhole) (arg6 : Memref sig .tc .vmem S1x3x1024 .f32) (harg6 : arg6.IsWhole) (arg7 : Memref sig .tc .vmem S1x1x512 .f32) (harg7 : arg7.IsWhole) (arg8 : Memref sig .tc .vmem S3x1024 .f32) (harg8 : arg8.IsWhole) (arg9 : Memref sig .tc .vmem S1x512 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S256x1024 .bf16) (harg16 : arg16.IsWhole) (arg17 : Memref sig .tc .vmem S128x128 .bf16) (harg17 : arg17.IsWhole) (arg18 : Memref sig .tc .vmem S6x256x1024 .f32) (harg18 : arg18.IsWhole) (arg19 : Memref sig .tc .vmem S256x1024 .f32) (harg19 : arg19.IsWhole) (arg20 : Memref sig .tc .vmem S1x3x1024 .f32) (harg20 : arg20.IsWhole) (arg21 : Memref sig .tc .vmem S1x1x512 .f32) (harg21 : arg21.IsWhole) (arg22 : Memref sig .tc .vmem S8x1024 .f32) (harg22 : arg22.IsWhole) (arg23 : Memref sig .tc .vmem S8x512 .f32) (harg23 : arg23.IsWhole)

/-- The body at a later block: the rows before are the last ones of the block before. -/
theorem body_later (hc0 : ¬ cond0_0 i) (x0 : Vec F S256x1024 .f32) (x1 : Vec F S256x1024 .f32) (x2 : Vec F S256x1024 .f32) (x3 : Vec F S256x512 .f32) (x4 : Vec F S1x3x1024 .f32) (x5 : Vec F S1x1x512 .f32) (x6 : Vec F S3x1024 .f32) (x7 : Vec F S1x512 .f32) (x8 : Vec F S1x1024 .f32) (x9 : Vec F S1x1024 .f32) (x10 : Vec F S1x1024 .f32) (x11 : Vec F S1x1024 .f32) (x12 : Vec F S128x1024 .bf16) (x13 : Vec F S128x1024 .bf16) (x14 : Vec F S256x1024 .bf16) (x15 : Vec F S128x128 .bf16) (p : Vec F S3x1024 .f32) (pl : Vec F S1x512 .f32) (d0 : Vec F S8x1024 .f32) (d1 : Vec F S8x512 .f32) (hp : head3 d0 = p) (hpl : head1 d1 = pl) (E : Set ℕ) (K : PUnit → sProp 𝕄L) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare d0 ∗ owns (c : Thread nD τ) arg23 fullShare d1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare (mixed p pl x0 x1 x2 x3 x6 x7 x8 x9 x10 x11 x12 x13 x15) ∗ owns (c : Thread nD τ) arg19 fullShare (gate pl x3 x7 x14) ∗ owns (c : Thread nD τ) arg20 fullShare (k0_pay14 (k0_pay11 x0 x1 x2)) ∗ owns (c : Thread nD τ) arg21 fullShare (k0_pay15 x3) ∗ (∃ e, ⌜head3 e = k0_pay12 x0 x1 x2⌝ ∗ owns (c : Thread nD τ) arg22 fullShare e) ∗ (∃ e, ⌜head1 e = k0_pay13 x3⌝ ∗ owns (c : Thread nD τ) arg23 fullShare e)) -∗ K ⟨⟩))
      ⊢ wp frame (wpE (defs₀ (F := F)) Variants.none c none) E (cc0_rw_prep i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_rw_prep_eq_skeleton]; unfold cc0_rw_prep_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%f20, %hf20, H20⟩, ⟨%f21, %hf21, H21⟩, Hk⟩
  sl_exec (disch := first | sl_exact hc0)
  sl_step
  have e0 : View.readAt (Elt F) arg2.view (Rect.unit ![0, 0] ![256, 1024] inb_S256x1024_S256x1024_0_0).toLoadRect f0 = x0 := (View.readAt_full arg2.view f0 _).trans hf0
  have e1 : View.readAt (Elt F) arg3.view (Rect.unit ![0, 0] ![256, 1024] inb_S256x1024_S256x1024_0_0).toLoadRect f1 = x1 := (View.readAt_full arg3.view f1 _).trans hf1
  have e2 : View.readAt (Elt F) arg4.view (Rect.unit ![0, 0] ![256, 1024] inb_S256x1024_S256x1024_0_0).toLoadRect f2 = x2 := (View.readAt_full arg4.view f2 _).trans hf2
  have e3 : View.readAt (Elt F) arg5.view (Rect.unit ![0, 0] ![256, 512] inb_S256x512_S256x512_0_0).toLoadRect f3 = x3 := (View.readAt_full arg5.view f3 _).trans hf3
  have e7 : View.readAt (Elt F) arg9.view (Rect.unit ![0, 0] ![1, 512] inb_S1x512_S1x512_0_0).toLoadRect f7 = x7 := (View.readAt_full arg9.view f7 _).trans hf7
  have e8 : View.readAt (Elt F) arg10.view (Rect.unit ![0, 0] ![1, 1024] inb_S1x1024_S1x1024_0_0).toLoadRect f8 = x8 := (View.readAt_full arg10.view f8 _).trans hf8
  have e9 : View.readAt (Elt F) arg11.view (Rect.unit ![0, 0] ![1, 1024] inb_S1x1024_S1x1024_0_0).toLoadRect f9 = x9 := (View.readAt_full arg11.view f9 _).trans hf9
  have e10 : View.readAt (Elt F) arg12.view (Rect.unit ![0, 0] ![1, 1024] inb_S1x1024_S1x1024_0_0).toLoadRect f10 = x10 := (View.readAt_full arg12.view f10 _).trans hf10
  have e11 : View.readAt (Elt F) arg13.view (Rect.unit ![0, 0] ![1, 1024] inb_S1x1024_S1x1024_0_0).toLoadRect f11 = x11 := (View.readAt_full arg13.view f11 _).trans hf11
  have e12 : View.readAt (Elt F) arg14.view (Rect.unit ![0, 0] ![128, 1024] inb_S128x1024_S128x1024_0_0).toLoadRect f12 = x12 := (View.readAt_full arg14.view f12 _).trans hf12
  have e13 : View.readAt (Elt F) arg15.view (Rect.unit ![0, 0] ![128, 1024] inb_S128x1024_S128x1024_0_0).toLoadRect f13 = x13 := (View.readAt_full arg15.view f13 _).trans hf13
  have e14 : View.readAt (Elt F) arg16.view (Rect.unit ![0, 0] ![256, 1024] inb_S256x1024_S256x1024_0_0).toLoadRect f14 = x14 := (View.readAt_full arg16.view f14 _).trans hf14
  have e15 : View.readAt (Elt F) arg17.view (Rect.unit ![0, 0] ![128, 128] inb_S128x128_S128x128_0_0).toLoadRect f15 = x15 := (View.readAt_full arg17.view f15 _).trans hf15
  have m0 : View.readAt (Elt F) arg8.view (Rect.unit ![0, 0] ![1, 1024] inb_S3x1024_S1x1024_0_0).toLoadRect f6 = row 0 x6 := (load_mu arg8.view f6 0 rfl _).trans (congrArg (row 0) hf6)
  have c0 : View.readAt (Elt F) arg22.view (Rect.unit ![0, 0] ![1, 1024] inb_S8x1024_S1x1024_0_0).toLoadRect f20 = row 0 p := (load_row arg22.view f20 0 rfl _).trans (congrArg (row 0) ((congrArg head3 hf20).trans hp))
  have m1 : View.readAt (Elt F) arg8.view (Rect.unit ![1, 0] ![1, 1024] inb_S3x1024_S1x1024_1_0).toLoadRect f6 = row 1 x6 := (load_mu arg8.view f6 1 rfl _).trans (congrArg (row 1) hf6)
  have c1 : View.readAt (Elt F) arg22.view (Rect.unit ![1, 0] ![1, 1024] inb_S8x1024_S1x1024_1_0).toLoadRect f20 = row 1 p := (load_row arg22.view f20 1 rfl _).trans (congrArg (row 1) ((congrArg head3 hf20).trans hp))
  have m2 : View.readAt (Elt F) arg8.view (Rect.unit ![2, 0] ![1, 1024] inb_S3x1024_S1x1024_2_0).toLoadRect f6 = row 2 x6 := (load_mu arg8.view f6 2 rfl _).trans (congrArg (row 2) hf6)
  have c2 : View.readAt (Elt F) arg22.view (Rect.unit ![2, 0] ![1, 1024] inb_S8x1024_S1x1024_2_0).toLoadRect f20 = row 2 p := (load_row arg22.view f20 2 rfl _).trans (congrArg (row 2) ((congrArg head3 hf20).trans hp))
  have c3 : View.readAt (Elt F) arg23.view (Rect.unit ![0, 0] ![1, 512] inb_S8x512_S1x512_0_0).toLoadRect f21 = pl := (load_low arg23.view f21).trans ((congrArg head1 hf21).trans hpl)
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr; · ipureintro; exact hf12
    iexact H12
  isplitl [H13]
  · iexists _; isplitr; · ipureintro; exact hf13
    iexact H13
  isplitl [H14]
  · iexists _; isplitr; · ipureintro; exact hf14
    iexact H14
  isplitl [H15]
  · iexists _; isplitr; · ipureintro; exact hf15
    iexact H15
  isplitl [H16]
  · iexists _; isplitr
    swap; · iexact H16
    ipureintro
    dsimp only [body_later.sl.r, body_later.sl.r_1, body_later.sl.r_2, body_later.sl.r_3, body_later.sl.r_4, body_later.sl.r_5, body_later.sl.r_6, body_later.sl.r_7, body_later.sl.r_8, body_later.sl.r_9, body_later.sl.r_10, body_later.sl.r_11, body_later.sl.r_12, body_later.sl.r_13, body_later.sl.r_14, body_later.sl.r_15, body_later.sl.r_16, body_later.sl.r_17, body_later.sl.r_18, body_later.sl.r_19, body_later.sl.r_20, body_later.sl.r_21, body_later.sl.r_22, body_later.sl.r_23]
    simp only [e0, e1, e2, e3, e7, e8, e9, e10, e11, e12, e13, e14, e15, m0, m1, m2, c0, c1, c2, c3]
    exact slabs_read _ _ _ _ _ _ _ _
  isplitl [H17]
  · iexists _; isplitr
    swap; · iexact H17
    ipureintro
    dsimp only [body_later.sl.r, body_later.sl.r_1, body_later.sl.r_2, body_later.sl.r_3, body_later.sl.r_4, body_later.sl.r_5, body_later.sl.r_6, body_later.sl.r_7, body_later.sl.r_8, body_later.sl.r_9, body_later.sl.r_10, body_later.sl.r_11, body_later.sl.r_12, body_later.sl.r_13, body_later.sl.r_14, body_later.sl.r_15, body_later.sl.r_16, body_later.sl.r_17, body_later.sl.r_18, body_later.sl.r_19, body_later.sl.r_20, body_later.sl.r_21, body_later.sl.r_22, body_later.sl.r_23]
    simp only [e0, e1, e2, e3, e7, e8, e9, e10, e11, e12, e13, e14, e15, m0, m1, m2, c0, c1, c2, c3]
    exact View.read_writes_full _ _ _ _ _
  isplitl [H18]
  · iexists _; isplitr
    swap; · iexact H18
    ipureintro
    dsimp only [body_later.sl.r, body_later.sl.r_1, body_later.sl.r_2, body_later.sl.r_3, body_later.sl.r_4, body_later.sl.r_5, body_later.sl.r_6, body_later.sl.r_7, body_later.sl.r_8, body_later.sl.r_9, body_later.sl.r_10, body_later.sl.r_11, body_later.sl.r_12, body_later.sl.r_13, body_later.sl.r_14, body_later.sl.r_15, body_later.sl.r_16, body_later.sl.r_17, body_later.sl.r_18, body_later.sl.r_19, body_later.sl.r_20, body_later.sl.r_21, body_later.sl.r_22, body_later.sl.r_23]
    simp only [e0, e1, e2, e3, e7, e8, e9, e10, e11, e12, e13, e14, e15, m0, m1, m2, c0, c1, c2, c3]
    exact View.read_writes_full _ _ _ _ _
  isplitl [H19]
  · iexists _; isplitr
    swap; · iexact H19
    ipureintro
    dsimp only [body_later.sl.r, body_later.sl.r_1, body_later.sl.r_2, body_later.sl.r_3, body_later.sl.r_4, body_later.sl.r_5, body_later.sl.r_6, body_later.sl.r_7, body_later.sl.r_8, body_later.sl.r_9, body_later.sl.r_10, body_later.sl.r_11, body_later.sl.r_12, body_later.sl.r_13, body_later.sl.r_14, body_later.sl.r_15, body_later.sl.r_16, body_later.sl.r_17, body_later.sl.r_18, body_later.sl.r_19, body_later.sl.r_20, body_later.sl.r_21, body_later.sl.r_22, body_later.sl.r_23]
    simp only [e0, e1, e2, e3, e7, e8, e9, e10, e11, e12, e13, e14, e15, m0, m1, m2, c0, c1, c2, c3]
    exact View.read_writes_full _ _ _ _ _
  isplitl [H20]
  · iexists _; isplitr
    swap
    · iexists _; isplitr
      swap; · iexact H20
      ipureintro; rfl
    ipureintro
    refine (head3_store _ _ _ _).trans ?_
    dsimp only [body_later.sl.r, body_later.sl.r_1, body_later.sl.r_2, body_later.sl.r_3, body_later.sl.r_4, body_later.sl.r_5, body_later.sl.r_6, body_later.sl.r_7, body_later.sl.r_8, body_later.sl.r_9, body_later.sl.r_10, body_later.sl.r_11, body_later.sl.r_12, body_later.sl.r_13, body_later.sl.r_14, body_later.sl.r_15, body_later.sl.r_16, body_later.sl.r_17, body_later.sl.r_18, body_later.sl.r_19, body_later.sl.r_20, body_later.sl.r_21, body_later.sl.r_22, body_later.sl.r_23]
    simp only [e0, e1, e2, e3, e7, e8, e9, e10, e11, e12, e13, e14, e15, m0, m1, m2, c0, c1, c2, c3]
  · iexists _; isplitr
    swap
    · iexists _; isplitr
      swap; · iexact H21
      ipureintro; rfl
    ipureintro
    refine (head1_store _ _ _ _).trans ?_
    dsimp only [body_later.sl.r, body_later.sl.r_1, body_later.sl.r_2, body_later.sl.r_3, body_later.sl.r_4, body_later.sl.r_5, body_later.sl.r_6, body_later.sl.r_7, body_later.sl.r_8, body_later.sl.r_9, body_later.sl.r_10, body_later.sl.r_11, body_later.sl.r_12, body_later.sl.r_13, body_later.sl.r_14, body_later.sl.r_15, body_later.sl.r_16, body_later.sl.r_17, body_later.sl.r_18, body_later.sl.r_19, body_later.sl.r_20, body_later.sl.r_21, body_later.sl.r_22, body_later.sl.r_23]
    simp only [e0, e1, e2, e3, e7, e8, e9, e10, e11, e12, e13, e14, e15, m0, m1, m2, c0, c1, c2, c3]

/-- The body at the first block of a batch: the rows before are the given ones. -/
theorem body_first (hc0 : cond0_0 i) (x0 : Vec F S256x1024 .f32) (x1 : Vec F S256x1024 .f32) (x2 : Vec F S256x1024 .f32) (x3 : Vec F S256x512 .f32) (x4 : Vec F S1x3x1024 .f32) (x5 : Vec F S1x1x512 .f32) (x6 : Vec F S3x1024 .f32) (x7 : Vec F S1x512 .f32) (x8 : Vec F S1x1024 .f32) (x9 : Vec F S1x1024 .f32) (x10 : Vec F S1x1024 .f32) (x11 : Vec F S1x1024 .f32) (x12 : Vec F S128x1024 .bf16) (x13 : Vec F S128x1024 .bf16) (x14 : Vec F S256x1024 .bf16) (x15 : Vec F S128x128 .bf16) (p : Vec F S3x1024 .f32) (hp : p = k0_pay5 x4) (pl : Vec F S1x512 .f32) (hpl : pl = k0_pay6 x5) (E : Set ℕ) (K : PUnit → sProp 𝕄L) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare (mixed p pl x0 x1 x2 x3 x6 x7 x8 x9 x10 x11 x12 x13 x15) ∗ owns (c : Thread nD τ) arg19 fullShare (gate pl x3 x7 x14) ∗ owns (c : Thread nD τ) arg20 fullShare (k0_pay14 (k0_pay11 x0 x1 x2)) ∗ owns (c : Thread nD τ) arg21 fullShare (k0_pay15 x3) ∗ (∃ e, ⌜head3 e = k0_pay12 x0 x1 x2⌝ ∗ owns (c : Thread nD τ) arg22 fullShare e) ∗ (∃ e, ⌜head1 e = k0_pay13 x3⌝ ∗ owns (c : Thread nD τ) arg23 fullShare e)) -∗ K ⟨⟩))
      ⊢ wp frame (wpE (defs₀ (F := F)) Variants.none c none) E (cc0_rw_prep i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_rw_prep_eq_skeleton]; unfold cc0_rw_prep_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%e0, %f20, -, H20⟩, ⟨%e1, %f21, -, H21⟩, Hk⟩
  sl_exec (disch := first | sl_exact hc0)
  sl_step
  have e0 : View.readAt (Elt F) arg2.view (Rect.unit ![0, 0] ![256, 1024] inb_S256x1024_S256x1024_0_0).toLoadRect f0 = x0 := (View.readAt_full arg2.view f0 _).trans hf0
  have e1 : View.readAt (Elt F) arg3.view (Rect.unit ![0, 0] ![256, 1024] inb_S256x1024_S256x1024_0_0).toLoadRect f1 = x1 := (View.readAt_full arg3.view f1 _).trans hf1
  have e2 : View.readAt (Elt F) arg4.view (Rect.unit ![0, 0] ![256, 1024] inb_S256x1024_S256x1024_0_0).toLoadRect f2 = x2 := (View.readAt_full arg4.view f2 _).trans hf2
  have e3 : View.readAt (Elt F) arg5.view (Rect.unit ![0, 0] ![256, 512] inb_S256x512_S256x512_0_0).toLoadRect f3 = x3 := (View.readAt_full arg5.view f3 _).trans hf3
  have e7 : View.readAt (Elt F) arg9.view (Rect.unit ![0, 0] ![1, 512] inb_S1x512_S1x512_0_0).toLoadRect f7 = x7 := (View.readAt_full arg9.view f7 _).trans hf7
  have e8 : View.readAt (Elt F) arg10.view (Rect.unit ![0, 0] ![1, 1024] inb_S1x1024_S1x1024_0_0).toLoadRect f8 = x8 := (View.readAt_full arg10.view f8 _).trans hf8
  have e9 : View.readAt (Elt F) arg11.view (Rect.unit ![0, 0] ![1, 1024] inb_S1x1024_S1x1024_0_0).toLoadRect f9 = x9 := (View.readAt_full arg11.view f9 _).trans hf9
  have e10 : View.readAt (Elt F) arg12.view (Rect.unit ![0, 0] ![1, 1024] inb_S1x1024_S1x1024_0_0).toLoadRect f10 = x10 := (View.readAt_full arg12.view f10 _).trans hf10
  have e11 : View.readAt (Elt F) arg13.view (Rect.unit ![0, 0] ![1, 1024] inb_S1x1024_S1x1024_0_0).toLoadRect f11 = x11 := (View.readAt_full arg13.view f11 _).trans hf11
  have e12 : View.readAt (Elt F) arg14.view (Rect.unit ![0, 0] ![128, 1024] inb_S128x1024_S128x1024_0_0).toLoadRect f12 = x12 := (View.readAt_full arg14.view f12 _).trans hf12
  have e13 : View.readAt (Elt F) arg15.view (Rect.unit ![0, 0] ![128, 1024] inb_S128x1024_S128x1024_0_0).toLoadRect f13 = x13 := (View.readAt_full arg15.view f13 _).trans hf13
  have e14 : View.readAt (Elt F) arg16.view (Rect.unit ![0, 0] ![256, 1024] inb_S256x1024_S256x1024_0_0).toLoadRect f14 = x14 := (View.readAt_full arg16.view f14 _).trans hf14
  have e15 : View.readAt (Elt F) arg17.view (Rect.unit ![0, 0] ![128, 128] inb_S128x128_S128x128_0_0).toLoadRect f15 = x15 := (View.readAt_full arg17.view f15 _).trans hf15
  have m0 : View.readAt (Elt F) arg8.view (Rect.unit ![0, 0] ![1, 1024] inb_S3x1024_S1x1024_0_0).toLoadRect f6 = row 0 x6 := (load_mu arg8.view f6 0 rfl _).trans (congrArg (row 0) hf6)
  have c0 : body_first.sl.v7 c arg6 arg22 f4 = row 0 p := (load_row arg22.view _ 0 rfl _).trans (congrArg (row 0) ((head3_store arg22.view _ _ _).trans ((congrArg k0_pay5 ((View.readAt_full arg6.view f4 _).trans hf4)).trans hp.symm)))
  have m1 : View.readAt (Elt F) arg8.view (Rect.unit ![1, 0] ![1, 1024] inb_S3x1024_S1x1024_1_0).toLoadRect f6 = row 1 x6 := (load_mu arg8.view f6 1 rfl _).trans (congrArg (row 1) hf6)
  have c1 : body_first.sl.v21 c arg6 arg22 f4 = row 1 p := (load_row arg22.view _ 1 rfl _).trans (congrArg (row 1) ((head3_store arg22.view _ _ _).trans ((congrArg k0_pay5 ((View.readAt_full arg6.view f4 _).trans hf4)).trans hp.symm)))
  have m2 : View.readAt (Elt F) arg8.view (Rect.unit ![2, 0] ![1, 1024] inb_S3x1024_S1x1024_2_0).toLoadRect f6 = row 2 x6 := (load_mu arg8.view f6 2 rfl _).trans (congrArg (row 2) hf6)
  have c2 : body_first.sl.v35 c arg6 arg22 f4 = row 2 p := (load_row arg22.view _ 2 rfl _).trans (congrArg (row 2) ((head3_store arg22.view _ _ _).trans ((congrArg k0_pay5 ((View.readAt_full arg6.view f4 _).trans hf4)).trans hp.symm)))
  have c3 : body_first.sl.v49 c arg7 arg23 f5 = pl := (load_low arg23.view _).trans ((head1_store arg23.view _ _ _).trans ((congrArg k0_pay6 ((View.readAt_full arg7.view f5 _).trans hf5)).trans hpl.symm))
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr; · ipureintro; exact hf12
    iexact H12
  isplitl [H13]
  · iexists _; isplitr; · ipureintro; exact hf13
    iexact H13
  isplitl [H14]
  · iexists _; isplitr; · ipureintro; exact hf14
    iexact H14
  isplitl [H15]
  · iexists _; isplitr; · ipureintro; exact hf15
    iexact H15
  isplitl [H16]
  · iexists _; isplitr
    swap; · iexact H16
    ipureintro
    dsimp only [body_first.sl.r, body_first.sl.r_1, body_first.sl.r_2, body_first.sl.r_3, body_first.sl.r_4, body_first.sl.r_5, body_first.sl.r_6, body_first.sl.r_7, body_first.sl.r_8, body_first.sl.r_9, body_first.sl.r_10, body_first.sl.r_11, body_first.sl.r_12, body_first.sl.r_13, body_first.sl.r_14, body_first.sl.r_15, body_first.sl.r_16, body_first.sl.r_17, body_first.sl.r_18, body_first.sl.r_19, body_first.sl.r_20, body_first.sl.r_21, body_first.sl.r_22, body_first.sl.r_23, body_first.sl.H20_1, body_first.sl.H21_1]
    simp only [e0, e1, e2, e3, e7, e8, e9, e10, e11, e12, e13, e14, e15, m0, m1, m2, c0, c1, c2, c3]
    exact slabs_read _ _ _ _ _ _ _ _
  isplitl [H17]
  · iexists _; isplitr
    swap; · iexact H17
    ipureintro
    dsimp only [body_first.sl.r, body_first.sl.r_1, body_first.sl.r_2, body_first.sl.r_3, body_first.sl.r_4, body_first.sl.r_5, body_first.sl.r_6, body_first.sl.r_7, body_first.sl.r_8, body_first.sl.r_9, body_first.sl.r_10, body_first.sl.r_11, body_first.sl.r_12, body_first.sl.r_13, body_first.sl.r_14, body_first.sl.r_15, body_first.sl.r_16, body_first.sl.r_17, body_first.sl.r_18, body_first.sl.r_19, body_first.sl.r_20, body_first.sl.r_21, body_first.sl.r_22, body_first.sl.r_23, body_first.sl.H20_1, body_first.sl.H21_1]
    simp only [e0, e1, e2, e3, e7, e8, e9, e10, e11, e12, e13, e14, e15, m0, m1, m2, c0, c1, c2, c3]
    exact View.read_writes_full _ _ _ _ _
  isplitl [H18]
  · iexists _; isplitr
    swap; · iexact H18
    ipureintro
    dsimp only [body_first.sl.r, body_first.sl.r_1, body_first.sl.r_2, body_first.sl.r_3, body_first.sl.r_4, body_first.sl.r_5, body_first.sl.r_6, body_first.sl.r_7, body_first.sl.r_8, body_first.sl.r_9, body_first.sl.r_10, body_first.sl.r_11, body_first.sl.r_12, body_first.sl.r_13, body_first.sl.r_14, body_first.sl.r_15, body_first.sl.r_16, body_first.sl.r_17, body_first.sl.r_18, body_first.sl.r_19, body_first.sl.r_20, body_first.sl.r_21, body_first.sl.r_22, body_first.sl.r_23, body_first.sl.H20_1, body_first.sl.H21_1]
    simp only [e0, e1, e2, e3, e7, e8, e9, e10, e11, e12, e13, e14, e15, m0, m1, m2, c0, c1, c2, c3]
    exact View.read_writes_full _ _ _ _ _
  isplitl [H19]
  · iexists _; isplitr
    swap; · iexact H19
    ipureintro
    dsimp only [body_first.sl.r, body_first.sl.r_1, body_first.sl.r_2, body_first.sl.r_3, body_first.sl.r_4, body_first.sl.r_5, body_first.sl.r_6, body_first.sl.r_7, body_first.sl.r_8, body_first.sl.r_9, body_first.sl.r_10, body_first.sl.r_11, body_first.sl.r_12, body_first.sl.r_13, body_first.sl.r_14, body_first.sl.r_15, body_first.sl.r_16, body_first.sl.r_17, body_first.sl.r_18, body_first.sl.r_19, body_first.sl.r_20, body_first.sl.r_21, body_first.sl.r_22, body_first.sl.r_23, body_first.sl.H20_1, body_first.sl.H21_1]
    simp only [e0, e1, e2, e3, e7, e8, e9, e10, e11, e12, e13, e14, e15, m0, m1, m2, c0, c1, c2, c3]
    exact View.read_writes_full _ _ _ _ _
  isplitl [H20]
  · iexists _; isplitr
    swap
    · iexists _; isplitr
      swap; · iexact H20
      ipureintro; rfl
    ipureintro
    refine (head3_store _ _ _ _).trans ?_
    dsimp only [body_first.sl.r, body_first.sl.r_1, body_first.sl.r_2, body_first.sl.r_3, body_first.sl.r_4, body_first.sl.r_5, body_first.sl.r_6, body_first.sl.r_7, body_first.sl.r_8, body_first.sl.r_9, body_first.sl.r_10, body_first.sl.r_11, body_first.sl.r_12, body_first.sl.r_13, body_first.sl.r_14, body_first.sl.r_15, body_first.sl.r_16, body_first.sl.r_17, body_first.sl.r_18, body_first.sl.r_19, body_first.sl.r_20, body_first.sl.r_21, body_first.sl.r_22, body_first.sl.r_23, body_first.sl.H20_1, body_first.sl.H21_1]
    simp only [e0, e1, e2, e3, e7, e8, e9, e10, e11, e12, e13, e14, e15, m0, m1, m2, c0, c1, c2, c3]
  · iexists _; isplitr
    swap
    · iexists _; isplitr
      swap; · iexact H21
      ipureintro; rfl
    ipureintro
    refine (head1_store _ _ _ _).trans ?_
    dsimp only [body_first.sl.r, body_first.sl.r_1, body_first.sl.r_2, body_first.sl.r_3, body_first.sl.r_4, body_first.sl.r_5, body_first.sl.r_6, body_first.sl.r_7, body_first.sl.r_8, body_first.sl.r_9, body_first.sl.r_10, body_first.sl.r_11, body_first.sl.r_12, body_first.sl.r_13, body_first.sl.r_14, body_first.sl.r_15, body_first.sl.r_16, body_first.sl.r_17, body_first.sl.r_18, body_first.sl.r_19, body_first.sl.r_20, body_first.sl.r_21, body_first.sl.r_22, body_first.sl.r_23, body_first.sl.H20_1, body_first.sl.H21_1]
    simp only [e0, e1, e2, e3, e7, e8, e9, e10, e11, e12, e13, e14, e15, m0, m1, m2, c0, c1, c2, c3]

end Cert.PrepIdealLoop

end
-- ==== Proof.PrepIdealFrame.lean ====
module

public import proofs.«01_k».proof.Proof.PrepIdealRun
public import proofs.«01_k».proof.Proof.Gen.PrepIdeal.Points

/-! The launch of the preparing kernel: its run, block after block, and its frame. -/

@[expose] public section

set_option maxRecDepth 16384

noncomputable section

namespace Cert.PrepIdealLoop

open Cert.PrepIdeal Cert.PrepIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄L" => MT nD τ sig Unit (Elt F) ℕ (UR sig nD τ) ℕ

variable (m : (ℓ : Loc nD τ sig) → Buf (Elt F) ℓ) (ρ : Dev nD → PrngReg)

/-- The first point of a batch is every eighth. -/
theorem hcond0_0 (t : Fin cfg0.N) : cond0_0 (grid0.coords t) ↔ t.val % 8 = 0 := by
  have ht : t.val < 64 := Nat.lt_of_lt_of_eq t.isLt N_0
  have e1 : (grid0.coords t 1).val = t.val / 1 % 8 := Pipeline.Grid.coords_val t 1 (by decide) rfl
  simp only [cond0_0, e1]
  word_cmp

/-- The two buffers that last from point to point. -/
abbrev carry0 : Memref sig .tc .vmem S8x1024 .f32 := Memref.whole cc0_scratch0

abbrev carry1 : Memref sig .tc .vmem S8x512 .f32 := Memref.whole cc0_scratch1

theorem scratch_eq (c : Dev nD) :
    (Pipeline.ΦA spec0 c : sProp 𝕄L)
      = iprop(((∃ d, owns (c : Thread nD τ) carry0 fullShare d) ∗ (∃ d, owns (c : Thread nD τ) carry1 fullShare d)) ∗ (∃ r, prngReg c r)) := by
  unfold Pipeline.ΦA; rw [scopedRest0_eq]; simp only [carry0, carry1, owns_whole]; try rfl

/-- The last rows of a point's blocks. -/
def last (c : Dev nD) (t : Fin cfg0.N) : Vec F S3x1024 .f32 := k0_pay12 (X0_0 m c t) (X0_1 m c t) (X0_2 m c t)

def lastLow (c : Dev nD) (t : Fin cfg0.N) : Vec F S1x512 .f32 := k0_pay13 (iblk m c 3 t)

/-- The point before one that is not a batch's first. -/
def prev (t : Fin cfg0.N) : Fin cfg0.N := ⟨t.val - 1, lt_of_le_of_lt (Nat.sub_le _ _) t.isLt⟩

/-- The rows before a point's blocks. -/
def past (c : Dev nD) (t : Fin cfg0.N) : Vec F S3x1024 .f32 :=
  if t.val % 8 = 0 then k0_pay5 (iblk m c 4 t) else last m c (prev t)

def pastLow (c : Dev nD) (t : Fin cfg0.N) : Vec F S1x512 .f32 :=
  if t.val % 8 = 0 then k0_pay6 (iblk m c 5 t) else lastLow m c (prev t)

theorem past_first (c : Dev nD) (t : Fin cfg0.N) (h : t.val % 8 = 0) : past m c t = k0_pay5 (iblk m c 4 t) := if_pos h

theorem past_later (c : Dev nD) (t : Fin cfg0.N) (h : ¬ t.val % 8 = 0) : past m c t = last m c (prev t) := if_neg h

theorem pastLow_first (c : Dev nD) (t : Fin cfg0.N) (h : t.val % 8 = 0) : pastLow m c t = k0_pay6 (iblk m c 5 t) := if_pos h

theorem pastLow_later (c : Dev nD) (t : Fin cfg0.N) (h : ¬ t.val % 8 = 0) : pastLow m c t = lastLow m c (prev t) := if_neg h

/-- Between points the two buffers hold, unless a batch begins, the last rows of the point before. -/
def between (c : Dev nD) (n : ℕ) (hn : n ≤ cfg0.N) : sProp 𝕄L :=
  iprop(((∃ d, ⌜∀ h : ¬ n % 8 = 0, head3 d = last m c ⟨n - 1, by omega⟩⌝ ∗ owns (c : Thread nD τ) carry0 fullShare d)
    ∗ (∃ d, ⌜∀ h : ¬ n % 8 = 0, head1 d = lastLow m c ⟨n - 1, by omega⟩⌝ ∗ owns (c : Thread nD τ) carry1 fullShare d)) ∗ (∃ r, prngReg c r))

/-- What each window's buffer holds after the body at a point. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => mixed (past m c t) (pastLow m c t) (X0_0 m c t) (X0_1 m c t) (X0_2 m c t) (iblk m c 3 t) (iblk m c 6 t) (iblk m c 7 t) (iblk m c 8 t) (iblk m c 9 t) (iblk m c 10 t) (iblk m c 11 t) (iblk m c 12 t) (iblk m c 13 t) (iblk m c 15 t)
    | ⟨17, _⟩ => gate (pastLow m c t) (iblk m c 3 t) (iblk m c 7 t) (iblk m c 14 t)
    | ⟨18, _⟩ => k0_pay14 (k0_pay11 (X0_0 m c t) (X0_1 m c t) (X0_2 m c t))
    | ⟨19, _⟩ => k0_pay15 (iblk m c 3 t)
    | ⟨n + 20, h⟩ => absurd (show n + 20 < 20 from h) (by omega)
  Φ t := between m c t.val (Nat.le_of_lt_succ t.isLt)
  q w := Pipeline.shareOf spec0 w
  owed _ := 0

theorem entry (c : Dev nD) (w : Fin cfg0.W) : (dats m 0 c).A w = V m c (Pipeline.arrRef spec0 w) := by
  dsimp only [dats]

theorem before_0 (c : Dev nD) (t : Fin cfg0.N) (d) : (dats m 0 c).before 0 t d = X0_0 m c t :=
  before0_0_of m (dats m 0 c) (entry m c 0) (fun _ => by dsimp only [dats]) t d

theorem before_1 (c : Dev nD) (t : Fin cfg0.N) (d) : (dats m 0 c).before 1 t d = X0_1 m c t :=
  before0_1_of m (dats m 0 c) (entry m c 1) (fun _ => by dsimp only [dats]) t d

theorem before_2 (c : Dev nD) (t : Fin cfg0.N) (d) : (dats m 0 c).before 2 t d = X0_2 m c t :=
  before0_2_of m (dats m 0 c) (entry m c 2) (fun _ => by dsimp only [dats]) t d

theorem before_3 (c : Dev nD) (t : Fin cfg0.N) (d) : (dats m 0 c).before 3 t d = iblk m c 3 t :=
  before0_3_of m (dats m 0 c) (entry m c 3) (fun _ => by dsimp only [dats]) t d

theorem before_4 (c : Dev nD) (t : Fin cfg0.N) (d) : (dats m 0 c).before 4 t d = iblk m c 4 t :=
  before0_4_of m (dats m 0 c) (entry m c 4) (fun _ => by dsimp only [dats]) t d

theorem before_5 (c : Dev nD) (t : Fin cfg0.N) (d) : (dats m 0 c).before 5 t d = iblk m c 5 t :=
  before0_5_of m (dats m 0 c) (entry m c 5) (fun _ => by dsimp only [dats]) t d

theorem before_6 (c : Dev nD) (t : Fin cfg0.N) (d) : (dats m 0 c).before 6 t d = iblk m c 6 t :=
  before0_6_of m (dats m 0 c) (entry m c 6) (fun _ => by dsimp only [dats]) t d

theorem before_7 (c : Dev nD) (t : Fin cfg0.N) (d) : (dats m 0 c).before 7 t d = iblk m c 7 t :=
  before0_7_of m (dats m 0 c) (entry m c 7) (fun _ => by dsimp only [dats]) t d

theorem before_8 (c : Dev nD) (t : Fin cfg0.N) (d) : (dats m 0 c).before 8 t d = iblk m c 8 t :=
  before0_8_of m (dats m 0 c) (entry m c 8) (fun _ => by dsimp only [dats]) t d

theorem before_9 (c : Dev nD) (t : Fin cfg0.N) (d) : (dats m 0 c).before 9 t d = iblk m c 9 t :=
  before0_9_of m (dats m 0 c) (entry m c 9) (fun _ => by dsimp only [dats]) t d

theorem before_10 (c : Dev nD) (t : Fin cfg0.N) (d) : (dats m 0 c).before 10 t d = iblk m c 10 t :=
  before0_10_of m (dats m 0 c) (entry m c 10) (fun _ => by dsimp only [dats]) t d

theorem before_11 (c : Dev nD) (t : Fin cfg0.N) (d) : (dats m 0 c).before 11 t d = iblk m c 11 t :=
  before0_11_of m (dats m 0 c) (entry m c 11) (fun _ => by dsimp only [dats]) t d

theorem before_12 (c : Dev nD) (t : Fin cfg0.N) (d) : (dats m 0 c).before 12 t d = iblk m c 12 t :=
  before0_12_of m (dats m 0 c) (entry m c 12) (fun _ => by dsimp only [dats]) t d

theorem before_13 (c : Dev nD) (t : Fin cfg0.N) (d) : (dats m 0 c).before 13 t d = iblk m c 13 t :=
  before0_13_of m (dats m 0 c) (entry m c 13) (fun _ => by dsimp only [dats]) t d

theorem before_14 (c : Dev nD) (t : Fin cfg0.N) (d) : (dats m 0 c).before 14 t d = iblk m c 14 t :=
  before0_14_of m (dats m 0 c) (entry m c 14) (fun _ => by dsimp only [dats]) t d

theorem before_15 (c : Dev nD) (t : Fin cfg0.N) (d) : (dats m 0 c).before 15 t d = iblk m c 15 t :=
  before0_15_of m (dats m 0 c) (entry m c 15) (fun _ => by dsimp only [dats]) t d

theorem after_0 (c : Dev nD) (t : Fin cfg0.N) : (dats m 0 c).after 0 t = X0_0 m c t := by dsimp only [dats]

theorem after_1 (c : Dev nD) (t : Fin cfg0.N) : (dats m 0 c).after 1 t = X0_1 m c t := by dsimp only [dats]

theorem after_2 (c : Dev nD) (t : Fin cfg0.N) : (dats m 0 c).after 2 t = X0_2 m c t := by dsimp only [dats]

theorem after_3 (c : Dev nD) (t : Fin cfg0.N) : (dats m 0 c).after 3 t = iblk m c 3 t := by dsimp only [dats]

theorem after_4 (c : Dev nD) (t : Fin cfg0.N) : (dats m 0 c).after 4 t = iblk m c 4 t := by dsimp only [dats]

theorem after_5 (c : Dev nD) (t : Fin cfg0.N) : (dats m 0 c).after 5 t = iblk m c 5 t := by dsimp only [dats]

theorem after_6 (c : Dev nD) (t : Fin cfg0.N) : (dats m 0 c).after 6 t = iblk m c 6 t := by dsimp only [dats]

theorem after_7 (c : Dev nD) (t : Fin cfg0.N) : (dats m 0 c).after 7 t = iblk m c 7 t := by dsimp only [dats]

theorem after_8 (c : Dev nD) (t : Fin cfg0.N) : (dats m 0 c).after 8 t = iblk m c 8 t := by dsimp only [dats]

theorem after_9 (c : Dev nD) (t : Fin cfg0.N) : (dats m 0 c).after 9 t = iblk m c 9 t := by dsimp only [dats]

theorem after_10 (c : Dev nD) (t : Fin cfg0.N) : (dats m 0 c).after 10 t = iblk m c 10 t := by dsimp only [dats]

theorem after_11 (c : Dev nD) (t : Fin cfg0.N) : (dats m 0 c).after 11 t = iblk m c 11 t := by dsimp only [dats]

theorem after_12 (c : Dev nD) (t : Fin cfg0.N) : (dats m 0 c).after 12 t = iblk m c 12 t := by dsimp only [dats]

theorem after_13 (c : Dev nD) (t : Fin cfg0.N) : (dats m 0 c).after 13 t = iblk m c 13 t := by dsimp only [dats]

theorem after_14 (c : Dev nD) (t : Fin cfg0.N) : (dats m 0 c).after 14 t = iblk m c 14 t := by dsimp only [dats]

theorem after_15 (c : Dev nD) (t : Fin cfg0.N) : (dats m 0 c).after 15 t = iblk m c 15 t := by dsimp only [dats]

theorem after_16 (c : Dev nD) (t : Fin cfg0.N) : (dats m 0 c).after 16 t = mixed (past m c t) (pastLow m c t) (X0_0 m c t) (X0_1 m c t) (X0_2 m c t) (iblk m c 3 t) (iblk m c 6 t) (iblk m c 7 t) (iblk m c 8 t) (iblk m c 9 t) (iblk m c 10 t) (iblk m c 11 t) (iblk m c 12 t) (iblk m c 13 t) (iblk m c 15 t) := by dsimp only [dats]

theorem after_17 (c : Dev nD) (t : Fin cfg0.N) : (dats m 0 c).after 17 t = gate (pastLow m c t) (iblk m c 3 t) (iblk m c 7 t) (iblk m c 14 t) := by dsimp only [dats]

theorem after_18 (c : Dev nD) (t : Fin cfg0.N) : (dats m 0 c).after 18 t = k0_pay14 (k0_pay11 (X0_0 m c t) (X0_1 m c t) (X0_2 m c t)) := by dsimp only [dats]

theorem after_19 (c : Dev nD) (t : Fin cfg0.N) : (dats m 0 c).after 19 t = k0_pay15 (iblk m c 3 t) := by dsimp only [dats]

/-- The windows' buffers before the body at a point. -/
def pre (c : Dev nD) (t : Fin cfg0.N) : sProp 𝕄L :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d))
    ∗ (∃ d, owns (c : Thread nD τ) (win0_18.stage (cfg0.slots t 18)) fullShare ((dats m 0 c).before 18 t d))
    ∗ (∃ d, owns (c : Thread nD τ) (win0_19.stage (cfg0.slots t 19)) fullShare ((dats m 0 c).before 19 t d)))

/-- The windows' buffers after the body at a point. -/
def post (c : Dev nD) (t : Fin cfg0.N) : sProp 𝕄L :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t)
    ∗ owns (c : Thread nD τ) (win0_15.stage (cfg0.slots t 15)) fullShare ((dats m 0 c).after 15 t)
    ∗ owns (c : Thread nD τ) (win0_16.stage (cfg0.slots t 16)) fullShare ((dats m 0 c).after 16 t)
    ∗ owns (c : Thread nD τ) (win0_17.stage (cfg0.slots t 17)) fullShare ((dats m 0 c).after 17 t)
    ∗ owns (c : Thread nD τ) (win0_18.stage (cfg0.slots t 18)) fullShare ((dats m 0 c).after 18 t)
    ∗ owns (c : Thread nD τ) (win0_19.stage (cfg0.slots t 19)) fullShare ((dats m 0 c).after 19 t))

theorem between_start (c : Dev nD) (t : Fin cfg0.N) :
    (dats m 0 c).Φ t.castSucc = between m c t.val (Nat.le_of_lt t.isLt) := by
  dsimp only [dats]; exact Pipeline.Dat.Φ_castSucc (between m c) t

set_option maxHeartbeats 3200000 in
/-- The body at every point. -/
theorem body (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8, before_9, before_10, before_11, before_12, before_13, before_14, before_15]
  rw [between_start m c t, show (dats m 0 c).Φ t.succ = between m c (t.val + 1) t.isLt from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19]
  unfold between
  by_cases h0 : t.val % 8 = 0
  · iintro ⟨⟨⟨⟨%a, -, HA⟩, ⟨%b, -, HB⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply (body_first c (grid0.coords t) _ _ _ _ _ _ _ _ _ _ _ _ _ _ _ _ _ _ _ _ _ _ _ _ _ _ _ _ _ _ _ _ _ _ _ _ _ _ _ _ _ _ _ _ ((hcond0_0 t).mpr h0) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (past m c t) (past_first m c t h0) (pastLow m c t) (pastLow_first m c t h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexists _; iexact H19
    isplitl [HA]; · iexists _; iexact HA
    isplitl [HB]; · iexists _; iexact HB
    iintro ⟨H0, H1, H2, H3, H4, H5, H6, H7, H8, H9, H10, H11, H12, H13, H14, H15, H16, H17, H18, H19, ⟨%a2, %ha2, HA⟩, ⟨%b2, %hb2, HB⟩⟩
    isplitl [HA HB Hg]
    · isplitl [HA HB]
      · isplitl [HA]
        · iexists a2; isplitr
          · ipureintro; exact fun _ => ha2
          iexact HA
        · iexists b2; isplitr
          · ipureintro; exact fun _ => hb2
          iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  · iintro ⟨⟨⟨⟨%a, %ha, HA⟩, ⟨%b, %hb, HB⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply (body_later c (grid0.coords t) _ _ _ _ _ _ _ _ _ _ _ _ _ _ _ _ _ _ _ _ _ _ _ _ _ _ _ _ _ _ _ _ _ _ _ _ _ _ _ _ _ _ _ _ (fun h => h0 ((hcond0_0 t).mp h)) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (past m c t) (pastLow m c t) a b ((ha h0).trans (past_later m c t h0).symm) ((hb h0).trans (pastLow_later m c t h0).symm) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexists _; iexact H19
    isplitl [HA]; · iexact HA
    isplitl [HB]; · iexact HB
    iintro ⟨H0, H1, H2, H3, H4, H5, H6, H7, H8, H9, H10, H11, H12, H13, H14, H15, H16, H17, H18, H19, ⟨%a2, %ha2, HA⟩, ⟨%b2, %hb2, HB⟩⟩
    isplitl [HA HB Hg]
    · isplitl [HA HB]
      · isplitl [HA]
        · iexists a2; isplitr
          · ipureintro; exact fun _ => ha2
          iexact HA
        · iexists b2; isplitr
          · ipureintro; exact fun _ => hb2
          iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (body m c t) rfl .rfl fun _ => .rfl

theorem enter (c : Dev nD) : Pipeline.ΦA spec0 c ⊢ (dats m 0 c).Φ 0 := by
  rw [show (dats m 0 c).Φ 0 = between m c 0 (Nat.zero_le _) from rfl, scratch_eq]
  unfold between
  iintro ⟨⟨⟨%a, HA⟩, ⟨%b, HB⟩⟩, Hg⟩
  isplitl [HA HB]
  · isplitl [HA]
    · iexists a; isplitr
      · ipureintro; exact fun h => absurd rfl h
      iexact HA
    · iexists b; isplitr
      · ipureintro; exact fun h => absurd rfl h
      iexact HB
  iexact Hg

theorem leave (c : Dev nD) : (dats m 0 c).Φ (Fin.last cfg0.N) ⊢ Pipeline.ΦA spec0 c := by
  rw [show (dats m 0 c).Φ (Fin.last cfg0.N) = between m c cfg0.N le_rfl from rfl, scratch_eq]
  unfold between
  iintro ⟨⟨⟨%a, -, HA⟩, ⟨%b, -, HB⟩⟩, Hg⟩
  isplitl [HA HB]
  · isplitl [HA]
    · iexists a; iexact HA
    · iexists b; iexact HB
  iexact Hg

set_option backward.isDefEq.respectTransparency.types false in
/-- The launch runs: each window's array ends as its write-backs leave it, every counter at zero. -/
theorem run_all : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := entry m) (hin := enter m) (hout := leave m)

/-- The result arrays after the run, named. -/
theorem run_arrays : θ_run defs (onTc (τ := τ) (main (F := F))) (s₀ m ρ) (Pipeline.FramePost cfgs (dats m) 0 (V m)) :=
  (θ_run defs _ _).mono (fun _ h => h.1) (run_all m ρ)

/-- The frame: the arguments end as they began, every counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9))
      ∧ r.2.sem = fun _ => 0) :=
  θ_run_and (frame_of m ρ (dats m) (entry m) (run_arrays m ρ)) ((θ_run defs _ _).mono (fun _ h => h.2) (run_all m ρ))

end Cert.PrepIdealLoop

end
-- ==== Proof.PrepMath.lean ====
module

public import proofs.«01_k».proof.Proof.PrepIdealRun
public import Idealize.ShloMosaic.Lib.Pipeline.ValueKit

/-! The preparing kernel's block computation at an index. -/

@[expose] public section

set_option maxRecDepth 16384

noncomputable section

namespace Cert.PrepMath

open Idealize.ShloMosaic Idealize.ShloMosaic.TcCoe Idealize.SL.Sem
open Cert.PrepIdeal Cert.PrepIdeal.Gen Cert.PrepIdealLoop

/-- A row mixed with the row before it. -/
def mix (x p u : EReal) : EReal := x + (p - x) * u

/-- Whether a row of a block is its first, as the kernel asks. -/
theorem first_row (i : Fin 256) : (IntOp.cmpi CmpIPredicate.eq (BitVec.ofNat 32 i.val) 0#32 = 1#1) ↔ i.val = 0 := by
  revert i; decide +kernel

/-- The entry before row `i` of a block: the carried one before the first. -/
def above (p : EReal) (x : Fin 256 → EReal) (i : Fin 256) : EReal :=
  if i.val = 0 then p else x ⟨i.val - 1, by omega⟩

theorem above_eq (p : EReal) (x : Fin 256 → EReal) (i : Fin 256) (h : (i.val + 256 - 1) % 256 < 256) :
    Scalar.select (IntOp.cmpi CmpIPredicate.eq (BitVec.ofNat 32 i.val) 0#32) p (x ⟨(i.val + 256 - 1) % 256, h⟩) = above p x i := by
  unfold above
  by_cases h0 : i.val = 0
  · rw [if_pos h0, (first_row i).mpr h0]; rfl
  · rw [if_neg h0]
    have hn : IntOp.cmpi CmpIPredicate.eq (BitVec.ofNat 32 i.val) 0#32 = 0#1 := by
      have := mt (first_row i).mp h0
      revert this
      generalize IntOp.cmpi CmpIPredicate.eq (BitVec.ofNat 32 i.val) 0#32 = b
      revert b; decide
    rw [hn]
    refine (show Scalar.select 0#1 p _ = x ⟨(i.val + 256 - 1) % 256, h⟩ from rfl).trans (congrArg x (Fin.ext ?_))
    show (i.val + 256 - 1) % 256 = i.val - 1
    omega

theorem mixR_at (x : FVec Ideal S256x1024 .f32) (p u : FVec Ideal S1x1024 .f32) (i : Fin 256) (k : Fin 1024) :
    k0_pay7 (F := Ideal) x p u (ix2 i k) = mix (x (ix2 i k)) (above (p (ix2 0 k)) (fun i => x (ix2 i k)) i) (u (ix2 0 k)) := by
  unfold mix
  rw [← above_eq _ _ _ (Nat.mod_lt _ (by decide))]
  pointwise [k0_pay7]

theorem mixK_at (x : FVec Ideal S256x1024 .f32) (p u : FVec Ideal S1x1024 .f32) (i : Fin 256) (k : Fin 1024) :
    k0_pay8 (F := Ideal) x p u (ix2 i k) = mix (x (ix2 i k)) (above (p (ix2 0 k)) (fun i => x (ix2 i k)) i) (u (ix2 0 k)) :=
  mixR_at x p u i k

theorem mixV_at (x : FVec Ideal S256x1024 .f32) (p u : FVec Ideal S1x1024 .f32) (i : Fin 256) (k : Fin 1024) :
    k0_pay9 (F := Ideal) x p u (ix2 i k) = mix (x (ix2 i k)) (above (p (ix2 0 k)) (fun i => x (ix2 i k)) i) (u (ix2 0 k)) :=
  mixR_at x p u i k

theorem mixL_at (x : FVec Ideal S256x512 .f32) (p u : FVec Ideal S1x512 .f32) (i : Fin 256) (k : Fin 512) :
    k0_pay10 (F := Ideal) x p u (ix2 i k) = mix (x (ix2 i k)) (above (p (ix2 0 k)) (fun i => x (ix2 i k)) i) (u (ix2 0 k)) := by
  unfold mix
  rw [← above_eq _ _ _ (Nat.mod_lt _ (by decide))]
  pointwise [k0_pay10]

/-- The decay that a sum gives. -/
def decayOf (z : EReal) : EReal :=
  Ideal.exp (0 - Ideal.exp (0 - (max (0 - z) 0 + Ideal.log1p (Ideal.exp (0 - FloatOps.absf (F := Ideal) (φ := .f32) (0 - z))))
    - Ideal.ofBits .f32 0x3F000000#32))

theorem decay_at (l : FVec Ideal S256x512 .f32) (w : FVec Ideal S128x1024 .bf16) (b : FVec Ideal S1x1024 .f32) (i : Fin 256) (k : Fin 1024) :
    k0_pay18 (F := Ideal) l w b (ix2 i k)
    = decayOf (b (ix2 0 k) + ∑ x : Fin 128, Ideal.tanh (l (ix2 i ⟨x.val, by omega⟩)) * w (ix2 x k)) := by
  unfold decayOf
  pointwise [k0_pay18, k0_pay16]

theorem rate_at (l : FVec Ideal S256x512 .f32) (w : FVec Ideal S128x1024 .bf16) (b : FVec Ideal S1x1024 .f32) (i : Fin 256) (k : Fin 1024) :
    k0_pay20 (F := Ideal) (k0_pay19 l w) b (ix2 i k)
    = Ideal.logistic (b (ix2 0 k) + ∑ x : Fin 128, l (ix2 i ⟨x.val, by omega⟩) * w (ix2 x k)) := by
  pointwise [k0_pay20, k0_pay19, k0_pay16]

theorem gate_at (l : FVec Ideal S256x512 .f32) (w : FVec Ideal S256x1024 .bf16) (i : Fin 256) (k : Fin 1024) :
    k0_pay21 (F := Ideal) (k0_pay17 l) w (ix2 i k)
    = ∑ x : Fin 256, Ideal.logistic (l (ix2 i ⟨128 + x.val, by omega⟩)) * w (ix2 x k) := by
  pointwise [k0_pay21, k0_pay17]

theorem cat8_at (A : Fin 8 → FVec Ideal S256x128 .f32) (h) (i : Fin 256) (k : Fin 1024) :
    concatenate S256x1024 1 [⟨S256x128, A 0⟩, ⟨S256x128, A 1⟩, ⟨S256x128, A 2⟩, ⟨S256x128, A 3⟩, ⟨S256x128, A 4⟩, ⟨S256x128, A 5⟩, ⟨S256x128, A 6⟩, ⟨S256x128, A 7⟩] h (ix2 i k)
    = A ⟨k.val / 128, by omega⟩ (ix2 i ⟨k.val % 128, by omega⟩) := by
  have hA : ∀ (o : Fin 8) (j : ℕ) (hj : j < 128), k.val = o.val * 128 + j →
      A o (ix2 i ⟨j, hj⟩) = A ⟨k.val / 128, by omega⟩ (ix2 i ⟨k.val % 128, by omega⟩) := by
    intro o j hj e
    refine congrArg₂ (fun o j => A o (ix2 i j)) (Fin.ext ?_) (Fin.ext ?_)
    · show o.val = k.val / 128
      omega
    · show j = k.val % 128
      omega
  pointwise []
  split_ifs
  all_goals first
    | exact hA 0 _ _ (by show k.val = 0 * 128 + _; omega)
    | exact hA 1 _ _ (by show k.val = 1 * 128 + _; omega)
    | exact hA 2 _ _ (by show k.val = 2 * 128 + _; omega)
    | exact hA 3 _ _ (by show k.val = 3 * 128 + _; omega)
    | exact hA 4 _ _ (by show k.val = 4 * 128 + _; omega)
    | exact hA 5 _ _ (by show k.val = 5 * 128 + _; omega)
    | exact hA 6 _ _ (by show k.val = 6 * 128 + _; omega)
    | exact hA 7 _ _ (by show k.val = 7 * 128 + _; omega)

/-- The sums by head over 128 columns, of a high and a low part. -/
def seg (hi lo : FVec Ideal S256x1024 .bf16) (sg : FVec Ideal S128x128 .bf16) (o : ℕ) (h : S256x1024.Slices ![0, o] S256x128) :
    FVec Ideal S256x128 .f32 :=
  addf (matmul dot_S256x128_S128x128_S256x128_1_0_0_1_n_n none (extractStridedSlice S256x128 ![0, o] hi h) sg (constant S256x128 .f32 0x00000000#32))
    (matmul dot_S256x128_S128x128_S256x128_1_0_0_1_n_n none (extractStridedSlice S256x128 ![0, o] lo h) sg (constant S256x128 .f32 0x00000000#32))

theorem seg_at (hi lo : FVec Ideal S256x1024 .bf16) (sg : FVec Ideal S128x128 .bf16) (o : ℕ) (h : S256x1024.Slices ![0, o] S256x128) (ho : o ≤ 896)
    (i : Fin 256) (j : Fin 128) : seg hi lo sg o h (ix2 i j)
    = ∑ x : Fin 128, hi (ix2 i ⟨o + x.val, by omega⟩) * sg (ix2 x j) + ∑ x : Fin 128, lo (ix2 i ⟨o + x.val, by omega⟩) * sg (ix2 x j) := by
  pointwise [seg]

theorem slices8 (o : Fin 8) : S256x1024.Slices ![0, o.val * 128] S256x128 := by
  revert o; decide

theorem unit_at (kk : FVec Ideal S1x1024 .f32) (sg : FVec Ideal S128x128 .bf16) (x : FVec Ideal S256x1024 .f32) (i : Fin 256) (k : Fin 1024) :
    unitK (F := Ideal) kk sg x (ix2 i k)
    = Ideal.div (x (ix2 i k) * kk (ix2 0 k)) (max (Ideal.sqrt (seg (k0_pay24 x kk) (k0_pay25 x kk) (k0_pay26 sg) (k.val / 128 * 128)
        (slices8 ⟨k.val / 128, by omega⟩) (ix2 i ⟨k.val % 128, by omega⟩))) (Ideal.ofBits .f32 0x2B8CBCCC#32)) := by
  refine Eq.trans ?_ (congrArg (fun z => Ideal.div (x (ix2 i k) * kk (ix2 0 k)) (max (Ideal.sqrt z) (Ideal.ofBits .f32 0x2B8CBCCC#32)))
    (cat8_at (fun o => seg (k0_pay24 x kk) (k0_pay25 x kk) (k0_pay26 sg) (o.val * 128) (slices8 o)) concatenates_S256x128_S256x128_S256x128_S256x128_S256x128_S256x128_S256x128_S256x128_S256x1024_d1 i k))
  have e : x (ix2 i k) * kk (ix2 0 k) = k0_pay22 (F := Ideal) x kk (ix2 i k) := by
    pointwise [k0_pay22]
  rw [e]
  rfl

/-- The sums by head over the 128 columns a head's columns lie in, where the squares are finite. -/
theorem head_sum (q : Fin 1024 → EReal) (hq : ∀ k, q k - q k = 0) (sg : FVec Ideal S128x128 .bf16)
    (hs : ∀ x j : Fin 128, sg (ix2 x j) = if x.val / 64 = j.val / 64 then 1 else 0) (k : Fin 1024) :
    (∑ x : Fin 128, q ⟨k.val / 128 * 128 + x.val, by omega⟩ * sg (ix2 x ⟨k.val % 128, by omega⟩)
      + ∑ x : Fin 128, (q ⟨k.val / 128 * 128 + x.val, by omega⟩ - q ⟨k.val / 128 * 128 + x.val, by omega⟩) * sg (ix2 x ⟨k.val % 128, by omega⟩))
    = ∑ y : Fin 64, q ⟨k.val / 64 * 64 + y.val, by omega⟩ := by
  simp only [hq, hs, zero_mul, Finset.sum_const_zero, add_zero]
  refine (Fin.sum_univ_add (a := 64) (b := 64) _).trans ?_
  by_cases h : k.val % 128 < 64
  · have e1 : ∀ y : Fin 64, (Fin.castAdd 64 y).val / 64 = k.val % 128 / 64 := fun y => by
      show y.val / 64 = _
      omega
    have e2 : ∀ y : Fin 64, ¬ (Fin.natAdd 64 y).val / 64 = k.val % 128 / 64 := fun y => by
      show ¬ (64 + y.val) / 64 = _
      omega
    simp only [e1, e2, if_true, if_false, mul_one, mul_zero, Finset.sum_const_zero, add_zero]
    refine Finset.sum_congr rfl fun y _ => congrArg q (Fin.ext ?_)
    show k.val / 128 * 128 + y.val = k.val / 64 * 64 + y.val
    omega
  · have e1 : ∀ y : Fin 64, ¬ (Fin.castAdd 64 y).val / 64 = k.val % 128 / 64 := fun y => by
      show ¬ y.val / 64 = _
      omega
    have e2 : ∀ y : Fin 64, (Fin.natAdd 64 y).val / 64 = k.val % 128 / 64 := fun y => by
      show (64 + y.val) / 64 = _
      omega
    simp only [e1, e2, if_true, if_false, mul_one, mul_zero, Finset.sum_const_zero, zero_add]
    refine Finset.sum_congr rfl fun y _ => congrArg q (Fin.ext ?_)
    show k.val / 128 * 128 + (64 + y.val) = k.val / 64 * 64 + y.val
    omega

/-- The normalised key of a row, of keys whose squares are finite. -/
theorem unit_eq (kk : FVec Ideal S1x1024 .f32) (sg : FVec Ideal S128x128 .bf16) (x : FVec Ideal S256x1024 .f32) (i : Fin 256)
    (hq : ∀ k : Fin 1024, x (ix2 i k) * kk (ix2 0 k) * (x (ix2 i k) * kk (ix2 0 k)) - x (ix2 i k) * kk (ix2 0 k) * (x (ix2 i k) * kk (ix2 0 k)) = 0)
    (hs : ∀ x j : Fin 128, sg (ix2 x j) = if x.val / 64 = j.val / 64 then 1 else 0) (k : Fin 1024) :
    unitK (F := Ideal) kk sg x (ix2 i k)
    = Ideal.div (x (ix2 i k) * kk (ix2 0 k)) (max (Ideal.sqrt (∑ y : Fin 64, x (ix2 i ⟨k.val / 64 * 64 + y.val, by omega⟩) * kk (ix2 0 ⟨k.val / 64 * 64 + y.val, by omega⟩)
      * (x (ix2 i ⟨k.val / 64 * 64 + y.val, by omega⟩) * kk (ix2 0 ⟨k.val / 64 * 64 + y.val, by omega⟩)))) (Ideal.ofBits .f32 0x2B8CBCCC#32)) := by
  rw [unit_at, seg_at _ _ _ _ _ (by omega), ← head_sum (fun k => x (ix2 i k) * kk (ix2 0 k) * (x (ix2 i k) * kk (ix2 0 k))) hq sg hs k]
  have e24 : ∀ j : Fin 1024, k0_pay24 (F := Ideal) x kk (ix2 i j) = x (ix2 i j) * kk (ix2 0 j) * (x (ix2 i j) * kk (ix2 0 j)) := fun j => by
    pointwise [k0_pay24, k0_pay23, k0_pay22]
  have e25 : ∀ j : Fin 1024, k0_pay25 (F := Ideal) x kk (ix2 i j) = x (ix2 i j) * kk (ix2 0 j) * (x (ix2 i j) * kk (ix2 0 j))
      - x (ix2 i j) * kk (ix2 0 j) * (x (ix2 i j) * kk (ix2 0 j)) := fun j => by
    pointwise [k0_pay25, k0_pay24, k0_pay23, k0_pay22]
  have e26 : ∀ a b : Fin 128, k0_pay26 (F := Ideal) sg (ix2 a b) = sg (ix2 a b) := fun a b => by
    pointwise [k0_pay26]
  simp only [e24, e25, e26]

/-- A sum whose later terms vanish. -/
theorem sum_low {n p : ℕ} (f : Fin (n + p) → EReal) (h : ∀ y : Fin p, f (Fin.natAdd n y) = 0) : ∑ x, f x = ∑ y : Fin n, f (Fin.castAdd p y) := by
  rw [Fin.sum_univ_add, Finset.sum_eq_zero (fun y _ => h y), add_zero]

/-- A sum whose earlier terms vanish. -/
theorem sum_high {n p : ℕ} (f : Fin (n + p) → EReal) (h : ∀ y : Fin n, f (Fin.castAdd p y) = 0) : ∑ x, f x = ∑ y : Fin p, f (Fin.natAdd n y) := by
  rw [Fin.sum_univ_add, Finset.sum_eq_zero (fun y _ => h y), zero_add]

/-! ### The six slabs -/

section
variable (p : Vec Ideal S3x1024 .f32) (pl : Vec Ideal S1x512 .f32) (x0 x1 x2 : Vec Ideal S256x1024 .f32) (x3 : Vec Ideal S256x512 .f32) (x6 : Vec Ideal S3x1024 .f32) (x7 : Vec Ideal S1x512 .f32) (x8 x9 x10 x11 : Vec Ideal S1x1024 .f32) (x12 x13 : Vec Ideal S128x1024 .bf16) (x14 : Vec Ideal S256x1024 .bf16) (x15 : Vec Ideal S128x128 .bf16) (i : Fin 256) (k : Fin 1024)

theorem mixed_0 : mixed (F := Ideal) p pl x0 x1 x2 x3 x6 x7 x8 x9 x10 x11 x12 x13 x15 (ix3 0 i k)
    = k0_pay7 (F := Ideal) x0 (row 0 p) (row 0 x6) (ix2 i k) := by
  show k0_pay33 (F := Ideal) (k0_pay7 (F := Ideal) x0 (row 0 p) (row 0 x6)) (ix3 0 i k) = _
  generalize k0_pay7 (F := Ideal) x0 (row 0 p) (row 0 x6) = A0
  pointwise [k0_pay33]

theorem mixed_1 : mixed (F := Ideal) p pl x0 x1 x2 x3 x6 x7 x8 x9 x10 x11 x12 x13 x15 (ix3 1 i k)
    = k0_pay18 (F := Ideal) (mixL pl x3 x7) x12 x8 (ix2 i k) := by
  show k0_pay34 (F := Ideal) (k0_pay18 (F := Ideal) (mixL pl x3 x7) x12 x8) (ix3 0 i k) = _
  generalize k0_pay18 (F := Ideal) (mixL pl x3 x7) x12 x8 = A0
  pointwise [k0_pay34]

theorem mixed_2 : mixed (F := Ideal) p pl x0 x1 x2 x3 x6 x7 x8 x9 x10 x11 x12 x13 x15 (ix3 2 i k)
    = mixK (F := Ideal) p x1 x6 (ix2 i k) * (1 + (rate (F := Ideal) pl x3 x7 x9 x13 (ix2 i k) - 1) * x11 (ix2 0 k)) := by
  show k0_pay1 (F := Ideal) (mixK (F := Ideal) p x1 x6) (k0_pay35 (rate (F := Ideal) pl x3 x7 x9 x13) x11) k0_pay36 (ix3 0 i k) = _
  generalize mixK (F := Ideal) p x1 x6 = A0
  generalize rate (F := Ideal) pl x3 x7 x9 x13 = A1
  pointwise [k0_pay1, k0_pay35, k0_pay36]

theorem mixed_3 : mixed (F := Ideal) p pl x0 x1 x2 x3 x6 x7 x8 x9 x10 x11 x12 x13 x15 (ix3 3 i k)
    = k0_pay9 (F := Ideal) x2 (row 2 p) (row 2 x6) (ix2 i k) := by
  show k0_pay2 (F := Ideal) (k0_pay9 (F := Ideal) x2 (row 2 p) (row 2 x6)) (ix3 0 i k) = _
  generalize k0_pay9 (F := Ideal) x2 (row 2 p) (row 2 x6) = A0
  pointwise [k0_pay2]

theorem mixed_4 : mixed (F := Ideal) p pl x0 x1 x2 x3 x6 x7 x8 x9 x10 x11 x12 x13 x15 (ix3 4 i k)
    = unitK (F := Ideal) x10 x15 (mixK p x1 x6) (ix2 i k) := by
  show k0_pay3 (F := Ideal) (unitK (F := Ideal) x10 x15 (mixK p x1 x6)) (ix3 0 i k) = _
  generalize unitK (F := Ideal) x10 x15 (mixK p x1 x6) = A0
  pointwise [k0_pay3]

theorem mixed_5 : mixed (F := Ideal) p pl x0 x1 x2 x3 x6 x7 x8 x9 x10 x11 x12 x13 x15 (ix3 5 i k)
    = unitK (F := Ideal) x10 x15 (mixK p x1 x6) (ix2 i k) * rate (F := Ideal) pl x3 x7 x9 x13 (ix2 i k) := by
  show k0_pay4 (F := Ideal) (rate (F := Ideal) pl x3 x7 x9 x13) (unitK (F := Ideal) x10 x15 (mixK p x1 x6)) (ix3 0 i k) = _
  generalize unitK (F := Ideal) x10 x15 (mixK p x1 x6) = A0
  generalize rate (F := Ideal) pl x3 x7 x9 x13 = A1
  pointwise [k0_pay4]

end

/-! ### The result, entry by entry -/

section
variable (P : FVec Ideal S16384x8704 .f32) (sp : FVec Ideal S8x3360 .f32) (mu : FVec Ideal S3360 .f32) (W0 : FVec Ideal S1024 .f32) (Wd : FVec Ideal S64x1024 .f32) (A0 : FVec Ideal S1024 .f32) (Wa : FVec Ideal S64x1024 .f32) (Wg : FVec Ideal S160x1024 .f32) (Kk Ka : FVec Ideal S1024 .f32)

/-- The projection's column that column `j` of the mixed rows comes from. -/
def src (j : Fin 3360) : Fin 8704 := ⟨if j.val < 3072 then j.val else j.val + 5120, by split_ifs <;> omega⟩

/-- A mixed entry of sequence `b` at position `s`. -/
def xm (b : Fin 8) (s : Fin 2048) (j : Fin 3360) : EReal :=
  mix (P (ix2 ⟨b.val * 2048 + s.val, by omega⟩ (src j)))
    (if s.val = 0 then sp (ix2 b j) else P (ix2 ⟨b.val * 2048 + (s.val - 1), by omega⟩ (src j))) (mu (ix1 j))

/-- The sum the decay comes from. -/
def wlog (b : Fin 8) (s : Fin 2048) (k : Fin 1024) : EReal :=
  W0 (ix1 k) + ∑ x : Fin 64, Ideal.tanh (xm P sp mu b s ⟨3072 + x.val, by omega⟩) * Wd (ix2 x k)

/-- The rate. -/
def rateOf (b : Fin 8) (s : Fin 2048) (k : Fin 1024) : EReal :=
  Ideal.logistic (A0 (ix1 k) + ∑ x : Fin 64, xm P sp mu b s ⟨3136 + x.val, by omega⟩ * Wa (ix2 x k))

/-- The output gate. -/
def gateOf (b : Fin 8) (s : Fin 2048) (k : Fin 1024) : EReal :=
  ∑ x : Fin 160, Ideal.logistic (xm P sp mu b s ⟨3200 + x.val, by omega⟩) * Wg (ix2 x k)

/-- A key scaled by its weight. -/
def keyq (b : Fin 8) (s : Fin 2048) (k : Fin 1024) : EReal := xm P sp mu b s ⟨1024 + k.val, by omega⟩ * Kk (ix1 k)

/-- A key over the norm of its head's keys. -/
def unitOf (b : Fin 8) (s : Fin 2048) (k : Fin 1024) : EReal :=
  Ideal.div (keyq P sp mu Kk b s k) (max (Ideal.sqrt (∑ y : Fin 64, keyq P sp mu Kk b s ⟨k.val / 64 * 64 + y.val, by omega⟩
    * keyq P sp mu Kk b s ⟨k.val / 64 * 64 + y.val, by omega⟩)) (Ideal.ofBits .f32 0x2B8CBCCC#32))

/-- The six slabs. -/
def slabOf (j : ℕ) (b : Fin 8) (s : Fin 2048) (k : Fin 1024) : EReal :=
  match j with
  | 0 => xm P sp mu b s ⟨k.val, by omega⟩
  | 1 => decayOf (wlog P sp mu W0 Wd b s k)
  | 2 => xm P sp mu b s ⟨1024 + k.val, by omega⟩ * (1 + (rateOf P sp mu A0 Wa b s k - 1) * Ka (ix1 k))
  | 3 => xm P sp mu b s ⟨2048 + k.val, by omega⟩
  | 4 => unitOf P sp mu Kk b s k
  | _ => unitOf P sp mu Kk b s k * rateOf P sp mu A0 Wa b s k

end

end Cert.PrepMath
-- ==== Proof.PrepHost.lean ====
module

public import proofs.«01_k».proof.Proof.PrepIdealFrame
public import proofs.«01_k».proof.Proof.PrepMath
public import Idealize.ShloMosaic.Lib.Pipeline.ValueKit
public import Idealize.ShloMosaic.Lib.Claim

/-! The preparation of the recurrence's inputs: the arrays the host makes before the kernel runs, and their entries. -/

@[expose] public section

set_option maxRecDepth 16384

noncomputable section

namespace Cert.PrepProof

open Idealize.ShloMosaic Idealize.ShloMosaic.TcCoe Idealize.SL.Sem
open Idealize.ShloMosaic.Pipeline (Dat)
open Cert.PrepIdeal Cert.PrepIdeal.Gen Cert.PrepMath

variable (m : (ℓ : Loc nD τ sig) → Buf (Elt Ideal) ℓ)

/-- The head each of a block's 128 columns is in, as the host divides: towards the floor. -/
def lane : IVec S128 32 :=
  let i := iotaInDim S128 32 0
  let n := constantI S_ 32 64#32
  let d := broadcastInDim S128 ![] bcast_S_S128 n
  select (andi (cmpi .ne (signi i) (broadcastInDim S128 ![] bcast_S_S128 (signi n)))
      (cmpi .ne (Host.remsi i d) (broadcastInDim S128 ![] bcast_S_S128 (constantI S_ 32 0#32))))
    (subi (Host.divsi i d) (broadcastInDim S128 ![] bcast_S_S128 (constantI S_ 32 1#32))) (Host.divsi i d)

/-- The mask of the pairs of columns that are in one head. -/
def headMask : FVec Ideal S128x128 .bf16 :=
  uitofp .bf16 (cmpi .eq (broadcastInDim S128x128 ![0, 1] bcast_S128x1_S128x128_0_1 (broadcastInDim S128x1 ![0] bcast_S128_S128x1_0 lane))
    (broadcastInDim S128x128 ![0, 1] bcast_S1x128_S128x128_0_1 (broadcastInDim S1x128 ![1] bcast_S128_S1x128_1 lane)))

theorem lane_at : ∀ x : Fin 128, lane (ix1 x) = BitVec.ofNat 32 (x.val / 64) := by
  decide +kernel

theorem headMask_at (x j : Fin 128) : headMask (ix2 x j) = if x.val / 64 = j.val / 64 then (1 : Ideal .bf16) else 0 := by
  unfold headMask
  pointwise []
  rw [lane_at x, lane_at j, WordCmp.cmpi_eq_ofNat (by omega) (by omega)]
  show (((BitVec.ofBool (decide (x.val / 64 = j.val / 64))).toNat : ℝ) : EReal) = _
  by_cases h : x.val / 64 = j.val / 64
  · rw [if_pos h, decide_eq_true h]
    simp
  · rw [if_neg h, decide_eq_false h]
    simp

/-- The mixing weights of r, k and v, a row each. -/
def mus (u : FVec Ideal S3360 .f32) : FVec Ideal S3x1024 .f32 :=
  shapeCast S3x1024 (extractStridedSlice S3072 ![0] u slices_S3360_S3072_0) shapeCasts_S3072_S3x1024

/-- The mixing weights of the low-rank columns, with zeros behind. -/
def muLow (u : FVec Ideal S3360 .f32) : FVec Ideal S1x512 .f32 :=
  shapeCast S1x512 (pad S512 ![0] ![224] ![0] (extractStridedSlice S288 ![3072] u slices_S3360_S288_3072) (sitofp .f32 (constantI S_ 32 0#32)) pads_S288_S512_02240 h_S_) shapeCasts_S512_S1x512

/-- The decay's second factor, zeros below. -/
def wPad (w : FVec Ideal S64x1024 .f32) : FVec Ideal S128x1024 .bf16 :=
  truncf .bf16 (concatenate S128x1024 0 [⟨S64x1024, w⟩, ⟨S64x1024, broadcastInDim S64x1024 ![] bcast_S_S64x1024 (constant S_ .f32 0x00000000#32)⟩] concatenates_S64x1024_S64x1024_S128x1024_d0) bitsLt_bf16_f32

/-- The rate's second factor, zeros above. -/
def aPad (w : FVec Ideal S64x1024 .f32) : FVec Ideal S128x1024 .bf16 :=
  truncf .bf16 (concatenate S128x1024 0 [⟨S64x1024, broadcastInDim S64x1024 ![] bcast_S_S64x1024 (constant S_ .f32 0x00000000#32)⟩, ⟨S64x1024, w⟩] concatenates_S64x1024_S64x1024_S128x1024_d0) bitsLt_bf16_f32

/-- The gate's second factor, zeros below. -/
def gPad (w : FVec Ideal S160x1024 .f32) : FVec Ideal S256x1024 .bf16 :=
  truncf .bf16 (concatenate S256x1024 0 [⟨S160x1024, w⟩, ⟨S96x1024, broadcastInDim S96x1024 ![] bcast_S_S96x1024 (constant S_ .f32 0x00000000#32)⟩] concatenates_S160x1024_S96x1024_S256x1024_d0) bitsLt_bf16_f32

/-- The rows before the sequences, their r, k and v columns a row each. -/
def sps (p : FVec Ideal S8x3360 .f32) : FVec Ideal S8x3x1024 .f32 :=
  shapeCast S8x3x1024 (extractStridedSlice S8x3072 ![0, 0] p slices_S8x3360_S8x3072_0_0) shapeCasts_S8x3072_S8x3x1024

/-- The low-rank columns of the rows before the sequences, with zeros behind. -/
def spLow (p : FVec Ideal S8x3360 .f32) : FVec Ideal S8x1x512 .f32 :=
  shapeCast S8x1x512 (pad S8x512 ![0, 0] ![0, 224] ![0, 0] (extractStridedSlice S8x288 ![0, 3072] p slices_S8x3360_S8x288_0_3072) (sitofp .f32 (constantI S_ 32 0#32)) pads_S8x288_S8x512_000_02240 h_S_) shapeCasts_S8x512_S8x1x512

theorem arr_mask (c : Dev nD) : V m c main_v7 = headMask := by
  unfold headMask lane
  show StableHlo.after (List.flatten [hostOps0, hostOps0_1, hostOps0_2, hostOps0_3, hostOps0_4, hostOps0_5, hostOps0_6]) (fun b => m (c, b)) (Proc.devRef .tc main_v7) = _
  simp only [hostOps0, hostOps0_1, hostOps0_2, hostOps0_3, hostOps0_4, hostOps0_5, hostOps0_6, List.flatten_cons, List.flatten_nil, List.append_nil, List.cons_append, List.nil_append]
  after_results <;> rfl

theorem arr_mu (c : Dev nD) : V m c main_v9 = mus (m ((c : Thread nD τ).loc main_arg2)) := by
  unfold mus
  show StableHlo.after (List.flatten [hostOps0, hostOps0_1, hostOps0_2, hostOps0_3, hostOps0_4, hostOps0_5, hostOps0_6]) (fun b => m (c, b)) (Proc.devRef .tc main_v9) = _
  simp only [hostOps0, hostOps0_1, hostOps0_2, hostOps0_3, hostOps0_4, hostOps0_5, hostOps0_6, List.flatten_cons, List.flatten_nil, List.append_nil, List.cons_append, List.nil_append]
  after_results <;> rfl

theorem arr_muLow (c : Dev nD) : V m c main_v12 = muLow (m ((c : Thread nD τ).loc main_arg2)) := by
  unfold muLow
  show StableHlo.after (List.flatten [hostOps0, hostOps0_1, hostOps0_2, hostOps0_3, hostOps0_4, hostOps0_5, hostOps0_6]) (fun b => m (c, b)) (Proc.devRef .tc main_v12) = _
  simp only [hostOps0, hostOps0_1, hostOps0_2, hostOps0_3, hostOps0_4, hostOps0_5, hostOps0_6, List.flatten_cons, List.flatten_nil, List.append_nil, List.cons_append, List.nil_append]
  after_results <;> rfl

theorem arr_w (c : Dev nD) : V m c main_v19 = wPad (m ((c : Thread nD τ).loc main_arg4)) := by
  unfold wPad
  show StableHlo.after (List.flatten [hostOps0, hostOps0_1, hostOps0_2, hostOps0_3, hostOps0_4, hostOps0_5, hostOps0_6]) (fun b => m (c, b)) (Proc.devRef .tc main_v19) = _
  simp only [hostOps0, hostOps0_1, hostOps0_2, hostOps0_3, hostOps0_4, hostOps0_5, hostOps0_6, List.flatten_cons, List.flatten_nil, List.append_nil, List.cons_append, List.nil_append]
  after_results <;> rfl

theorem arr_a (c : Dev nD) : V m c main_v22 = aPad (m ((c : Thread nD τ).loc main_arg6)) := by
  unfold aPad
  show StableHlo.after (List.flatten [hostOps0, hostOps0_1, hostOps0_2, hostOps0_3, hostOps0_4, hostOps0_5, hostOps0_6]) (fun b => m (c, b)) (Proc.devRef .tc main_v22) = _
  simp only [hostOps0, hostOps0_1, hostOps0_2, hostOps0_3, hostOps0_4, hostOps0_5, hostOps0_6, List.flatten_cons, List.flatten_nil, List.append_nil, List.cons_append, List.nil_append]
  after_results <;> rfl

theorem arr_g (c : Dev nD) : V m c main_v25 = gPad (m ((c : Thread nD τ).loc main_arg7)) := by
  unfold gPad
  show StableHlo.after (List.flatten [hostOps0, hostOps0_1, hostOps0_2, hostOps0_3, hostOps0_4, hostOps0_5, hostOps0_6]) (fun b => m (c, b)) (Proc.devRef .tc main_v25) = _
  simp only [hostOps0, hostOps0_1, hostOps0_2, hostOps0_3, hostOps0_4, hostOps0_5, hostOps0_6, List.flatten_cons, List.flatten_nil, List.append_nil, List.cons_append, List.nil_append]
  after_results <;> rfl

theorem arr_sp (c : Dev nD) : V m c main_v27 = sps (m ((c : Thread nD τ).loc main_arg1)) := by
  unfold sps
  show StableHlo.after (List.flatten [hostOps0, hostOps0_1, hostOps0_2, hostOps0_3, hostOps0_4, hostOps0_5, hostOps0_6]) (fun b => m (c, b)) (Proc.devRef .tc main_v27) = _
  simp only [hostOps0, hostOps0_1, hostOps0_2, hostOps0_3, hostOps0_4, hostOps0_5, hostOps0_6, List.flatten_cons, List.flatten_nil, List.append_nil, List.cons_append, List.nil_append]
  after_results <;> rfl

theorem arr_spLow (c : Dev nD) : V m c main_v30 = spLow (m ((c : Thread nD τ).loc main_arg1)) := by
  unfold spLow
  show StableHlo.after (List.flatten [hostOps0, hostOps0_1, hostOps0_2, hostOps0_3, hostOps0_4, hostOps0_5, hostOps0_6]) (fun b => m (c, b)) (Proc.devRef .tc main_v30) = _
  simp only [hostOps0, hostOps0_1, hostOps0_2, hostOps0_3, hostOps0_4, hostOps0_5, hostOps0_6, List.flatten_cons, List.flatten_nil, List.append_nil, List.cons_append, List.nil_append]
  after_results <;> rfl

theorem arr_w0 (c : Dev nD) : V m c main_v13 = shapeCast S1x1024 (m ((c : Thread nD τ).loc main_arg3) : FVec Ideal S1024 .f32) shapeCasts_S1024_S1x1024 := by
  show StableHlo.after (List.flatten [hostOps0, hostOps0_1, hostOps0_2, hostOps0_3, hostOps0_4, hostOps0_5, hostOps0_6]) (fun b => m (c, b)) (Proc.devRef .tc main_v13) = _
  simp only [hostOps0, hostOps0_1, hostOps0_2, hostOps0_3, hostOps0_4, hostOps0_5, hostOps0_6, List.flatten_cons, List.flatten_nil, List.append_nil, List.cons_append, List.nil_append]
  after_results <;> rfl

theorem arr_a0 (c : Dev nD) : V m c main_v14 = shapeCast S1x1024 (m ((c : Thread nD τ).loc main_arg5) : FVec Ideal S1024 .f32) shapeCasts_S1024_S1x1024 := by
  show StableHlo.after (List.flatten [hostOps0, hostOps0_1, hostOps0_2, hostOps0_3, hostOps0_4, hostOps0_5, hostOps0_6]) (fun b => m (c, b)) (Proc.devRef .tc main_v14) = _
  simp only [hostOps0, hostOps0_1, hostOps0_2, hostOps0_3, hostOps0_4, hostOps0_5, hostOps0_6, List.flatten_cons, List.flatten_nil, List.append_nil, List.cons_append, List.nil_append]
  after_results <;> rfl

theorem arr_kk (c : Dev nD) : V m c main_v15 = shapeCast S1x1024 (m ((c : Thread nD τ).loc main_arg8) : FVec Ideal S1024 .f32) shapeCasts_S1024_S1x1024 := by
  show StableHlo.after (List.flatten [hostOps0, hostOps0_1, hostOps0_2, hostOps0_3, hostOps0_4, hostOps0_5, hostOps0_6]) (fun b => m (c, b)) (Proc.devRef .tc main_v15) = _
  simp only [hostOps0, hostOps0_1, hostOps0_2, hostOps0_3, hostOps0_4, hostOps0_5, hostOps0_6, List.flatten_cons, List.flatten_nil, List.append_nil, List.cons_append, List.nil_append]
  after_results <;> rfl

theorem arr_ka (c : Dev nD) : V m c main_v16 = shapeCast S1x1024 (m ((c : Thread nD τ).loc main_arg9) : FVec Ideal S1024 .f32) shapeCasts_S1024_S1x1024 := by
  show StableHlo.after (List.flatten [hostOps0, hostOps0_1, hostOps0_2, hostOps0_3, hostOps0_4, hostOps0_5, hostOps0_6]) (fun b => m (c, b)) (Proc.devRef .tc main_v16) = _
  simp only [hostOps0, hostOps0_1, hostOps0_2, hostOps0_3, hostOps0_4, hostOps0_5, hostOps0_6, List.flatten_cons, List.flatten_nil, List.append_nil, List.cons_append, List.nil_append]
  after_results <;> rfl

theorem mus_at (u : FVec Ideal S3360 .f32) (j : Fin 3) (k : Fin 1024) (K : Fin 3360) (hK : K.val = j.val * 1024 + k.val) :
    mus u (ix2 j k) = u (ix1 K) := by
  unfold mus
  pointwise []
  refine congrArg u ?_
  blk_ext []

theorem muLow_at (u : FVec Ideal S3360 .f32) (k : Fin 512) (K : Fin 3360) (hk : k.val < 288) (hK : K.val = 3072 + k.val) :
    muLow u (ix2 0 k) = u (ix1 K) := by
  unfold muLow
  pointwise []
  rw [dif_pos (by omega)]
  refine congrArg u ?_
  blk_ext []

theorem sps_at (p : FVec Ideal S8x3360 .f32) (b : Fin 8) (j : Fin 3) (k : Fin 1024) (K : Fin 3360) (hK : K.val = j.val * 1024 + k.val) :
    sps p (ix3 b j k) = p (ix2 b K) := by
  unfold sps
  pointwise []
  refine congrArg p ?_
  blk_ext []

theorem spLow_at (p : FVec Ideal S8x3360 .f32) (b : Fin 8) (k : Fin 512) (K : Fin 3360) (hk : k.val < 288) (hK : K.val = 3072 + k.val) :
    spLow p (ix3 b 0 k) = p (ix2 b K) := by
  unfold spLow
  pointwise []
  rw [dif_pos (by omega)]
  refine congrArg p ?_
  blk_ext []

theorem wPad_lo (w : FVec Ideal S64x1024 .f32) (x : Fin 128) (k : Fin 1024) (y : Fin 64) (h : y.val = x.val) :
    wPad w (ix2 x k) = w (ix2 y k) := by
  unfold wPad
  pointwise []
  rw [dif_pos (by omega)]
  refine congrArg w ?_
  blk_ext []

theorem wPad_hi (w : FVec Ideal S64x1024 .f32) (x : Fin 128) (k : Fin 1024) (h : 64 ≤ x.val) :
    wPad w (ix2 x k) = (0 : EReal) := by
  unfold wPad
  pointwise []
  rw [dif_neg (by omega)]

theorem aPad_hi (w : FVec Ideal S64x1024 .f32) (x : Fin 128) (k : Fin 1024) (y : Fin 64) (h : x.val = 64 + y.val) :
    aPad w (ix2 x k) = w (ix2 y k) := by
  unfold aPad
  pointwise []
  rw [dif_neg (by omega)]
  refine congrArg w ?_
  blk_ext []

theorem aPad_lo (w : FVec Ideal S64x1024 .f32) (x : Fin 128) (k : Fin 1024) (h : x.val < 64) :
    aPad w (ix2 x k) = (0 : EReal) := by
  unfold aPad
  pointwise []
  rw [dif_pos (by omega)]

theorem gPad_lo (w : FVec Ideal S160x1024 .f32) (x : Fin 256) (k : Fin 1024) (y : Fin 160) (h : y.val = x.val) :
    gPad w (ix2 x k) = w (ix2 y k) := by
  unfold gPad
  pointwise []
  rw [dif_pos (by omega)]
  refine congrArg w ?_
  blk_ext []

theorem gPad_hi (w : FVec Ideal S160x1024 .f32) (x : Fin 256) (k : Fin 1024) (h : 160 ≤ x.val) :
    gPad w (ix2 x k) = (0 : EReal) := by
  unfold gPad
  pointwise []
  rw [dif_neg (by omega)]

end Cert.PrepProof

end
-- ==== Proof.PrepBlocks.lean ====
module

public import proofs.«01_k».proof.Proof.PrepHost

/-! The preparation of the recurrence's inputs: a grid point takes 256 rows of one sequence, with the last row of the
    point before kept in the two scratch buffers. -/

@[expose] public section

set_option maxRecDepth 16384

noncomputable section

namespace Cert.PrepProof

open Idealize.ShloMosaic Idealize.ShloMosaic.TcCoe Idealize.SL.Sem
open Idealize.ShloMosaic.Pipeline (Dat)
open Cert.PrepIdeal Cert.PrepIdeal.Gen Cert.PrepIdealLoop Cert.PrepMath

variable (m : (ℓ : Loc nD τ sig) → Buf (Elt Ideal) ℓ)

section
variable (c : Dev nD)

/-- The arguments, by their places in the mathematics. -/
abbrev inP : FVec Ideal S16384x8704 .f32 := m ((c : Thread nD τ).loc main_arg0)
abbrev inSp : FVec Ideal S8x3360 .f32 := m ((c : Thread nD τ).loc main_arg1)
abbrev inMu : FVec Ideal S3360 .f32 := m ((c : Thread nD τ).loc main_arg2)
abbrev inW0 : FVec Ideal S1024 .f32 := m ((c : Thread nD τ).loc main_arg3)
abbrev inWd : FVec Ideal S64x1024 .f32 := m ((c : Thread nD τ).loc main_arg4)
abbrev inA0 : FVec Ideal S1024 .f32 := m ((c : Thread nD τ).loc main_arg5)
abbrev inWa : FVec Ideal S64x1024 .f32 := m ((c : Thread nD τ).loc main_arg6)
abbrev inWg : FVec Ideal S160x1024 .f32 := m ((c : Thread nD τ).loc main_arg7)
abbrev inKk : FVec Ideal S1024 .f32 := m ((c : Thread nD τ).loc main_arg8)
abbrev inKa : FVec Ideal S1024 .f32 := m ((c : Thread nD τ).loc main_arg9)

end

/-- Where each window's block sits at grid point `t`. -/
theorem idx : ∀ t : Fin cfg0.N, win0_0.index t = ![t.val, 0] ∧ win0_1.index t = ![t.val, 1] ∧ win0_2.index t = ![t.val, 2]
    ∧ win0_3.index t = ![t.val, 16] ∧ win0_4.index t = ![t.val / 8, 0, 0] ∧ win0_5.index t = ![t.val / 8, 0, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![0, t.val, 0] ∧ win0_17.index t = ![t.val, 0]
    ∧ win0_18.index t = ![t.val / 8, 0, 0] ∧ win0_19.index t = ![t.val / 8, 0, 0] :=
  (by decide +kernel : ∀ t : Fin grid0.N, _)

theorem x0_at (c : Dev nD) (t : Fin cfg0.N) (r : Fin 256) (k : Fin 1024) (R : Fin 16384) (K : Fin 8704)
    (hR : R.val = t.val * 256 + r.val) (hK : K.val = 0 + k.val) :
    (X0_0 m c t : FVec Ideal S256x1024 .f32) (ix2 r k) = inP m c (ix2 R K) := by
  unfold X0_0 Pipeline.Window.fill
  rw [dif_pos (moved0_0 t _)]
  blk_point [iblk, V, idx t]

theorem x1_at (c : Dev nD) (t : Fin cfg0.N) (r : Fin 256) (k : Fin 1024) (R : Fin 16384) (K : Fin 8704)
    (hR : R.val = t.val * 256 + r.val) (hK : K.val = 1024 + k.val) :
    (X0_1 m c t : FVec Ideal S256x1024 .f32) (ix2 r k) = inP m c (ix2 R K) := by
  unfold X0_1 Pipeline.Window.fill
  rw [dif_pos (moved0_1 t _)]
  blk_point [iblk, V, idx t]

theorem x2_at (c : Dev nD) (t : Fin cfg0.N) (r : Fin 256) (k : Fin 1024) (R : Fin 16384) (K : Fin 8704)
    (hR : R.val = t.val * 256 + r.val) (hK : K.val = 2048 + k.val) :
    (X0_2 m c t : FVec Ideal S256x1024 .f32) (ix2 r k) = inP m c (ix2 R K) := by
  unfold X0_2 Pipeline.Window.fill
  rw [dif_pos (moved0_2 t _)]
  blk_point [iblk, V, idx t]

theorem x3_at (c : Dev nD) (t : Fin cfg0.N) (r : Fin 256) (k : Fin 512) (R : Fin 16384) (K : Fin 8704)
    (hR : R.val = t.val * 256 + r.val) (hK : K.val = 8192 + k.val) :
    (iblk m c 3 t : FVec Ideal S256x512 .f32) (ix2 r k) = inP m c (ix2 R K) := by
  blk_point [iblk, V, idx t]

theorem sp_at (c : Dev nD) (t : Fin cfg0.N) (j : Fin 3) (k : Fin 1024) (b : Fin 8) (K : Fin 3360) (hb : b.val = t.val / 8)
    (hK : K.val = j.val * 1024 + k.val) :
    (k0_pay5 (iblk m c 4 t) : FVec Ideal S3x1024 .f32) (ix2 j k) = inSp m c (ix2 b K) := by
  refine Eq.trans ?_ (sps_at _ b j k K hK)
  rw [← arr_sp]
  pointwise [k0_pay5]
  blk_point [iblk, idx t]

theorem spLow_row (c : Dev nD) (t : Fin cfg0.N) (k : Fin 512) (b : Fin 8) (K : Fin 3360) (hb : b.val = t.val / 8)
    (hk : k.val < 288) (hK : K.val = 3072 + k.val) :
    (k0_pay6 (iblk m c 5 t) : FVec Ideal S1x512 .f32) (ix2 0 k) = inSp m c (ix2 b K) := by
  refine Eq.trans ?_ (spLow_at _ b k K hk hK)
  rw [← arr_spLow]
  pointwise [k0_pay6]
  blk_point [iblk, idx t]

theorem mu_blk (c : Dev nD) (t : Fin cfg0.N) (y : S3x1024.Idx) :
    (iblk m c 6 t : FVec Ideal S3x1024 .f32) y = mus (inMu m c) y := by
  refine Eq.trans ?_ (congrFun (arr_mu m c) y)
  blk_point [iblk, idx t]

theorem muLow_blk (c : Dev nD) (t : Fin cfg0.N) (y : S1x512.Idx) :
    (iblk m c 7 t : FVec Ideal S1x512 .f32) y = muLow (inMu m c) y := by
  refine Eq.trans ?_ (congrFun (arr_muLow m c) y)
  blk_point [iblk, idx t]

theorem w_blk (c : Dev nD) (t : Fin cfg0.N) (y : S128x1024.Idx) :
    (iblk m c 12 t : FVec Ideal S128x1024 .bf16) y = wPad (inWd m c) y := by
  refine Eq.trans ?_ (congrFun (arr_w m c) y)
  blk_point [iblk, idx t]

theorem a_blk (c : Dev nD) (t : Fin cfg0.N) (y : S128x1024.Idx) :
    (iblk m c 13 t : FVec Ideal S128x1024 .bf16) y = aPad (inWa m c) y := by
  refine Eq.trans ?_ (congrFun (arr_a m c) y)
  blk_point [iblk, idx t]

theorem g_blk (c : Dev nD) (t : Fin cfg0.N) (y : S256x1024.Idx) :
    (iblk m c 14 t : FVec Ideal S256x1024 .bf16) y = gPad (inWg m c) y := by
  refine Eq.trans ?_ (congrFun (arr_g m c) y)
  blk_point [iblk, idx t]

theorem mask_blk (c : Dev nD) (t : Fin cfg0.N) (y : S128x128.Idx) :
    (iblk m c 15 t : FVec Ideal S128x128 .bf16) y = headMask y := by
  refine Eq.trans ?_ (congrFun (arr_mask m c) y)
  blk_point [iblk, idx t]

theorem w0_at (c : Dev nD) (t : Fin cfg0.N) (k : Fin 1024) :
    (iblk m c 8 t : FVec Ideal S1x1024 .f32) (ix2 0 k) = inW0 m c (ix1 k) := by
  refine Eq.trans ?_ ((congrFun (arr_w0 m c) (ix2 0 k)).trans ?_)
  · blk_point [iblk, idx t]
  · pointwise []

theorem a0_at (c : Dev nD) (t : Fin cfg0.N) (k : Fin 1024) :
    (iblk m c 9 t : FVec Ideal S1x1024 .f32) (ix2 0 k) = inA0 m c (ix1 k) := by
  refine Eq.trans ?_ ((congrFun (arr_a0 m c) (ix2 0 k)).trans ?_)
  · blk_point [iblk, idx t]
  · pointwise []

theorem kk_at (c : Dev nD) (t : Fin cfg0.N) (k : Fin 1024) :
    (iblk m c 10 t : FVec Ideal S1x1024 .f32) (ix2 0 k) = inKk m c (ix1 k) := by
  refine Eq.trans ?_ ((congrFun (arr_kk m c) (ix2 0 k)).trans ?_)
  · blk_point [iblk, idx t]
  · pointwise []

theorem ka_at (c : Dev nD) (t : Fin cfg0.N) (k : Fin 1024) :
    (iblk m c 11 t : FVec Ideal S1x1024 .f32) (ix2 0 k) = inKa m c (ix1 k) := by
  refine Eq.trans ?_ ((congrFun (arr_ka m c) (ix2 0 k)).trans ?_)
  · blk_point [iblk, idx t]
  · pointwise []

theorem kept_0 (x0 x1 x2 : FVec Ideal S256x1024 .f32) (k : Fin 1024) : k0_pay12 (F := Ideal) x0 x1 x2 (ix2 0 k) = x0 (ix2 255 k) := by
  pointwise [k0_pay12, k0_pay11]

theorem kept_1 (x0 x1 x2 : FVec Ideal S256x1024 .f32) (k : Fin 1024) : k0_pay12 (F := Ideal) x0 x1 x2 (ix2 1 k) = x1 (ix2 255 k) := by
  pointwise [k0_pay12, k0_pay11]

theorem kept_2 (x0 x1 x2 : FVec Ideal S256x1024 .f32) (k : Fin 1024) : k0_pay12 (F := Ideal) x0 x1 x2 (ix2 2 k) = x2 (ix2 255 k) := by
  pointwise [k0_pay12, k0_pay11]

theorem keptLow (x : FVec Ideal S256x512 .f32) (k : Fin 512) : k0_pay13 (F := Ideal) x (ix2 0 k) = x (ix2 255 k) := by
  pointwise [k0_pay13]

end Cert.PrepProof

end
-- ==== Proof.PrepKeys.lean ====
module

public import proofs.«01_k».proof.Defs
public import proofs.«01_k».proof.Proof.Gen.Pre_keys_finite
public import proofs.«01_k».proof.Proof.PrepMath
public import Idealize.ShloMosaic.Lib.ReduceAll
public import Idealize.ShloMosaic.Lib.Pipeline.ValueKit

/-! What the precondition gives: the columns of k, their weights and their scale are finite, so the squares of
    the scaled keys are, and a square less itself is zero. -/

@[expose] public section

set_option maxRecDepth 16384

noncomputable section

namespace Cert.PrepProof

open Idealize.ShloMosaic Idealize.ShloMosaic.TcCoe
open Cert.PrepMath

/-- A value that less itself is zero is a real number. -/
theorem real_of_sub (x : EReal) (h : x - x = 0) : ∃ r : ℝ, x = (r : EReal) := by
  induction x with
  | bot => simp at h
  | top => simp at h
  | coe r => exact ⟨r, rfl⟩

theorem mix_sq (x p u k : EReal) (hx : x - x = 0) (hp : p - p = 0) (hu : u - u = 0) (hk : k - k = 0) :
    (mix x p u * k) * (mix x p u * k) - (mix x p u * k) * (mix x p u * k) = 0 := by
  obtain ⟨x, rfl⟩ := real_of_sub x hx
  obtain ⟨p, rfl⟩ := real_of_sub p hp
  obtain ⟨u, rfl⟩ := real_of_sub u hu
  obtain ⟨k, rfl⟩ := real_of_sub k hk
  unfold mix
  norm_cast
  simp

theorem and_one : ∀ a b : BitVec 1, IntOp.andi a b = 1#1 → a = 1#1 ∧ b = 1#1 := by
  decide

instance : Subsingleton Cert.Pre_keys_finite.S_.Idx := ⟨fun a b => funext fun x => x.elim0⟩

/-- One entry of a comparison of differences with zero, read back. -/
theorem sub_of_cmp {s : Shape} (A : FVec Ideal s .f32) (h : Cert.Pre_keys_finite.S_.BroadcastsInDim s (![] : Fin 0 → Fin s.rank)) (i : s.Idx)
    (e : cmpf .oeq (subf A A) (broadcastInDim s ![] h (constant Cert.Pre_keys_finite.S_ .f32 0x00000000#32)) i = 1#1) : (A i : EReal) - A i = 0 := by
  change Ideal.cmp .oeq ((A i : EReal) - A i) (Ideal.ofBits .f32 0x00000000#32) = 1#1 at e
  have z : Ideal.ofBits .f32 0x00000000#32 = 0 := by simp
  rw [z] at e
  exact (Ideal.cmp_oeq_eq_one _ _).mp e

open Cert.Pre_keys_finite in
/-- The precondition, entry by entry. -/
theorem keys_real (P : FVec Ideal S16384x8704 .f32) (sp : FVec Ideal S8x3360 .f32) (mu : FVec Ideal S3360 .f32) (w0 : FVec Ideal S1024 .f32)
    (Wd : FVec Ideal S64x1024 .f32) (a0 : FVec Ideal S1024 .f32) (Wa : FVec Ideal S64x1024 .f32) (Wg : FVec Ideal S160x1024 .f32)
    (kk ka : FVec Ideal S1024 .f32) (h : Cert.Pre_keys_finite.fn (F := Ideal) P sp mu w0 Wd a0 Wa Wg kk ka = fun _ => 1#1) (k : Fin 1024) (K : Fin 8704) (K' : Fin 3360)
    (hK : K.val = 1024 + k.val) (hK' : K'.val = 1024 + k.val) :
    (∀ r : Fin 16384, (P (ix2 r K) : EReal) - P (ix2 r K) = 0) ∧ (∀ b : Fin 8, (sp (ix2 b K') : EReal) - sp (ix2 b K') = 0)
      ∧ (mu (ix1 K') : EReal) - mu (ix1 K') = 0 ∧ (kk (ix1 k) : EReal) - kk (ix1 k) = 0 := by
  have h0 := congrFun h ix0
  unfold Cert.Pre_keys_finite.fn Cert.Pre_keys_finite.fn_part1 at h0
  dsimp only at h0
  obtain ⟨h1, e4⟩ := and_one _ _ h0
  obtain ⟨h2, e3⟩ := and_one _ _ h1
  obtain ⟨e1, e2⟩ := and_one _ _ h2
  refine ⟨fun r => ?_, fun b => ?_, ?_, ?_⟩
  · have q : extractStridedSlice S16384x1024 ![0, 1024] P Facts.slices_S16384x8704_S16384x1024_0_1024 (ix2 r k) = P (ix2 r K) := by
      pointwise []
      refine congrArg P ?_
      blk_ext []
    rw [← q]
    exact sub_of_cmp _ _ _ (Host.reduce_andi_all _ _ _ _ _ e1 (ix2 r k))
  · have q : extractStridedSlice S8x1024 ![0, 1024] sp Facts.slices_S8x3360_S8x1024_0_1024 (ix2 b k) = sp (ix2 b K') := by
      pointwise []
      refine congrArg sp ?_
      blk_ext []
    rw [← q]
    exact sub_of_cmp _ _ _ (Host.reduce_andi_all _ _ _ _ _ e2 (ix2 b k))
  · have q : extractStridedSlice S1024 ![1024] mu Facts.slices_S3360_S1024_1024 (ix1 k) = mu (ix1 K') := by
      pointwise []
      refine congrArg mu ?_
      blk_ext []
    rw [← q]
    exact sub_of_cmp _ _ _ (Host.reduce_andi_all _ _ _ _ _ e3 (ix1 k))
  · exact sub_of_cmp _ _ _ (Host.reduce_andi_all _ _ _ _ _ e4 (ix1 k))

open Cert.Pre_keys_finite in
/-- Under the precondition the square of a scaled key, less itself, is zero. -/
theorem keyq_sq (P : FVec Ideal S16384x8704 .f32) (sp : FVec Ideal S8x3360 .f32) (mu : FVec Ideal S3360 .f32) (w0 : FVec Ideal S1024 .f32)
    (Wd : FVec Ideal S64x1024 .f32) (a0 : FVec Ideal S1024 .f32) (Wa : FVec Ideal S64x1024 .f32) (Wg : FVec Ideal S160x1024 .f32)
    (kk ka : FVec Ideal S1024 .f32) (h : Cert.Pre_keys_finite.fn (F := Ideal) P sp mu w0 Wd a0 Wa Wg kk ka = fun _ => 1#1)
    (b : Fin 8) (s : Fin 2048) (k : Fin 1024) :
    keyq P sp mu kk b s k * keyq P sp mu kk b s k - keyq P sp mu kk b s k * keyq P sp mu kk b s k = 0 := by
  obtain ⟨hP, hs, hm, hk⟩ := keys_real P sp mu w0 Wd a0 Wa Wg kk ka h k (src ⟨1024 + k.val, by omega⟩) ⟨1024 + k.val, by omega⟩
    (if_pos (show 1024 + k.val < 3072 by omega)) rfl
  refine mix_sq _ _ _ _ (hP _) ?_ hm hk
  split_ifs
  · exact hs b
  · exact hP _

end Cert.PrepProof

end
-- ==== Proof.PrepPoints.lean ====
module

public import proofs.«01_k».proof.Proof.PrepBlocks
public import proofs.«01_k».proof.Proof.PrepKeys

/-! The preparation of the recurrence's inputs: every entry a grid point computes is the mathematics' entry of its row. -/

@[expose] public section

set_option maxRecDepth 16384

noncomputable section

namespace Cert.PrepProof

open Idealize.ShloMosaic Idealize.ShloMosaic.TcCoe Idealize.SL.Sem
open Idealize.ShloMosaic.Pipeline (Dat)
open Cert.PrepIdeal Cert.PrepIdeal.Gen Cert.PrepIdealLoop Cert.PrepMath

/-- A row of a block mixed with the row before it is a mixed entry of its sequence. -/
theorem mix_xm (P : FVec Ideal S16384x8704 .f32) (sp : FVec Ideal S8x3360 .f32) (mu : FVec Ideal S3360 .f32) (t : ℕ) (b : Fin 8) (i : Fin 256)
    (s : Fin 2048) (j : Fin 3360) (x : Fin 256 → EReal) (p u : EReal) (hs : s.val = t % 8 * 256 + i.val) (hb : b.val = t / 8)
    (hx : ∀ (r : Fin 256) (R : Fin 16384), R.val = t * 256 + r.val → x r = P (ix2 R (src j)))
    (h0 : t % 8 = 0 → p = sp (ix2 b j)) (h1 : ¬ t % 8 = 0 → ∀ R : Fin 16384, R.val + 1 = t * 256 → p = P (ix2 R (src j)))
    (hu : u = mu (ix1 j)) : mix (x i) (above p x i) u = xm P sp mu b s j := by
  have hi := i.isLt
  have hs' := s.isLt
  have hb' := b.isLt
  unfold xm
  rw [hu, hx i ⟨b.val * 2048 + s.val, by omega⟩ (by show b.val * 2048 + s.val = _; omega)]
  refine congrArg (fun q => mix (P (ix2 ⟨b.val * 2048 + s.val, by omega⟩ (src j))) q (mu (ix1 j))) ?_
  unfold above
  by_cases hi0 : i.val = 0
  · rw [if_pos hi0]
    by_cases ht : t % 8 = 0
    · rw [if_pos (by omega), h0 ht]
    · rw [if_neg (by omega)]
      exact h1 ht _ (by show b.val * 2048 + (s.val - 1) + 1 = _; omega)
  · rw [if_neg hi0, if_neg (by omega)]
    exact hx _ _ (by show b.val * 2048 + (s.val - 1) = t * 256 + (i.val - 1); omega)

variable (m : (ℓ : Loc nD τ sig) → Buf (Elt Ideal) ℓ)

section
variable (c : Dev nD) (t : Fin cfg0.N) (i : Fin 256) (k : Fin 1024) (b : Fin 8) (s : Fin 2048)
  (hb : b.val = t.val / 8) (hs : s.val = t.val % 8 * 256 + i.val)
include hb hs

theorem mixed_r : k0_pay7 (F := Ideal) (X0_0 m c t) (row 0 (past m c t)) (row 0 (iblk m c 6 t)) (ix2 i k)
    = xm (inP m c) (inSp m c) (inMu m c) b s ⟨k.val, by omega⟩ := by
  rw [mixR_at]
  have e : (src ⟨k.val, by omega⟩).val = 0 + k.val := (if_pos (show k.val < 3072 by omega)).trans (by simp)
  refine mix_xm _ _ _ t.val b i s _ (fun i => X0_0 m c t (ix2 i k)) _ _ hs hb (fun r R h => x0_at m c t r k R _ h e) (fun h => ?_) (fun h R hR => ?_) ?_
  · show past m c t (ix2 0 k) = _
    rw [past_first m c t h]
    exact sp_at m c t 0 k b _ hb (by simp)
  · show past m c t (ix2 0 k) = _
    rw [past_later m c t h]
    exact (kept_0 _ _ _ k).trans (x0_at m c _ 255 k R _ (by show R.val = (t.val - 1) * 256 + 255; omega) e)
  · exact (mu_blk m c t _).trans (mus_at _ 0 k _ (by simp))

theorem mixed_k : mixK (F := Ideal) (past m c t) (X0_1 m c t) (iblk m c 6 t) (ix2 i k)
    = xm (inP m c) (inSp m c) (inMu m c) b s ⟨1024 + k.val, by omega⟩ := by
  show k0_pay8 (F := Ideal) (X0_1 m c t) (row 1 (past m c t)) (row 1 (iblk m c 6 t)) (ix2 i k) = _
  rw [mixK_at]
  have e : (src ⟨1024 + k.val, by omega⟩).val = 1024 + k.val := if_pos (show 1024 + k.val < 3072 by omega)
  refine mix_xm _ _ _ t.val b i s _ (fun i => X0_1 m c t (ix2 i k)) _ _ hs hb (fun r R h => x1_at m c t r k R _ h e) (fun h => ?_) (fun h R hR => ?_) ?_
  · show past m c t (ix2 1 k) = _
    rw [past_first m c t h]
    exact sp_at m c t 1 k b _ hb (by simp)
  · show past m c t (ix2 1 k) = _
    rw [past_later m c t h]
    exact (kept_1 _ _ _ k).trans (x1_at m c _ 255 k R _ (by show R.val = (t.val - 1) * 256 + 255; omega) e)
  · exact (mu_blk m c t _).trans (mus_at _ 1 k _ (by simp))

theorem mixed_v : k0_pay9 (F := Ideal) (X0_2 m c t) (row 2 (past m c t)) (row 2 (iblk m c 6 t)) (ix2 i k)
    = xm (inP m c) (inSp m c) (inMu m c) b s ⟨2048 + k.val, by omega⟩ := by
  rw [mixV_at]
  have e : (src ⟨2048 + k.val, by omega⟩).val = 2048 + k.val := if_pos (show 2048 + k.val < 3072 by omega)
  refine mix_xm _ _ _ t.val b i s _ (fun i => X0_2 m c t (ix2 i k)) _ _ hs hb (fun r R h => x2_at m c t r k R _ h e) (fun h => ?_) (fun h R hR => ?_) ?_
  · show past m c t (ix2 2 k) = _
    rw [past_first m c t h]
    exact sp_at m c t 2 k b _ hb (by simp)
  · show past m c t (ix2 2 k) = _
    rw [past_later m c t h]
    exact (kept_2 _ _ _ k).trans (x2_at m c _ 255 k R _ (by show R.val = (t.val - 1) * 256 + 255; omega) e)
  · exact (mu_blk m c t _).trans (mus_at _ 2 k _ (by simp))

theorem mixed_low (x : Fin 512) (j : Fin 3360) (hx : x.val < 288) (hj : j.val = 3072 + x.val) :
    mixL (F := Ideal) (pastLow m c t) (iblk m c 3 t) (iblk m c 7 t) (ix2 i x) = xm (inP m c) (inSp m c) (inMu m c) b s j := by
  show k0_pay10 (F := Ideal) (iblk m c 3 t) (pastLow m c t) (iblk m c 7 t) (ix2 i x) = _
  rw [mixL_at]
  have e : (src j).val = 8192 + x.val := (if_neg (by omega)).trans (by omega)
  refine mix_xm _ _ _ t.val b i s _ (fun i => (iblk m c 3 t : FVec Ideal S256x512 .f32) (ix2 i x)) _ _ hs hb (fun r R h => x3_at m c t r x R _ h e) (fun h => ?_) (fun h R hR => ?_) ?_
  · rw [pastLow_first m c t h]
    exact spLow_row m c t x b _ hb hx hj
  · rw [pastLow_later m c t h]
    exact (keptLow _ x).trans (x3_at m c _ 255 x R _ (by show R.val = (t.val - 1) * 256 + 255; omega) e)
  · exact (muLow_blk m c t _).trans (muLow_at _ x _ hx hj)

theorem decay_pt : k0_pay18 (F := Ideal) (mixL (pastLow m c t) (iblk m c 3 t) (iblk m c 7 t)) (iblk m c 12 t) (iblk m c 8 t) (ix2 i k)
    = decayOf (wlog (inP m c) (inSp m c) (inMu m c) (inW0 m c) (inWd m c) b s k) := by
  rw [decay_at, w0_at]
  unfold wlog
  refine congrArg (fun z => decayOf (inW0 m c (ix1 k) + z)) ?_
  refine (sum_low (n := 64) (p := 64) _ fun y => ?_).trans (Finset.sum_congr rfl fun y _ => ?_)
  · rw [w_blk, wPad_hi _ _ _ (by show 64 ≤ 64 + y.val; omega), mul_zero]
  · rw [w_blk, wPad_lo _ _ k y rfl, mixed_low m c t i b s hb hs _ ⟨3072 + y.val, by omega⟩ (by show y.val < 288; omega) rfl]

theorem rate_pt : rate (F := Ideal) (pastLow m c t) (iblk m c 3 t) (iblk m c 7 t) (iblk m c 9 t) (iblk m c 13 t) (ix2 i k)
    = rateOf (inP m c) (inSp m c) (inMu m c) (inA0 m c) (inWa m c) b s k := by
  show k0_pay20 (F := Ideal) (k0_pay19 (mixL (pastLow m c t) (iblk m c 3 t) (iblk m c 7 t)) (iblk m c 13 t)) (iblk m c 9 t) (ix2 i k) = _
  rw [rate_at, a0_at]
  unfold rateOf
  refine congrArg (fun z => Ideal.logistic (inA0 m c (ix1 k) + z)) ?_
  refine (sum_high (n := 64) (p := 64) _ fun y => ?_).trans (Finset.sum_congr rfl fun y _ => ?_)
  · rw [a_blk, aPad_lo _ _ _ (by show y.val < 64; omega), mul_zero]
  · rw [a_blk, aPad_hi _ _ k y rfl, mixed_low m c t i b s hb hs _ ⟨3136 + y.val, by omega⟩ (by show 64 + y.val < 288; omega) (by show 3136 + y.val = 3072 + (64 + y.val); omega)]

theorem gate_pt : gate (F := Ideal) (pastLow m c t) (iblk m c 3 t) (iblk m c 7 t) (iblk m c 14 t) (ix2 i k)
    = gateOf (inP m c) (inSp m c) (inMu m c) (inWg m c) b s k := by
  show k0_pay21 (F := Ideal) (k0_pay17 (mixL (pastLow m c t) (iblk m c 3 t) (iblk m c 7 t))) (iblk m c 14 t) (ix2 i k) = _
  rw [gate_at]
  unfold gateOf
  refine (sum_low (n := 160) (p := 96) _ fun y => ?_).trans (Finset.sum_congr rfl fun y _ => ?_)
  · rw [g_blk, gPad_hi _ _ _ (by show 160 ≤ 160 + y.val; omega), mul_zero]
  · rw [g_blk, gPad_lo _ _ k y rfl, mixed_low m c t i b s hb hs _ ⟨3200 + y.val, by omega⟩ (by show 128 + y.val < 288; omega) (by show 3200 + y.val = 3072 + (128 + y.val); omega)]

theorem unit_pt (hk : ∀ k : Fin 1024, keyq (inP m c) (inSp m c) (inMu m c) (inKk m c) b s k * keyq (inP m c) (inSp m c) (inMu m c) (inKk m c) b s k
      - keyq (inP m c) (inSp m c) (inMu m c) (inKk m c) b s k * keyq (inP m c) (inSp m c) (inMu m c) (inKk m c) b s k = 0) :
    unitK (F := Ideal) (iblk m c 10 t) (iblk m c 15 t) (mixK (past m c t) (X0_1 m c t) (iblk m c 6 t)) (ix2 i k)
    = unitOf (inP m c) (inSp m c) (inMu m c) (inKk m c) b s k := by
  have e : ∀ k : Fin 1024, mixK (F := Ideal) (past m c t) (X0_1 m c t) (iblk m c 6 t) (ix2 i k) * (iblk m c 10 t : FVec Ideal S1x1024 .f32) (ix2 0 k)
      = keyq (inP m c) (inSp m c) (inMu m c) (inKk m c) b s k := fun k => by
    rw [mixed_k m c t i k b s hb hs, kk_at]
    rfl
  rw [unit_eq _ _ _ i (fun k => by rw [e k]; exact hk k) (fun x j => (mask_blk m c t _).trans (headMask_at x j))]
  unfold unitOf
  simp only [e]

end

end Cert.PrepProof

end
-- ==== Proof.PrepRef.lean ====
module

public import proofs.«01_k».proof.Proof.Gen.PrepRefIdeal.Read
public import proofs.«01_k».proof.Proof.PrepMath
public import Idealize.ShloMosaic.Lib.Pipeline.ValueKit

/-! The preparing step's reference read at an index. -/

@[expose] public section

set_option maxRecDepth 16384

noncomputable section

namespace Cert.PrepRefProof

open Idealize.ShloMosaic Idealize.ShloMosaic.TcCoe Idealize.SL.Sem
open Cert.PrepRefIdeal Cert.PrepRefIdeal.Gen Cert.PrepRefIdeal.Read Cert.PrepMath

variable (P : FVec Ideal S16384x8704 .f32) (sp : FVec Ideal S8x3360 .f32) (mu : FVec Ideal S3360 .f32) (W0 : FVec Ideal S1024 .f32) (Wd : FVec Ideal S64x1024 .f32) (A0 : FVec Ideal S1024 .f32) (Wa : FVec Ideal S64x1024 .f32) (Wg : FVec Ideal S160x1024 .f32) (Kk Ka : FVec Ideal S1024 .f32)

theorem rw_at (b : Fin 8) (s : Fin 2048) (j : Fin 3360) :
    val_main_v3 (F := Ideal) P (ix3 b s j) = P (ix2 ⟨b.val * 2048 + s.val, by omega⟩ (src j)) := by
  pointwise [val_main_v0, val_main_v1, val_main_v2, val_main_v3]
  unfold src
  by_cases h : j.val < 3072
  · simp only [dif_pos h, if_pos h]
  · rw [dif_neg h]
    refine congrArg (fun c => P (ix2 _ c)) (Fin.ext ?_)
    show 8192 + (j.val - 3072) = if j.val < 3072 then j.val else j.val + 5120
    rw [if_neg h]
    omega

theorem prev_at (b : Fin 8) (s : Fin 2048) (j : Fin 3360) :
    val_main_v6 (F := Ideal) P sp (ix3 b s j) = if s.val = 0 then sp (ix2 b j) else val_main_v3 (F := Ideal) P (ix3 b ⟨s.val - 1, by omega⟩ j) := by
  unfold val_main_v6
  by_cases h : s.val = 0
  · rw [if_pos h]
    refine (concatenate_pair_apply_left (t := S8x2048x3360) (s₁ := S8x1x3360) (s₂ := S8x2047x3360) 1 _ _ _ (ix3 b s j) rfl (ix3 b 0 j) ?_).trans ?_
    · intro a
      match a with
      | ⟨0, _⟩ => rfl
      | ⟨1, _⟩ => exact h.symm
      | ⟨2, _⟩ => rfl
    · rw [val_main_v4_apply]
      refine congrArg sp (funext fun a => ?_)
      match a with
      | ⟨0, _⟩ => rfl
      | ⟨1, _⟩ => rfl
  · rw [if_neg h]
    refine (concatenate_pair_apply_right (t := S8x2048x3360) (s₁ := S8x1x3360) (s₂ := S8x2047x3360) 1 _ _ _ (ix3 b s j) rfl rfl (ix3 b ⟨s.val - 1, by omega⟩ j) ?_ ?_).trans ?_
    · intro a ha
      match a, ha with
      | ⟨0, _⟩, _ => rfl
      | ⟨1, _⟩, ha => exact absurd rfl ha
      | ⟨2, _⟩, _ => rfl
    · show s.val - 1 + 1 = s.val
      omega
    · rw [val_main_v5_apply]
      refine congrArg (val_main_v3 (F := Ideal) P) (funext fun a => ?_)
      match a with
      | ⟨0, _⟩ => rfl
      | ⟨1, _⟩ => rfl
      | ⟨2, _⟩ => rfl

theorem idx3 {n0 n1 n2 : ℕ} (i : (⟨3, ![n0, n1, n2]⟩ : Shape).Idx) (a : Fin n0) (b : Fin n1) (c : Fin n2) (ha : (i 0).val = a.val) (hb : (i 1).val = b.val)
    (hc : (i 2).val = c.val) : i = ix3 a b c := by
  rw [eq_ix3 i]
  exact congr (congr (congrArg ix3 (Fin.ext ha)) (Fin.ext hb)) (Fin.ext hc)

theorem idx2 {n0 n1 : ℕ} (i : (⟨2, ![n0, n1]⟩ : Shape).Idx) (a : Fin n0) (b : Fin n1) (ha : (i 0).val = a.val) (hb : (i 1).val = b.val) : i = ix2 a b := by
  rw [eq_ix2 i]
  exact congr (congrArg ix2 (Fin.ext ha)) (Fin.ext hb)

theorem idx1 {n0 : ℕ} (i : (⟨1, ![n0]⟩ : Shape).Idx) (a : Fin n0) (ha : (i 0).val = a.val) : i = ix1 a := by
  rw [eq_ix1 i]
  exact congrArg ix1 (Fin.ext ha)

/-- The mixed rows. -/
theorem xm_at (b : Fin 8) (s : Fin 2048) (j : Fin 3360) : val_main_v11 (F := Ideal) P sp mu (ix3 b s j) = xm P sp mu b s j := by
  rw [val_main_v11_apply, val_main_v10_apply, val_main_v7_apply, val_main_v9_apply, val_main_v8_apply, prev_at, rw_at, rw_at]
  rw [idx1 (idx_main_v8 (idx_main_v9 (ix3 b s j))) j rfl]
  rfl

theorem xm_of (b : Fin 8) (s : Fin 2048) (i : S8x2048x3360.Idx) (j : Fin 3360) (ha : (i 0).val = b.val) (hb : (i 1).val = s.val) (hc : (i 2).val = j.val) :
    val_main_v11 (F := Ideal) P sp mu i = xm P sp mu b s j := by
  rw [idx3 i b s j ha hb hc, xm_at]

theorem r_at (b : Fin 8) (s : Fin 2048) (k : Fin 1024) : val_main_v12 (F := Ideal) P sp mu (ix3 b s k) = xm P sp mu b s ⟨k.val, by omega⟩ := by
  rw [val_main_v12_apply]
  exact xm_of P sp mu b s _ _ rfl rfl (by show _ = k.val; simp [ix3])

theorem k_at (b : Fin 8) (s : Fin 2048) (k : Fin 1024) : val_main_v13 (F := Ideal) P sp mu (ix3 b s k) = xm P sp mu b s ⟨1024 + k.val, by omega⟩ := by
  rw [val_main_v13_apply]
  exact xm_of P sp mu b s _ _ rfl rfl rfl

theorem v_at (b : Fin 8) (s : Fin 2048) (k : Fin 1024) : val_main_v14 (F := Ideal) P sp mu (ix3 b s k) = xm P sp mu b s ⟨2048 + k.val, by omega⟩ := by
  rw [val_main_v14_apply]
  exact xm_of P sp mu b s _ _ rfl rfl rfl

theorem wlog_at (b : Fin 8) (s : Fin 2048) (k : Fin 1024) : val_main_v22 (F := Ideal) P sp mu W0 Wd (ix3 b s k) = wlog P sp mu W0 Wd b s k := by
  rw [val_main_v22_apply, val_main_v19_apply, val_main_v21_apply, val_main_v20_apply, idx1 (idx_main_v20 (idx_main_v21 (ix3 b s k))) k rfl]
  unfold wlog
  refine congrArg (W0 (ix1 k) + ·) (Finset.sum_congr rfl fun x _ => congrArg₂ (· * ·) ?_ (congrArg Wd (idx2 _ x k rfl rfl)))
  rw [val_main_v18_apply, val_main_v15_apply]
  exact congrArg Ideal.tanh (xm_of P sp mu b s _ _ rfl rfl rfl)

/-- The decay, as the reference spells it. -/
theorem decay_scalar (z : EReal) : FloatOps.hostUnary (F := Ideal) (φ := .f32) HostUnaryOp.exp (FloatOps.hostNegf (F := Ideal) (φ := .f32)
    (FloatOps.hostUnary (F := Ideal) (φ := .f32) HostUnaryOp.exp (FloatOps.subf (F := Ideal) (φ := .f32) (FloatOps.hostNegf (F := Ideal) (φ := .f32)
      (FloatOps.addf (F := Ideal) (φ := .f32) (max (-z) 0)
        (Ideal.log1p (Ideal.exp (-(FloatOps.hostAbsf (F := Ideal) (φ := .f32) (-z)))))))
      (FloatOps.ofBits (F := Ideal) FTy.f32 1056964608#32)))) = decayOf z := by
  unfold decayOf
  simp only [zero_sub]
  rfl

theorem decay_at (b : Fin 8) (s : Fin 2048) (k : Fin 1024) : val_main_v30 (F := Ideal) P sp mu W0 Wd (ix3 b s k) = decayOf (wlog P sp mu W0 Wd b s k) := by
  rw [val_main_v30_apply, val_main_v29_apply, val_main_v28_apply, val_main_v27_apply, val_main_v26_apply, val_main_cst_apply, val_main_v25_apply, val_main_v24_apply, val_main_call0_v11_apply,
    val_main_call0_v10_apply, val_main_call0_v9_apply, val_main_call0_v8_apply, val_main_call0_v7_apply, val_main_call0_v6_apply, val_main_call0_v5_apply, val_main_call0_cst_apply,
    val_main_call0_v4_apply, val_main_call0_v3_apply, val_main_call0_v2_apply, val_main_call0_cst_apply, val_main_call0_v1_apply, val_main_call0_v0_apply, val_main_call0_cst_apply,
    val_main_v23_apply, wlog_at, ← decay_scalar]
  generalize wlog P sp mu W0 Wd b s k = z
  pointwise []
  simp only [ne_eq, not_true_eq_false, if_false]

theorem logi (x : EReal) : FloatOps.hostDivf (F := Ideal) (φ := .f32) (FloatOps.ofBits (F := Ideal) FTy.f32 1065353216#32)
      (FloatOps.addf (F := Ideal) (φ := .f32) (FloatOps.ofBits (F := Ideal) FTy.f32 1065353216#32)
        (FloatOps.hostUnary (F := Ideal) (φ := .f32) HostUnaryOp.exp (FloatOps.hostNegf (F := Ideal) (φ := .f32) x))) = Ideal.logistic x := by
  pointwise []
  rfl

theorem rate_at (b : Fin 8) (s : Fin 2048) (k : Fin 1024) : val_main_v40 (F := Ideal) P sp mu A0 Wa (ix3 b s k) = rateOf P sp mu A0 Wa b s k := by
  rw [val_main_v40_apply, val_main_v39_apply, val_main_cst_1_apply, val_main_v38_apply, val_main_v37_apply, val_main_cst_0_apply, val_main_v36_apply, val_main_v35_apply, val_main_v34_apply,
    val_main_v31_apply, val_main_v33_apply, val_main_v32_apply, idx1 (idx_main_v32 (idx_main_v33 (ix3 b s k))) k rfl]
  refine (logi _).trans ?_
  unfold rateOf
  refine congrArg (fun z => Ideal.logistic (A0 (ix1 k) + z)) (Finset.sum_congr rfl fun x _ => congrArg₂ (· * ·) ?_ (congrArg Wa (idx2 _ x k rfl rfl)))
  rw [val_main_v16_apply]
  exact xm_of P sp mu b s _ _ rfl rfl rfl

theorem gate_at (b : Fin 8) (s : Fin 2048) (k : Fin 1024) : val_main_v47 (F := Ideal) P sp mu Wg (ix3 b s k) = gateOf P sp mu Wg b s k := by
  rw [val_main_v47_apply]
  unfold gateOf
  refine Finset.sum_congr rfl fun x _ => congrArg₂ (· * ·) ?_ (congrArg Wg (idx2 _ x k rfl rfl))
  rw [val_main_v46_apply, val_main_v45_apply, val_main_cst_3_apply, val_main_v44_apply, val_main_v43_apply, val_main_cst_2_apply, val_main_v42_apply, val_main_v41_apply, val_main_v17_apply]
  exact (logi _).trans (congrArg Ideal.logistic (xm_of P sp mu b s _ _ rfl rfl rfl))

theorem keyq_at (b : Fin 8) (s : Fin 2048) (k : Fin 1024) : val_main_v50 (F := Ideal) P sp mu Kk (ix3 b s k) = keyq P sp mu Kk b s k := by
  rw [val_main_v50_apply, k_at, val_main_v49_apply, val_main_v48_apply, idx1 (idx_main_v48 (idx_main_v49 (ix3 b s k))) k rfl]
  rfl

theorem keyh_of (b : Fin 8) (s : Fin 2048) (i : S8x2048x16x64.Idx) (k : Fin 1024) (ha : (i 0).val = b.val) (hb : (i 1).val = s.val) (hc : (i 2).val * 64 + (i 3).val = k.val) :
    val_main_v51 (F := Ideal) P sp mu Kk i = keyq P sp mu Kk b s k := by
  have h2 : (i 2).val < 16 := (i 2).isLt
  have h3 : (i 3).val < 64 := (i 3).isLt
  rw [val_main_v51_apply, idx3 (idx_main_v51 i) b s k ?_ ?_ ?_, keyq_at]
  · show ((((i 0).val * 2048 + (i 1).val) * 16 + (i 2).val) * 64 + (i 3).val) / 2097152 = b.val
    omega
  · show ((((i 0).val * 2048 + (i 1).val) * 16 + (i 2).val) * 64 + (i 3).val) / 1024 % 2048 = s.val
    omega
  · show ((((i 0).val * 2048 + (i 1).val) * 16 + (i 2).val) * 64 + (i 3).val) % 1024 = k.val
    omega

theorem unit_at (b : Fin 8) (s : Fin 2048) (k : Fin 1024) : val_main_v60 (F := Ideal) P sp mu Kk (ix3 b s k) = unitOf P sp mu Kk b s k := by
  rw [val_main_v60_apply, val_main_v59_apply, val_main_v58_apply, val_main_v57_apply, val_main_v56_apply, val_main_cst_5_apply, val_main_v55_apply, val_main_v54_apply, val_main_v53_apply, val_main_cst_4_apply]
  unfold unitOf
  have h0 : b.val < 8 := b.isLt
  have h1 : s.val < 2048 := s.isLt
  have h2 : k.val < 1024 := k.isLt
  refine congrArg₂ (fun x z => Ideal.div x (max (Ideal.sqrt z) (Ideal.ofBits .f32 0x2B8CBCCC#32))) ?_ ?_
  · refine keyh_of P sp mu Kk b s _ k ?_ ?_ ?_
    · show ((b.val * 2048 + s.val) * 1024 + k.val) / 2097152 = b.val
      omega
    · show ((b.val * 2048 + s.val) * 1024 + k.val) / 1024 % 2048 = s.val
      omega
    · show ((b.val * 2048 + s.val) * 1024 + k.val) / 64 % 16 * 64 + ((b.val * 2048 + s.val) * 1024 + k.val) % 64 = k.val
      omega
  · refine (congrArg (· + _) (show (FloatOps.ofBits (F := Ideal) FTy.f32 0#32 : EReal) = 0 by pointwise [])).trans ?_
    rw [zero_add]
    refine Finset.sum_congr rfl fun y _ => ?_
    rw [val_main_v52_apply, keyh_of P sp mu Kk b s _ ⟨k.val / 64 * 64 + y.val, by omega⟩ ?_ ?_ ?_]
    · rfl
    · show ((b.val * 2048 + s.val) * 1024 + k.val) / 2097152 = b.val
      omega
    · show ((b.val * 2048 + s.val) * 1024 + k.val) / 1024 % 2048 = s.val
      omega
    · show ((b.val * 2048 + s.val) * 1024 + k.val) / 64 % 16 * 64 + y.val = k.val / 64 * 64 + y.val
      omega

theorem key_at (b : Fin 8) (s : Fin 2048) (k : Fin 1024) : val_main_v68 (F := Ideal) P sp mu A0 Wa Ka (ix3 b s k)
    = xm P sp mu b s ⟨1024 + k.val, by omega⟩ * (1 + (rateOf P sp mu A0 Wa b s k - 1) * Ka (ix1 k)) := by
  rw [val_main_v68_apply, k_at, val_main_v67_apply, val_main_v66_apply, val_main_cst_7_apply, val_main_v65_apply, val_main_v64_apply, val_main_v63_apply, val_main_v62_apply, val_main_v61_apply,
    val_main_cst_6_apply, rate_at, idx1 (idx_main_v63 (idx_main_v64 (ix3 b s k))) k rfl,
    show (FloatOps.ofBits (F := Ideal) FTy.f32 0x3F800000#32 : EReal) = 1 by pointwise []]
  rfl

theorem ra_at (b : Fin 8) (s : Fin 2048) (k : Fin 1024) : val_main_v69 (F := Ideal) P sp mu A0 Wa Kk (ix3 b s k)
    = unitOf P sp mu Kk b s k * rateOf P sp mu A0 Wa b s k := by
  rw [val_main_v69_apply, unit_at, rate_at]
  rfl

/-- The six slabs. -/
theorem pre_at (j : Fin 6) (r : Fin 16384) (k : Fin 1024) (b : Fin 8) (s : Fin 2048) (hr : r.val = b.val * 2048 + s.val) :
    val_main_v77 (F := Ideal) P sp mu W0 Wd A0 Wa Kk Ka (ix3 j r k) = slabOf P sp mu W0 Wd A0 Wa Kk Ka j.val b s k := by
  rw [val_main_v77_apply]
  unfold val_main_v76 val_main_v70 val_main_v71 val_main_v72 val_main_v73 val_main_v74 val_main_v75
  have e0 := r_at P sp mu b s k
  have e1 := decay_at P sp mu W0 Wd b s k
  have e2 := key_at P sp mu A0 Wa Ka b s k
  have e3 := v_at P sp mu b s k
  have e4 := unit_at P sp mu Kk b s k
  have e5 := ra_at P sp mu A0 Wa Kk b s k
  revert e0 e1 e2 e3 e4 e5
  generalize val_main_v12 (F := Ideal) P sp mu = X0
  generalize val_main_v30 (F := Ideal) P sp mu W0 Wd = X1
  generalize val_main_v68 (F := Ideal) P sp mu A0 Wa Ka = X2
  generalize val_main_v14 (F := Ideal) P sp mu = X3
  generalize val_main_v60 (F := Ideal) P sp mu Kk = X4
  generalize val_main_v69 (F := Ideal) P sp mu A0 Wa Kk = X5
  intro e0 e1 e2 e3 e4 e5
  unfold slabOf
  fin_cases j
  · refine Eq.trans ?_ e0
    pointwise []
    rw [dif_pos (by omega)]
    exact congrArg X0 (idx3 _ b s k (by dsimp only [ix3]; show _ / _ % _ = _; omega) (by show _ / _ % _ = _; omega) (by show _ % _ = _; omega))
  · refine Eq.trans ?_ e1
    pointwise []
    rw [dif_neg (by omega), dif_pos (by omega)]
    exact congrArg X1 (idx3 _ b s k (by dsimp only [ix3]; show _ / _ % _ = _; omega) (by show _ / _ % _ = _; omega) (by show _ % _ = _; omega))
  · refine Eq.trans ?_ e2
    pointwise []
    rw [dif_neg (by omega), dif_neg (by omega), dif_pos (by omega)]
    exact congrArg X2 (idx3 _ b s k (by dsimp only [ix3]; show _ / _ % _ = _; omega) (by show _ / _ % _ = _; omega) (by show _ % _ = _; omega))
  · refine Eq.trans ?_ e3
    pointwise []
    rw [dif_neg (by omega), dif_neg (by omega), dif_neg (by omega), dif_pos (by omega)]
    exact congrArg X3 (idx3 _ b s k (by dsimp only [ix3]; show _ / _ % _ = _; omega) (by show _ / _ % _ = _; omega) (by show _ % _ = _; omega))
  · refine Eq.trans ?_ e4
    pointwise []
    rw [dif_neg (by omega), dif_neg (by omega), dif_neg (by omega), dif_neg (by omega), dif_pos (by omega)]
    exact congrArg X4 (idx3 _ b s k (by dsimp only [ix3]; show _ / _ % _ = _; omega) (by show _ / _ % _ = _; omega) (by show _ % _ = _; omega))
  · refine Eq.trans ?_ e5
    pointwise []
    rw [dif_neg (by omega), dif_neg (by omega), dif_neg (by omega), dif_neg (by omega), dif_neg (by omega)]
    exact congrArg X5 (idx3 _ b s k (by dsimp only [ix3]; show _ / _ % _ = _; omega) (by show _ / _ % _ = _; omega) (by show _ % _ = _; omega))

theorem gates_at (r : Fin 16384) (k : Fin 1024) (b : Fin 8) (s : Fin 2048) (hr : r.val = b.val * 2048 + s.val) :
    val_main_v81 (F := Ideal) P sp mu Wg (ix2 r k) = gateOf P sp mu Wg b s k := by
  rw [val_main_v81_apply, idx3 (idx_main_v81 (ix2 r k)) b s k ?_ ?_ ?_, gate_at]
  · show (r.val * 1024 + k.val) / 2097152 = b.val
    omega
  · show (r.val * 1024 + k.val) / 1024 % 2048 = s.val
    omega
  · show (r.val * 1024 + k.val) % 1024 = k.val
    omega

theorem lastrow_at (b : Fin 8) (c : Fin 8704) : val_main_v80 (F := Ideal) P (ix2 b c) = P (ix2 ⟨b.val * 2048 + 2047, by omega⟩ c) := by
  rw [val_main_v80_apply, val_main_v79_apply, val_main_v78_apply, idx3 (idx_main_v80 (ix2 b c)) b 0 c ?_ rfl ?_, idx3 (idx_main_v79 (ix3 b 0 c)) b ⟨2047, by omega⟩ c rfl rfl rfl,
    idx2 (idx_main_v78 (ix3 b ⟨2047, by omega⟩ c)) ⟨b.val * 2048 + 2047, by omega⟩ c ?_ ?_]
  · show ((b.val * 2048 + 2047) * 8704 + c.val) / 8704 = b.val * 2048 + 2047
    omega
  · show ((b.val * 2048 + 2047) * 8704 + c.val) % 8704 = c.val
    omega
  · show (b.val * 8704 + c.val) / 8704 = b.val
    omega
  · show (b.val * 8704 + c.val) % 8704 = c.val
    omega

theorem last_at (b : Fin 8) (j : Fin 3) (k : Fin 1024) :
    val_main_v83 (F := Ideal) P (ix3 b j k) = P (ix2 ⟨b.val * 2048 + 2047, by omega⟩ ⟨j.val * 1024 + k.val, by omega⟩) := by
  rw [val_main_v83_apply, val_main_v82_apply, idx2 (idx_main_v82 (idx_main_v83 (ix3 b j k))) b ⟨j.val * 1024 + k.val, by omega⟩ ?_ ?_, lastrow_at]
  · show ((b.val * 3 + j.val) * 1024 + k.val) / 3072 = b.val
    omega
  · show ((b.val * 3 + j.val) * 1024 + k.val) % 3072 = j.val * 1024 + k.val
    omega

theorem low_at (b : Fin 8) (k : Fin 512) :
    val_main_v85 (F := Ideal) P (ix3 b 0 k) = P (ix2 ⟨b.val * 2048 + 2047, by omega⟩ ⟨8192 + k.val, by omega⟩) := by
  rw [val_main_v85_apply, val_main_v84_apply, idx2 (idx_main_v84 (idx_main_v85 (ix3 b 0 k))) b ⟨8192 + k.val, by omega⟩ rfl rfl, lastrow_at]

end Cert.PrepRefProof
-- ==== Proof.PrepArrays.lean ====
module

public import proofs.«01_k».proof.Proof.PrepPoints
public import proofs.«01_k».proof.Proof.PrepRef

/-! The preparation of the recurrence's inputs: the four arrays after the kernel's run are the reference's. -/

@[expose] public section

set_option maxRecDepth 16384

noncomputable section

namespace Cert.PrepProof

open Idealize.ShloMosaic Idealize.ShloMosaic.TcCoe Idealize.SL.Sem
open Idealize.ShloMosaic.Pipeline (Dat)
open Cert.PrepIdeal Cert.PrepIdeal.Gen Cert.PrepIdealLoop Cert.PrepMath

variable (m : (ℓ : Loc nD τ sig) → Buf (Elt Ideal) ℓ)

/-- What the precondition says of device `c`'s arguments. -/
def keysFinite (c : Dev nD) : Prop :=
  Cert.Pre_keys_finite.fn (F := Ideal) (inP m c) (inSp m c) (inMu m c) (inW0 m c) (inWd m c) (inA0 m c) (inWa m c) (inWg m c) (inKk m c) (inKa m c) = fun _ => 1#1

/-- One entry of the six slabs. -/
theorem slab_pt (c : Dev nD) (t : Fin cfg0.N) (j : Fin 6) (i : Fin 256) (k : Fin 1024) (b : Fin 8) (s : Fin 2048)
    (hb : b.val = t.val / 8) (hs : s.val = t.val % 8 * 256 + i.val) (hk : keysFinite m c) :
    mixed (F := Ideal) (past m c t) (pastLow m c t) (X0_0 m c t) (X0_1 m c t) (X0_2 m c t) (iblk m c 3 t) (iblk m c 6 t) (iblk m c 7 t) (iblk m c 8 t)
      (iblk m c 9 t) (iblk m c 10 t) (iblk m c 11 t) (iblk m c 12 t) (iblk m c 13 t) (iblk m c 15 t) (ix3 j i k)
    = slabOf (inP m c) (inSp m c) (inMu m c) (inW0 m c) (inWd m c) (inA0 m c) (inWa m c) (inKk m c) (inKa m c) j.val b s k := by
  have hu := unit_pt m c t i k b s hb hs (keyq_sq _ _ _ _ _ _ _ _ _ _ hk b s)
  match j with
  | 0 => exact (mixed_0 ..).trans (mixed_r m c t i k b s hb hs)
  | 1 => exact (mixed_1 ..).trans (decay_pt m c t i k b s hb hs)
  | 2 =>
    refine (mixed_2 ..).trans ?_
    rw [mixed_k m c t i k b s hb hs, rate_pt m c t i k b s hb hs, ka_at]
    rfl
  | 3 => exact (mixed_3 ..).trans (mixed_v m c t i k b s hb hs)
  | 4 => exact (mixed_4 ..).trans hu
  | 5 =>
    refine (mixed_5 ..).trans ?_
    rw [hu, rate_pt m c t i k b s hb hs]
    rfl

/-- The slabs after the run. -/
theorem final_pre (c : Dev nD) (hk : keysFinite m c) : (dats m 0 c).arrAt 16 (cfgs 0).N
    = Cert.PrepRefIdeal.Read.val_main_v77 (inP m c) (inSp m c) (inMu m c) (inW0 m c) (inWd m c) (inA0 m c) (inWa m c) (inKk m c) (inKa m c) := by
  refine (dats m 0 c).arrAt_eq_of_covers 16 _ (by decide +kernel) fun t ht y => ?_
  have hN : t.val < 64 := lt_of_lt_of_eq t.isLt (show cfg0.N = 64 from N_0)
  blk_simp
  rw [after_16]
  have h0 : (y 0).val < 6 := (y 0).isLt
  have h1 : (y 1).val < 256 := (y 1).isLt
  have h2 : (y 2).val < 1024 := (y 2).isLt
  have e : ((cfg0.win 16).blk t).view.emb y = ix3 (n0 := 6) (n1 := 16384) (n2 := 1024) ⟨(y 0).val, h0⟩ ⟨t.val * 256 + (y 1).val, by omega⟩ ⟨(y 2).val, h2⟩ := by
    blk_ext [idx t]
  rw [e]
  refine Eq.trans ?_ (Cert.PrepRefProof.pre_at _ _ _ _ _ _ _ _ _ ⟨(y 0).val, h0⟩ _ ⟨(y 2).val, h2⟩ ⟨t.val / 8, by omega⟩ ⟨t.val % 8 * 256 + (y 1).val, by omega⟩ ?_).symm
  · refine (congrArg (mixed (F := Ideal) (past m c t) (pastLow m c t) (X0_0 m c t) (X0_1 m c t) (X0_2 m c t) (iblk m c 3 t) (iblk m c 6 t) (iblk m c 7 t) (iblk m c 8 t)
      (iblk m c 9 t) (iblk m c 10 t) (iblk m c 11 t) (iblk m c 12 t) (iblk m c 13 t) (iblk m c 15 t)) (eq_ix3 (y : S6x256x1024.Idx))).trans ?_
    exact slab_pt m c t (y 0) (y 1) (y 2) _ _ rfl rfl hk
  · show t.val * 256 + (y 1).val = t.val / 8 * 2048 + (t.val % 8 * 256 + (y 1).val)
    omega

/-- The gates after the run. -/
theorem final_gates (c : Dev nD) : (dats m 0 c).arrAt 17 (cfgs 0).N
    = Cert.PrepRefIdeal.Read.val_main_v81 (inP m c) (inSp m c) (inMu m c) (inWg m c) := by
  refine (dats m 0 c).arrAt_eq_of_covers 17 _ (by decide +kernel) fun t ht y => ?_
  have hN : t.val < 64 := lt_of_lt_of_eq t.isLt (show cfg0.N = 64 from N_0)
  blk_simp
  rw [after_17]
  have h0 : (y 0).val < 256 := (y 0).isLt
  have h1 : (y 1).val < 1024 := (y 1).isLt
  have e : ((cfg0.win 17).blk t).view.emb y = ix2 (n0 := 16384) (n1 := 1024) ⟨t.val * 256 + (y 0).val, by omega⟩ ⟨(y 1).val, h1⟩ := by
    blk_ext [idx t]
  rw [e]
  refine Eq.trans ?_ (Cert.PrepRefProof.gates_at _ _ _ _ _ ⟨(y 1).val, h1⟩ ⟨t.val / 8, by omega⟩ ⟨t.val % 8 * 256 + (y 0).val, by omega⟩ ?_).symm
  · refine (congrArg (gate (F := Ideal) (pastLow m c t) (iblk m c 3 t) (iblk m c 7 t) (iblk m c 14 t)) (eq_ix2 (y : S256x1024.Idx))).trans ?_
    exact gate_pt m c t (y 0) (y 1) _ _ rfl rfl
  · show t.val * 256 + (y 0).val = t.val / 8 * 2048 + (t.val % 8 * 256 + (y 0).val)
    omega

/-- One entry of a point's last rows. -/
theorem last_pt (c : Dev nD) (t : Fin cfg0.N) (j : Fin 3) (k : Fin 1024) (R : Fin 16384) (K : Fin 8704) (hR : R.val = t.val * 256 + 255)
    (hK : K.val = j.val * 1024 + k.val) : k0_pay12 (F := Ideal) (X0_0 m c t) (X0_1 m c t) (X0_2 m c t) (ix2 j k) = inP m c (ix2 R K) := by
  have h0 : j = 0 → K.val = 0 + k.val := fun e => by rw [hK, e]; simp
  have h1 : j = 1 → K.val = 1024 + k.val := fun e => by rw [hK, e]; simp
  have h2 : j = 2 → K.val = 2048 + k.val := fun e => by rw [hK, e]; simp
  have e0 := fun e => (kept_0 (X0_0 m c t) (X0_1 m c t) (X0_2 m c t) k).trans (x0_at m c t 255 k R K hR (h0 e))
  have e1 := fun e => (kept_1 (X0_0 m c t) (X0_1 m c t) (X0_2 m c t) k).trans (x1_at m c t 255 k R K hR (h1 e))
  have e2 := fun e => (kept_2 (X0_0 m c t) (X0_1 m c t) (X0_2 m c t) k).trans (x2_at m c t 255 k R K hR (h2 e))
  generalize k0_pay12 (F := Ideal) (X0_0 m c t) (X0_1 m c t) (X0_2 m c t) = A at e0 e1 e2 ⊢
  have hj : j = 0 ∨ j = 1 ∨ j = 2 := (by decide : ∀ j : Fin 3, j = 0 ∨ j = 1 ∨ j = 2) j
  rcases hj with e | e | e
  · exact e ▸ e0 e
  · exact e ▸ e1 e
  · exact e ▸ e2 e

/-- The last rows' r, k and v columns after the run. -/
theorem final_last (c : Dev nD) : (dats m 0 c).arrAt 18 (cfgs 0).N = Cert.PrepRefIdeal.Read.val_main_v83 (inP m c) := by
  refine (dats m 0 c).arrAt_eq_of_covers 18 _ (by decide +kernel) fun t ht y => ?_
  have hN : t.val < 64 := lt_of_lt_of_eq t.isLt (show cfg0.N = 64 from N_0)
  have h7 := (flush0_18 t).mp ht
  blk_simp
  rw [after_18]
  have h0 : (y 0).val < 1 := (y 0).isLt
  have h1 : (y 1).val < 3 := (y 1).isLt
  have h2 : (y 2).val < 1024 := (y 2).isLt
  have e : ((cfg0.win 18).blk t).view.emb y = ix3 (n0 := 8) (n1 := 3) (n2 := 1024) ⟨t.val / 8, by omega⟩ ⟨(y 1).val, h1⟩ ⟨(y 2).val, h2⟩ := by
    blk_ext [idx t]
  rw [e, Cert.PrepRefProof.last_at]
  have e' : (y : S1x3x1024.Idx) = ix3 0 (y 1) (y 2) := by
    refine (ix3_eta y).symm.trans (congrArg (fun a => ix3 (n0 := 1) a (y 1) (y 2)) (Fin.ext ?_))
    show (y 0).val = 0
    omega
  refine (congrArg (k0_pay14 (F := Ideal) (k0_pay11 (X0_0 m c t) (X0_1 m c t) (X0_2 m c t))) e').trans ?_
  have p : ∀ (j : Fin 3) (k : Fin 1024), k0_pay14 (F := Ideal) (k0_pay11 (X0_0 m c t) (X0_1 m c t) (X0_2 m c t)) (ix3 0 j k)
      = k0_pay12 (F := Ideal) (X0_0 m c t) (X0_1 m c t) (X0_2 m c t) (ix2 j k) := fun j k => by
    unfold k0_pay12
    generalize k0_pay11 (F := Ideal) (X0_0 m c t) (X0_1 m c t) (X0_2 m c t) = A
    pointwise [k0_pay14]
  refine (p (y 1) (y 2)).trans ?_
  exact last_pt m c t ⟨(y 1).val, h1⟩ ⟨(y 2).val, h2⟩ _ _ (by show t.val / 8 * 2048 + 2047 = t.val * 256 + 255; omega) rfl

/-- The last rows' low-rank columns after the run. -/
theorem final_low (c : Dev nD) : (dats m 0 c).arrAt 19 (cfgs 0).N = Cert.PrepRefIdeal.Read.val_main_v85 (inP m c) := by
  refine (dats m 0 c).arrAt_eq_of_covers 19 _ (by decide +kernel) fun t ht y => ?_
  have hN : t.val < 64 := lt_of_lt_of_eq t.isLt (show cfg0.N = 64 from N_0)
  have h7 := (flush0_19 t).mp ht
  blk_simp
  rw [after_19]
  have h0 : (y 0).val < 1 := (y 0).isLt
  have h1 : (y 1).val < 1 := (y 1).isLt
  have h2 : (y 2).val < 512 := (y 2).isLt
  have e : ((cfg0.win 19).blk t).view.emb y = ix3 (n0 := 8) (n1 := 1) (n2 := 512) ⟨t.val / 8, by omega⟩ 0 ⟨(y 2).val, h2⟩ := by
    blk_ext [idx t]
  rw [e, Cert.PrepRefProof.low_at]
  have e' : (y : S1x1x512.Idx) = ix3 0 0 (y 2) := by
    refine (ix3_eta y).symm.trans (congrArg₂ (fun a b => ix3 (n0 := 1) (n1 := 1) a b (y 2)) (Fin.ext ?_) (Fin.ext ?_))
    · show (y 0).val = 0
      omega
    · show (y 1).val = 0
      omega
  refine (congrArg (k0_pay15 (F := Ideal) (iblk m c 3 t)) e').trans ?_
  have p : ∀ (x : FVec Ideal S256x512 .f32) (k : Fin 512), k0_pay15 (F := Ideal) x (ix3 0 0 k) = x (ix2 255 k) := fun x k => by
    pointwise [k0_pay15]
  exact (p _ _).trans (x3_at m c t 255 _ _ _ (by show t.val / 8 * 2048 + 2047 = t.val * 256 + 255; omega) rfl)

end Cert.PrepProof

end
-- ==== Proof.PrepValue.lean ====
module

public import proofs.«01_k».proof.Proof.PrepArrays
public import proofs.«01_k».proof.Proof.Gen.PrepRefIdeal.Run
public import proofs.«01_k».proof.Defs

/-! The value claim of the preparation of the recurrence's inputs: the kernel call and its reference leave the same four
    arrays, over the extended reals, when the keys' entries are finite. -/

@[expose] public section

set_option maxRecDepth 16384

noncomputable section

namespace Cert.Values

open Idealize.ShloMosaic Idealize.ShloMosaic.TcCoe Idealize.SL.Sem

section
open Cert.PrepIdeal Cert.PrepIdeal.Gen Cert.PrepIdealLoop Cert.PrepProof

variable (m : (ℓ : Loc nD τ sig) → Buf (Elt Ideal) ℓ)

/-- The kernel call leaves the reference's four arrays, its arguments as they began. -/
theorem prep_run (ρ : Dev nD → PrngReg) (hk : ∀ c, keysFinite m c) :
    θ_run (defs (F := Ideal)) (onTc (τ := τ) (main (F := Ideal))) ⟨m, fun _ => 0, ρ⟩ fun r => ∀ c : Dev nD,
      r.2.mem ((c.tc : Thread nD τ).loc main_v31_0)
        = Cert.PrepRefIdeal.Read.val_main_v77 (inP m c) (inSp m c) (inMu m c) (inW0 m c) (inWd m c) (inA0 m c) (inWa m c) (inKk m c) (inKa m c)
      ∧ r.2.mem ((c.tc : Thread nD τ).loc main_v31_1) = Cert.PrepRefIdeal.Read.val_main_v81 (inP m c) (inSp m c) (inMu m c) (inWg m c)
      ∧ r.2.mem ((c.tc : Thread nD τ).loc main_v31_2) = Cert.PrepRefIdeal.Read.val_main_v83 (inP m c)
      ∧ r.2.mem ((c.tc : Thread nD τ).loc main_v31_3) = Cert.PrepRefIdeal.Read.val_main_v85 (inP m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨((h.1 c).1 16).trans (final_pre m c (hk c)), ((h.1 c).1 17).trans (final_gates m c),
    ((h.1 c).1 18).trans (final_last m c), ((h.1 c).1 19).trans (final_low m c), h.2.1 c⟩)
    (θ_run_and (run_arrays m ρ) (unchanged m ρ))

end

/-- The value claim of the preparation, under its precondition. -/
theorem prep : algebraic_PrepIdeal_PrepRefIdeal_pre_keys_finite (hPrepIdeal := Cert.PrepIdeal.Gen.facts)
    (hPrepRefIdeal := Cert.PrepRefIdeal.Gen.facts) (hPre_keys_finite := Cert.Pre_keys_finite.Gen.facts) := by
  unfold algebraic_PrepIdeal_PrepRefIdeal_pre_keys_finite
  intro m g m' g' hpre hagree
  refine ⟨_, _, _, _, prep_run m g hpre, (θ_run _ _ _).mono (fun r h c => ?_) (Cert.PrepRefIdeal.Value.run m' g')⟩
  obtain ⟨h0, h1, h2, h3, hk⟩ := h c
  obtain ⟨e0, e1, e2, e3, e4, e5, e6, e7, e8, e9⟩ := hagree c
  refine ⟨h0.trans ((Cert.PrepRefIdeal.Read.val_main_v77_eq m' c).trans ?_), h1.trans ?_, h2.trans ?_, h3.trans ?_, hk⟩
  · rw [e0, e1, e2, e3, e4, e5, e6, e8, e9]
  · rw [e0, e1, e2, e7]
    exact Cert.PrepRefIdeal.Read.val_main_v81_eq _ _ _ _
  · rw [e0]
    exact Cert.PrepRefIdeal.Read.val_main_v83_eq _
  · rw [e0]
    exact Cert.PrepRefIdeal.Read.val_main_v85_eq _

end Cert.Values

end
-- ==== Proof.RefFrames.lean ====
module

public import proofs.«01_k».proof.Defs
public import proofs.«01_k».proof.Proof.Gen.WkvRefIdeal
public import proofs.«01_k».proof.Proof.Gen.WkvRefIdeal.Run
public import proofs.«01_k».proof.Proof.Gen.InProjRefIdeal
public import proofs.«01_k».proof.Proof.Gen.PoolRefIdeal
public import proofs.«01_k».proof.Proof.Gen.PoolRefIdeal.Run
public import proofs.«01_k».proof.Proof.Gen.PrepRefIdeal
public import proofs.«01_k».proof.Proof.Gen.PrepRefIdeal.Run
public import proofs.«01_k».proof.Proof.Gen.InProjRefIdeal.Run
public import proofs.«01_k».proof.Proof.Gen.FfnRefIdeal
public import proofs.«01_k».proof.Proof.Gen.FfnRefIdeal.Run
public import proofs.«01_k».proof.Proof.Gen.MergeRefIdeal
public import proofs.«01_k».proof.Proof.Gen.MergeRefIdeal.Run
public import proofs.«01_k».proof.Proof.Gen.OutProjRefIdeal
public import proofs.«01_k».proof.Proof.Gen.OutProjRefIdeal.Run
public import proofs.«01_k».proof.Proof.Gen.PleRefIdeal
public import proofs.«01_k».proof.Proof.Gen.PleRefIdeal.Run
public import proofs.«01_k».proof.Proof.Gen.FinPromptRefIdeal
public import proofs.«01_k».proof.Proof.Gen.FinPromptRefIdeal.Run
public import proofs.«01_k».proof.Proof.Gen.FinSampleRefIdeal
public import proofs.«01_k».proof.Proof.Gen.FinSampleRefIdeal.Run

/-! The frames of the reference programs: each terminates without fault, leaves its arguments as they were, and,
    having no semaphore, ends with every counter at zero. -/

@[expose] public section

set_option maxRecDepth 16384

noncomputable section

namespace Cert.Frames

open Idealize.ShloMosaic Idealize.ShloMosaic.TcCoe Idealize.SL.Sem

/-- The reference of `Wkv` terminates without fault, leaves its arguments unchanged and every counter at zero. -/
theorem wkv : Cert.quiescent_WkvRefIdeal (hWkvRefIdeal := Cert.WkvRefIdeal.Gen.facts) := by
  intro m g _
  refine (θ_run _ _ _).mono (fun r h => ⟨fun c => (h c).2.2, ?_⟩) (Cert.WkvRefIdeal.Value.run m g)
  funext ⟨_, sm⟩
  rcases sm with ⟨⟨_, h⟩⟩ | ⟨⟨_, h⟩⟩ <;> exact absurd h (Nat.not_lt_zero _)

/-- The reference of `Pool` terminates without fault, leaves its arguments unchanged and every counter at zero. -/
theorem pool : Cert.quiescent_PoolRefIdeal (hPoolRefIdeal := Cert.PoolRefIdeal.Gen.facts) := by
  intro m g _
  refine (θ_run _ _ _).mono (fun r h => ⟨fun c => (h c).2.2, ?_⟩) (Cert.PoolRefIdeal.Value.run m g)
  funext ⟨_, sm⟩
  rcases sm with ⟨⟨_, h⟩⟩ | ⟨⟨_, h⟩⟩ <;> exact absurd h (Nat.not_lt_zero _)

/-- The reference of `Prep` terminates without fault, leaves its arguments unchanged and every counter at zero. -/
theorem prep : Cert.quiescent_PrepRefIdeal (hPrepRefIdeal := Cert.PrepRefIdeal.Gen.facts) := by
  intro m g _
  refine (θ_run _ _ _).mono (fun r h => ⟨fun c => (h c).2.2.2.2, ?_⟩) (Cert.PrepRefIdeal.Value.run m g)
  funext ⟨_, sm⟩
  rcases sm with ⟨⟨_, h⟩⟩ | ⟨⟨_, h⟩⟩ <;> exact absurd h (Nat.not_lt_zero _)

/-- The reference of `InProj` terminates without fault, leaves its arguments unchanged and every counter at zero. -/
theorem inProj : Cert.quiescent_InProjRefIdeal (hInProjRefIdeal := Cert.InProjRefIdeal.Gen.facts) := by
  intro m g _
  refine (θ_run _ _ _).mono (fun r h => ⟨fun c => (h c).2, ?_⟩) (Cert.InProjRefIdeal.Value.run m g)
  funext ⟨_, sm⟩
  rcases sm with ⟨⟨_, h⟩⟩ | ⟨⟨_, h⟩⟩ <;> exact absurd h (Nat.not_lt_zero _)

/-- The reference of `Ffn` terminates without fault, leaves its arguments unchanged and every counter at zero. -/
theorem ffn : Cert.quiescent_FfnRefIdeal (hFfnRefIdeal := Cert.FfnRefIdeal.Gen.facts) := by
  intro m g _
  refine (θ_run _ _ _).mono (fun r h => ⟨fun c => (h c).2, ?_⟩) (Cert.FfnRefIdeal.Value.run m g)
  funext ⟨_, sm⟩
  rcases sm with ⟨⟨_, h⟩⟩ | ⟨⟨_, h⟩⟩ <;> exact absurd h (Nat.not_lt_zero _)

/-- The reference of `Merge` terminates without fault, leaves its arguments unchanged and every counter at zero. -/
theorem merge : Cert.quiescent_MergeRefIdeal (hMergeRefIdeal := Cert.MergeRefIdeal.Gen.facts) := by
  intro m g _
  refine (θ_run _ _ _).mono (fun r h => ⟨fun c => (h c).2, ?_⟩) (Cert.MergeRefIdeal.Value.run m g)
  funext ⟨_, sm⟩
  rcases sm with ⟨⟨_, h⟩⟩ | ⟨⟨_, h⟩⟩ <;> exact absurd h (Nat.not_lt_zero _)

/-- The reference of `OutProj` terminates without fault, leaves its arguments unchanged and every counter at zero. -/
theorem outProj : Cert.quiescent_OutProjRefIdeal (hOutProjRefIdeal := Cert.OutProjRefIdeal.Gen.facts) := by
  intro m g _
  refine (θ_run _ _ _).mono (fun r h => ⟨fun c => (h c).2, ?_⟩) (Cert.OutProjRefIdeal.Value.run m g)
  funext ⟨_, sm⟩
  rcases sm with ⟨⟨_, h⟩⟩ | ⟨⟨_, h⟩⟩ <;> exact absurd h (Nat.not_lt_zero _)

/-- The reference of `Ple` terminates without fault, leaves its arguments unchanged and every counter at zero. -/
theorem ple : Cert.quiescent_PleRefIdeal (hPleRefIdeal := Cert.PleRefIdeal.Gen.facts) := by
  intro m g _
  refine (θ_run _ _ _).mono (fun r h => ⟨fun c => (h c).2, ?_⟩) (Cert.PleRefIdeal.Value.run m g)
  funext ⟨_, sm⟩
  rcases sm with ⟨⟨_, h⟩⟩ | ⟨⟨_, h⟩⟩ <;> exact absurd h (Nat.not_lt_zero _)

/-- The reference of `FinPrompt` terminates without fault, leaves its arguments unchanged and every counter at zero. -/
theorem finPrompt : Cert.quiescent_FinPromptRefIdeal (hFinPromptRefIdeal := Cert.FinPromptRefIdeal.Gen.facts) := by
  intro m g _
  refine (θ_run _ _ _).mono (fun r h => ⟨fun c => (h c).2, ?_⟩) (Cert.FinPromptRefIdeal.Value.run m g)
  funext ⟨_, sm⟩
  rcases sm with ⟨⟨_, h⟩⟩ | ⟨⟨_, h⟩⟩ <;> exact absurd h (Nat.not_lt_zero _)

/-- The reference of `FinSample` terminates without fault, leaves its arguments unchanged and every counter at zero. -/
theorem finSample : Cert.quiescent_FinSampleRefIdeal (hFinSampleRefIdeal := Cert.FinSampleRefIdeal.Gen.facts) := by
  intro m g _
  refine (θ_run _ _ _).mono (fun r h => ⟨fun c => (h c).2, ?_⟩) (Cert.FinSampleRefIdeal.Value.run m g)
  funext ⟨_, sm⟩
  rcases sm with ⟨⟨_, h⟩⟩ | ⟨⟨_, h⟩⟩ <;> exact absurd h (Nat.not_lt_zero _)

end Cert.Frames

end

end
-- ==== Proof.lean ====
module

public import proofs.«01_k».proof.Defs
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleRefIdeal
public import proofs.«01_k».proof.Proof.Gen.FinPrompt
public import proofs.«01_k».proof.Proof.Gen.FinPrompt.Skeleton
public import proofs.«01_k».proof.Proof.Gen.FinPrompt.Launch
public import proofs.«01_k».proof.Proof.Gen.FinPrompt.Points
public import proofs.«01_k».proof.Proof.Gen.FinPrompt.Frame
public import proofs.«01_k».proof.Proof.Gen.FinPromptIdeal
public import proofs.«01_k».proof.Proof.Gen.FinPromptIdeal.Skeleton
public import proofs.«01_k».proof.Proof.Gen.FinPromptIdeal.Launch
public import proofs.«01_k».proof.Proof.Gen.FinPromptIdeal.Points
public import proofs.«01_k».proof.Proof.Gen.FinPromptIdeal.Frame
public import proofs.«01_k».proof.Proof.Gen.FinPromptRefIdeal
public import proofs.«01_k».proof.Proof.Gen.FinSample
public import proofs.«01_k».proof.Proof.Gen.FinSample.Skeleton
public import proofs.«01_k».proof.Proof.Gen.FinSample.Launch
public import proofs.«01_k».proof.Proof.Gen.FinSample.Points
public import proofs.«01_k».proof.Proof.Gen.FinSample.Frame
public import proofs.«01_k».proof.Proof.Gen.FinSampleIdeal
public import proofs.«01_k».proof.Proof.Gen.FinSampleIdeal.Skeleton
public import proofs.«01_k».proof.Proof.Gen.FinSampleIdeal.Launch
public import proofs.«01_k».proof.Proof.Gen.FinSampleIdeal.Points
public import proofs.«01_k».proof.Proof.Gen.FinSampleIdeal.Frame
public import proofs.«01_k».proof.Proof.Gen.FinSampleRefIdeal
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.PleIdeal.Value
public import proofs.«01_k».proof.Proof.Gen.PleRefIdeal.Run
public import proofs.«01_k».proof.Proof.Gen.PleRefIdeal.Read
public import proofs.«01_k».proof.Proof.Gen.FinPromptIdeal.Value
public import proofs.«01_k».proof.Proof.Gen.FinPromptRefIdeal.Run
public import proofs.«01_k».proof.Proof.Gen.FinPromptRefIdeal.Read
public import proofs.«01_k».proof.Proof.Gen.FinSampleIdeal.Value
public import proofs.«01_k».proof.Proof.Gen.FinSampleRefIdeal.Run
public import proofs.«01_k».proof.Proof.Gen.FinSampleRefIdeal.Read
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolIdeal.Value
public import proofs.«01_k».proof.Proof.Gen.PoolRefIdeal
public import proofs.«01_k».proof.Proof.Gen.PoolRefIdeal.Run
public import proofs.«01_k».proof.Proof.Gen.PoolRefIdeal.Read
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepRefIdeal
public import proofs.«01_k».proof.Proof.Gen.Pre_keys_finite
public import proofs.«01_k».proof.Proof.Gen.PrepRefIdeal.Run
public import proofs.«01_k».proof.Proof.Gen.PrepRefIdeal.Read
public import proofs.«01_k».proof.Proof.Gen.Wkv
public import proofs.«01_k».proof.Proof.Gen.Wkv.Skeleton
public import proofs.«01_k».proof.Proof.Gen.Wkv.Loops
public import proofs.«01_k».proof.Proof.Gen.Wkv.Launch
public import proofs.«01_k».proof.Proof.Gen.Wkv.Points
public import proofs.«01_k».proof.Proof.Gen.Wkv.Frame.Runs
public import proofs.«01_k».proof.Proof.Gen.WkvIdeal
public import proofs.«01_k».proof.Proof.Gen.WkvIdeal.Skeleton
public import proofs.«01_k».proof.Proof.Gen.WkvIdeal.Loops
public import proofs.«01_k».proof.Proof.Gen.WkvIdeal.Launch
public import proofs.«01_k».proof.Proof.Gen.WkvIdeal.Points
public import proofs.«01_k».proof.Proof.Gen.WkvIdeal.Frame.Runs
public import proofs.«01_k».proof.Proof.Gen.WkvRefIdeal
public import proofs.«01_k».proof.Proof.Gen.WkvRefIdeal.Run
public import proofs.«01_k».proof.Proof.WkvFrame
public import proofs.«01_k».proof.Proof.WkvIdealFrame
public import proofs.«01_k».proof.Proof.Values
public import proofs.«01_k».proof.Proof.WkvValue
public import proofs.«01_k».proof.Proof.PoolValue
public import proofs.«01_k».proof.Proof.PrepFrame
public import proofs.«01_k».proof.Proof.PrepIdealFrame
public import proofs.«01_k».proof.Proof.PrepValue
public import proofs.«01_k».proof.Proof.RefFrames
public import Idealize.ShloMosaic.Adequacy
public import Idealize.ShloMosaic.Init

@[expose] public section

noncomputable section

namespace Cert.Proof

open Idealize.ShloMosaic Idealize.SL.Sem

/-- Every claim of the statement holds. -/
theorem claim : Cert.Claim := ⟨Cert.Wkv.Gen.facts, Cert.WkvIdeal.Gen.facts, Cert.WkvRefIdeal.Gen.facts, Cert.Pool.Gen.facts, Cert.PoolIdeal.Gen.facts, Cert.PoolRefIdeal.Gen.facts, Cert.Prep.Gen.facts, Cert.PrepIdeal.Gen.facts, Cert.PrepRefIdeal.Gen.facts, Cert.InProj.Gen.facts, Cert.InProjIdeal.Gen.facts, Cert.InProjRefIdeal.Gen.facts, Cert.Ffn.Gen.facts, Cert.FfnIdeal.Gen.facts, Cert.FfnRefIdeal.Gen.facts, Cert.Merge.Gen.facts, Cert.MergeIdeal.Gen.facts, Cert.MergeRefIdeal.Gen.facts, Cert.OutProj.Gen.facts, Cert.OutProjIdeal.Gen.facts, Cert.OutProjRefIdeal.Gen.facts, Cert.Ple.Gen.facts, Cert.PleIdeal.Gen.facts, Cert.PleRefIdeal.Gen.facts, Cert.FinPrompt.Gen.facts, Cert.FinPromptIdeal.Gen.facts, Cert.FinPromptRefIdeal.Gen.facts, Cert.FinSample.Gen.facts, Cert.FinSampleIdeal.Gen.facts, Cert.FinSampleRefIdeal.Gen.facts, Cert.Pre_keys_finite.Gen.facts,
  fun m ρ _ => Cert.WkvLoop.unchanged m ρ,
  fun m ρ _ => Cert.WkvIdealLoop.unchanged m ρ,
  Cert.Frames.wkv,
  fun m ρ _ => Cert.Pool.Gen.frame m ρ,
  fun m ρ _ => Cert.PoolIdeal.Gen.frame m ρ,
  Cert.Frames.pool,
  fun m ρ _ => Cert.PrepLoop.unchanged m ρ,
  fun m ρ _ => Cert.PrepIdealLoop.unchanged m ρ,
  fun m ρ _ => Cert.PrepIdealLoop.unchanged m ρ,
  Cert.Frames.prep,
  fun m g _ => Cert.Frames.prep m g trivial,
  fun m ρ _ => Cert.InProj.Gen.frame m ρ,
  fun m ρ _ => Cert.InProjIdeal.Gen.frame m ρ,
  Cert.Frames.inProj,
  fun m ρ _ => Cert.Ffn.Gen.frame m ρ,
  fun m ρ _ => Cert.FfnIdeal.Gen.frame m ρ,
  Cert.Frames.ffn,
  fun m ρ _ => Cert.Merge.Gen.frame m ρ,
  fun m ρ _ => Cert.MergeIdeal.Gen.frame m ρ,
  Cert.Frames.merge,
  fun m ρ _ => Cert.OutProj.Gen.frame m ρ,
  fun m ρ _ => Cert.OutProjIdeal.Gen.frame m ρ,
  Cert.Frames.outProj,
  fun m ρ _ => Cert.Ple.Gen.frame m ρ,
  fun m ρ _ => Cert.PleIdeal.Gen.frame m ρ,
  Cert.Frames.ple,
  fun m ρ _ => Cert.FinPrompt.Gen.frame m ρ,
  fun m ρ _ => Cert.FinPromptIdeal.Gen.frame m ρ,
  Cert.Frames.finPrompt,
  fun m ρ _ => Cert.FinSample.Gen.frame m ρ,
  fun m ρ _ => Cert.FinSampleIdeal.Gen.frame m ρ,
  Cert.Frames.finSample,
  trivial,
  Cert.Values.wkv,
  trivial,
  Cert.Values.pool,
  trivial,
  Cert.Values.prep,
  trivial,
  Cert.Values.inProj,
  trivial,
  Cert.Values.ffn,
  trivial,
  Cert.Values.merge,
  trivial,
  Cert.Values.outProj,
  trivial,
  Cert.Values.ple,
  trivial,
  Cert.Values.finPrompt,
  trivial,
  Cert.Values.finSample⟩

end Cert.Proof

end
